-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelCm (m : (ℓ : Loc Cert.KernelCm.nD Cert.KernelCm.τ Cert.KernelCm.sig) → Buf (Elt Bits) ℓ) : Prop :=
  True

def Pre_KernelCmIdeal (m : (ℓ : Loc Cert.KernelCmIdeal.nD Cert.KernelCmIdeal.τ Cert.KernelCmIdeal.sig) → Buf (Elt Ideal) ℓ) : Prop :=
  True

def Pre_ReferenceCmIdeal (m : (ℓ : Loc Cert.ReferenceCmIdeal.nD Cert.ReferenceCmIdeal.τ Cert.ReferenceCmIdeal.sig) → Buf (Elt Ideal) ℓ) : Prop :=
  True

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def Pre_KernelGs (m : (ℓ : Loc Cert.KernelGs.nD Cert.KernelGs.τ Cert.KernelGs.sig) → Buf (Elt Bits) ℓ) : Prop :=
  True

def Pre_KernelGsIdeal (m : (ℓ : Loc Cert.KernelGsIdeal.nD Cert.KernelGsIdeal.τ Cert.KernelGsIdeal.sig) → Buf (Elt Ideal) ℓ) : Prop :=
  True

def Pre_ReferenceGsIdeal (m : (ℓ : Loc Cert.ReferenceGsIdeal.nD Cert.ReferenceGsIdeal.τ Cert.ReferenceGsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8))
      ∧ r.2.sem = fun _ => 0)

def quiescent_KernelCm [hKernelCm : Cert.KernelCm.Facts] : Prop :=
  ∀ (m : (ℓ : Loc Cert.KernelCm.nD Cert.KernelCm.τ Cert.KernelCm.sig) → Buf (Elt Bits) ℓ) (g : Dev Cert.KernelCm.nD → PrngReg), Pre_KernelCm m →
    θ_run (Cert.KernelCm.defs (F := Bits)) (onTc (τ := Cert.KernelCm.τ) (Cert.KernelCm.main (F := Bits))) ⟨m, fun _ => 0, g⟩ (fun r => (∀ c : Dev Cert.KernelCm.nD,
      r.2.mem ((c.tc : Thread Cert.KernelCm.nD Cert.KernelCm.τ).loc Cert.KernelCm.main_arg0) = m ((c.tc : Thread Cert.KernelCm.nD Cert.KernelCm.τ).loc Cert.KernelCm.main_arg0)
      ∧ r.2.mem ((c.tc : Thread Cert.KernelCm.nD Cert.KernelCm.τ).loc Cert.KernelCm.main_arg1) = m ((c.tc : Thread Cert.KernelCm.nD Cert.KernelCm.τ).loc Cert.KernelCm.main_arg1)
      ∧ r.2.mem ((c.tc : Thread Cert.KernelCm.nD Cert.KernelCm.τ).loc Cert.KernelCm.main_arg2) = m ((c.tc : Thread Cert.KernelCm.nD Cert.KernelCm.τ).loc Cert.KernelCm.main_arg2)
      ∧ r.2.mem ((c.tc : Thread Cert.KernelCm.nD Cert.KernelCm.τ).loc Cert.KernelCm.main_arg3) = m ((c.tc : Thread Cert.KernelCm.nD Cert.KernelCm.τ).loc Cert.KernelCm.main_arg3)
      ∧ r.2.mem ((c.tc : Thread Cert.KernelCm.nD Cert.KernelCm.τ).loc Cert.KernelCm.main_arg4) = m ((c.tc : Thread Cert.KernelCm.nD Cert.KernelCm.τ).loc Cert.KernelCm.main_arg4))
      ∧ r.2.sem = fun _ => 0)

def quiescent_KernelCmIdeal [hKernelCmIdeal : Cert.KernelCmIdeal.Facts] : Prop :=
  ∀ (m : (ℓ : Loc Cert.KernelCmIdeal.nD Cert.KernelCmIdeal.τ Cert.KernelCmIdeal.sig) → Buf (Elt Ideal) ℓ) (g : Dev Cert.KernelCmIdeal.nD → PrngReg), Pre_KernelCmIdeal m →
    θ_run (Cert.KernelCmIdeal.defs (F := Ideal)) (onTc (τ := Cert.KernelCmIdeal.τ) (Cert.KernelCmIdeal.main (F := Ideal))) ⟨m, fun _ => 0, g⟩ (fun r => (∀ c : Dev Cert.KernelCmIdeal.nD,
      r.2.mem ((c.tc : Thread Cert.KernelCmIdeal.nD Cert.KernelCmIdeal.τ).loc Cert.KernelCmIdeal.main_arg0) = m ((c.tc : Thread Cert.KernelCmIdeal.nD Cert.KernelCmIdeal.τ).loc Cert.KernelCmIdeal.main_arg0)
      ∧ r.2.mem ((c.tc : Thread Cert.KernelCmIdeal.nD Cert.KernelCmIdeal.τ).loc Cert.KernelCmIdeal.main_arg1) = m ((c.tc : Thread Cert.KernelCmIdeal.nD Cert.KernelCmIdeal.τ).loc Cert.KernelCmIdeal.main_arg1)
      ∧ r.2.mem ((c.tc : Thread Cert.KernelCmIdeal.nD Cert.KernelCmIdeal.τ).loc Cert.KernelCmIdeal.main_arg2) = m ((c.tc : Thread Cert.KernelCmIdeal.nD Cert.KernelCmIdeal.τ).loc Cert.KernelCmIdeal.main_arg2)
      ∧ r.2.mem ((c.tc : Thread Cert.KernelCmIdeal.nD Cert.KernelCmIdeal.τ).loc Cert.KernelCmIdeal.main_arg3) = m ((c.tc : Thread Cert.KernelCmIdeal.nD Cert.KernelCmIdeal.τ).loc Cert.KernelCmIdeal.main_arg3)
      ∧ r.2.mem ((c.tc : Thread Cert.KernelCmIdeal.nD Cert.KernelCmIdeal.τ).loc Cert.KernelCmIdeal.main_arg4) = m ((c.tc : Thread Cert.KernelCmIdeal.nD Cert.KernelCmIdeal.τ).loc Cert.KernelCmIdeal.main_arg4))
      ∧ r.2.sem = fun _ => 0)

def quiescent_ReferenceCmIdeal [hReferenceCmIdeal : Cert.ReferenceCmIdeal.Facts] : Prop :=
  ∀ (m : (ℓ : Loc Cert.ReferenceCmIdeal.nD Cert.ReferenceCmIdeal.τ Cert.ReferenceCmIdeal.sig) → Buf (Elt Ideal) ℓ) (g : Dev Cert.ReferenceCmIdeal.nD → PrngReg), Pre_ReferenceCmIdeal m →
    θ_run (Cert.ReferenceCmIdeal.defs (F := Ideal)) (onTc (τ := Cert.ReferenceCmIdeal.τ) (Cert.ReferenceCmIdeal.main (F := Ideal))) ⟨m, fun _ => 0, g⟩ (fun r => (∀ c : Dev Cert.ReferenceCmIdeal.nD,
      r.2.mem ((c.tc : Thread Cert.ReferenceCmIdeal.nD Cert.ReferenceCmIdeal.τ).loc Cert.ReferenceCmIdeal.main_arg0) = m ((c.tc : Thread Cert.ReferenceCmIdeal.nD Cert.ReferenceCmIdeal.τ).loc Cert.ReferenceCmIdeal.main_arg0)
      ∧ r.2.mem ((c.tc : Thread Cert.ReferenceCmIdeal.nD Cert.ReferenceCmIdeal.τ).loc Cert.ReferenceCmIdeal.main_arg1) = m ((c.tc : Thread Cert.ReferenceCmIdeal.nD Cert.ReferenceCmIdeal.τ).loc Cert.ReferenceCmIdeal.main_arg1)
      ∧ r.2.mem ((c.tc : Thread Cert.ReferenceCmIdeal.nD Cert.ReferenceCmIdeal.τ).loc Cert.ReferenceCmIdeal.main_arg2) = m ((c.tc : Thread Cert.ReferenceCmIdeal.nD Cert.ReferenceCmIdeal.τ).loc Cert.ReferenceCmIdeal.main_arg2)
      ∧ r.2.mem ((c.tc : Thread Cert.ReferenceCmIdeal.nD Cert.ReferenceCmIdeal.τ).loc Cert.ReferenceCmIdeal.main_arg3) = m ((c.tc : Thread Cert.ReferenceCmIdeal.nD Cert.ReferenceCmIdeal.τ).loc Cert.ReferenceCmIdeal.main_arg3)
      ∧ r.2.mem ((c.tc : Thread Cert.ReferenceCmIdeal.nD Cert.ReferenceCmIdeal.τ).loc Cert.ReferenceCmIdeal.main_arg4) = m ((c.tc : Thread Cert.ReferenceCmIdeal.nD Cert.ReferenceCmIdeal.τ).loc Cert.ReferenceCmIdeal.main_arg4))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1))
      ∧ r.2.sem = fun _ => 0)

def quiescent_KernelGs [hKernelGs : Cert.KernelGs.Facts] : Prop :=
  ∀ (m : (ℓ : Loc Cert.KernelGs.nD Cert.KernelGs.τ Cert.KernelGs.sig) → Buf (Elt Bits) ℓ) (g : Dev Cert.KernelGs.nD → PrngReg), Pre_KernelGs m →
    θ_run (Cert.KernelGs.defs (F := Bits)) (onTc (τ := Cert.KernelGs.τ) (Cert.KernelGs.main (F := Bits))) ⟨m, fun _ => 0, g⟩ (fun r => (∀ c : Dev Cert.KernelGs.nD,
      r.2.mem ((c.tc : Thread Cert.KernelGs.nD Cert.KernelGs.τ).loc Cert.KernelGs.main_arg0) = m ((c.tc : Thread Cert.KernelGs.nD Cert.KernelGs.τ).loc Cert.KernelGs.main_arg0)
      ∧ r.2.mem ((c.tc : Thread Cert.KernelGs.nD Cert.KernelGs.τ).loc Cert.KernelGs.main_arg1) = m ((c.tc : Thread Cert.KernelGs.nD Cert.KernelGs.τ).loc Cert.KernelGs.main_arg1)
      ∧ r.2.mem ((c.tc : Thread Cert.KernelGs.nD Cert.KernelGs.τ).loc Cert.KernelGs.main_arg2) = m ((c.tc : Thread Cert.KernelGs.nD Cert.KernelGs.τ).loc Cert.KernelGs.main_arg2)
      ∧ r.2.mem ((c.tc : Thread Cert.KernelGs.nD Cert.KernelGs.τ).loc Cert.KernelGs.main_arg3) = m ((c.tc : Thread Cert.KernelGs.nD Cert.KernelGs.τ).loc Cert.KernelGs.main_arg3)
      ∧ r.2.mem ((c.tc : Thread Cert.KernelGs.nD Cert.KernelGs.τ).loc Cert.KernelGs.main_arg4) = m ((c.tc : Thread Cert.KernelGs.nD Cert.KernelGs.τ).loc Cert.KernelGs.main_arg4)
      ∧ r.2.mem ((c.tc : Thread Cert.KernelGs.nD Cert.KernelGs.τ).loc Cert.KernelGs.main_arg5) = m ((c.tc : Thread Cert.KernelGs.nD Cert.KernelGs.τ).loc Cert.KernelGs.main_arg5)
      ∧ r.2.mem ((c.tc : Thread Cert.KernelGs.nD Cert.KernelGs.τ).loc Cert.KernelGs.main_arg6) = m ((c.tc : Thread Cert.KernelGs.nD Cert.KernelGs.τ).loc Cert.KernelGs.main_arg6)
      ∧ r.2.mem ((c.tc : Thread Cert.KernelGs.nD Cert.KernelGs.τ).loc Cert.KernelGs.main_arg7) = m ((c.tc : Thread Cert.KernelGs.nD Cert.KernelGs.τ).loc Cert.KernelGs.main_arg7)
      ∧ r.2.mem ((c.tc : Thread Cert.KernelGs.nD Cert.KernelGs.τ).loc Cert.KernelGs.main_arg8) = m ((c.tc : Thread Cert.KernelGs.nD Cert.KernelGs.τ).loc Cert.KernelGs.main_arg8))
      ∧ r.2.sem = fun _ => 0)

def quiescent_KernelGsIdeal [hKernelGsIdeal : Cert.KernelGsIdeal.Facts] : Prop :=
  ∀ (m : (ℓ : Loc Cert.KernelGsIdeal.nD Cert.KernelGsIdeal.τ Cert.KernelGsIdeal.sig) → Buf (Elt Ideal) ℓ) (g : Dev Cert.KernelGsIdeal.nD → PrngReg), Pre_KernelGsIdeal m →
    θ_run (Cert.KernelGsIdeal.defs (F := Ideal)) (onTc (τ := Cert.KernelGsIdeal.τ) (Cert.KernelGsIdeal.main (F := Ideal))) ⟨m, fun _ => 0, g⟩ (fun r => (∀ c : Dev Cert.KernelGsIdeal.nD,
      r.2.mem ((c.tc : Thread Cert.KernelGsIdeal.nD Cert.KernelGsIdeal.τ).loc Cert.KernelGsIdeal.main_arg0) = m ((c.tc : Thread Cert.KernelGsIdeal.nD Cert.KernelGsIdeal.τ).loc Cert.KernelGsIdeal.main_arg0)
      ∧ r.2.mem ((c.tc : Thread Cert.KernelGsIdeal.nD Cert.KernelGsIdeal.τ).loc Cert.KernelGsIdeal.main_arg1) = m ((c.tc : Thread Cert.KernelGsIdeal.nD Cert.KernelGsIdeal.τ).loc Cert.KernelGsIdeal.main_arg1)
      ∧ r.2.mem ((c.tc : Thread Cert.KernelGsIdeal.nD Cert.KernelGsIdeal.τ).loc Cert.KernelGsIdeal.main_arg2) = m ((c.tc : Thread Cert.KernelGsIdeal.nD Cert.KernelGsIdeal.τ).loc Cert.KernelGsIdeal.main_arg2)
      ∧ r.2.mem ((c.tc : Thread Cert.KernelGsIdeal.nD Cert.KernelGsIdeal.τ).loc Cert.KernelGsIdeal.main_arg3) = m ((c.tc : Thread Cert.KernelGsIdeal.nD Cert.KernelGsIdeal.τ).loc Cert.KernelGsIdeal.main_arg3)
      ∧ r.2.mem ((c.tc : Thread Cert.KernelGsIdeal.nD Cert.KernelGsIdeal.τ).loc Cert.KernelGsIdeal.main_arg4) = m ((c.tc : Thread Cert.KernelGsIdeal.nD Cert.KernelGsIdeal.τ).loc Cert.KernelGsIdeal.main_arg4)
      ∧ r.2.mem ((c.tc : Thread Cert.KernelGsIdeal.nD Cert.KernelGsIdeal.τ).loc Cert.KernelGsIdeal.main_arg5) = m ((c.tc : Thread Cert.KernelGsIdeal.nD Cert.KernelGsIdeal.τ).loc Cert.KernelGsIdeal.main_arg5)
      ∧ r.2.mem ((c.tc : Thread Cert.KernelGsIdeal.nD Cert.KernelGsIdeal.τ).loc Cert.KernelGsIdeal.main_arg6) = m ((c.tc : Thread Cert.KernelGsIdeal.nD Cert.KernelGsIdeal.τ).loc Cert.KernelGsIdeal.main_arg6)
      ∧ r.2.mem ((c.tc : Thread Cert.KernelGsIdeal.nD Cert.KernelGsIdeal.τ).loc Cert.KernelGsIdeal.main_arg7) = m ((c.tc : Thread Cert.KernelGsIdeal.nD Cert.KernelGsIdeal.τ).loc Cert.KernelGsIdeal.main_arg7)
      ∧ r.2.mem ((c.tc : Thread Cert.KernelGsIdeal.nD Cert.KernelGsIdeal.τ).loc Cert.KernelGsIdeal.main_arg8) = m ((c.tc : Thread Cert.KernelGsIdeal.nD Cert.KernelGsIdeal.τ).loc Cert.KernelGsIdeal.main_arg8))
      ∧ r.2.sem = fun _ => 0)

def quiescent_ReferenceGsIdeal [hReferenceGsIdeal : Cert.ReferenceGsIdeal.Facts] : Prop :=
  ∀ (m : (ℓ : Loc Cert.ReferenceGsIdeal.nD Cert.ReferenceGsIdeal.τ Cert.ReferenceGsIdeal.sig) → Buf (Elt Ideal) ℓ) (g : Dev Cert.ReferenceGsIdeal.nD → PrngReg), Pre_ReferenceGsIdeal m →
    θ_run (Cert.ReferenceGsIdeal.defs (F := Ideal)) (onTc (τ := Cert.ReferenceGsIdeal.τ) (Cert.ReferenceGsIdeal.main (F := Ideal))) ⟨m, fun _ => 0, g⟩ (fun r => (∀ c : Dev Cert.ReferenceGsIdeal.nD,
      r.2.mem ((c.tc : Thread Cert.ReferenceGsIdeal.nD Cert.ReferenceGsIdeal.τ).loc Cert.ReferenceGsIdeal.main_arg0) = m ((c.tc : Thread Cert.ReferenceGsIdeal.nD Cert.ReferenceGsIdeal.τ).loc Cert.ReferenceGsIdeal.main_arg0)
      ∧ r.2.mem ((c.tc : Thread Cert.ReferenceGsIdeal.nD Cert.ReferenceGsIdeal.τ).loc Cert.ReferenceGsIdeal.main_arg1) = m ((c.tc : Thread Cert.ReferenceGsIdeal.nD Cert.ReferenceGsIdeal.τ).loc Cert.ReferenceGsIdeal.main_arg1)
      ∧ r.2.mem ((c.tc : Thread Cert.ReferenceGsIdeal.nD Cert.ReferenceGsIdeal.τ).loc Cert.ReferenceGsIdeal.main_arg2) = m ((c.tc : Thread Cert.ReferenceGsIdeal.nD Cert.ReferenceGsIdeal.τ).loc Cert.ReferenceGsIdeal.main_arg2)
      ∧ r.2.mem ((c.tc : Thread Cert.ReferenceGsIdeal.nD Cert.ReferenceGsIdeal.τ).loc Cert.ReferenceGsIdeal.main_arg3) = m ((c.tc : Thread Cert.ReferenceGsIdeal.nD Cert.ReferenceGsIdeal.τ).loc Cert.ReferenceGsIdeal.main_arg3)
      ∧ r.2.mem ((c.tc : Thread Cert.ReferenceGsIdeal.nD Cert.ReferenceGsIdeal.τ).loc Cert.ReferenceGsIdeal.main_arg4) = m ((c.tc : Thread Cert.ReferenceGsIdeal.nD Cert.ReferenceGsIdeal.τ).loc Cert.ReferenceGsIdeal.main_arg4)
      ∧ r.2.mem ((c.tc : Thread Cert.ReferenceGsIdeal.nD Cert.ReferenceGsIdeal.τ).loc Cert.ReferenceGsIdeal.main_arg5) = m ((c.tc : Thread Cert.ReferenceGsIdeal.nD Cert.ReferenceGsIdeal.τ).loc Cert.ReferenceGsIdeal.main_arg5)
      ∧ r.2.mem ((c.tc : Thread Cert.ReferenceGsIdeal.nD Cert.ReferenceGsIdeal.τ).loc Cert.ReferenceGsIdeal.main_arg6) = m ((c.tc : Thread Cert.ReferenceGsIdeal.nD Cert.ReferenceGsIdeal.τ).loc Cert.ReferenceGsIdeal.main_arg6)
      ∧ r.2.mem ((c.tc : Thread Cert.ReferenceGsIdeal.nD Cert.ReferenceGsIdeal.τ).loc Cert.ReferenceGsIdeal.main_arg7) = m ((c.tc : Thread Cert.ReferenceGsIdeal.nD Cert.ReferenceGsIdeal.τ).loc Cert.ReferenceGsIdeal.main_arg7)
      ∧ r.2.mem ((c.tc : Thread Cert.ReferenceGsIdeal.nD Cert.ReferenceGsIdeal.τ).loc Cert.ReferenceGsIdeal.main_arg8) = m ((c.tc : Thread Cert.ReferenceGsIdeal.nD Cert.ReferenceGsIdeal.τ).loc Cert.ReferenceGsIdeal.main_arg8))
      ∧ r.2.sem = fun _ => 0)

def preserves_Kernel_KernelIdeal : Prop :=
  True

def algebraic_KernelIdeal_ReferenceIdeal_on_prompt_rows [hKernelIdeal : Cert.KernelIdeal.Facts] [hReferenceIdeal : Cert.ReferenceIdeal.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8320, 1024]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v6_0) i = v0 c i)
          ∧ (∀ i : (⟨5, ![1, 4, 4, 128, 256]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.KernelIdeal.nD Cert.KernelIdeal.τ).loc Cert.KernelIdeal.main_v6_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8320, 1024]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v84) i = v0 c i)
          ∧ (∀ i : (⟨5, ![1, 4, 4, 128, 256]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 i = 1#1 → r.2.mem ((c.tc : Thread Cert.ReferenceIdeal.nD Cert.ReferenceIdeal.τ).loc Cert.ReferenceIdeal.main_v85) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v4)) (v1 : (c : Dev Cert.KernelInIdeal.nD) → Buf (Elt Ideal) ((c.tc : Thread Cert.KernelInIdeal.nD Cert.KernelInIdeal.τ).loc Cert.KernelInIdeal.main_v9)) (v2 : (c : Dev Cert.KernelInIdeal.nD) → Buf (Elt Ideal) ((c.tc : Thread Cert.KernelInIdeal.nD Cert.KernelInIdeal.τ).loc Cert.KernelInIdeal.main_v13)) (v3 : (c : Dev Cert.KernelInIdeal.nD) → Buf (Elt Ideal) ((c.tc : Thread Cert.KernelInIdeal.nD Cert.KernelInIdeal.τ).loc Cert.KernelInIdeal.main_v16)) (v4 : (c : Dev Cert.KernelInIdeal.nD) → Buf (Elt Ideal) ((c.tc : Thread Cert.KernelInIdeal.nD Cert.KernelInIdeal.τ).loc Cert.KernelInIdeal.main_v19)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4) = v0 c
          ∧ r.2.mem ((c.tc : Thread Cert.KernelInIdeal.nD Cert.KernelInIdeal.τ).loc Cert.KernelInIdeal.main_v9) = v1 c
          ∧ r.2.mem ((c.tc : Thread Cert.KernelInIdeal.nD Cert.KernelInIdeal.τ).loc Cert.KernelInIdeal.main_v13) = v2 c
          ∧ r.2.mem ((c.tc : Thread Cert.KernelInIdeal.nD Cert.KernelInIdeal.τ).loc Cert.KernelInIdeal.main_v16) = v3 c
          ∧ r.2.mem ((c.tc : Thread Cert.KernelInIdeal.nD Cert.KernelInIdeal.τ).loc Cert.KernelInIdeal.main_v19) = v4 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v14) = v0 c
          ∧ r.2.mem ((c.tc : Thread Cert.ReferenceInIdeal.nD Cert.ReferenceInIdeal.τ).loc Cert.ReferenceInIdeal.main_v22) = v1 c
          ∧ r.2.mem ((c.tc : Thread Cert.ReferenceInIdeal.nD Cert.ReferenceInIdeal.τ).loc Cert.ReferenceInIdeal.main_v23) = v2 c
          ∧ r.2.mem ((c.tc : Thread Cert.ReferenceInIdeal.nD Cert.ReferenceInIdeal.τ).loc Cert.ReferenceInIdeal.main_v20) = v3 c
          ∧ r.2.mem ((c.tc : Thread Cert.ReferenceInIdeal.nD Cert.ReferenceInIdeal.τ).loc Cert.ReferenceInIdeal.main_v21) = v4 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)) →
    ∃ (v0 : (c : Dev Cert.KernelOutIdeal.nD) → Buf (Elt Ideal) ((c.tc : Thread Cert.KernelOutIdeal.nD Cert.KernelOutIdeal.τ).loc Cert.KernelOutIdeal.main_v3)) (v1 : (c : Dev Cert.KernelOutIdeal.nD) → Buf (Elt Ideal) ((c.tc : Thread Cert.KernelOutIdeal.nD Cert.KernelOutIdeal.τ).loc Cert.KernelOutIdeal.main_v7)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_v7) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v16) = v0 c
          ∧ r.2.mem ((c.tc : Thread Cert.ReferenceOutIdeal.nD Cert.ReferenceOutIdeal.τ).loc Cert.ReferenceOutIdeal.main_v30) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8))

def preserves_KernelCm_KernelCmIdeal : Prop :=
  True

def algebraic_KernelCmIdeal_ReferenceCmIdeal [hKernelCmIdeal : Cert.KernelCmIdeal.Facts] [hReferenceCmIdeal : Cert.ReferenceCmIdeal.Facts] : Prop :=
  ∀ (m : (ℓ : Loc Cert.KernelCmIdeal.nD Cert.KernelCmIdeal.τ Cert.KernelCmIdeal.sig) → Buf (Elt Ideal) ℓ) (g : Dev Cert.KernelCmIdeal.nD → PrngReg)
    (m' : (ℓ : Loc Cert.ReferenceCmIdeal.nD Cert.ReferenceCmIdeal.τ Cert.ReferenceCmIdeal.sig) → Buf (Elt Ideal) ℓ) (g' : Dev Cert.ReferenceCmIdeal.nD → PrngReg), Pre_KernelCmIdeal m →
    (∀ c : Dev Cert.KernelCmIdeal.nD,
      m' ((c.tc : Thread Cert.ReferenceCmIdeal.nD Cert.ReferenceCmIdeal.τ).loc Cert.ReferenceCmIdeal.main_arg0) = m ((c.tc : Thread Cert.KernelCmIdeal.nD Cert.KernelCmIdeal.τ).loc Cert.KernelCmIdeal.main_arg0)
      ∧ m' ((c.tc : Thread Cert.ReferenceCmIdeal.nD Cert.ReferenceCmIdeal.τ).loc Cert.ReferenceCmIdeal.main_arg1) = m ((c.tc : Thread Cert.KernelCmIdeal.nD Cert.KernelCmIdeal.τ).loc Cert.KernelCmIdeal.main_arg1)
      ∧ m' ((c.tc : Thread Cert.ReferenceCmIdeal.nD Cert.ReferenceCmIdeal.τ).loc Cert.ReferenceCmIdeal.main_arg2) = m ((c.tc : Thread Cert.KernelCmIdeal.nD Cert.KernelCmIdeal.τ).loc Cert.KernelCmIdeal.main_arg2)
      ∧ m' ((c.tc : Thread Cert.ReferenceCmIdeal.nD Cert.ReferenceCmIdeal.τ).loc Cert.ReferenceCmIdeal.main_arg3) = m ((c.tc : Thread Cert.KernelCmIdeal.nD Cert.KernelCmIdeal.τ).loc Cert.KernelCmIdeal.main_arg3)
      ∧ m' ((c.tc : Thread Cert.ReferenceCmIdeal.nD Cert.ReferenceCmIdeal.τ).loc Cert.ReferenceCmIdeal.main_arg4) = m ((c.tc : Thread Cert.KernelCmIdeal.nD Cert.KernelCmIdeal.τ).loc Cert.KernelCmIdeal.main_arg4)) →
    ∃ (v0 : (c : Dev Cert.KernelCmIdeal.nD) → Buf (Elt Ideal) ((c.tc : Thread Cert.KernelCmIdeal.nD Cert.KernelCmIdeal.τ).loc Cert.KernelCmIdeal.main_v9_0)) (v1 : (c : Dev Cert.KernelCmIdeal.nD) → Buf (Elt Ideal) ((c.tc : Thread Cert.KernelCmIdeal.nD Cert.KernelCmIdeal.τ).loc Cert.KernelCmIdeal.main_v3_1)) (v2 : (c : Dev Cert.KernelCmIdeal.nD) → Buf (Elt Ideal) ((c.tc : Thread Cert.KernelCmIdeal.nD Cert.KernelCmIdeal.τ).loc Cert.KernelCmIdeal.main_v10)),
      θ_run (Cert.KernelCmIdeal.defs (F := Ideal)) (onTc (τ := Cert.KernelCmIdeal.τ) (Cert.KernelCmIdeal.main (F := Ideal))) ⟨m, fun _ => 0, g⟩ (fun r => ∀ c : Dev Cert.KernelCmIdeal.nD,
          r.2.mem ((c.tc : Thread Cert.KernelCmIdeal.nD Cert.KernelCmIdeal.τ).loc Cert.KernelCmIdeal.main_v9_0) = v0 c
          ∧ r.2.mem ((c.tc : Thread Cert.KernelCmIdeal.nD Cert.KernelCmIdeal.τ).loc Cert.KernelCmIdeal.main_v3_1) = v1 c
          ∧ r.2.mem ((c.tc : Thread Cert.KernelCmIdeal.nD Cert.KernelCmIdeal.τ).loc Cert.KernelCmIdeal.main_v10) = v2 c
          ∧ r.2.mem ((c.tc : Thread Cert.KernelCmIdeal.nD Cert.KernelCmIdeal.τ).loc Cert.KernelCmIdeal.main_arg0) = m ((c.tc : Thread Cert.KernelCmIdeal.nD Cert.KernelCmIdeal.τ).loc Cert.KernelCmIdeal.main_arg0)
          ∧ r.2.mem ((c.tc : Thread Cert.KernelCmIdeal.nD Cert.KernelCmIdeal.τ).loc Cert.KernelCmIdeal.main_arg1) = m ((c.tc : Thread Cert.KernelCmIdeal.nD Cert.KernelCmIdeal.τ).loc Cert.KernelCmIdeal.main_arg1)
          ∧ r.2.mem ((c.tc : Thread Cert.KernelCmIdeal.nD Cert.KernelCmIdeal.τ).loc Cert.KernelCmIdeal.main_arg2) = m ((c.tc : Thread Cert.KernelCmIdeal.nD Cert.KernelCmIdeal.τ).loc Cert.KernelCmIdeal.main_arg2)
          ∧ r.2.mem ((c.tc : Thread Cert.KernelCmIdeal.nD Cert.KernelCmIdeal.τ).loc Cert.KernelCmIdeal.main_arg3) = m ((c.tc : Thread Cert.KernelCmIdeal.nD Cert.KernelCmIdeal.τ).loc Cert.KernelCmIdeal.main_arg3)
          ∧ r.2.mem ((c.tc : Thread Cert.KernelCmIdeal.nD Cert.KernelCmIdeal.τ).loc Cert.KernelCmIdeal.main_arg4) = m ((c.tc : Thread Cert.KernelCmIdeal.nD Cert.KernelCmIdeal.τ).loc Cert.KernelCmIdeal.main_arg4))
      ∧ θ_run (Cert.ReferenceCmIdeal.defs (F := Ideal)) (onTc (τ := Cert.ReferenceCmIdeal.τ) (Cert.ReferenceCmIdeal.main (F := Ideal))) ⟨m', fun _ => 0, g'⟩ (fun r => ∀ c : Dev Cert.ReferenceCmIdeal.nD,
          r.2.mem ((c.tc : Thread Cert.ReferenceCmIdeal.nD Cert.ReferenceCmIdeal.τ).loc Cert.ReferenceCmIdeal.main_v98) = v0 c
          ∧ r.2.mem ((c.tc : Thread Cert.ReferenceCmIdeal.nD Cert.ReferenceCmIdeal.τ).loc Cert.ReferenceCmIdeal.main_v47) = v1 c
          ∧ r.2.mem ((c.tc : Thread Cert.ReferenceCmIdeal.nD Cert.ReferenceCmIdeal.τ).loc Cert.ReferenceCmIdeal.main_v80) = v2 c
          ∧ r.2.mem ((c.tc : Thread Cert.ReferenceCmIdeal.nD Cert.ReferenceCmIdeal.τ).loc Cert.ReferenceCmIdeal.main_arg0) = m' ((c.tc : Thread Cert.ReferenceCmIdeal.nD Cert.ReferenceCmIdeal.τ).loc Cert.ReferenceCmIdeal.main_arg0)
          ∧ r.2.mem ((c.tc : Thread Cert.ReferenceCmIdeal.nD Cert.ReferenceCmIdeal.τ).loc Cert.ReferenceCmIdeal.main_arg1) = m' ((c.tc : Thread Cert.ReferenceCmIdeal.nD Cert.ReferenceCmIdeal.τ).loc Cert.ReferenceCmIdeal.main_arg1)
          ∧ r.2.mem ((c.tc : Thread Cert.ReferenceCmIdeal.nD Cert.ReferenceCmIdeal.τ).loc Cert.ReferenceCmIdeal.main_arg2) = m' ((c.tc : Thread Cert.ReferenceCmIdeal.nD Cert.ReferenceCmIdeal.τ).loc Cert.ReferenceCmIdeal.main_arg2)
          ∧ r.2.mem ((c.tc : Thread Cert.ReferenceCmIdeal.nD Cert.ReferenceCmIdeal.τ).loc Cert.ReferenceCmIdeal.main_arg3) = m' ((c.tc : Thread Cert.ReferenceCmIdeal.nD Cert.ReferenceCmIdeal.τ).loc Cert.ReferenceCmIdeal.main_arg3)
          ∧ r.2.mem ((c.tc : Thread Cert.ReferenceCmIdeal.nD Cert.ReferenceCmIdeal.τ).loc Cert.ReferenceCmIdeal.main_arg4) = m' ((c.tc : Thread Cert.ReferenceCmIdeal.nD Cert.ReferenceCmIdeal.τ).loc Cert.ReferenceCmIdeal.main_arg4))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)) →
    ∃ (v0 : (c : Dev Cert.KernelYIdeal.nD) → Buf (Elt Ideal) ((c.tc : Thread Cert.KernelYIdeal.nD Cert.KernelYIdeal.τ).loc Cert.KernelYIdeal.main_v1)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v1) = v0 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v12) = v0 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1))

def preserves_KernelGs_KernelGsIdeal : Prop :=
  True

def algebraic_KernelGsIdeal_ReferenceGsIdeal [hKernelGsIdeal : Cert.KernelGsIdeal.Facts] [hReferenceGsIdeal : Cert.ReferenceGsIdeal.Facts] : Prop :=
  ∀ (m : (ℓ : Loc Cert.KernelGsIdeal.nD Cert.KernelGsIdeal.τ Cert.KernelGsIdeal.sig) → Buf (Elt Ideal) ℓ) (g : Dev Cert.KernelGsIdeal.nD → PrngReg)
    (m' : (ℓ : Loc Cert.ReferenceGsIdeal.nD Cert.ReferenceGsIdeal.τ Cert.ReferenceGsIdeal.sig) → Buf (Elt Ideal) ℓ) (g' : Dev Cert.ReferenceGsIdeal.nD → PrngReg), Pre_KernelGsIdeal m →
    (∀ c : Dev Cert.KernelGsIdeal.nD,
      m' ((c.tc : Thread Cert.ReferenceGsIdeal.nD Cert.ReferenceGsIdeal.τ).loc Cert.ReferenceGsIdeal.main_arg0) = m ((c.tc : Thread Cert.KernelGsIdeal.nD Cert.KernelGsIdeal.τ).loc Cert.KernelGsIdeal.main_arg0)
      ∧ m' ((c.tc : Thread Cert.ReferenceGsIdeal.nD Cert.ReferenceGsIdeal.τ).loc Cert.ReferenceGsIdeal.main_arg1) = m ((c.tc : Thread Cert.KernelGsIdeal.nD Cert.KernelGsIdeal.τ).loc Cert.KernelGsIdeal.main_arg1)
      ∧ m' ((c.tc : Thread Cert.ReferenceGsIdeal.nD Cert.ReferenceGsIdeal.τ).loc Cert.ReferenceGsIdeal.main_arg2) = m ((c.tc : Thread Cert.KernelGsIdeal.nD Cert.KernelGsIdeal.τ).loc Cert.KernelGsIdeal.main_arg2)
      ∧ m' ((c.tc : Thread Cert.ReferenceGsIdeal.nD Cert.ReferenceGsIdeal.τ).loc Cert.ReferenceGsIdeal.main_arg3) = m ((c.tc : Thread Cert.KernelGsIdeal.nD Cert.KernelGsIdeal.τ).loc Cert.KernelGsIdeal.main_arg3)
      ∧ m' ((c.tc : Thread Cert.ReferenceGsIdeal.nD Cert.ReferenceGsIdeal.τ).loc Cert.ReferenceGsIdeal.main_arg4) = m ((c.tc : Thread Cert.KernelGsIdeal.nD Cert.KernelGsIdeal.τ).loc Cert.KernelGsIdeal.main_arg4)
      ∧ m' ((c.tc : Thread Cert.ReferenceGsIdeal.nD Cert.ReferenceGsIdeal.τ).loc Cert.ReferenceGsIdeal.main_arg5) = m ((c.tc : Thread Cert.KernelGsIdeal.nD Cert.KernelGsIdeal.τ).loc Cert.KernelGsIdeal.main_arg5)
      ∧ m' ((c.tc : Thread Cert.ReferenceGsIdeal.nD Cert.ReferenceGsIdeal.τ).loc Cert.ReferenceGsIdeal.main_arg6) = m ((c.tc : Thread Cert.KernelGsIdeal.nD Cert.KernelGsIdeal.τ).loc Cert.KernelGsIdeal.main_arg6)
      ∧ m' ((c.tc : Thread Cert.ReferenceGsIdeal.nD Cert.ReferenceGsIdeal.τ).loc Cert.ReferenceGsIdeal.main_arg7) = m ((c.tc : Thread Cert.KernelGsIdeal.nD Cert.KernelGsIdeal.τ).loc Cert.KernelGsIdeal.main_arg7)
      ∧ m' ((c.tc : Thread Cert.ReferenceGsIdeal.nD Cert.ReferenceGsIdeal.τ).loc Cert.ReferenceGsIdeal.main_arg8) = m ((c.tc : Thread Cert.KernelGsIdeal.nD Cert.KernelGsIdeal.τ).loc Cert.KernelGsIdeal.main_arg8)) →
    ∃ (v0 : (c : Dev Cert.KernelGsIdeal.nD) → Buf (Elt Ideal) ((c.tc : Thread Cert.KernelGsIdeal.nD Cert.KernelGsIdeal.τ).loc Cert.KernelGsIdeal.main_v5_0)) (v1 : (c : Dev Cert.KernelGsIdeal.nD) → Buf (Elt Ideal) ((c.tc : Thread Cert.KernelGsIdeal.nD Cert.KernelGsIdeal.τ).loc Cert.KernelGsIdeal.main_v5_1)),
      θ_run (Cert.KernelGsIdeal.defs (F := Ideal)) (onTc (τ := Cert.KernelGsIdeal.τ) (Cert.KernelGsIdeal.main (F := Ideal))) ⟨m, fun _ => 0, g⟩ (fun r => ∀ c : Dev Cert.KernelGsIdeal.nD,
          r.2.mem ((c.tc : Thread Cert.KernelGsIdeal.nD Cert.KernelGsIdeal.τ).loc Cert.KernelGsIdeal.main_v5_0) = v0 c
          ∧ r.2.mem ((c.tc : Thread Cert.KernelGsIdeal.nD Cert.KernelGsIdeal.τ).loc Cert.KernelGsIdeal.main_v5_1) = v1 c
          ∧ r.2.mem ((c.tc : Thread Cert.KernelGsIdeal.nD Cert.KernelGsIdeal.τ).loc Cert.KernelGsIdeal.main_arg0) = m ((c.tc : Thread Cert.KernelGsIdeal.nD Cert.KernelGsIdeal.τ).loc Cert.KernelGsIdeal.main_arg0)
          ∧ r.2.mem ((c.tc : Thread Cert.KernelGsIdeal.nD Cert.KernelGsIdeal.τ).loc Cert.KernelGsIdeal.main_arg1) = m ((c.tc : Thread Cert.KernelGsIdeal.nD Cert.KernelGsIdeal.τ).loc Cert.KernelGsIdeal.main_arg1)
          ∧ r.2.mem ((c.tc : Thread Cert.KernelGsIdeal.nD Cert.KernelGsIdeal.τ).loc Cert.KernelGsIdeal.main_arg2) = m ((c.tc : Thread Cert.KernelGsIdeal.nD Cert.KernelGsIdeal.τ).loc Cert.KernelGsIdeal.main_arg2)
          ∧ r.2.mem ((c.tc : Thread Cert.KernelGsIdeal.nD Cert.KernelGsIdeal.τ).loc Cert.KernelGsIdeal.main_arg3) = m ((c.tc : Thread Cert.KernelGsIdeal.nD Cert.KernelGsIdeal.τ).loc Cert.KernelGsIdeal.main_arg3)
          ∧ r.2.mem ((c.tc : Thread Cert.KernelGsIdeal.nD Cert.KernelGsIdeal.τ).loc Cert.KernelGsIdeal.main_arg4) = m ((c.tc : Thread Cert.KernelGsIdeal.nD Cert.KernelGsIdeal.τ).loc Cert.KernelGsIdeal.main_arg4)
          ∧ r.2.mem ((c.tc : Thread Cert.KernelGsIdeal.nD Cert.KernelGsIdeal.τ).loc Cert.KernelGsIdeal.main_arg5) = m ((c.tc : Thread Cert.KernelGsIdeal.nD Cert.KernelGsIdeal.τ).loc Cert.KernelGsIdeal.main_arg5)
          ∧ r.2.mem ((c.tc : Thread Cert.KernelGsIdeal.nD Cert.KernelGsIdeal.τ).loc Cert.KernelGsIdeal.main_arg6) = m ((c.tc : Thread Cert.KernelGsIdeal.nD Cert.KernelGsIdeal.τ).loc Cert.KernelGsIdeal.main_arg6)
          ∧ r.2.mem ((c.tc : Thread Cert.KernelGsIdeal.nD Cert.KernelGsIdeal.τ).loc Cert.KernelGsIdeal.main_arg7) = m ((c.tc : Thread Cert.KernelGsIdeal.nD Cert.KernelGsIdeal.τ).loc Cert.KernelGsIdeal.main_arg7)
          ∧ r.2.mem ((c.tc : Thread Cert.KernelGsIdeal.nD Cert.KernelGsIdeal.τ).loc Cert.KernelGsIdeal.main_arg8) = m ((c.tc : Thread Cert.KernelGsIdeal.nD Cert.KernelGsIdeal.τ).loc Cert.KernelGsIdeal.main_arg8))
      ∧ θ_run (Cert.ReferenceGsIdeal.defs (F := Ideal)) (onTc (τ := Cert.ReferenceGsIdeal.τ) (Cert.ReferenceGsIdeal.main (F := Ideal))) ⟨m', fun _ => 0, g'⟩ (fun r => ∀ c : Dev Cert.ReferenceGsIdeal.nD,
          r.2.mem ((c.tc : Thread Cert.ReferenceGsIdeal.nD Cert.ReferenceGsIdeal.τ).loc Cert.ReferenceGsIdeal.main_v77) = v0 c
          ∧ r.2.mem ((c.tc : Thread Cert.ReferenceGsIdeal.nD Cert.ReferenceGsIdeal.τ).loc Cert.ReferenceGsIdeal.main_v81) = v1 c
          ∧ r.2.mem ((c.tc : Thread Cert.ReferenceGsIdeal.nD Cert.ReferenceGsIdeal.τ).loc Cert.ReferenceGsIdeal.main_arg0) = m' ((c.tc : Thread Cert.ReferenceGsIdeal.nD Cert.ReferenceGsIdeal.τ).loc Cert.ReferenceGsIdeal.main_arg0)
          ∧ r.2.mem ((c.tc : Thread Cert.ReferenceGsIdeal.nD Cert.ReferenceGsIdeal.τ).loc Cert.ReferenceGsIdeal.main_arg1) = m' ((c.tc : Thread Cert.ReferenceGsIdeal.nD Cert.ReferenceGsIdeal.τ).loc Cert.ReferenceGsIdeal.main_arg1)
          ∧ r.2.mem ((c.tc : Thread Cert.ReferenceGsIdeal.nD Cert.ReferenceGsIdeal.τ).loc Cert.ReferenceGsIdeal.main_arg2) = m' ((c.tc : Thread Cert.ReferenceGsIdeal.nD Cert.ReferenceGsIdeal.τ).loc Cert.ReferenceGsIdeal.main_arg2)
          ∧ r.2.mem ((c.tc : Thread Cert.ReferenceGsIdeal.nD Cert.ReferenceGsIdeal.τ).loc Cert.ReferenceGsIdeal.main_arg3) = m' ((c.tc : Thread Cert.ReferenceGsIdeal.nD Cert.ReferenceGsIdeal.τ).loc Cert.ReferenceGsIdeal.main_arg3)
          ∧ r.2.mem ((c.tc : Thread Cert.ReferenceGsIdeal.nD Cert.ReferenceGsIdeal.τ).loc Cert.ReferenceGsIdeal.main_arg4) = m' ((c.tc : Thread Cert.ReferenceGsIdeal.nD Cert.ReferenceGsIdeal.τ).loc Cert.ReferenceGsIdeal.main_arg4)
          ∧ r.2.mem ((c.tc : Thread Cert.ReferenceGsIdeal.nD Cert.ReferenceGsIdeal.τ).loc Cert.ReferenceGsIdeal.main_arg5) = m' ((c.tc : Thread Cert.ReferenceGsIdeal.nD Cert.ReferenceGsIdeal.τ).loc Cert.ReferenceGsIdeal.main_arg5)
          ∧ r.2.mem ((c.tc : Thread Cert.ReferenceGsIdeal.nD Cert.ReferenceGsIdeal.τ).loc Cert.ReferenceGsIdeal.main_arg6) = m' ((c.tc : Thread Cert.ReferenceGsIdeal.nD Cert.ReferenceGsIdeal.τ).loc Cert.ReferenceGsIdeal.main_arg6)
          ∧ r.2.mem ((c.tc : Thread Cert.ReferenceGsIdeal.nD Cert.ReferenceGsIdeal.τ).loc Cert.ReferenceGsIdeal.main_arg7) = m' ((c.tc : Thread Cert.ReferenceGsIdeal.nD Cert.ReferenceGsIdeal.τ).loc Cert.ReferenceGsIdeal.main_arg7)
          ∧ r.2.mem ((c.tc : Thread Cert.ReferenceGsIdeal.nD Cert.ReferenceGsIdeal.τ).loc Cert.ReferenceGsIdeal.main_arg8) = m' ((c.tc : Thread Cert.ReferenceGsIdeal.nD Cert.ReferenceGsIdeal.τ).loc Cert.ReferenceGsIdeal.main_arg8))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelCm : Cert.KernelCm.Facts) (hKernelCmIdeal : Cert.KernelCmIdeal.Facts) (hReferenceCmIdeal : Cert.ReferenceCmIdeal.Facts) (hKernelY : Cert.KernelY.Facts) (hKernelYIdeal : Cert.KernelYIdeal.Facts) (hReferenceYIdeal : Cert.ReferenceYIdeal.Facts) (hKernelGs : Cert.KernelGs.Facts) (hKernelGsIdeal : Cert.KernelGsIdeal.Facts) (hReferenceGsIdeal : Cert.ReferenceGsIdeal.Facts) (hOn_prompt_rows : Cert.On_prompt_rows.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelCm (hKernelCm := hKernelCm)
    ∧ quiescent_KernelCmIdeal (hKernelCmIdeal := hKernelCmIdeal)
    ∧ quiescent_ReferenceCmIdeal (hReferenceCmIdeal := hReferenceCmIdeal)
    ∧ quiescent_KernelY (hKernelY := hKernelY)
    ∧ quiescent_KernelYIdeal (hKernelYIdeal := hKernelYIdeal)
    ∧ quiescent_ReferenceYIdeal (hReferenceYIdeal := hReferenceYIdeal)
    ∧ quiescent_KernelGs (hKernelGs := hKernelGs)
    ∧ quiescent_KernelGsIdeal (hKernelGsIdeal := hKernelGsIdeal)
    ∧ quiescent_ReferenceGsIdeal (hReferenceGsIdeal := hReferenceGsIdeal)
    ∧ preserves_Kernel_KernelIdeal
    ∧ algebraic_KernelIdeal_ReferenceIdeal_on_prompt_rows (hKernelIdeal := hKernelIdeal) (hReferenceIdeal := hReferenceIdeal) (hOn_prompt_rows := hOn_prompt_rows)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelCm_KernelCmIdeal
    ∧ algebraic_KernelCmIdeal_ReferenceCmIdeal (hKernelCmIdeal := hKernelCmIdeal) (hReferenceCmIdeal := hReferenceCmIdeal)
    ∧ preserves_KernelY_KernelYIdeal
    ∧ algebraic_KernelYIdeal_ReferenceYIdeal (hKernelYIdeal := hKernelYIdeal) (hReferenceYIdeal := hReferenceYIdeal)
    ∧ preserves_KernelGs_KernelGsIdeal
    ∧ algebraic_KernelGsIdeal_ReferenceGsIdeal (hKernelGsIdeal := hKernelGsIdeal) (hReferenceGsIdeal := hReferenceGsIdeal)
-- ==== On_prompt_rows.lean ====
abbrev S8320x3072 : Shape := ⟨2, ![8320, 3072]⟩
abbrev S8320x128 : Shape := ⟨2, ![8320, 128]⟩
abbrev S16x512 : Shape := ⟨2, ![16, 512]⟩
abbrev S512 : Shape := ⟨1, ![512]⟩
abbrev S1024 : Shape := ⟨1, ![1024]⟩
abbrev S8320x1024 : Shape := ⟨2, ![8320, 1024]⟩
abbrev S_ : Shape := ⟨0, ![]⟩
abbrev S1x4x4x128x256 : Shape := ⟨5, ![1, 4, 4, 128, 256]⟩

class Facts : Prop where
  bcast_S_S8320x1024 : S_.BroadcastsInDim S8320x1024 (![] : Fin 0 → Fin S8320x1024.rank)
  bcast_S_S1x4x4x128x256 : S_.BroadcastsInDim S1x4x4x128x256 (![] : Fin 0 → Fin S1x4x4x128x256.rank)

variable [Facts]

def fn {F : FTy → Type} [FloatOps F] (main_arg0 : FVec F S8320x3072 .f32) (main_arg1 : FVec F S8320x128 .f32) (main_arg2 : FVec F S16x512 .f32) (main_arg3 : FVec F S512 .f32) (main_arg4 : FVec F S1024 .f32) (main_arg5 : FVec F S1024 .f32) : IVec S8320x1024 1 × IVec S1x4x4x128x256 1 :=
  let main_v0 : IVec S8320x1024 32 := iotaInDim S8320x1024 32 0
  let main_c : IVec S_ 32 := constantI S_ 32 8192#32
  let main_v1 : IVec S8320x1024 32 := broadcastInDim S8320x1024 ![] bcast_S_S8320x1024 main_c
  let main_v2 : IVec S8320x1024 1 := cmpi .slt main_v0 main_v1
  let main_c_0 : IVec S_ 1 := constantI S_ 1 1#1
  let main_v3 : IVec S1x4x4x128x256 1 := broadcastInDim S1x4x4x128x256 ![] bcast_S_S1x4x4x128x256 main_c_0
  (main_v2, main_v3)
-- ==== Kernel.lean ====
abbrev S8320x3072 : Shape := ⟨2, ![8320, 3072]⟩
abbrev S8320x128 : Shape := ⟨2, ![8320, 128]⟩
abbrev S16x512 : Shape := ⟨2, ![16, 512]⟩
abbrev S512 : Shape := ⟨1, ![512]⟩
abbrev S1024 : Shape := ⟨1, ![1024]⟩
abbrev S_ : Shape := ⟨0, ![]⟩
abbrev S1x4x4x128x256 : Shape := ⟨5, ![1, 4, 4, 128, 256]⟩
abbrev S128x512 : Shape := ⟨2, ![128, 512]⟩
abbrev S1x512 : Shape := ⟨2, ![1, 512]⟩
abbrev S1x1024 : Shape := ⟨2, ![1, 1024]⟩
abbrev S8320x1024 : Shape := ⟨2, ![8320, 1024]⟩
abbrev S256x3072 : Shape := ⟨2, ![256, 3072]⟩
abbrev S256x128 : Shape := ⟨2, ![256, 128]⟩
abbrev S1x1x4x128x256 : Shape := ⟨5, ![1, 1, 4, 128, 256]⟩
abbrev S256x1024 : Shape := ⟨2, ![256, 1024]⟩
abbrev S1x4x128x256 : Shape := ⟨4, ![1, 4, 128, 256]⟩
abbrev S256x512 : Shape := ⟨2, ![256, 512]⟩
abbrev S64x64 : Shape := ⟨2, ![64, 64]⟩
abbrev S64x512 : Shape := ⟨2, ![64, 512]⟩
abbrev S64x128 : Shape := ⟨2, ![64, 128]⟩
abbrev S64x256 : Shape := ⟨2, ![64, 256]⟩
abbrev S128x256 : Shape := ⟨2, ![128, 256]⟩
abbrev S1x1x128x256 : Shape := ⟨4, ![1, 1, 128, 256]⟩
abbrev S1x128 : Shape := ⟨2, ![1, 128]⟩
abbrev S128x128 : Shape := ⟨2, ![128, 128]⟩
abbrev S1x256 : Shape := ⟨2, ![1, 256]⟩
abbrev S64 : Shape := ⟨1, ![64]⟩
abbrev S64x1 : Shape := ⟨2, ![64, 1]⟩

abbrev nBuf : Space → Nat
  | .hbm => 17
  | .vmem => 16
  | .smem => 0
  | _ => 0

abbrev bufTy : (tb : Table) → Fin (tcTables nBuf tb) → BufTy
  | .hbm, ⟨0, _⟩ => ⟨S8320x3072, .f32⟩
  | .hbm, ⟨1, _⟩ => ⟨S8320x128, .f32⟩
  | .hbm, ⟨2, _⟩ => ⟨S16x512, .f32⟩
  | .hbm, ⟨3, _⟩ => ⟨S512, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1x4x4x128x256, .f32⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S128x512, .bf16⟩
  | .hbm, ⟨12, _⟩ => ⟨S1x512, .f32⟩
  | .hbm, ⟨13, _⟩ => ⟨S1x1024, .f32⟩
  | .hbm, ⟨14, _⟩ => ⟨S1x1024, .f32⟩
  | .hbm, ⟨15, _⟩ => ⟨S8320x1024, .f32⟩
  | .hbm, ⟨16, _⟩ => ⟨S1x4x4x128x256, .f32⟩
  | .local _ .vmem, ⟨0, _⟩ => ⟨S256x3072, .f32⟩
  | .local _ .vmem, ⟨1, _⟩ => ⟨S256x3072, .f32⟩
  | .local _ .vmem, ⟨2, _⟩ => ⟨S256x128, .f32⟩
  | .local _ .vmem, ⟨3, _⟩ => ⟨S256x128, .f32⟩
  | .local _ .vmem, ⟨4, _⟩ => ⟨S1x1x4x128x256, .f32⟩
  | .local _ .vmem, ⟨5, _⟩ => ⟨S1x1x4x128x256, .f32⟩
  | .local _ .vmem, ⟨6, _⟩ => ⟨S128x512, .bf16⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x1x4x128x256, .f32⟩
  | .local _ .vmem, ⟨13, _⟩ => ⟨S1x1x4x128x256, .f32⟩
  | .local _ .vmem, ⟨14, _⟩ => ⟨S1x4x128x256, .f32⟩
  | .local _ .vmem, ⟨15, _⟩ => ⟨S256x1024, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v1203 : BitVec 1 := Scalar.cmpi .eq arg1 c7_i32
  let v1204 : BitVec 32 := Scalar.extui v1203
  let c0_i32_484 : BitVec 32 := 0#32
  let v1205 : BitVec 1 := Scalar.cmpi .ne v1204 c0_i32_484
  v1205

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8320x3072 : Shape := ⟨2, ![8320, 3072]⟩
abbrev S8320x128 : Shape := ⟨2, ![8320, 128]⟩
abbrev S16x512 : Shape := ⟨2, ![16, 512]⟩
abbrev S512 : Shape := ⟨1, ![512]⟩
abbrev S1024 : Shape := ⟨1, ![1024]⟩
abbrev S8192x3072 : Shape := ⟨2, ![8192, 3072]⟩
abbrev S4x2048x3072 : Shape := ⟨3, ![4, 2048, 3072]⟩
abbrev S8192x128 : Shape := ⟨2, ![8192, 128]⟩
abbrev S4x2048x128 : Shape := ⟨3, ![4, 2048, 128]⟩
abbrev S4x2048x16 : Shape := ⟨3, ![4, 2048, 16]⟩
abbrev S4x2048x512 : Shape := ⟨3, ![4, 2048, 512]⟩
abbrev S4x2048x1024 : Shape := ⟨3, ![4, 2048, 1024]⟩
abbrev S4x2048x4x128 : Shape := ⟨4, ![4, 2048, 4, 128]⟩
abbrev S_ : Shape := ⟨0, ![]⟩
abbrev S4x2048x4x256 : Shape := ⟨4, ![4, 2048, 4, 256]⟩
abbrev S1x1x512 : Shape := ⟨3, ![1, 1, 512]⟩
abbrev S4x32x64x4x128 : Shape := ⟨5, ![4, 32, 64, 4, 128]⟩
abbrev S4x32x64x4x256 : Shape := ⟨5, ![4, 32, 64, 4, 256]⟩
abbrev S4x32x1x4x128 : Shape := ⟨5, ![4, 32, 1, 4, 128]⟩
abbrev S4x32x4x64x64 : Shape := ⟨5, ![4, 32, 4, 64, 64]⟩
abbrev S64x64 : Shape := ⟨2, ![64, 64]⟩
abbrev S4x32x4x256x64 : Shape := ⟨5, ![4, 32, 4, 256, 64]⟩
abbrev S4x32x4x128x256 : Shape := ⟨5, ![4, 32, 4, 128, 256]⟩
abbrev S4x32x4x128 : Shape := ⟨4, ![4, 32, 4, 128]⟩
abbrev S4x4x128x256 : Shape := ⟨4, ![4, 4, 128, 256]⟩
abbrev S32x4x64x4x128 : Shape := ⟨5, ![32, 4, 64, 4, 128]⟩
abbrev S32x4x4x128x256 : Shape := ⟨5, ![32, 4, 4, 128, 256]⟩
abbrev S32x4x4x128 : Shape := ⟨4, ![32, 4, 4, 128]⟩
abbrev S32x4x64x4x256 : Shape := ⟨5, ![32, 4, 64, 4, 256]⟩
abbrev S1x4x64x4x128 : Shape := ⟨5, ![1, 4, 64, 4, 128]⟩
abbrev S4x64x4x128 : Shape := ⟨4, ![4, 64, 4, 128]⟩
abbrev S1x4x4x128x256 : Shape := ⟨5, ![1, 4, 4, 128, 256]⟩
abbrev S1x4x4x128 : Shape := ⟨4, ![1, 4, 4, 128]⟩
abbrev S4x4x128 : Shape := ⟨3, ![4, 4, 128]⟩
abbrev S4x4x256x64 : Shape := ⟨4, ![4, 4, 256, 64]⟩
abbrev S4x64x4x256 : Shape := ⟨4, ![4, 64, 4, 256]⟩
abbrev S4x4x128x1 : Shape := ⟨4, ![4, 4, 128, 1]⟩
abbrev S1x4x64x4x256 : Shape := ⟨5, ![1, 4, 64, 4, 256]⟩
abbrev S4x2048x4 : Shape := ⟨3, ![4, 2048, 4]⟩
abbrev S4x2048x4x1 : Shape := ⟨4, ![4, 2048, 4, 1]⟩
abbrev S4x256 : Shape := ⟨2, ![4, 256]⟩
abbrev S1x1x4x256 : Shape := ⟨4, ![1, 1, 4, 256]⟩
abbrev S8192x1024 : Shape := ⟨2, ![8192, 1024]⟩
abbrev S8320x1024 : Shape := ⟨2, ![8320, 1024]⟩

abbrev nBuf : Space → Nat
  | .hbm => 180
  | .vmem => 0
  | .smem => 0
  | _ => 0

abbrev hbmTy0_0 (i : Nat) : BufTy := match i % 128 with
  | 0 => ⟨S8320x3072, .f32⟩
  | 1 => ⟨S8320x128, .f32⟩
  | 2 => ⟨S16x512, .f32⟩
  | 3 => ⟨S512, .f32⟩
  | 4 => ⟨S1024, .f32⟩
  | 5 => ⟨S1024, .f32⟩
  | 6 => ⟨S8192x3072, .f32⟩
  | 7 => ⟨S4x2048x3072, .f32⟩
  | 8 => ⟨S8192x128, .f32⟩
  | 9 => ⟨S4x2048x128, .f32⟩
  | 10 => ⟨S4x2048x16, .f32⟩
  | 11 => ⟨S4x2048x512, .f32⟩
  | 12 => ⟨S4x2048x512, .f32⟩
  | 13 => ⟨S4x2048x1024, .f32⟩
  | 14 => ⟨S4x2048x1024, .f32⟩
  | 15 => ⟨S4x2048x4x128, .f32⟩
  | 16 => ⟨S_, .f32⟩
  | 17 => ⟨S4x2048x4x128, .f32⟩
  | 18 => ⟨S4x2048x4x128, .f32⟩
  | 19 => ⟨S4x2048x4x128, .f32⟩
  | 20 => ⟨S4x2048x4x256, .f32⟩
  | 21 => ⟨S4x2048x512, .f32⟩
  | 22 => ⟨S1x1x512, .f32⟩
  | 23 => ⟨S4x2048x512, .f32⟩
  | 24 => ⟨S4x2048x512, .f32⟩
  | 25 => ⟨S4x2048x512, .f32⟩
  | 26 => ⟨S_, .f32⟩
  | 27 => ⟨S4x2048x512, .f32⟩
  | 28 => ⟨S4x2048x512, .f32⟩
  | 29 => ⟨S4x2048x512, .f32⟩
  | 30 => ⟨S4x2048x512, .f32⟩
  | 31 => ⟨S4x2048x512, .i1⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x512, .f32⟩
  | 38 => ⟨S4x2048x512, .f32⟩
  | 39 => ⟨S4x2048x512, .f32⟩
  | 40 => ⟨S4x2048x512, .f32⟩
  | 41 => ⟨S_, .f32⟩
  | 42 => ⟨S4x2048x512, .f32⟩
  | 43 => ⟨S4x2048x512, .f32⟩
  | 44 => ⟨S4x2048x4x128, .f32⟩
  | 45 => ⟨S4x32x64x4x128, .f32⟩
  | 46 => ⟨S4x32x64x4x128, .f32⟩
  | 47 => ⟨S4x32x64x4x256, .f32⟩
  | 48 => ⟨S4x32x64x4x128, .f32⟩
  | 49 => ⟨S_, .f32⟩
  | 50 => ⟨S_, .f32⟩
  | 51 => ⟨S4x32x64x4x128, .f32⟩
  | 52 => ⟨S4x32x64x4x128, .f32⟩
  | 53 => ⟨S4x32x64x4x128, .f32⟩
  | 54 => ⟨S4x32x64x4x128, .f32⟩
  | 55 => ⟨S4x32x64x4x128, .f32⟩
  | 56 => ⟨S4x32x64x4x128, .f32⟩
  | 57 => ⟨S4x32x1x4x128, .f32⟩
  | 58 => ⟨S4x32x64x4x128, .f32⟩
  | 59 => ⟨S4x32x64x4x128, .f32⟩
  | 60 => ⟨S4x32x64x4x128, .f32⟩
  | 61 => ⟨S4x32x64x4x128, .f32⟩
  | 62 => ⟨S4x32x4x64x64, .f32⟩
  | 63 => ⟨S_, .i1⟩
  | 64 => ⟨S64x64, .i1⟩
  | 65 => ⟨S64x64, .i32⟩
  | 66 => ⟨S_, .i32⟩
  | 67 => ⟨S64x64, .i32⟩
  | 68 => ⟨S64x64, .i32⟩
  | 69 => ⟨S64x64, .i32⟩
  | 70 => ⟨S64x64, .i1⟩
  | 71 => ⟨S_, .i1⟩
  | 72 => ⟨S64x64, .i1⟩
  | 73 => ⟨S64x64, .i1⟩
  | 74 => ⟨S_, .f32⟩
  | 75 => ⟨S_, .f32⟩
  | 76 => ⟨S4x32x4x64x64, .i1⟩
  | 77 => ⟨S4x32x4x64x64, .f32⟩
  | 78 => ⟨S4x32x4x64x64, .f32⟩
  | 79 => ⟨S4x32x4x256x64, .f32⟩
  | 80 => ⟨S4x32x64x4x256, .f32⟩
  | 81 => ⟨S4x32x4x128x256, .f32⟩
  | 82 => ⟨S4x32x1x4x128, .f32⟩
  | 83 => ⟨S4x32x4x128, .f32⟩
  | 84 => ⟨S4x32x4x128, .f32⟩
  | 85 => ⟨S_, .f32⟩
  | 86 => ⟨S4x4x128x256, .f32⟩
  | 87 => ⟨S32x4x64x4x128, .f32⟩
  | 88 => ⟨S32x4x4x128x256, .f32⟩
  | 89 => ⟨S32x4x4x128, .f32⟩
  | 90 => ⟨S_, .f32⟩
  | 91 => ⟨S32x4x64x4x256, .f32⟩
  | 92 => ⟨S_, .i32⟩
  | 93 => ⟨S32x4x64x4x128, .f32⟩
  | 94 => ⟨S32x4x4x128x256, .f32⟩
  | 95 => ⟨S32x4x4x128, .f32⟩
  | 96 => ⟨S_, .i32⟩
  | 97 => ⟨S4x4x128x256, .f32⟩
  | 98 => ⟨S32x4x64x4x256, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x4x64x4x128, .f32⟩
  | 106 => ⟨S4x64x4x128, .f32⟩
  | 107 => ⟨S_, .i32⟩
  | 108 => ⟨S_, .i32⟩
  | 109 => ⟨S_, .i32⟩
  | 110 => ⟨S_, .i32⟩
  | 111 => ⟨S1x4x4x128x256, .f32⟩
  | 112 => ⟨S4x4x128x256, .f32⟩
  | 113 => ⟨S_, .i32⟩
  | 114 => ⟨S_, .i32⟩
  | 115 => ⟨S_, .i32⟩
  | 116 => ⟨S1x4x4x128, .f32⟩
  | 117 => ⟨S4x4x128, .f32⟩
  | 118 => ⟨S4x4x256x64, .f32⟩
  | 119 => ⟨S4x64x4x256, .f32⟩
  | 120 => ⟨S4x4x128x1, .f32⟩
  | 121 => ⟨S4x4x128x256, .f32⟩
  | 122 => ⟨S4x4x128x256, .f32⟩
  | 123 => ⟨S4x4x128x256, .f32⟩
  | 124 => ⟨S1x4x64x4x256, .f32⟩
  | 125 => ⟨S_, .i32⟩
  | 126 => ⟨S_, .i32⟩
  | 127 => ⟨S_, .i32⟩
  | _ => ⟨S8320x3072, .f32⟩

abbrev hbmTy0_1 (i : Nat) : BufTy := match i % 128 with
  | 0 => ⟨S_, .i32⟩
  | 1 => ⟨S32x4x64x4x256, .f32⟩
  | 2 => ⟨S_, .i32⟩
  | 3 => ⟨S_, .i32⟩
  | 4 => ⟨S4x32x64x4x256, .f32⟩
  | 5 => ⟨S4x32x64x4x256, .f32⟩
  | 6 => ⟨S4x2048x4x256, .f32⟩
  | 7 => ⟨S_, .f32⟩
  | 8 => ⟨S4x2048x4, .f32⟩
  | 9 => ⟨S4x2048x4x1, .f32⟩
  | 10 => ⟨S_, .f32⟩
  | 11 => ⟨S4x2048x4x1, .f32⟩
  | 12 => ⟨S4x2048x4x1, .f32⟩
  | 13 => ⟨S4x2048x4x256, .f32⟩
  | 14 => ⟨S4x2048x4x256, .f32⟩
  | 15 => ⟨S4x2048x4x256, .f32⟩
  | 16 => ⟨S_, .f32⟩
  | 17 => ⟨S4x2048x4, .f32⟩
  | 18 => ⟨S4x2048x4x1, .f32⟩
  | 19 => ⟨S_, .f32⟩
  | 20 => ⟨S4x2048x4x1, .f32⟩
  | 21 => ⟨S4x2048x4x1, .f32⟩
  | 22 => ⟨S_, .f32⟩
  | 23 => ⟨S4x2048x4x1, .f32⟩
  | 24 => ⟨S4x2048x4x1, .f32⟩
  | 25 => ⟨S4x2048x4x1, .f32⟩
  | 26 => ⟨S4x2048x4x256, .f32⟩
  | 27 => ⟨S4x2048x4x256, .f32⟩
  | 28 => ⟨S4x256, .f32⟩
  | 29 => ⟨S1x1x4x256, .f32⟩
  | 30 => ⟨S4x2048x4x256, .f32⟩
  | 31 => ⟨S4x2048x4x256, .f32⟩
  | 32 => ⟨S4x256, .f32⟩
  | 33 => ⟨S1x1x4x256, .f32⟩
  | 34 => ⟨S4x2048x4x256, .f32⟩
  | 35 => ⟨S4x2048x4x256, .f32⟩
  | 36 => ⟨S4x2048x1024, .f32⟩
  | 37 => ⟨S4x2048x1024, .f32⟩
  | 38 => ⟨S4x2048x1024, .f32⟩
  | 39 => ⟨S_, .f32⟩
  | 40 => ⟨S4x2048x1024, .f32⟩
  | 41 => ⟨S4x2048x1024, .f32⟩
  | 42 => ⟨S_, .f32⟩
  | 43 => ⟨S4x2048x1024, .f32⟩
  | 44 => ⟨S4x2048x1024, .f32⟩
  | 45 => ⟨S4x2048x1024, .f32⟩
  | 46 => ⟨S4x2048x1024, .f32⟩
  | 47 => ⟨S8192x1024, .f32⟩
  | 48 => ⟨S_, .i32⟩
  | 49 => ⟨S_, .f32⟩
  | 50 => ⟨S8320x1024, .f32⟩
  | 51 => ⟨S1x4x4x128x256, .f32⟩
  | _ => ⟨S8320x3072, .f32⟩

abbrev hbmTy (i : Nat) : BufTy := match i / 128 with
  | 0 => hbmTy0_0 i
  | 1 => hbmTy0_1 i
  | _ => ⟨S8320x3072, .f32⟩

abbrev bufTy : (tb : Table) → Fin (tcTables nBuf tb) → BufTy
  | .hbm, ⟨i, _⟩ => hbmTy i
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v18 : Ref sig .tc := ⟨.hbm, 40, rfl⟩
abbrev main_cst_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call1_call0_cst : Ref sig .tc := ⟨.hbm, 49, rfl⟩
abbrev main_call1_call0_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c : Ref sig .tc := ⟨.hbm, 63, rfl⟩
abbrev main_v38 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_0 : Ref sig .tc := ⟨.hbm, 71, rfl⟩
abbrev main_call2_v5 : Ref sig .tc := ⟨.hbm, 72, rfl⟩
abbrev main_v39 : Ref sig .tc := ⟨.hbm, 73, rfl⟩
abbrev main_cst_1 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_2 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_3 : Ref sig .tc := ⟨.hbm, 90, rfl⟩
abbrev main_v51 : Ref sig .tc := ⟨.hbm, 91, rfl⟩
abbrev main_c_4 : Ref sig .tc := ⟨.hbm, 92, rfl⟩
abbrev main_v52_0 : Ref sig .tc := ⟨.hbm, 93, rfl⟩
abbrev main_v52_1 : Ref sig .tc := ⟨.hbm, 94, rfl⟩
abbrev main_v52_2 : Ref sig .tc := ⟨.hbm, 95, rfl⟩
abbrev main_v52_3 : Ref sig .tc := ⟨.hbm, 96, rfl⟩
abbrev main_v52_4 : Ref sig .tc := ⟨.hbm, 97, rfl⟩
abbrev main_v52_5 : Ref sig .tc := ⟨.hbm, 98, rfl⟩
abbrev main_while0c_c_16 : Ref sig .tc := ⟨.hbm, 99, rfl⟩
abbrev main_while0c_v86 : Ref sig .tc := ⟨.hbm, 100, rfl⟩
abbrev main_while0b_call4_c : Ref sig .tc := ⟨.hbm, 101, rfl⟩
abbrev main_while0b_call4_c_0 : Ref sig .tc := ⟨.hbm, 102, rfl⟩
abbrev main_while0b_call4_c_1 : Ref sig .tc := ⟨.hbm, 103, rfl⟩
abbrev main_while0b_call4_c_2 : Ref sig .tc := ⟨.hbm, 104, rfl⟩
abbrev main_while0b_call4_v0 : Ref sig .tc := ⟨.hbm, 105, rfl⟩
abbrev main_while0b_v86 : Ref sig .tc := ⟨.hbm, 106, rfl⟩
abbrev main_while0b_call5_c : Ref sig .tc := ⟨.hbm, 107, rfl⟩
abbrev main_while0b_call5_c_0 : Ref sig .tc := ⟨.hbm, 108, rfl⟩
abbrev main_while0b_call5_c_1 : Ref sig .tc := ⟨.hbm, 109, rfl⟩
abbrev main_while0b_call5_c_2 : Ref sig .tc := ⟨.hbm, 110, rfl⟩
abbrev main_while0b_call5_v0 : Ref sig .tc := ⟨.hbm, 111, rfl⟩
abbrev main_while0b_v87 : Ref sig .tc := ⟨.hbm, 112, rfl⟩
abbrev main_while0b_call6_c : Ref sig .tc := ⟨.hbm, 113, rfl⟩
abbrev main_while0b_call6_c_0 : Ref sig .tc := ⟨.hbm, 114, rfl⟩
abbrev main_while0b_call6_c_1 : Ref sig .tc := ⟨.hbm, 115, rfl⟩
abbrev main_while0b_call6_v0 : Ref sig .tc := ⟨.hbm, 116, rfl⟩
abbrev main_while0b_v88 : Ref sig .tc := ⟨.hbm, 117, rfl⟩
abbrev main_while0b_v89 : Ref sig .tc := ⟨.hbm, 118, rfl⟩
abbrev main_while0b_v90 : Ref sig .tc := ⟨.hbm, 119, rfl⟩
abbrev main_while0b_v91 : Ref sig .tc := ⟨.hbm, 120, rfl⟩
abbrev main_while0b_v92 : Ref sig .tc := ⟨.hbm, 121, rfl⟩
abbrev main_while0b_v93 : Ref sig .tc := ⟨.hbm, 122, rfl⟩
abbrev main_while0b_v94 : Ref sig .tc := ⟨.hbm, 123, rfl⟩
abbrev main_while0b_call7_v0 : Ref sig .tc := ⟨.hbm, 124, rfl⟩
abbrev main_while0b_call7_c : Ref sig .tc := ⟨.hbm, 125, rfl⟩
abbrev main_while0b_call7_c_0 : Ref sig .tc := ⟨.hbm, 126, rfl⟩
abbrev main_while0b_call7_c_1 : Ref sig .tc := ⟨.hbm, 127, rfl⟩
abbrev main_while0b_call7_c_2 : Ref sig .tc := ⟨.hbm, 128, rfl⟩
abbrev main_while0b_v95 : Ref sig .tc := ⟨.hbm, 129, rfl⟩
abbrev main_while0b_c_16 : Ref sig .tc := ⟨.hbm, 130, rfl⟩
abbrev main_while0b_v96 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_cst_5 : Ref sig .tc := ⟨.hbm, 135, rfl⟩
abbrev main_v56 : Ref sig .tc := ⟨.hbm, 136, rfl⟩
abbrev main_v57 : Ref sig .tc := ⟨.hbm, 137, rfl⟩
abbrev main_cst_6 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_cst_7 : Ref sig .tc := ⟨.hbm, 144, rfl⟩
abbrev main_v63 : Ref sig .tc := ⟨.hbm, 145, rfl⟩
abbrev main_v64 : Ref sig .tc := ⟨.hbm, 146, rfl⟩
abbrev main_cst_8 : Ref sig .tc := ⟨.hbm, 147, rfl⟩
abbrev main_v65 : Ref sig .tc := ⟨.hbm, 148, rfl⟩
abbrev main_v66 : Ref sig .tc := ⟨.hbm, 149, rfl⟩
abbrev main_cst_9 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_call8_v0 : Ref sig .tc := ⟨.hbm, 165, rfl⟩
abbrev main_call8_v1 : Ref sig .tc := ⟨.hbm, 166, rfl⟩
abbrev main_call8_cst : Ref sig .tc := ⟨.hbm, 167, rfl⟩
abbrev main_call8_v2 : Ref sig .tc := ⟨.hbm, 168, rfl⟩
abbrev main_call8_v3 : Ref sig .tc := ⟨.hbm, 169, rfl⟩
abbrev main_call8_cst_0 : Ref sig .tc := ⟨.hbm, 170, rfl⟩
abbrev main_call8_v4 : Ref sig .tc := ⟨.hbm, 171, rfl⟩
abbrev main_call8_v5 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_c_10 : Ref sig .tc := ⟨.hbm, 176, rfl⟩
abbrev main_call9_v0 : Ref sig .tc := ⟨.hbm, 177, rfl⟩
abbrev main_v84 : Ref sig .tc := ⟨.hbm, 178, rfl⟩
abbrev main_v85 : Ref sig .tc := ⟨.hbm, 179, rfl⟩

abbrev nD : Nat := 1
abbrev τ : Topo := Topo.v7x

variable {F : FTy → Type} [FloatOps F]

abbrev main_while0_count : Scf.Loop 32 := ⟨0#32, 32#32, 1#32⟩
-- ==== KernelIn.lean ====
abbrev S8320x2048 : Shape := ⟨2, ![8320, 2048]⟩
abbrev S2048 : Shape := ⟨1, ![2048]⟩
abbrev S2048x14608 : Shape := ⟨2, ![2048, 14608]⟩
abbrev S1x2048 : Shape := ⟨2, ![1, 2048]⟩
abbrev S640x2048 : Shape := ⟨2, ![640, 2048]⟩
abbrev S640 : Shape := ⟨1, ![640]⟩
abbrev S640x1 : Shape := ⟨2, ![640, 1]⟩
abbrev S2048x3328 : Shape := ⟨2, ![2048, 3328]⟩
abbrev S8320x3328 : Shape := ⟨2, ![8320, 3328]⟩
abbrev S2048x1664 : Shape := ⟨2, ![2048, 1664]⟩
abbrev S640x1664 : Shape := ⟨2, ![640, 1664]⟩
abbrev S2048x2048 : Shape := ⟨2, ![2048, 2048]⟩
abbrev S2048x1024 : Shape := ⟨2, ![2048, 1024]⟩
abbrev S2048x3072 : Shape := ⟨2, ![2048, 3072]⟩
abbrev S8320x3072 : Shape := ⟨2, ![8320, 3072]⟩
abbrev S2048x1536 : Shape := ⟨2, ![2048, 1536]⟩
abbrev S640x1536 : Shape := ⟨2, ![640, 1536]⟩
abbrev S2048x16 : Shape := ⟨2, ![2048, 16]⟩
abbrev S_ : Shape := ⟨0, ![]⟩
abbrev S2048x128 : Shape := ⟨2, ![2048, 128]⟩
abbrev S8320x128 : Shape := ⟨2, ![8320, 128]⟩
abbrev S640x128 : Shape := ⟨2, ![640, 128]⟩
abbrev S640x1024 : Shape := ⟨2, ![640, 1024]⟩
abbrev S2048x6144 : Shape := ⟨2, ![2048, 6144]⟩
abbrev S8320x6144 : Shape := ⟨2, ![8320, 6144]⟩

abbrev nBuf : Space → Nat
  | .hbm => 25
  | .vmem => 34
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x14608, .f32⟩
  | .hbm, ⟨3, _⟩ => ⟨S1x2048, .f32⟩
  | .hbm, ⟨4, _⟩ => ⟨S8320x2048, .bf16⟩
  | .hbm, ⟨5, _⟩ => ⟨S2048x3328, .f32⟩
  | .hbm, ⟨6, _⟩ => ⟨S2048x3328, .bf16⟩
  | .hbm, ⟨7, _⟩ => ⟨S8320x3328, .f32⟩
  | .hbm, ⟨8, _⟩ => ⟨S2048x2048, .f32⟩
  | .hbm, ⟨9, _⟩ => ⟨S2048x1024, .f32⟩
  | .hbm, ⟨10, _⟩ => ⟨S2048x3072, .f32⟩
  | .hbm, ⟨11, _⟩ => ⟨S2048x3072, .bf16⟩
  | .hbm, ⟨12, _⟩ => ⟨S8320x3072, .f32⟩
  | .hbm, ⟨13, _⟩ => ⟨S2048x16, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S8320x128, .f32⟩
  | .hbm, ⟨19, _⟩ => ⟨S2048x2048, .f32⟩
  | .hbm, ⟨20, _⟩ => ⟨S2048x2048, .bf16⟩
  | .hbm, ⟨21, _⟩ => ⟨S8320x2048, .f32⟩
  | .hbm, ⟨22, _⟩ => ⟨S2048x6144, .f32⟩
  | .hbm, ⟨23, _⟩ => ⟨S2048x6144, .bf16⟩
  | .hbm, ⟨24, _⟩ => ⟨S8320x6144, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x2048, .bf16⟩
  | .local _ .vmem, ⟨4, _⟩ => ⟨S640x2048, .bf16⟩
  | .local _ .vmem, ⟨5, _⟩ => ⟨S640x2048, .bf16⟩
  | .local _ .vmem, ⟨6, _⟩ => ⟨S640x2048, .bf16⟩
  | .local _ .vmem, ⟨7, _⟩ => ⟨S2048x1664, .bf16⟩
  | .local _ .vmem, ⟨8, _⟩ => ⟨S2048x1664, .bf16⟩
  | .local _ .vmem, ⟨9, _⟩ => ⟨S640x1664, .f32⟩
  | .local _ .vmem, ⟨10, _⟩ => ⟨S640x1664, .f32⟩
  | .local _ .vmem, ⟨11, _⟩ => ⟨S640x2048, .bf16⟩
  | .local _ .vmem, ⟨12, _⟩ => ⟨S640x2048, .bf16⟩
  | .local _ .vmem, ⟨13, _⟩ => ⟨S2048x1536, .bf16⟩
  | .local _ .vmem, ⟨14, _⟩ => ⟨S2048x1536, .bf16⟩
  | .local _ .vmem, ⟨15, _⟩ => ⟨S640x1536, .f32⟩
  | .local _ .vmem, ⟨16, _⟩ => ⟨S640x1536, .f32⟩
  | .local _ .vmem, ⟨17, _⟩ => ⟨S640x2048, .bf16⟩
  | .local _ .vmem, ⟨18, _⟩ => ⟨S640x2048, .bf16⟩
  | .local _ .vmem, ⟨19, _⟩ => ⟨S2048x128, .bf16⟩
  | .local _ .vmem, ⟨20, _⟩ => ⟨S640x128, .f32⟩
  | .local _ .vmem, ⟨21, _⟩ => ⟨S640x128, .f32⟩
  | .local _ .vmem, ⟨22, _⟩ => ⟨S640x2048, .bf16⟩
  | .local _ .vmem, ⟨23, _⟩ => ⟨S640x2048, .bf16⟩
  | .local _ .vmem, ⟨24, _⟩ => ⟨S2048x1024, .bf16⟩
  | .local _ .vmem, ⟨25, _⟩ => ⟨S2048x1024, .bf16⟩
  | .local _ .vmem, ⟨26, _⟩ => ⟨S640x1024, .f32⟩
  | .local _ .vmem, ⟨27, _⟩ => ⟨S640x1024, .f32⟩
  | .local _ .vmem, ⟨28, _⟩ => ⟨S640x2048, .bf16⟩
  | .local _ .vmem, ⟨29, _⟩ => ⟨S640x2048, .bf16⟩
  | .local _ .vmem, ⟨30, _⟩ => ⟨S2048x1536, .bf16⟩
  | .local _ .vmem, ⟨31, _⟩ => ⟨S2048x1536, .bf16⟩
  | .local _ .vmem, ⟨32, _⟩ => ⟨S640x1536, .f32⟩
  | .local _ .vmem, ⟨33, _⟩ => ⟨S640x1536, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 13], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S640x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1664 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S640x1664 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 13], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S640x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S640x1536 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 13], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S640x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S640x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 13], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S640x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S640x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 13], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S640x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x1536 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S640x1536 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== ReferenceInIdeal.lean ====
abbrev S8320x2048 : Shape := ⟨2, ![8320, 2048]⟩
abbrev S2048 : Shape := ⟨1, ![2048]⟩
abbrev S2048x14608 : Shape := ⟨2, ![2048, 14608]⟩
abbrev S_ : Shape := ⟨0, ![]⟩
abbrev S8320 : Shape := ⟨1, ![8320]⟩
abbrev S8320x1 : Shape := ⟨2, ![8320, 1]⟩
abbrev S1x2048 : Shape := ⟨2, ![1, 2048]⟩
abbrev S8320x14608 : Shape := ⟨2, ![8320, 14608]⟩
abbrev S8320x3328 : Shape := ⟨2, ![8320, 3328]⟩
abbrev S8320x512 : Shape := ⟨2, ![8320, 512]⟩
abbrev S8320x1024 : Shape := ⟨2, ![8320, 1024]⟩
abbrev S8320x16 : Shape := ⟨2, ![8320, 16]⟩
abbrev S8320x6144 : Shape := ⟨2, ![8320, 6144]⟩
abbrev S8320x3072 : Shape := ⟨2, ![8320, 3072]⟩
abbrev S8320x128 : Shape := ⟨2, ![8320, 128]⟩

abbrev nBuf : Space → Nat
  | .hbm => 32
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S2048x14608, .f32⟩
  | .hbm, ⟨3, _⟩ => ⟨S8320x2048, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x2048, .f32⟩
  | .hbm, ⟨15, _⟩ => ⟨S8320x2048, .f32⟩
  | .hbm, ⟨16, _⟩ => ⟨S1x2048, .f32⟩
  | .hbm, ⟨17, _⟩ => ⟨S8320x2048, .f32⟩
  | .hbm, ⟨18, _⟩ => ⟨S8320x2048, .f32⟩
  | .hbm, ⟨19, _⟩ => ⟨S8320x14608, .f32⟩
  | .hbm, ⟨20, _⟩ => ⟨S8320x3328, .f32⟩
  | .hbm, ⟨21, _⟩ => ⟨S8320x512, .f32⟩
  | .hbm, ⟨22, _⟩ => ⟨S8320x512, .f32⟩
  | .hbm, ⟨23, _⟩ => ⟨S8320x1024, .f32⟩
  | .hbm, ⟨24, _⟩ => ⟨S8320x16, .f32⟩
  | .hbm, ⟨25, _⟩ => ⟨S8320x1024, .f32⟩
  | .hbm, ⟨26, _⟩ => ⟨S8320x2048, .f32⟩
  | .hbm, ⟨27, _⟩ => ⟨S8320x6144, .f32⟩
  | .hbm, ⟨28, _⟩ => ⟨S8320x3072, .f32⟩
  | .hbm, ⟨29, _⟩ => ⟨S_, .i32⟩
  | .hbm, ⟨30, _⟩ => ⟨S_, .f32⟩
  | .hbm, ⟨31, _⟩ => ⟨S8320x128, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== KernelOut.lean ====
abbrev S8320x2048 : Shape := ⟨2, ![8320, 2048]⟩
abbrev S8320x1024 : Shape := ⟨2, ![8320, 1024]⟩
abbrev S8320x6144 : Shape := ⟨2, ![8320, 6144]⟩
abbrev S3x1024x2048 : Shape := ⟨3, ![3, 1024, 2048]⟩
abbrev S2048x2048 : Shape := ⟨2, ![2048, 2048]⟩
abbrev S2048 : Shape := ⟨1, ![2048]⟩
abbrev S640x1024 : Shape := ⟨2, ![640, 1024]⟩
abbrev S3x1024x1024 : Shape := ⟨3, ![3, 1024, 1024]⟩
abbrev S1x1024x1024 : Shape := ⟨3, ![1, 1024, 1024]⟩
abbrev S1024x1024 : Shape := ⟨2, ![1024, 1024]⟩
abbrev S640x2048 : Shape := ⟨2, ![640, 2048]⟩
abbrev S2048x1024 : Shape := ⟨2, ![2048, 1024]⟩
abbrev S1x2048 : Shape := ⟨2, ![1, 2048]⟩
abbrev S640 : Shape := ⟨1, ![640]⟩
abbrev S640x1 : Shape := ⟨2, ![640, 1]⟩

abbrev nBuf : Space → Nat
  | .hbm => 17
  | .vmem => 35
  | .smem => 0
  | _ => 0

abbrev bufTy : (tb : Table) → Fin (tcTables nBuf tb) → BufTy
  | .hbm, ⟨0, _⟩ => ⟨S8320x2048, .f32⟩
  | .hbm, ⟨1, _⟩ => ⟨S8320x1024, .f32⟩
  | .hbm, ⟨2, _⟩ => ⟨S8320x1024, .f32⟩
  | .hbm, ⟨3, _⟩ => ⟨S8320x1024, .f32⟩
  | .hbm, ⟨4, _⟩ => ⟨S8320x6144, .f32⟩
  | .hbm, ⟨5, _⟩ => ⟨S3x1024x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S3x1024x2048, .bf16⟩
  | .hbm, ⟨10, _⟩ => ⟨S8320x2048, .bf16⟩
  | .hbm, ⟨11, _⟩ => ⟨S2048x2048, .bf16⟩
  | .hbm, ⟨12, _⟩ => ⟨S8320x2048, .f32⟩
  | .hbm, ⟨13, _⟩ => ⟨S1x2048, .f32⟩
  | .hbm, ⟨14, _⟩ => ⟨S8320x2048, .bf16⟩
  | .hbm, ⟨15, _⟩ => ⟨S2048x2048, .bf16⟩
  | .hbm, ⟨16, _⟩ => ⟨S8320x2048, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | .local _ .vmem, ⟨12, _⟩ => ⟨S3x1024x1024, .bf16⟩
  | .local _ .vmem, ⟨13, _⟩ => ⟨S3x1024x1024, .bf16⟩
  | .local _ .vmem, ⟨14, _⟩ => ⟨S640x1024, .bf16⟩
  | .local _ .vmem, ⟨15, _⟩ => ⟨S640x1024, .bf16⟩
  | .local _ .vmem, ⟨16, _⟩ => ⟨S640x2048, .bf16⟩
  | .local _ .vmem, ⟨17, _⟩ => ⟨S640x2048, .bf16⟩
  | .local _ .vmem, ⟨18, _⟩ => ⟨S2048x1024, .bf16⟩
  | .local _ .vmem, ⟨19, _⟩ => ⟨S2048x1024, .bf16⟩
  | .local _ .vmem, ⟨20, _⟩ => ⟨S640x1024, .f32⟩
  | .local _ .vmem, ⟨21, _⟩ => ⟨S640x1024, .f32⟩
  | .local _ .vmem, ⟨22, _⟩ => ⟨S640x1024, .f32⟩
  | .local _ .vmem, ⟨23, _⟩ => ⟨S640x1024, .f32⟩
  | .local _ .vmem, ⟨24, _⟩ => ⟨S640x2048, .f32⟩
  | .local _ .vmem, ⟨25, _⟩ => ⟨S640x2048, .f32⟩
  | .local _ .vmem, ⟨26, _⟩ => ⟨S1x2048, .f32⟩
  | .local _ .vmem, ⟨27, _⟩ => ⟨S640x2048, .bf16⟩
  | .local _ .vmem, ⟨28, _⟩ => ⟨S640x2048, .bf16⟩
  | .local _ .vmem, ⟨29, _⟩ => ⟨S640x2048, .bf16⟩
  | .local _ .vmem, ⟨30, _⟩ => ⟨S640x2048, .bf16⟩
  | .local _ .vmem, ⟨31, _⟩ => ⟨S2048x1024, .bf16⟩
  | .local _ .vmem, ⟨32, _⟩ => ⟨S2048x1024, .bf16⟩
  | .local _ .vmem, ⟨33, _⟩ => ⟨S640x1024, .f32⟩
  | .local _ .vmem, ⟨34, _⟩ => ⟨S640x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S640x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 13], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S640x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S640x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S640x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S640x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 13], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S640x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S640x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceOutIdeal.lean ====
abbrev S8320x2048 : Shape := ⟨2, ![8320, 2048]⟩
abbrev S8320x1024 : Shape := ⟨2, ![8320, 1024]⟩
abbrev S8320x6144 : Shape := ⟨2, ![8320, 6144]⟩
abbrev S3x1024x2048 : Shape := ⟨3, ![3, 1024, 2048]⟩
abbrev S2048x2048 : Shape := ⟨2, ![2048, 2048]⟩
abbrev S2048 : Shape := ⟨1, ![2048]⟩
abbrev S8320x1x1024 : Shape := ⟨3, ![8320, 1, 1024]⟩
abbrev S8320x3x1024 : Shape := ⟨3, ![8320, 3, 1024]⟩
abbrev S3x2048x8320 : Shape := ⟨3, ![3, 2048, 8320]⟩
abbrev S8320x3x2048 : Shape := ⟨3, ![8320, 3, 2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x1024, .f32⟩
  | .hbm, ⟨2, _⟩ => ⟨S8320x1024, .f32⟩
  | .hbm, ⟨3, _⟩ => ⟨S8320x1024, .f32⟩
  | .hbm, ⟨4, _⟩ => ⟨S8320x6144, .f32⟩
  | .hbm, ⟨5, _⟩ => ⟨S3x1024x2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S8320x1x1024, .f32⟩
  | .hbm, ⟨10, _⟩ => ⟨S8320x1x1024, .f32⟩
  | .hbm, ⟨11, _⟩ => ⟨S8320x1x1024, .f32⟩
  | .hbm, ⟨12, _⟩ => ⟨S8320x3x1024, .f32⟩
  | .hbm, ⟨13, _⟩ => ⟨S3x2048x8320, .f32⟩
  | .hbm, ⟨14, _⟩ => ⟨S8320x3x2048, .f32⟩
  | .hbm, ⟨15, _⟩ => ⟨S8320x3x2048, .f32⟩
  | .hbm, ⟨16, _⟩ => ⟨S8320x3x2048, .f32⟩
  | .hbm, ⟨17, _⟩ => ⟨S8320x3x2048, .f32⟩
  | .hbm, ⟨18, _⟩ => ⟨S_, .f32⟩
  | .hbm, ⟨19, _⟩ => ⟨S8320x3x2048, .f32⟩
  | .hbm, ⟨20, _⟩ => ⟨S8320x3x2048, .f32⟩
  | .hbm, ⟨21, _⟩ => ⟨S_, .f32⟩
  | .hbm, ⟨22, _⟩ => ⟨S8320x3x2048, .f32⟩
  | .hbm, ⟨23, _⟩ => ⟨S8320x3x2048, .f32⟩
  | .hbm, ⟨24, _⟩ => ⟨S8320x3x2048, .f32⟩
  | .hbm, ⟨25, _⟩ => ⟨S_, .f32⟩
  | .hbm, ⟨26, _⟩ => ⟨S8320x2048, .f32⟩
  | .hbm, ⟨27, _⟩ => ⟨S8320x2048, .f32⟩
  | .hbm, ⟨28, _⟩ => ⟨S8320x2048, .f32⟩
  | .hbm, ⟨29, _⟩ => ⟨S8320x2048, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S_, .f32⟩
  | .hbm, ⟨34, _⟩ => ⟨S8320x1, .f32⟩
  | .hbm, ⟨35, _⟩ => ⟨S8320x1, .f32⟩
  | .hbm, ⟨36, _⟩ => ⟨S_, .f32⟩
  | .hbm, ⟨37, _⟩ => ⟨S8320x1, .f32⟩
  | .hbm, ⟨38, _⟩ => ⟨S8320x1, .f32⟩
  | .hbm, ⟨39, _⟩ => ⟨S8320x1, .f32⟩
  | .hbm, ⟨40, _⟩ => ⟨S8320x2048, .f32⟩
  | .hbm, ⟨41, _⟩ => ⟨S8320x2048, .f32⟩
  | .hbm, ⟨42, _⟩ => ⟨S1x2048, .f32⟩
  | .hbm, ⟨43, _⟩ => ⟨S8320x2048, .f32⟩
  | .hbm, ⟨44, _⟩ => ⟨S8320x2048, .f32⟩
  | .hbm, ⟨45, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== KernelCm.lean ====
abbrev S8320x2048 : Shape := ⟨2, ![8320, 2048]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S8320x1024 : Shape := ⟨2, ![8320, 1024]⟩
abbrev S4x128x1024 : Shape := ⟨3, ![4, 128, 1024]⟩
abbrev S128x2048 : Shape := ⟨2, ![128, 2048]⟩
abbrev S128x1024 : Shape := ⟨2, ![128, 1024]⟩
abbrev S1x128x1024 : Shape := ⟨3, ![1, 128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S8x8x8 : Shape := ⟨3, ![8, 8, 8]⟩
abbrev S8x8 : Shape := ⟨2, ![8, 8]⟩
abbrev S128x8x1024 : Shape := ⟨3, ![128, 8, 1024]⟩
abbrev S8x2048 : Shape := ⟨2, ![8, 2048]⟩
abbrev S8x1024 : Shape := ⟨2, ![8, 1024]⟩
abbrev S8x8x1024 : Shape := ⟨3, ![8, 8, 1024]⟩
abbrev S64x1024 : Shape := ⟨2, ![64, 1024]⟩
abbrev S64x1 : Shape := ⟨2, ![64, 1]⟩
abbrev S8x1x2048 : Shape := ⟨3, ![8, 1, 2048]⟩
abbrev S8x8x2048 : Shape := ⟨3, ![8, 8, 2048]⟩
abbrev S64x2048 : Shape := ⟨2, ![64, 2048]⟩
abbrev S64 : Shape := ⟨1, ![64]⟩
abbrev S1x8x8 : Shape := ⟨3, ![1, 8, 8]⟩
abbrev S8x1 : Shape := ⟨2, ![8, 1]⟩
abbrev S8x1x1024 : Shape := ⟨3, ![8, 1, 1024]⟩
abbrev S128x1x1024 : Shape := ⟨3, ![128, 1, 1024]⟩

abbrev nBuf : Space → Nat
  | .hbm => 18
  | .vmem => 22
  | .smem => 0
  | _ => 0

abbrev bufTy : (tb : Table) → Fin (tcTables nBuf tb) → BufTy
  | .hbm, ⟨0, _⟩ => ⟨S8320x2048, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S8320x1024, .f32⟩
  | .hbm, ⟨9, _⟩ => ⟨S4x128x1024, .f32⟩
  | .hbm, ⟨10, _⟩ => ⟨S1x1024, .f32⟩
  | .hbm, ⟨11, _⟩ => ⟨S1x1024, .f32⟩
  | .hbm, ⟨12, _⟩ => ⟨S8x8x8, .f32⟩
  | .hbm, ⟨13, _⟩ => ⟨S128x8, .f32⟩
  | .hbm, ⟨14, _⟩ => ⟨S8x8, .f32⟩
  | .hbm, ⟨15, _⟩ => ⟨S8320x1024, .f32⟩
  | .hbm, ⟨16, _⟩ => ⟨S128x8x1024, .f32⟩
  | .hbm, ⟨17, _⟩ => ⟨S128x1x1024, .f32⟩
  | .local _ .vmem, ⟨0, _⟩ => ⟨S128x2048, .f32⟩
  | .local _ .vmem, ⟨1, _⟩ => ⟨S128x2048, .f32⟩
  | .local _ .vmem, ⟨2, _⟩ => ⟨S1x1024, .f32⟩
  | .local _ .vmem, ⟨3, _⟩ => ⟨S1x1024, .f32⟩
  | .local _ .vmem, ⟨4, _⟩ => ⟨S8x128x128, .f32⟩
  | .local _ .vmem, ⟨5, _⟩ => ⟨S128x8, .f32⟩
  | .local _ .vmem, ⟨6, _⟩ => ⟨S128x1024, .f32⟩
  | .local _ .vmem, ⟨7, _⟩ => ⟨S128x1024, .f32⟩
  | .local _ .vmem, ⟨8, _⟩ => ⟨S1x128x1024, .f32⟩
  | .local _ .vmem, ⟨9, _⟩ => ⟨S1x128x1024, .f32⟩
  | .local _ .vmem, ⟨10, _⟩ => ⟨S128x1024, .f32⟩
  | .local _ .vmem, ⟨11, _⟩ => ⟨S8x2048, .f32⟩
  | .local _ .vmem, ⟨12, _⟩ => ⟨S8x2048, .f32⟩
  | .local _ .vmem, ⟨13, _⟩ => ⟨S1x1024, .f32⟩
  | .local _ .vmem, ⟨14, _⟩ => ⟨S1x1024, .f32⟩
  | .local _ .vmem, ⟨15, _⟩ => ⟨S8x8x8, .f32⟩
  | .local _ .vmem, ⟨16, _⟩ => ⟨S8x8, .f32⟩
  | .local _ .vmem, ⟨17, _⟩ => ⟨S8x1024, .f32⟩
  | .local _ .vmem, ⟨18, _⟩ => ⟨S8x1024, .f32⟩
  | .local _ .vmem, ⟨19, _⟩ => ⟨S8x8x1024, .f32⟩
  | .local _ .vmem, ⟨20, _⟩ => ⟨S8x8x1024, .f32⟩
  | .local _ .vmem, ⟨21, _⟩ => ⟨S64x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c15_i32 : BitVec 32 := 15#32
  let v176 : BitVec 1 := Scalar.cmpi .eq arg1 c15_i32
  let v177 : BitVec 32 := Scalar.extui v176
  let c0_i32 : BitVec 32 := 0#32
  let v178 : BitVec 1 := Scalar.cmpi .ne v177 c0_i32
  v178

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 1], ![false, false]⟩

def k1_cond1 (i : grid1.Coords) : BitVec 1 :=
  let arg1 : BitVec 32 := BitVec.ofNat 32 (i 1).val
  let c0_i32_352 : BitVec 32 := 0#32
  let v934 : BitVec 1 := Scalar.cmpi .eq arg1 c0_i32_352
  let v935 : BitVec 32 := Scalar.extui v934
  let c0_i32_353 : BitVec 32 := 0#32
  let v936 : BitVec 1 := Scalar.cmpi .ne v935 c0_i32_353
  v936

def cc1_transform_0 (i : grid1.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x8x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S8x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8x8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== ReferenceCmIdeal.lean ====
abbrev S8320x2048 : Shape := ⟨2, ![8320, 2048]⟩
abbrev S1024 : Shape := ⟨1, ![1024]⟩
abbrev S8x128x128 : Shape := ⟨3, ![8, 128, 128]⟩
abbrev S8x128 : Shape := ⟨2, ![8, 128]⟩
abbrev S8192x2048 : Shape := ⟨2, ![8192, 2048]⟩
abbrev S4x2048x2048 : Shape := ⟨3, ![4, 2048, 2048]⟩
abbrev S_ : Shape := ⟨0, ![]⟩
abbrev S4x2048x1024 : Shape := ⟨3, ![4, 2048, 1024]⟩
abbrev S4x2048 : Shape := ⟨2, ![4, 2048]⟩
abbrev S4x2048x1 : Shape := ⟨3, ![4, 2048, 1]⟩
abbrev S1x1x1024 : Shape := ⟨3, ![1, 1, 1024]⟩
abbrev S4x16x128x8x128 : Shape := ⟨5, ![4, 16, 128, 8, 128]⟩
abbrev S128x128 : Shape := ⟨2, ![128, 128]⟩
abbrev S8x4x16x128x128 : Shape := ⟨5, ![8, 4, 16, 128, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4x128x1024 : Shape := ⟨3, ![4, 128, 1024]⟩
abbrev S128x2048 : Shape := ⟨2, ![128, 2048]⟩
abbrev S128x1x2048 : Shape := ⟨3, ![128, 1, 2048]⟩
abbrev S128x1x1024 : Shape := ⟨3, ![128, 1, 1024]⟩
abbrev S128x1 : Shape := ⟨2, ![128, 1]⟩
abbrev S128x1x1 : Shape := ⟨3, ![128, 1, 1]⟩
abbrev S128x128x1024 : Shape := ⟨3, ![128, 128, 1024]⟩
abbrev S128x1x128x8x128 : Shape := ⟨5, ![128, 1, 128, 8, 128]⟩
abbrev S8x128x1x128x128 : Shape := ⟨5, ![8, 128, 1, 128, 128]⟩
abbrev S8192x1024 : Shape := ⟨2, ![8192, 1024]⟩
abbrev S128x1024 : Shape := ⟨2, ![128, 1024]⟩
abbrev S8320x1024 : Shape := ⟨2, ![8320, 1024]⟩

abbrev nBuf : Space → Nat
  | .hbm => 148
  | .vmem => 0
  | .smem => 0
  | _ => 0

abbrev hbmTy0_0 (i : Nat) : BufTy := match i % 128 with
  | 0 => ⟨S8320x2048, .f32⟩
  | 1 => ⟨S1024, .f32⟩
  | 2 => ⟨S1024, .f32⟩
  | 3 => ⟨S8x128x128, .f32⟩
  | 4 => ⟨S8x128, .f32⟩
  | 5 => ⟨S8192x2048, .f32⟩
  | 6 => ⟨S4x2048x2048, .f32⟩
  | 7 => ⟨S_, .f32⟩
  | 8 => ⟨S4x2048x2048, .f32⟩
  | 9 => ⟨S4x2048x2048, .f32⟩
  | 10 => ⟨S4x2048x2048, .f32⟩
  | 11 => ⟨S_, .f32⟩
  | 12 => ⟨S4x2048x2048, .f32⟩
  | 13 => ⟨S4x2048x2048, .f32⟩
  | 14 => ⟨S4x2048x2048, .f32⟩
  | 15 => ⟨S4x2048x2048, .f32⟩
  | 16 => ⟨S4x2048x1024, .f32⟩
  | 17 => ⟨S4x2048x1024, .f32⟩
  | 18 => ⟨S_, .f32⟩
  | 19 => ⟨S4x2048, .f32⟩
  | 20 => ⟨S4x2048x1, .f32⟩
  | 21 => ⟨S_, .f32⟩
  | 22 => ⟨S4x2048x1, .f32⟩
  | 23 => ⟨S4x2048x1, .f32⟩
  | 24 => ⟨S4x2048x1024, .f32⟩
  | 25 => ⟨S4x2048x1024, .f32⟩
  | 26 => ⟨S4x2048x1024, .f32⟩
  | 27 => ⟨S_, .f32⟩
  | 28 => ⟨S4x2048, .f32⟩
  | 29 => ⟨S4x2048x1, .f32⟩
  | 30 => ⟨S_, .f32⟩
  | 31 => ⟨S4x2048x1, .f32⟩
  | 32 => ⟨S4x2048x1, .f32⟩
  | 33 => ⟨S_, .f32⟩
  | 34 => ⟨S4x2048x1, .f32⟩
  | 35 => ⟨S4x2048x1, .f32⟩
  | 36 => ⟨S4x2048x1, .f32⟩
  | 37 => ⟨S4x2048x1024, .f32⟩
  | 38 => ⟨S4x2048x1024, .f32⟩
  | 39 => ⟨S1x1x1024, .f32⟩
  | 40 => ⟨S4x2048x1024, .f32⟩
  | 41 => ⟨S4x2048x1024, .f32⟩
  | 42 => ⟨S1x1x1024, .f32⟩
  | 43 => ⟨S4x2048x1024, .f32⟩
  | 44 => ⟨S4x2048x1024, .f32⟩
  | 45 => ⟨S_, .i32⟩
  | 46 => ⟨S_, .f32⟩
  | 47 => ⟨S4x2048x1024, .f32⟩
  | 48 => ⟨S4x16x128x8x128, .f32⟩
  | 49 => ⟨S_, .i1⟩
  | 50 => ⟨S128x128, .i1⟩
  | 51 => ⟨S128x128, .i32⟩
  | 52 => ⟨S_, .i32⟩
  | 53 => ⟨S128x128, .i32⟩
  | 54 => ⟨S128x128, .i32⟩
  | 55 => ⟨S128x128, .i32⟩
  | 56 => ⟨S128x128, .i1⟩
  | 57 => ⟨S_, .i1⟩
  | 58 => ⟨S128x128, .i1⟩
  | 59 => ⟨S128x128, .i1⟩
  | 60 => ⟨S_, .f32⟩
  | 61 => ⟨S_, .f32⟩
  | 62 => ⟨S8x128x128, .i1⟩
  | 63 => ⟨S8x128x128, .f32⟩
  | 64 => ⟨S8x128x128, .f32⟩
  | 65 => ⟨S8x4x16x128x128, .f32⟩
  | 66 => ⟨S4x16x128x8x128, .f32⟩
  | 67 => ⟨S128x8, .f32⟩
  | 68 => ⟨S128x8x1, .f32⟩
  | 69 => ⟨S1x1x128x8x1, .f32⟩
  | 70 => ⟨S4x16x128x8x128, .f32⟩
  | 71 => ⟨S4x16x128x8x128, .f32⟩
  | 72 => ⟨S4x2048x1024, .f32⟩
  | 73 => ⟨S4x2048x1024, .f32⟩
  | 74 => ⟨S4x128x1024, .f32⟩
  | 75 => ⟨S128x2048, .f32⟩
  | 76 => ⟨S128x1x2048, .f32⟩
  | 77 => ⟨S_, .f32⟩
  | 78 => ⟨S128x1x2048, .f32⟩
  | 79 => ⟨S128x1x2048, .f32⟩
  | 80 => ⟨S128x1x2048, .f32⟩
  | 81 => ⟨S_, .f32⟩
  | 82 => ⟨S128x1x2048, .f32⟩
  | 83 => ⟨S128x1x2048, .f32⟩
  | 84 => ⟨S128x1x2048, .f32⟩
  | 85 => ⟨S128x1x2048, .f32⟩
  | 86 => ⟨S128x1x1024, .f32⟩
  | 87 => ⟨S128x1x1024, .f32⟩
  | 88 => ⟨S_, .f32⟩
  | 89 => ⟨S128x1, .f32⟩
  | 90 => ⟨S128x1x1, .f32⟩
  | 91 => ⟨S_, .f32⟩
  | 92 => ⟨S128x1x1, .f32⟩
  | 93 => ⟨S128x1x1, .f32⟩
  | 94 => ⟨S128x1x1024, .f32⟩
  | 95 => ⟨S128x1x1024, .f32⟩
  | 96 => ⟨S128x1x1024, .f32⟩
  | 97 => ⟨S_, .f32⟩
  | 98 => ⟨S128x1, .f32⟩
  | 99 => ⟨S128x1x1, .f32⟩
  | 100 => ⟨S_, .f32⟩
  | 101 => ⟨S128x1x1, .f32⟩
  | 102 => ⟨S128x1x1, .f32⟩
  | 103 => ⟨S_, .f32⟩
  | 104 => ⟨S128x1x1, .f32⟩
  | 105 => ⟨S128x1x1, .f32⟩
  | 106 => ⟨S128x1x1, .f32⟩
  | 107 => ⟨S128x1x1024, .f32⟩
  | 108 => ⟨S128x1x1024, .f32⟩
  | 109 => ⟨S1x1x1024, .f32⟩
  | 110 => ⟨S128x1x1024, .f32⟩
  | 111 => ⟨S128x1x1024, .f32⟩
  | 112 => ⟨S1x1x1024, .f32⟩
  | 113 => ⟨S128x1x1024, .f32⟩
  | 114 => ⟨S128x1x1024, .f32⟩
  | 115 => ⟨S_, .i32⟩
  | 116 => ⟨S_, .f32⟩
  | 117 => ⟨S128x128x1024, .f32⟩
  | 118 => ⟨S128x1x128x8x128, .f32⟩
  | 119 => ⟨S_, .i1⟩
  | 120 => ⟨S128x128, .i1⟩
  | 121 => ⟨S128x128, .i32⟩
  | 122 => ⟨S_, .i32⟩
  | 123 => ⟨S128x128, .i32⟩
  | 124 => ⟨S128x128, .i32⟩
  | 125 => ⟨S128x128, .i32⟩
  | 126 => ⟨S128x128, .i1⟩
  | 127 => ⟨S_, .i1⟩
  | _ => ⟨S8320x2048, .f32⟩

abbrev hbmTy0_1 (i : Nat) : BufTy := match i % 128 with
  | 0 => ⟨S128x128, .i1⟩
  | 1 => ⟨S128x128, .i1⟩
  | 2 => ⟨S_, .f32⟩
  | 3 => ⟨S_, .f32⟩
  | 4 => ⟨S8x128x128, .i1⟩
  | 5 => ⟨S8x128x128, .f32⟩
  | 6 => ⟨S8x128x128, .f32⟩
  | 7 => ⟨S8x128x1x128x128, .f32⟩
  | 8 => ⟨S128x1x128x8x128, .f32⟩
  | 9 => ⟨S128x8, .f32⟩
  | 10 => ⟨S128x8x1, .f32⟩
  | 11 => ⟨S1x1x128x8x1, .f32⟩
  | 12 => ⟨S128x1x128x8x128, .f32⟩
  | 13 => ⟨S128x1x128x8x128, .f32⟩
  | 14 => ⟨S128x128x1024, .f32⟩
  | 15 => ⟨S128x1x1024, .f32⟩
  | 16 => ⟨S128x1x1024, .f32⟩
  | 17 => ⟨S8192x1024, .f32⟩
  | 18 => ⟨S128x1024, .f32⟩
  | 19 => ⟨S8320x1024, .f32⟩
  | _ => ⟨S8320x2048, .f32⟩

abbrev hbmTy (i : Nat) : BufTy := match i / 128 with
  | 0 => hbmTy0_0 i
  | 1 => hbmTy0_1 i
  | _ => ⟨S8320x2048, .f32⟩

abbrev bufTy : (tb : Table) → Fin (tcTables nBuf tb) → BufTy
  | .hbm, ⟨i, _⟩ => hbmTy i
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_0 : Ref sig .tc := ⟨.hbm, 57, rfl⟩
abbrev main_call1_v5 : Ref sig .tc := ⟨.hbm, 58, rfl⟩
abbrev main_v36 : Ref sig .tc := ⟨.hbm, 59, rfl⟩
abbrev main_cst_7 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_15 : Ref sig .tc := ⟨.hbm, 115, rfl⟩
abbrev main_call3_v0 : Ref sig .tc := ⟨.hbm, 116, rfl⟩
abbrev main_v81 : Ref sig .tc := ⟨.hbm, 117, rfl⟩
abbrev main_v82 : Ref sig .tc := ⟨.hbm, 118, rfl⟩
abbrev main_c_16 : Ref sig .tc := ⟨.hbm, 119, rfl⟩
abbrev main_v83 : Ref sig .tc := ⟨.hbm, 120, rfl⟩
abbrev main_call4_v0 : Ref sig .tc := ⟨.hbm, 121, rfl⟩
abbrev main_call4_c : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_c_0 : Ref sig .tc := ⟨.hbm, 127, rfl⟩
abbrev main_call4_v5 : Ref sig .tc := ⟨.hbm, 128, rfl⟩
abbrev main_v84 : Ref sig .tc := ⟨.hbm, 129, rfl⟩
abbrev main_cst_17 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩

abbrev nD : Nat := 1
abbrev τ : Topo := Topo.v7x

variable {F : FTy → Type} [FloatOps F]
-- ==== KernelY.lean ====
abbrev S8320x2048 : Shape := ⟨2, ![8320, 2048]⟩
abbrev S2048 : Shape := ⟨1, ![2048]⟩
abbrev S1x2048 : Shape := ⟨2, ![1, 2048]⟩
abbrev S640x2048 : Shape := ⟨2, ![640, 2048]⟩
abbrev S640 : Shape := ⟨1, ![640]⟩
abbrev S640x1 : Shape := ⟨2, ![640, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x2048, .f32⟩
  | .local _ .vmem, ⟨4, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceYIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelGs.lean ====
abbrev S8320x3072 : Shape := ⟨2, ![8320, 3072]⟩
abbrev S8320x128 : Shape := ⟨2, ![8320, 128]⟩
abbrev S4x128x4x128x256 : Shape := ⟨5, ![4, 128, 4, 128, 256]⟩
abbrev S16x512 : Shape := ⟨2, ![16, 512]⟩
abbrev S512 : Shape := ⟨1, ![512]⟩
abbrev S1024 : Shape := ⟨1, ![1024]⟩
abbrev S8320x1024 : Shape := ⟨2, ![8320, 1024]⟩
abbrev S_ : Shape := ⟨0, ![]⟩
abbrev S128x512 : Shape := ⟨2, ![128, 512]⟩
abbrev S1x512 : Shape := ⟨2, ![1, 512]⟩
abbrev S1x1024 : Shape := ⟨2, ![1, 1024]⟩
abbrev S8x3072 : Shape := ⟨2, ![8, 3072]⟩
abbrev S8x128 : Shape := ⟨2, ![8, 128]⟩
abbrev S1x8x4x128x256 : Shape := ⟨5, ![1, 8, 4, 128, 256]⟩
abbrev S8x1024 : Shape := ⟨2, ![8, 1024]⟩
abbrev S8x4x128x256 : Shape := ⟨4, ![8, 4, 128, 256]⟩
abbrev S64x1024 : Shape := ⟨2, ![64, 1024]⟩
abbrev S64x1 : Shape := ⟨2, ![64, 1]⟩
abbrev S8x1x3072 : Shape := ⟨3, ![8, 1, 3072]⟩
abbrev S8x8x3072 : Shape := ⟨3, ![8, 8, 3072]⟩
abbrev S64x3072 : Shape := ⟨2, ![64, 3072]⟩
abbrev S64x512 : Shape := ⟨2, ![64, 512]⟩
abbrev S8x1x128 : Shape := ⟨3, ![8, 1, 128]⟩
abbrev S8x8x128 : Shape := ⟨3, ![8, 8, 128]⟩
abbrev S64x128 : Shape := ⟨2, ![64, 128]⟩
abbrev S64x64 : Shape := ⟨2, ![64, 64]⟩
abbrev S8x8 : Shape := ⟨2, ![8, 8]⟩
abbrev S8x256 : Shape := ⟨2, ![8, 256]⟩
abbrev S128x256 : Shape := ⟨2, ![128, 256]⟩
abbrev S1x1x128x256 : Shape := ⟨4, ![1, 1, 128, 256]⟩
abbrev S1x128 : Shape := ⟨2, ![1, 128]⟩
abbrev S128x128 : Shape := ⟨2, ![128, 128]⟩
abbrev S1x256 : Shape := ⟨2, ![1, 256]⟩
abbrev S8 : Shape := ⟨1, ![8]⟩
abbrev S8x1 : Shape := ⟨2, ![8, 1]⟩
abbrev S8x8x1024 : Shape := ⟨3, ![8, 8, 1024]⟩
abbrev S8x1x1024 : Shape := ⟨3, ![8, 1, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8320x3072, .f32⟩
  | .hbm, ⟨1, _⟩ => ⟨S8320x128, .f32⟩
  | .hbm, ⟨2, _⟩ => ⟨S4x128x4x128x256, .f32⟩
  | .hbm, ⟨3, _⟩ => ⟨S16x512, .f32⟩
  | .hbm, ⟨4, _⟩ => ⟨S512, .f32⟩
  | .hbm, ⟨5, _⟩ => ⟨S1024, .f32⟩
  | .hbm, ⟨6, _⟩ => ⟨S1024, .f32⟩
  | .hbm, ⟨7, _⟩ => ⟨S8320x1024, .f32⟩
  | .hbm, ⟨8, _⟩ => ⟨S4x128x4x128x256, .f32⟩
  | .hbm, ⟨9, _⟩ => ⟨S_, .i32⟩
  | .hbm, ⟨10, _⟩ => ⟨S_, .f32⟩
  | .hbm, ⟨11, _⟩ => ⟨S128x512, .f32⟩
  | .hbm, ⟨12, _⟩ => ⟨S128x512, .bf16⟩
  | .hbm, ⟨13, _⟩ => ⟨S1x512, .f32⟩
  | .hbm, ⟨14, _⟩ => ⟨S1x1024, .f32⟩
  | .hbm, ⟨15, _⟩ => ⟨S1x1024, .f32⟩
  | .hbm, ⟨16, _⟩ => ⟨S8320x1024, .f32⟩
  | .hbm, ⟨17, _⟩ => ⟨S4x128x4x128x256, .f32⟩
  | .local _ .vmem, ⟨0, _⟩ => ⟨S8x3072, .f32⟩
  | .local _ .vmem, ⟨1, _⟩ => ⟨S8x3072, .f32⟩
  | .local _ .vmem, ⟨2, _⟩ => ⟨S8x128, .f32⟩
  | .local _ .vmem, ⟨3, _⟩ => ⟨S8x128, .f32⟩
  | .local _ .vmem, ⟨4, _⟩ => ⟨S1x8x4x128x256, .f32⟩
  | .local _ .vmem, ⟨5, _⟩ => ⟨S1x8x4x128x256, .f32⟩
  | .local _ .vmem, ⟨6, _⟩ => ⟨S128x512, .bf16⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S8x1024, .f32⟩
  | .local _ .vmem, ⟨11, _⟩ => ⟨S8x1024, .f32⟩
  | .local _ .vmem, ⟨12, _⟩ => ⟨S1x8x4x128x256, .f32⟩
  | .local _ .vmem, ⟨13, _⟩ => ⟨S1x8x4x128x256, .f32⟩
  | .local _ .vmem, ⟨14, _⟩ => ⟨S8x4x128x256, .f32⟩
  | .local _ .vmem, ⟨15, _⟩ => ⟨S64x1024, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_964 : BitVec 32 := 0#32
  let v2340 : BitVec 1 := Scalar.cmpi .eq arg1 c0_i32_964
  let v2341 : BitVec 32 := Scalar.extui v2340
  let c0_i32_965 : BitVec 32 := 0#32
  let v2342 : BitVec 1 := Scalar.cmpi .ne v2341 c0_i32_965
  v2342

def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S8x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x4x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceGsIdeal.lean ====
abbrev S8320x3072 : Shape := ⟨2, ![8320, 3072]⟩
abbrev S8320x128 : Shape := ⟨2, ![8320, 128]⟩
abbrev S4x128x4x128x256 : Shape := ⟨5, ![4, 128, 4, 128, 256]⟩
abbrev S16x512 : Shape := ⟨2, ![16, 512]⟩
abbrev S512 : Shape := ⟨1, ![512]⟩
abbrev S1024 : Shape := ⟨1, ![1024]⟩
abbrev S8320x1024 : Shape := ⟨2, ![8320, 1024]⟩
abbrev S128x3072 : Shape := ⟨2, ![128, 3072]⟩
abbrev S128x1x3072 : Shape := ⟨3, ![128, 1, 3072]⟩
abbrev S128x128 : Shape := ⟨2, ![128, 128]⟩
abbrev S128x1x128 : Shape := ⟨3, ![128, 1, 128]⟩
abbrev S128x1x16 : Shape := ⟨3, ![128, 1, 16]⟩
abbrev S128x1x512 : Shape := ⟨3, ![128, 1, 512]⟩
abbrev S128x1x1024 : Shape := ⟨3, ![128, 1, 1024]⟩
abbrev S128x1x4x128 : Shape := ⟨4, ![128, 1, 4, 128]⟩
abbrev S_ : Shape := ⟨0, ![]⟩
abbrev S128x1x4x256 : Shape := ⟨4, ![128, 1, 4, 256]⟩
abbrev S1x1x512 : Shape := ⟨3, ![1, 1, 512]⟩
abbrev S128x4x1x1 : Shape := ⟨4, ![128, 4, 1, 1]⟩
abbrev S128x4x256x1 : Shape := ⟨4, ![128, 4, 256, 1]⟩
abbrev S1x128x4x128x256 : Shape := ⟨5, ![1, 128, 4, 128, 256]⟩
abbrev S128x4x128x256 : Shape := ⟨4, ![128, 4, 128, 256]⟩
abbrev S128x4x128 : Shape := ⟨3, ![128, 4, 128]⟩
abbrev S128x4x128x1 : Shape := ⟨4, ![128, 4, 128, 1]⟩
abbrev S4x256 : Shape := ⟨2, ![4, 256]⟩
abbrev S128x1x4 : Shape := ⟨3, ![128, 1, 4]⟩
abbrev S128x1x4x1 : Shape := ⟨4, ![128, 1, 4, 1]⟩
abbrev S1x1x4x256 : Shape := ⟨4, ![1, 1, 4, 256]⟩
abbrev S128x1024 : Shape := ⟨2, ![128, 1024]⟩
abbrev S8192x1024 : Shape := ⟨2, ![8192, 1024]⟩
abbrev S2x128x4x128x256 : Shape := ⟨5, ![2, 128, 4, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S8320x128, .f32⟩
  | .hbm, ⟨2, _⟩ => ⟨S4x128x4x128x256, .f32⟩
  | .hbm, ⟨3, _⟩ => ⟨S16x512, .f32⟩
  | .hbm, ⟨4, _⟩ => ⟨S512, .f32⟩
  | .hbm, ⟨5, _⟩ => ⟨S1024, .f32⟩
  | .hbm, ⟨6, _⟩ => ⟨S1024, .f32⟩
  | .hbm, ⟨7, _⟩ => ⟨S8320x1024, .f32⟩
  | .hbm, ⟨8, _⟩ => ⟨S4x128x4x128x256, .f32⟩
  | .hbm, ⟨9, _⟩ => ⟨S128x3072, .f32⟩
  | .hbm, ⟨10, _⟩ => ⟨S128x1x3072, .f32⟩
  | .hbm, ⟨11, _⟩ => ⟨S128x128, .f32⟩
  | .hbm, ⟨12, _⟩ => ⟨S128x1x128, .f32⟩
  | .hbm, ⟨13, _⟩ => ⟨S128x1x16, .f32⟩
  | .hbm, ⟨14, _⟩ => ⟨S128x1x512, .f32⟩
  | .hbm, ⟨15, _⟩ => ⟨S128x1x512, .f32⟩
  | .hbm, ⟨16, _⟩ => ⟨S128x1x1024, .f32⟩
  | .hbm, ⟨17, _⟩ => ⟨S128x1x1024, .f32⟩
  | .hbm, ⟨18, _⟩ => ⟨S128x1x4x128, .f32⟩
  | .hbm, ⟨19, _⟩ => ⟨S_, .f32⟩
  | .hbm, ⟨20, _⟩ => ⟨S128x1x4x128, .f32⟩
  | .hbm, ⟨21, _⟩ => ⟨S128x1x4x128, .f32⟩
  | .hbm, ⟨22, _⟩ => ⟨S128x1x4x128, .f32⟩
  | .hbm, ⟨23, _⟩ => ⟨S128x1x4x256, .f32⟩
  | .hbm, ⟨24, _⟩ => ⟨S128x1x512, .f32⟩
  | .hbm, ⟨25, _⟩ => ⟨S1x1x512, .f32⟩
  | .hbm, ⟨26, _⟩ => ⟨S128x1x512, .f32⟩
  | .hbm, ⟨27, _⟩ => ⟨S128x1x512, .f32⟩
  | .hbm, ⟨28, _⟩ => ⟨S128x1x512, .f32⟩
  | .hbm, ⟨29, _⟩ => ⟨S_, .f32⟩
  | .hbm, ⟨30, _⟩ => ⟨S128x1x512, .f32⟩
  | .hbm, ⟨31, _⟩ => ⟨S128x1x512, .f32⟩
  | .hbm, ⟨32, _⟩ => ⟨S128x1x512, .f32⟩
  | .hbm, ⟨33, _⟩ => ⟨S128x1x512, .f32⟩
  | .hbm, ⟨34, _⟩ => ⟨S128x1x512, .i1⟩
  | .hbm, ⟨35, _⟩ => ⟨S128x1x512, .f32⟩
  | .hbm, ⟨36, _⟩ => ⟨S128x1x512, .f32⟩
  | .hbm, ⟨37, _⟩ => ⟨S128x1x512, .f32⟩
  | .hbm, ⟨38, _⟩ => ⟨S128x1x512, .f32⟩
  | .hbm, ⟨39, _⟩ => ⟨S128x1x512, .f32⟩
  | .hbm, ⟨40, _⟩ => ⟨S128x1x512, .f32⟩
  | .hbm, ⟨41, _⟩ => ⟨S128x1x512, .f32⟩
  | .hbm, ⟨42, _⟩ => ⟨S128x1x512, .f32⟩
  | .hbm, ⟨43, _⟩ => ⟨S128x1x512, .f32⟩
  | .hbm, ⟨44, _⟩ => ⟨S_, .f32⟩
  | .hbm, ⟨45, _⟩ => ⟨S128x1x512, .f32⟩
  | .hbm, ⟨46, _⟩ => ⟨S128x1x512, .f32⟩
  | .hbm, ⟨47, _⟩ => ⟨S128x1x4x128, .f32⟩
  | .hbm, ⟨48, _⟩ => ⟨S_, .f32⟩
  | .hbm, ⟨49, _⟩ => ⟨S_, .f32⟩
  | .hbm, ⟨50, _⟩ => ⟨S128x1x4x128, .f32⟩
  | .hbm, ⟨51, _⟩ => ⟨S128x1x4x128, .f32⟩
  | .hbm, ⟨52, _⟩ => ⟨S128x1x4x128, .f32⟩
  | .hbm, ⟨53, _⟩ => ⟨S128x1x4x128, .f32⟩
  | .hbm, ⟨54, _⟩ => ⟨S128x1x4x128, .f32⟩
  | .hbm, ⟨55, _⟩ => ⟨S128x1x4x128, .f32⟩
  | .hbm, ⟨56, _⟩ => ⟨S128x1x4x128, .f32⟩
  | .hbm, ⟨57, _⟩ => ⟨S128x1x4x128, .f32⟩
  | .hbm, ⟨58, _⟩ => ⟨S128x1x4x128, .f32⟩
  | .hbm, ⟨59, _⟩ => ⟨S128x4x1x1, .f32⟩
  | .hbm, ⟨60, _⟩ => ⟨S128x4x256x1, .f32⟩
  | .hbm, ⟨61, _⟩ => ⟨S128x1x4x256, .f32⟩
  | .hbm, ⟨62, _⟩ => ⟨S1x128x4x128x256, .f32⟩
  | .hbm, ⟨63, _⟩ => ⟨S128x4x128x256, .f32⟩
  | .hbm, ⟨64, _⟩ => ⟨S128x4x256x1, .f32⟩
  | .hbm, ⟨65, _⟩ => ⟨S128x1x4x256, .f32⟩
  | .hbm, ⟨66, _⟩ => ⟨S128x1x4x256, .f32⟩
  | .hbm, ⟨67, _⟩ => ⟨S1x128x4x128x256, .f32⟩
  | .hbm, ⟨68, _⟩ => ⟨S128x4x128x256, .f32⟩
  | .hbm, ⟨69, _⟩ => ⟨S128x4x128, .f32⟩
  | .hbm, ⟨70, _⟩ => ⟨S128x4x128, .f32⟩
  | .hbm, ⟨71, _⟩ => ⟨S128x4x128x1, .f32⟩
  | .hbm, ⟨72, _⟩ => ⟨S128x4x128x256, .f32⟩
  | .hbm, ⟨73, _⟩ => ⟨S128x4x128x256, .f32⟩
  | .hbm, ⟨74, _⟩ => ⟨S128x4x128x256, .f32⟩
  | .hbm, ⟨75, _⟩ => ⟨S128x4x128x256, .f32⟩
  | .hbm, ⟨76, _⟩ => ⟨S4x256, .f32⟩
  | .hbm, ⟨77, _⟩ => ⟨S4x256, .f32⟩
  | .hbm, ⟨78, _⟩ => ⟨S_, .f32⟩
  | .hbm, ⟨79, _⟩ => ⟨S128x1x4, .f32⟩
  | .hbm, ⟨80, _⟩ => ⟨S128x1x4x1, .f32⟩
  | .hbm, ⟨81, _⟩ => ⟨S_, .f32⟩
  | .hbm, ⟨82, _⟩ => ⟨S128x1x4x1, .f32⟩
  | .hbm, ⟨83, _⟩ => ⟨S128x1x4x1, .f32⟩
  | .hbm, ⟨84, _⟩ => ⟨S128x1x4x256, .f32⟩
  | .hbm, ⟨85, _⟩ => ⟨S128x1x4x256, .f32⟩
  | .hbm, ⟨86, _⟩ => ⟨S128x1x4x256, .f32⟩
  | .hbm, ⟨87, _⟩ => ⟨S_, .f32⟩
  | .hbm, ⟨88, _⟩ => ⟨S128x1x4, .f32⟩
  | .hbm, ⟨89, _⟩ => ⟨S128x1x4x1, .f32⟩
  | .hbm, ⟨90, _⟩ => ⟨S_, .f32⟩
  | .hbm, ⟨91, _⟩ => ⟨S128x1x4x1, .f32⟩
  | .hbm, ⟨92, _⟩ => ⟨S128x1x4x1, .f32⟩
  | .hbm, ⟨93, _⟩ => ⟨S_, .f32⟩
  | .hbm, ⟨94, _⟩ => ⟨S128x1x4x1, .f32⟩
  | .hbm, ⟨95, _⟩ => ⟨S128x1x4x1, .f32⟩
  | .hbm, ⟨96, _⟩ => ⟨S128x1x4x1, .f32⟩
  | .hbm, ⟨97, _⟩ => ⟨S128x1x4x256, .f32⟩
  | .hbm, ⟨98, _⟩ => ⟨S128x1x4x256, .f32⟩
  | .hbm, ⟨99, _⟩ => ⟨S1x1x4x256, .f32⟩
  | .hbm, ⟨100, _⟩ => ⟨S128x1x4x256, .f32⟩
  | .hbm, ⟨101, _⟩ => ⟨S128x1x4x256, .f32⟩
  | .hbm, ⟨102, _⟩ => ⟨S1x1x4x256, .f32⟩
  | .hbm, ⟨103, _⟩ => ⟨S128x1x4x256, .f32⟩
  | .hbm, ⟨104, _⟩ => ⟨S128x1x4x256, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S128x1024, .f32⟩
  | .hbm, ⟨109, _⟩ => ⟨S_, .f32⟩
  | .hbm, ⟨110, _⟩ => ⟨S128x1024, .f32⟩
  | .hbm, ⟨111, _⟩ => ⟨S128x1024, .f32⟩
  | .hbm, ⟨112, _⟩ => ⟨S_, .f32⟩
  | .hbm, ⟨113, _⟩ => ⟨S128x1024, .f32⟩
  | .hbm, ⟨114, _⟩ => ⟨S128x1024, .f32⟩
  | .hbm, ⟨115, _⟩ => ⟨S128x1024, .f32⟩
  | .hbm, ⟨116, _⟩ => ⟨S128x1024, .f32⟩
  | .hbm, ⟨117, _⟩ => ⟨S8192x1024, .f32⟩
  | .hbm, ⟨118, _⟩ => ⟨S8320x1024, .f32⟩
  | .hbm, ⟨119, _⟩ => ⟨S1x128x4x128x256, .f32⟩
  | .hbm, ⟨120, _⟩ => ⟨S1x128x4x128x256, .f32⟩
  | .hbm, ⟨121, _⟩ => ⟨S2x128x4x128x256, .f32⟩
  | .hbm, ⟨122, _⟩ => ⟨S4x128x4x128x256, .f32⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v18 : Ref sig .tc := ⟨.hbm, 43, rfl⟩
abbrev main_cst_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call1_call0_cst : Ref sig .tc := ⟨.hbm, 48, rfl⟩
abbrev main_call1_call0_v0 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_1 : Ref sig .tc := ⟨.hbm, 78, rfl⟩
abbrev main_v50 : Ref sig .tc := ⟨.hbm, 79, rfl⟩
abbrev main_v51 : Ref sig .tc := ⟨.hbm, 80, rfl⟩
abbrev main_cst_2 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_3 : Ref sig .tc := ⟨.hbm, 87, rfl⟩
abbrev main_v57 : Ref sig .tc := ⟨.hbm, 88, rfl⟩
abbrev main_v58 : Ref sig .tc := ⟨.hbm, 89, rfl⟩
abbrev main_cst_4 : Ref sig .tc := ⟨.hbm, 90, rfl⟩
abbrev main_v59 : Ref sig .tc := ⟨.hbm, 91, rfl⟩
abbrev main_v60 : Ref sig .tc := ⟨.hbm, 92, rfl⟩
abbrev main_cst_5 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.StableHlo

@[expose] public section

noncomputable section

open Idealize.ShloMosaic

namespace Cert.Gla

/-! The mathematics that both programs compute, entry by entry, and the facts about sums, logarithms and the extended reals that both readings of it need. -/

/-- The token of batch `b` at row `j` of chunk `n`. -/
abbrev tok (b : Fin 4) (n : Fin 32) (j : Fin 64) : Fin 8320 := ⟨b.val * 2048 + (n.val * 64 + j.val), by omega⟩
/-- Lane `d` of head `h` among the keys. -/
abbrev kl (h : Fin 4) (d : Fin 128) : Fin 512 := ⟨128 * h.val + d.val, by omega⟩
/-- Lane `e` of head `h` among the values. -/
abbrev vl (h : Fin 4) (e : Fin 256) : Fin 1024 := ⟨256 * h.val + e.val, by omega⟩

/-- The logarithm of the logistic function. -/
def lsig (z : EReal) : EReal := min z 0 - Ideal.log (1 + Ideal.exp (0 - max z (-z)))

/-- A row's mean over its 256 lanes. -/
def mean (f : Fin 256 → EReal) : EReal := Ideal.div (∑ e, f e) (Ideal.ofBits FTy.f32 1132462080#32)

/-- A row with its mean taken out, divided by the root of its variance plus the constant. -/
def norm (f : Fin 256 → EReal) (e : Fin 256) : EReal :=
  (f e - mean f) * Ideal.rsqrt (mean (fun k => (f k - mean f) * (f k - mean f)) + Ideal.ofBits FTy.f32 925353388#32)

section
variable (p : Fin 8320 → Fin 3072 → EReal) (g : Fin 8320 → Fin 128 → EReal) (w : Fin 16 → Fin 512 → EReal) (gb : Fin 512 → EReal)
  (lw lb : Fin 1024 → EReal)

/-- The gate before the logistic function. -/
def gz (r : Fin 8320) (l : Fin 512) : EReal := (∑ x : Fin 16, g r ⟨x.val, by omega⟩ * w x l) + gb l
/-- The gate's logarithm. -/
def la (r : Fin 8320) (l : Fin 512) : EReal := lsig (gz g w gb r l) * Ideal.ofBits FTy.f32 1031798784#32
/-- The running sum of the gate's logarithm within a chunk. -/
def cum (b : Fin 4) (n : Fin 32) (i : Fin 64) (l : Fin 512) : EReal :=
  ∑ j : Fin 64, if j ≤ i then la g w gb (tok b n j) l else 0
/-- The scaled queries times the exponential of the running sum. -/
def qe (b : Fin 4) (n : Fin 32) (i : Fin 64) (l : Fin 512) : EReal :=
  p (tok b n i) ⟨l.val, by omega⟩ * Ideal.ofBits FTy.f32 1035273459#32 * Ideal.exp (cum g w gb b n i l)
/-- The keys times the exponential of the running sum's negative. -/
def ke (b : Fin 4) (n : Fin 32) (i : Fin 64) (l : Fin 512) : EReal :=
  p (tok b n i) ⟨512 + l.val, by omega⟩ * Ideal.exp (-(cum g w gb b n i l))
/-- The keys decayed to the chunk's end. -/
def kd (b : Fin 4) (n : Fin 32) (i : Fin 64) (l : Fin 512) : EReal :=
  p (tok b n i) ⟨512 + l.val, by omega⟩ * Ideal.exp (cum g w gb b n 63 l - cum g w gb b n i l)
/-- The chunk's decay. -/
def dec (b : Fin 4) (n : Fin 32) (l : Fin 512) : EReal := Ideal.exp (cum g w gb b n 63 l)
/-- The values. -/
def val (b : Fin 4) (n : Fin 32) (i : Fin 64) (l : Fin 1024) : EReal := p (tok b n i) ⟨1024 + l.val, by omega⟩
/-- The output gate after its activation. -/
def sr (b : Fin 4) (n : Fin 32) (i : Fin 64) (l : Fin 1024) : EReal :=
  p (tok b n i) ⟨2048 + l.val, by omega⟩ * Ideal.div 1 (1 + Ideal.exp (-(p (tok b n i) ⟨2048 + l.val, by omega⟩)))
/-- The state after one more chunk. -/
def next (b : Fin 4) (n : Fin 32) (s : Fin 4 → Fin 128 → Fin 256 → EReal) (h : Fin 4) (d : Fin 128) (e : Fin 256) : EReal :=
  s h d e * dec g w gb b n (kl h d) + ∑ j : Fin 64, kd p g w gb b n j (kl h d) * val p b n j (vl h e)
/-- The state before chunk `n`. -/
def S (b : Fin 4) : ℕ → Fin 4 → Fin 128 → Fin 256 → EReal
  | 0 => fun _ _ _ => 0
  | n + 1 => if hn : n < 32 then next p g w gb b ⟨n, hn⟩ (S b n) else S b n
/-- The chunk's own part of a row's outputs. -/
def intra (b : Fin 4) (n : Fin 32) (i : Fin 64) (h : Fin 4) (e : Fin 256) : EReal :=
  ∑ j : Fin 64, if j ≤ i then (∑ d : Fin 128, qe p g w gb b n i (kl h d) * ke p g w gb b n j (kl h d)) * val p b n j (vl h e) else 0
/-- The part of a row's outputs that is read from the state. -/
def inter (b : Fin 4) (n : Fin 32) (i : Fin 64) (h : Fin 4) (e : Fin 256) : EReal :=
  ∑ d : Fin 128, qe p g w gb b n i (kl h d) * S p g w gb b n.val h d e
/-- A row's outputs: both parts added, normalised head by head, scaled and shifted, times the gate. -/
def out (b : Fin 4) (n : Fin 32) (i : Fin 64) (h : Fin 4) (e : Fin 256) : EReal :=
  (norm (fun k => intra p g w gb b n i h k + inter p g w gb b n i h k) e * lw (vl h e) + lb (vl h e)) * sr p b n i (vl h e)

/-- The state before the first chunk is zero. -/
theorem S_zero (b : Fin 4) : S p g w gb b 0 = fun _ _ _ => 0 := rfl
/-- The state after a chunk is the step from the state before it. -/
theorem S_succ (b : Fin 4) (n : Fin 32) : S p g w gb b (n.val + 1) = next p g w gb b n (S p g w gb b n.val) := by
  show (if hn : n.val < 32 then next p g w gb b ⟨n.val, hn⟩ (S p g w gb b n.val) else S p g w gb b n.val) = _
  rw [dif_pos n.isLt]

/-- The exponential of minus infinity is zero. -/
theorem exp_bot : Ideal.exp ⊥ = 0 := rfl
/-- The exponential of a real is the reals'. -/
theorem exp_coe (r : ℝ) : Ideal.exp (r : EReal) = (Real.exp r : ℝ) := rfl
/-- The logarithm of a real is the reals', minus infinity where that has none. -/
theorem log_coe (r : ℝ) : Ideal.log (r : EReal) = if r ≤ 0 then ⊥ else (Real.log r : EReal) := rfl

/-- The logarithm of one plus an exponential is a real number and not negative. -/
theorem log_one_add_exp (x : EReal) (hx : x ≤ 0) : ∃ r : ℝ, 0 ≤ r ∧ Ideal.log (1 + Ideal.exp x) = (r : EReal) := by
  induction x using EReal.rec with
  | bot =>
    refine ⟨0, le_refl _, ?_⟩
    rw [exp_bot, add_zero, show (1 : EReal) = ((1 : ℝ) : EReal) from rfl, log_coe]
    simp
  | coe r =>
    refine ⟨Real.log (1 + Real.exp r), Real.log_nonneg (by linarith [Real.exp_pos r]), ?_⟩
    have h : (1 : EReal) + Ideal.exp (r : EReal) = ((1 + Real.exp r : ℝ) : EReal) := by
      rw [exp_coe, EReal.coe_add]
      rfl
    rw [h, log_coe, if_neg (by linarith [Real.exp_pos r])]
  | top => exact absurd hx (by simp)

/-- Minus an absolute value is not positive. -/
theorem neg_abs_le (z : EReal) : 0 - max z (-z) ≤ 0 := by
  rw [zero_sub, EReal.neg_le, neg_zero]
  rcases le_total 0 z with h | h
  · exact le_max_of_le_left h
  · exact le_max_of_le_right (by rwa [EReal.le_neg, neg_zero])

/-- The logarithm of the logistic function is never plus infinity. -/
theorem lsig_ne_top (z : EReal) : lsig z ≠ ⊤ := by
  obtain ⟨r, hr, h⟩ := log_one_add_exp _ (neg_abs_le z)
  unfold lsig
  rw [h]
  have h1 : min z 0 - (r : EReal) ≤ 0 := by
    have := EReal.sub_le_sub (min_le_right z 0) (show (0 : EReal) ≤ (r : EReal) from by exact_mod_cast hr)
    simpa using this
  exact fun h2 => by rw [h2] at h1; exact absurd h1 (by simp)

/-- The constant of a sixteenth. -/
theorem sixteenth : Ideal.ofBits FTy.f32 1031798784#32 = ((1 / 16 : ℝ) : EReal) := by
  simp [Ideal.ofBits, Ideal.ieee, -EReal.coe_mul]; norm_num
/-- The constant sixteen. -/
theorem sixteen : Ideal.ofBits FTy.f32 1098907648#32 = ((16 : ℝ) : EReal) := by
  simp [Ideal.ofBits, Ideal.ieee, -EReal.coe_mul]; norm_num

/-- The logarithm of a decay is never plus infinity. -/
theorem la_ne_top (r : Fin 8320) (l : Fin 512) : la g w gb r l ≠ ⊤ := by
  unfold la
  rw [sixteenth]
  have h := lsig_ne_top (gz g w gb r l)
  generalize lsig (gz g w gb r l) = y at h
  induction y using EReal.rec with
  | bot => rw [EReal.bot_mul_coe_of_pos (by norm_num)]; simp
  | coe x => exact EReal.coe_ne_top (x * (1/16))
  | top => exact absurd rfl h

/-- Division by sixteen is multiplication by a sixteenth. -/
theorem div_sixteen (x : EReal) : Ideal.div x (Ideal.ofBits FTy.f32 1098907648#32) = x * Ideal.ofBits FTy.f32 1031798784#32 := by
  rw [sixteen, sixteenth]
  unfold Ideal.div
  rw [if_neg (by norm_num)]
  congr 1
  rw [← EReal.coe_inv]
  norm_num

/-- The logarithm of the logistic function as the negative of the softplus of the negative. -/
theorem lsig_eq (z : EReal) : -(max (-z) 0 + Ideal.log1p (Ideal.exp (-(max (-z) (-(-z)))))) = lsig z := by
  unfold lsig Ideal.log1p
  rw [neg_neg, max_comm (-z) z, zero_sub]
  obtain ⟨r, hr, h⟩ := log_one_add_exp _ (neg_abs_le z)
  rw [zero_sub] at h
  rw [h, EReal.neg_add (by simp) (by simp), ← EReal.min_neg_neg, neg_neg, neg_zero]

end

/-- A sum whose terms are each split in three, the last two of which are differences of a number with itself, where the number is never plus infinity. -/
theorem split_sum (la : Fin 64 → EReal) (hla : ∀ x, la x ≠ ⊤) (i : Fin 64) :
    (∑ x : Fin 64, (if x ≤ i then (1 : EReal) else 0) * la x)
      + ((∑ x : Fin 64, (if x ≤ i then (1 : EReal) else 0) * (la x - la x))
        + ∑ x : Fin 64, (if x ≤ i then (1 : EReal) else 0) * ((la x - la x) - (la x - la x)))
    = ∑ j : Fin 64, if j ≤ i then la j else 0 := by
  simp only [ite_mul, one_mul, zero_mul]
  by_cases hb : ∃ x, x ≤ i ∧ la x = ⊥
  · obtain ⟨x, hx, hxb⟩ := hb
    have h : (∑ j : Fin 64, if j ≤ i then la j else 0) = ⊥ := by
      rw [← Finset.add_sum_erase _ _ (Finset.mem_univ x), if_pos hx, hxb, EReal.bot_add]
    rw [h, EReal.bot_add]
  · have h0 : ∀ x, x ≤ i → la x - la x = 0 := by
      intro x hx
      have h1 : la x ≠ ⊥ := fun h => hb ⟨x, hx, h⟩
      exact EReal.sub_self (hla x) h1
    have h1 : (∑ x : Fin 64, if x ≤ i then la x - la x else 0) = 0 := by
      apply Finset.sum_eq_zero
      intro x _
      split
      · next h => exact h0 x h
      · rfl
    have h2 : (∑ x : Fin 64, if x ≤ i then (la x - la x) - (la x - la x) else 0) = 0 := by
      apply Finset.sum_eq_zero
      intro x _
      split
      · next h => rw [h0 x h]; simp
      · rfl
    rw [h1, h2]
    simp

/-- A sum over a window of 64 places that ends at place `i`, the places before the start counting zero, is the sum up to place `i`. -/
theorem window_sum (f : Fin 64 → EReal) (i : Fin 64) :
    (∑ w : Fin 64, if h : 63 ≤ i.val + w.val ∧ i.val + w.val - 63 < 64 then f ⟨i.val + w.val - 63, h.2⟩ else 0)
    = ∑ j : Fin 64, if j ≤ i then f j else 0 := by
  have e : ∀ w : Fin 64, (if h : 63 ≤ i.val + w.val ∧ i.val + w.val - 63 < 64 then f ⟨i.val + w.val - 63, h.2⟩ else 0)
      = if 63 ≤ i.val + w.val then f ⟨i.val + w.val - 63, by omega⟩ else 0 := by
    intro w
    by_cases h : 63 ≤ i.val + w.val
    · rw [dif_pos ⟨h, by omega⟩, if_pos h]
    · rw [dif_neg (fun h' => h h'.1), if_neg h]
  rw [Finset.sum_congr rfl (fun w _ => e w), ← Finset.sum_filter, ← Finset.sum_filter]
  refine Finset.sum_bij' (fun w _ => ⟨i.val + w.val - 63, by omega⟩) (fun j hj => ⟨j.val + 63 - i.val, ?_⟩) ?_ ?_ ?_ ?_ ?_
  · have := (Finset.mem_filter.1 hj).2
    have h1 : j.val ≤ i.val := this
    omega
  · intro w hw
    refine Finset.mem_filter.2 ⟨Finset.mem_univ _, ?_⟩
    show i.val + w.val - 63 ≤ i.val
    omega
  · intro j hj
    have h1 : j.val ≤ i.val := (Finset.mem_filter.1 hj).2
    refine Finset.mem_filter.2 ⟨Finset.mem_univ _, ?_⟩
    show 63 ≤ i.val + (j.val + 63 - i.val)
    omega
  · intro w hw
    have h1 : 63 ≤ i.val + w.val := (Finset.mem_filter.1 hw).2
    apply Fin.ext
    show i.val + w.val - 63 + 63 - i.val = w.val
    omega
  · intro j hj
    have h1 : j.val ≤ i.val := (Finset.mem_filter.1 hj).2
    apply Fin.ext
    show i.val + (j.val + 63 - i.val) - 63 = j.val
    omega
  · intro w hw
    rfl

/-- A left fold of additions is the first value plus the sum. -/
theorem foldl_sum {n : ℕ} (f : Fin n → EReal) (v : EReal) :
    (List.finRange n).foldl (fun r k => r + f k) v = v + ∑ k, f k := by
  rw [Fin.sum_univ_def]
  generalize List.finRange n = l
  induction l generalizing v with
  | nil => simp
  | cons a l ih => rw [List.foldl_cons, ih, List.map_cons, List.sum_cons, add_assoc]

end Cert.Gla
-- ==== Proof.RefRead.lean ====
module

public import proofs.«01_k».proof.Proof.Gen.ReferenceIdeal.Run
public import Idealize.ShloMosaic.Lib.Pointwise
public import proofs.«01_k».proof.Proof.Spec

@[expose] public section

set_option maxRecDepth 100000

noncomputable section

open Idealize.ShloMosaic Idealize.ShloMosaic.TcCoe Idealize.SL.Sem Idealize.ShloMosaic.StableHlo

namespace Cert.ReferenceIdeal.Pure

open Cert.ReferenceIdeal Cert.ReferenceIdeal.Gen

variable (a0 : FVec Ideal S8320x3072 .f32) (a1 : FVec Ideal S8320x128 .f32) (a2 : FVec Ideal S16x512 .f32) (a3 : FVec Ideal S512 .f32)
  (a4 a5 : FVec Ideal S1024 .f32)

/-- The prompt's projections, by batch and step. -/
def pR : FVec Ideal S4x2048x3072 .f32 :=
  shapeCast S4x2048x3072 (extractStridedSlice S8192x3072 ![0, 0] a0 slices_S8320x3072_S8192x3072_0_0) shapeCasts_S8192x3072_S4x2048x3072

/-- The gate before the logistic function. -/
def zR : FVec Ideal S4x2048x512 .f32 :=
  addf (Host.dotGeneral (F := Ideal) (φ₁ := .f32) (φ₂ := .f32) dot_S4x2048x16_S16x512_S4x2048x512_2_0_01_1_n_n none
    (extractStridedSlice S4x2048x16 ![0, 0, 0] (shapeCast S4x2048x128 (extractStridedSlice S8192x128 ![0, 0] a1 slices_S8320x128_S8192x128_0_0) shapeCasts_S8192x128_S4x2048x128) slices_S4x2048x128_S4x2048x16_0_0_0) a2)
    (broadcastInDim S4x2048x512 ![0, 1, 2] bcast_S1x1x512_S4x2048x512_0_1_2 (broadcastInDim S1x1x512 ![2] bcast_S512_S1x1x512_2 a3))

/-- The logarithm of the logistic function. -/
def lsR (z : FVec Ideal S4x2048x512 .f32) : FVec Ideal S4x2048x512 .f32 :=
  Host.negf (select (cmpf .une (subf (Host.negf z) (broadcastInDim S4x2048x512 ![] bcast_S_S4x2048x512 (constant S_ .f32 0x00000000#32))) (subf (Host.negf z) (broadcastInDim S4x2048x512 ![] bcast_S_S4x2048x512 (constant S_ .f32 0x00000000#32))))
    (addf (Host.negf z) (broadcastInDim S4x2048x512 ![] bcast_S_S4x2048x512 (constant S_ .f32 0x00000000#32)))
    (addf (maximumf (Host.negf z) (broadcastInDim S4x2048x512 ![] bcast_S_S4x2048x512 (constant S_ .f32 0x00000000#32)))
      (Host.log1p (Host.exp (Host.negf (Host.absf (subf (Host.negf z) (broadcastInDim S4x2048x512 ![] bcast_S_S4x2048x512 (constant S_ .f32 0x00000000#32)))))))))

/-- The gate's logarithm, by batch, chunk, row, head and lane. -/
def laR (z : FVec Ideal S4x2048x512 .f32) : FVec Ideal S4x32x64x4x128 .f32 :=
  shapeCast S4x32x64x4x128 (shapeCast S4x2048x4x128 (Host.divf (lsR z) (broadcastInDim S4x2048x512 ![] bcast_S_S4x2048x512 (constant S_ .f32 0x41800000#32))) shapeCasts_S4x2048x512_S4x2048x4x128) shapeCasts_S4x2048x4x128_S4x32x64x4x128

/-- The running sum within each chunk. -/
def bR (la : FVec Ideal S4x32x64x4x128 .f32) : FVec Ideal S4x32x64x4x128 .f32 :=
  Host.reduceWindowAdd (F := Ideal) (φ := .f32) ![1, 1, 64, 1, 1] ![1, 1, 1, 1, 1] ![0, 0, 63, 0, 0] ![0, 0, 0, 0, 0] la (broadcastInDim S_ ![] bcast_S_S_ (constant S_ .f32 0x00000000#32)) reduceWindows_S4x32x64x4x128_S4x32x64x4x128_w1s1p0_0_w1s1p0_0_w64s1p63_0_w1s1p0_0_w1s1p0_0 h_S_

/-- The scaled queries. -/
def qR : FVec Ideal S4x32x64x4x128 .f32 :=
  shapeCast S4x32x64x4x128 (mulf (shapeCast S4x2048x4x128 (extractStridedSlice S4x2048x512 ![0, 0, 0] (pR a0) slices_S4x2048x3072_S4x2048x512_0_0_0) shapeCasts_S4x2048x512_S4x2048x4x128)
    (broadcastInDim S4x2048x4x128 ![] bcast_S_S4x2048x4x128 (constant S_ .f32 0x3DB504F3#32))) shapeCasts_S4x2048x4x128_S4x32x64x4x128
/-- The keys. -/
def kR : FVec Ideal S4x32x64x4x128 .f32 :=
  shapeCast S4x32x64x4x128 (shapeCast S4x2048x4x128 (extractStridedSlice S4x2048x512 ![0, 0, 512] (pR a0) slices_S4x2048x3072_S4x2048x512_0_0_512) shapeCasts_S4x2048x512_S4x2048x4x128) shapeCasts_S4x2048x4x128_S4x32x64x4x128
/-- The values. -/
def vR : FVec Ideal S4x32x64x4x256 .f32 :=
  shapeCast S4x32x64x4x256 (shapeCast S4x2048x4x256 (extractStridedSlice S4x2048x1024 ![0, 0, 1024] (pR a0) slices_S4x2048x3072_S4x2048x1024_0_0_1024) shapeCasts_S4x2048x1024_S4x2048x4x256) shapeCasts_S4x2048x4x256_S4x32x64x4x256
/-- The output gate before its activation. -/
def rR : FVec Ideal S4x2048x1024 .f32 :=
  extractStridedSlice S4x2048x1024 ![0, 0, 2048] (pR a0) slices_S4x2048x3072_S4x2048x1024_0_0_2048

/-- The queries times the exponential of the running sum. -/
def qeR (q b : FVec Ideal S4x32x64x4x128 .f32) : FVec Ideal S4x32x64x4x128 .f32 := mulf q (Host.exp b)
/-- The keys times the exponential of the running sum's negative. -/
def keR (k b : FVec Ideal S4x32x64x4x128 .f32) : FVec Ideal S4x32x64x4x128 .f32 := mulf k (Host.exp (Host.negf b))
/-- The keys decayed to the chunk's end. -/
def kdR (k b : FVec Ideal S4x32x64x4x128 .f32) : FVec Ideal S4x32x64x4x128 .f32 :=
  mulf k (Host.exp (subf (broadcastInDim S4x32x64x4x128 ![0, 1, 2, 3, 4] bcast_S4x32x1x4x128_S4x32x64x4x128_0_1_2_3_4 (extractStridedSlice S4x32x1x4x128 ![0, 0, 63, 0, 0] b slices_S4x32x64x4x128_S4x32x1x4x128_0_0_63_0_0)) b))
/-- The chunk's decay. -/
def decR (b : FVec Ideal S4x32x64x4x128 .f32) : FVec Ideal S4x32x4x128 .f32 :=
  Host.exp (shapeCast S4x32x4x128 (extractStridedSlice S4x32x1x4x128 ![0, 0, 63, 0, 0] b slices_S4x32x64x4x128_S4x32x1x4x128_0_0_63_0_0) shapeCasts_S4x32x1x4x128_S4x32x4x128)

/-- The chunk's own part of the outputs. -/
def intraR (qe ke : FVec Ideal S4x32x64x4x128 .f32) (v : FVec Ideal S4x32x64x4x256 .f32) : FVec Ideal S4x32x64x4x256 .f32 :=
  transpose S4x32x64x4x256 [0, 1, 4, 2, 3]
    (Host.dotGeneral (F := Ideal) (φ₁ := .f32) (φ₂ := .f32) dot_S4x32x64x4x256_S4x32x4x64x64_S4x32x4x256x64_2_4_4_3_013_012 none v
      (select (broadcastInDim S4x32x4x64x64 ![3, 4] bcast_S64x64_S4x32x4x64x64_3_4
          (select (cmpi .sge (addi (iotaInDim S64x64 32 0) (broadcastInDim S64x64 ![] bcast_S_S64x64 (constantI S_ 32 0#32))) (iotaInDim S64x64 32 1))
            (broadcastInDim S64x64 ![] bcast_S_S64x64 (constantI S_ 1 1#1)) (broadcastInDim S64x64 ![] bcast_S_S64x64 (constantI S_ 1 0#1))))
        (Host.dotGeneral (F := Ideal) (φ₁ := .f32) (φ₂ := .f32) dot_S4x32x64x4x128_S4x32x64x4x128_S4x32x4x64x64_4_4_2_2_013_013 none qe ke)
        (broadcastInDim S4x32x4x64x64 ![] bcast_S_S4x32x4x64x64 (constant S_ .f32 0x00000000#32))))
    transposes_S4x32x4x256x64_S4x32x64x4x256_0_1_4_2_3

/-- The chunk's outer products, by chunk. -/
def dSR (kd : FVec Ideal S4x32x64x4x128 .f32) (v : FVec Ideal S4x32x64x4x256 .f32) : FVec Ideal S32x4x4x128x256 .f32 :=
  transpose S32x4x4x128x256 [1, 0, 2, 3, 4]
    (Host.dotGeneral (F := Ideal) (φ₁ := .f32) (φ₂ := .f32) dot_S4x32x64x4x128_S4x32x64x4x256_S4x32x4x128x256_2_2_4_4_013_013 none kd v)
    transposes_S4x32x4x128x256_S32x4x4x128x256_1_0_2_3_4

/-- The gate before the logistic function is the specification's. -/
theorem zR_ix (i : Fin 4) (t : Fin 2048) (l : Fin 512) : zR a1 a2 a3 (ix3 i t l)
    = ∑ x : Fin 16, a1 (ix2 ⟨i.val * 2048 + t.val, by omega⟩ ⟨x.val, by omega⟩) * a2 (ix2 x l) + a3 (ix1 l) := by
  unfold zR
  pointwise

/-- The logarithm of the logistic function, entry by entry. -/
theorem lsR_ix (z) (i : Fin 4) (t : Fin 2048) (l : Fin 512) : lsR z (ix3 i t l) = Gla.lsig (z (ix3 i t l)) := by
  unfold lsR
  pointwise
  rw [← Gla.lsig_eq, if_neg (by simp)]
  rfl

/-- The gate's logarithm is the specification's. -/
theorem laR_ix (i : Fin 4) (n : Fin 32) (j : Fin 64) (h : Fin 4) (d : Fin 128) : laR (zR a1 a2 a3) (ix5 i n j h d)
    = Gla.la (fun r l => a1 (ix2 r l)) (fun r l => a2 (ix2 r l)) (fun l => a3 (ix1 l)) (Gla.tok i n j) (Gla.kl h d) := by
  unfold laR
  generalize hz : zR a1 a2 a3 = z
  pointwise
  rw [lsR_ix, Gla.div_sixteen, ← hz, zR_ix]
  simp only [Nat.mul_comm h.val 128]
  rfl

/-- A window of the running sum's shape that holds one chunk. -/
abbrev WS : Shape := ⟨5, ![1, 1, 64, 1, 1]⟩

/-- The positions of the window, one for each row. -/
def wEquiv : WS.Idx ≃ Fin 64 where
  toFun y := y 2
  invFun w := ix5 (0 : Fin 1) (0 : Fin 1) w (0 : Fin 1) (0 : Fin 1)
  left_inv y := by
    have h0 : (y 0).val < 1 := (y 0).isLt
    have h1 : (y 1).val < 1 := (y 1).isLt
    have h3 : (y 3).val < 1 := (y 3).isLt
    have h4 : (y 4).val < 1 := (y 4).isLt
    funext a
    apply Fin.ext
    fin_cases a
    · show 0 = (y 0).val; omega
    · show 0 = (y 1).val; omega
    · rfl
    · show 0 = (y 3).val; omega
    · show 0 = (y 4).val; omega
  right_inv w := rfl

/-- The sum over windows as a sum over the window's positions. -/
theorem windowAdd_ix {s t u : Shape} (window strides lo hi : Fin s.rank → Nat) (x : FVec Ideal s .f32) (init : FVec Ideal u .f32)
    (h : s.ReduceWindows window strides lo hi t) (hu : 0 < u.numel) (j : t.Idx) :
    Host.reduceWindowAdd (F := Ideal) (φ := .f32) window strides lo hi x init h hu j
    = (init (Shape.Idx.first hu) : EReal) + ∑ y : (⟨s.rank, window⟩ : Shape).Idx,
      (if hin : ∀ a, lo a ≤ (j (a.cast h.1.symm)).val * strides a + (y a).val ∧ (j (a.cast h.1.symm)).val * strides a + (y a).val - lo a < s.size a
        then (x (fun a => ⟨(j (a.cast h.1.symm)).val * strides a + (y a).val - lo a, (hin a).2⟩) : EReal) else init (Shape.Idx.first hu)) := by
  rw [← Equiv.sum_comp (⟨s.rank, window⟩ : Shape).rowMajor.symm]
  rw [← Gla.foldl_sum]
  unfold Host.reduceWindowAdd
  rw [Ideal.hostReduceWindowAdd_def]
  unfold Ideal.hostReduceWindowAdd Host.reduceWindow
  congr!

/-- The running sum is the sum of the chunk's rows up to the row. -/
theorem bR_ix (la : FVec Ideal S4x32x64x4x128 .f32) (i : Fin 4) (n : Fin 32) (j : Fin 64) (h : Fin 4) (d : Fin 128) :
    bR la (ix5 i n j h d) = ∑ x : Fin 64, if x ≤ j then la (ix5 i n x h d) else 0 := by
  rw [← Gla.window_sum (fun x => la (ix5 i n x h d)) j]
  unfold bR
  rw [windowAdd_ix]
  have h0 : ((broadcastInDim S_ ![] bcast_S_S_ (constant (F := Ideal) S_ .f32 0x00000000#32)) (Shape.Idx.first h_S_) : EReal) = 0 := by
    show Ideal.ofBits .f32 0x00000000#32 = 0
    simp [Ideal.ofBits, Ideal.ieee]
  rw [h0, zero_add]
  refine Fintype.sum_equiv wEquiv _ _ fun y => ?_
  have y0 : (y 0).val < 1 := (y 0).isLt
  have y1 : (y 1).val < 1 := (y 1).isLt
  have y3 : (y 3).val < 1 := (y 3).isLt
  have y4 : (y 4).val < 1 := (y 4).isLt
  have hi := i.isLt
  have hn := n.isLt
  have hh := h.isLt
  have hd := d.isLt
  by_cases hc : 63 ≤ j.val + (y 2).val ∧ j.val + (y 2).val - 63 < 64
  · rw [dif_pos (show 63 ≤ j.val + (wEquiv y).val ∧ j.val + (wEquiv y).val - 63 < 64 from hc), dif_pos]
    · refine congrArg la ?_
      funext a
      apply Fin.ext
      fin_cases a
      · show i.val * 1 + (y 0).val - 0 = i.val; omega
      · show n.val * 1 + (y 1).val - 0 = n.val; omega
      · show j.val * 1 + (y 2).val - 63 = j.val + (y 2).val - 63; omega
      · show h.val * 1 + (y 3).val - 0 = h.val; omega
      · show d.val * 1 + (y 4).val - 0 = d.val; omega
    · intro a
      fin_cases a
      · show 0 ≤ i.val * 1 + (y 0).val ∧ i.val * 1 + (y 0).val - 0 < 4; omega
      · show 0 ≤ n.val * 1 + (y 1).val ∧ n.val * 1 + (y 1).val - 0 < 32; omega
      · show 63 ≤ j.val * 1 + (y 2).val ∧ j.val * 1 + (y 2).val - 63 < 64; omega
      · show 0 ≤ h.val * 1 + (y 3).val ∧ h.val * 1 + (y 3).val - 0 < 4; omega
      · show 0 ≤ d.val * 1 + (y 4).val ∧ d.val * 1 + (y 4).val - 0 < 128; omega
  · rw [dif_neg (show ¬ (63 ≤ j.val + (wEquiv y).val ∧ j.val + (wEquiv y).val - 63 < 64) from hc), dif_neg]
    intro hin
    have h2 : 63 ≤ j.val * 1 + (y 2).val ∧ j.val * 1 + (y 2).val - 63 < 64 := hin 2
    omega

/-- The running sum of the gate's logarithm is the specification's. -/
theorem bR_spec (i : Fin 4) (n : Fin 32) (j : Fin 64) (h : Fin 4) (d : Fin 128) : bR (laR (zR a1 a2 a3)) (ix5 i n j h d)
    = Gla.cum (fun r l => a1 (ix2 r l)) (fun r l => a2 (ix2 r l)) (fun l => a3 (ix1 l)) i n j (Gla.kl h d) := by
  rw [bR_ix]
  simp only [laR_ix]
  rfl

section
variable (i : Fin 4) (n : Fin 32) (j : Fin 64) (h : Fin 4) (d : Fin 128) (e : Fin 256)

/-- A query, scaled, in the argument. -/
theorem qR_ix : qR a0 (ix5 i n j h d) = a0 (ix2 (Gla.tok i n j) ⟨128 * h.val + d.val, by omega⟩) * Ideal.ofBits .f32 1035273459#32 := by
  unfold qR pR
  pointwise
  simp only [Nat.mul_comm h.val 128]

/-- A key in the argument. -/
theorem kR_ix : kR a0 (ix5 i n j h d) = a0 (ix2 (Gla.tok i n j) ⟨512 + (128 * h.val + d.val), by omega⟩) := by
  unfold kR pR
  pointwise
  simp only [Nat.mul_comm h.val 128]

/-- A value in the argument. -/
theorem vR_ix : vR a0 (ix5 i n j h e) = Gla.val (fun r l => a0 (ix2 r l)) i n j (Gla.vl h e) := by
  unfold vR pR Gla.val
  pointwise
  simp only [Nat.mul_comm h.val 256]

/-- An output gate in the argument. -/
theorem rR_ix (t : Fin 2048) (l : Fin 1024) : rR a0 (ix3 i t l) = a0 (ix2 ⟨i.val * 2048 + t.val, by omega⟩ ⟨2048 + l.val, by omega⟩) := by
  unfold rR pR
  pointwise

/-- A query grown by its running sum's exponential. -/
theorem qeR_ix (b : FVec Ideal S4x32x64x4x128 .f32) : qeR (qR a0) b (ix5 i n j h d) = qR a0 (ix5 i n j h d) * Ideal.exp (b (ix5 i n j h d)) := rfl
/-- A key shrunk by the exponential of its running sum. -/
theorem keR_ix (b : FVec Ideal S4x32x64x4x128 .f32) : keR (kR a0) b (ix5 i n j h d) = kR a0 (ix5 i n j h d) * Ideal.exp (-(b (ix5 i n j h d))) := rfl
/-- A key decayed to its chunk's end. -/
theorem kdR_ix (b : FVec Ideal S4x32x64x4x128 .f32) : kdR (kR a0) b (ix5 i n j h d) = kR a0 (ix5 i n j h d) * Ideal.exp (b (ix5 i n 63 h d) - b (ix5 i n j h d)) := by
  unfold kdR
  pointwise
/-- A chunk's decay. -/
theorem decR_ix (b : FVec Ideal S4x32x64x4x128 .f32) : decR b (ix4 i n h d) = Ideal.exp (b (ix5 i n 63 h d)) := by
  unfold decR
  pointwise

/-- The comparison of two small numbers as it is made here. -/
theorem sge_select (i j : Fin 64) (a b : EReal) :
    Scalar.select (Scalar.select (IntOp.cmpi CmpIPredicate.sge (IntOp.addi (BitVec.ofNat 32 i.val) 0#32) (BitVec.ofNat 32 j.val)) 1#1 0#1) a b = if j ≤ i then a else b := by
  have hh : (Scalar.select (IntOp.cmpi CmpIPredicate.sge (IntOp.addi (BitVec.ofNat 32 i.val) 0#32) (BitVec.ofNat 32 j.val)) 1#1 0#1 : BitVec 1) = if j ≤ i then 1#1 else 0#1 := by
    revert i j
    decide
  rw [hh]
  by_cases hij : j ≤ i <;> simp [hij, Scalar.select]

/-- The part of an output within its chunk: a sum over the rows up to its own. -/
theorem intraR_ix (qe ke v) : intraR qe ke v (ix5 i n j h e)
    = ∑ x : Fin 64, if x ≤ j then (∑ d : Fin 128, qe (ix5 i n j h d) * ke (ix5 i n x h d)) * v (ix5 i n x h e) else 0 := by
  unfold intraR
  pointwise
  simp only [sge_select]
  simp only [mul_comm]

/-- A chunk's keys against its values. -/
theorem dSR_ix (kd v) : dSR kd v (ix5 n i h d e) = ∑ x : Fin 64, kd (ix5 i n x h d) * v (ix5 i n x h e) := by
  unfold dSR
  pointwise

end

end Cert.ReferenceIdeal.Pure
-- ==== Proof.RefLoop.lean ====
module

public import proofs.«01_k».proof.Proof.RefRead
public import Idealize.ShloMosaic.Lib.WordCmp

@[expose] public section

set_option maxRecDepth 100000
noncomputable section

open Idealize.ShloMosaic.WordCmp Idealize.ShloMosaic Idealize.ShloMosaic.TcCoe Idealize.SL.Sem Idealize.ShloMosaic.StableHlo

namespace Cert.ReferenceIdeal.Pure
open Cert.ReferenceIdeal Cert.ReferenceIdeal.Gen

/-- The state after one trip. -/
def nextR (ctr : IVec S_ 32) (dcs : FVec Ideal S32x4x4x128 .f32) (dss : FVec Ideal S32x4x4x128x256 .f32) (s : FVec Ideal S4x4x128x256 .f32) :
    FVec Ideal S4x4x128x256 .f32 :=
  addf (mulf s (broadcastInDim S4x4x128x256 ![0, 1, 2, 3] bcast_S4x4x128x1_S4x4x128x256_0_1_2_3 (broadcastInDim S4x4x128x1 ![0, 1, 2] bcast_S4x4x128_S4x4x128x1_0_1_2 (shapeCast S4x4x128 (Host.dynamicSlice S1x4x4x128 dcs (fun k => (((![ctr, constantI S_ 32 0#32, constantI S_ 32 0#32, constantI S_ 32 0#32] : Fin 4 → IVec S_ 32)) k (Shape.Idx.first h_S_)).toInt) sliceFits_S32x4x4x128_S1x4x4x128) shapeCasts_S1x4x4x128_S4x4x128)))) (shapeCast S4x4x128x256 (Host.dynamicSlice S1x4x4x128x256 dss (fun k => (((![ctr, constantI S_ 32 0#32, constantI S_ 32 0#32, constantI S_ 32 0#32, constantI S_ 32 0#32] : Fin 5 → IVec S_ 32)) k (Shape.Idx.first h_S_)).toInt) sliceFits_S32x4x4x128x256_S1x4x4x128x256) shapeCasts_S1x4x4x128x256_S4x4x128x256)

/-- The outputs read from the state after one trip. -/
def ysR (ctr : IVec S_ 32) (qes : FVec Ideal S32x4x64x4x128 .f32) (s : FVec Ideal S4x4x128x256 .f32) (ys : FVec Ideal S32x4x64x4x256 .f32) :
    FVec Ideal S32x4x64x4x256 .f32 :=
  Host.dynamicUpdateSlice ys (broadcastInDim S1x4x64x4x256 ![1, 2, 3, 4] bcast_S4x64x4x256_S1x4x64x4x256_1_2_3_4 (transpose S4x64x4x256 [0, 3, 1, 2] (Host.dotGeneral (F := Ideal) (φ₁ := .f32) (φ₂ := .f32) dot_S4x4x128x256_S4x64x4x128_S4x4x256x64_2_3_3_1_01_02 none s (shapeCast S4x64x4x128 (Host.dynamicSlice S1x4x64x4x128 qes (fun k => (((![ctr, constantI S_ 32 0#32, constantI S_ 32 0#32, constantI S_ 32 0#32, constantI S_ 32 0#32] : Fin 5 → IVec S_ 32)) k (Shape.Idx.first h_S_)).toInt) sliceFits_S32x4x64x4x128_S1x4x64x4x128) shapeCasts_S1x4x64x4x128_S4x64x4x128)) transposes_S4x4x256x64_S4x64x4x256_0_3_1_2)) (fun k => (((![ctr, constantI S_ 32 0#32, constantI S_ 32 0#32, constantI S_ 32 0#32, constantI S_ 32 0#32] : Fin 5 → IVec S_ 32)) k (Shape.Idx.first h_S_)).toInt) updateFits_S32x4x64x4x256_S1x4x64x4x256

variable (n : Fin 32) (b h : Fin 4) (i : Fin 64) (d : Fin 128) (e : Fin 256)

/-- The four start indices of a slice at trip n. -/
theorem start4 (k : Fin 4) : (((![fun _ => BitVec.ofNat 32 n.val, constantI S_ 32 0#32, constantI S_ 32 0#32, constantI S_ 32 0#32] : Fin 4 → IVec S_ 32)) k (Shape.Idx.first h_S_)).toInt = ((![n.val, 0, 0, 0] : Fin 4 → ℕ) k : ℤ) := by
  have hn := n.isLt
  fin_cases k
  · exact toInt_ofNat_of_lt (by omega)
  all_goals rfl
/-- The five start indices of a slice at trip n. -/
theorem start5 (k : Fin 5) : (((![fun _ => BitVec.ofNat 32 n.val, constantI S_ 32 0#32, constantI S_ 32 0#32, constantI S_ 32 0#32, constantI S_ 32 0#32] : Fin 5 → IVec S_ 32)) k (Shape.Idx.first h_S_)).toInt = ((![n.val, 0, 0, 0, 0] : Fin 5 → ℕ) k : ℤ) := by
  have hn := n.isLt
  fin_cases k
  · exact toInt_ofNat_of_lt (by omega)
  all_goals rfl

/-- One chunk's block fits. -/
theorem fit_dec : Shape.Slices S32x4x4x128 ![n.val, 0, 0, 0] S1x4x4x128 :=
  ⟨rfl, fun a => by
    have hn := n.isLt
    fin_cases a
    · show n.val + 1 ≤ 32; omega
    all_goals exact Nat.le_refl _⟩
/-- One chunk's block fits. -/
theorem fit_dS : Shape.Slices S32x4x4x128x256 ![n.val, 0, 0, 0, 0] S1x4x4x128x256 :=
  ⟨rfl, fun a => by
    have hn := n.isLt
    fin_cases a
    · show n.val + 1 ≤ 32; omega
    all_goals exact Nat.le_refl _⟩
/-- One chunk's block fits. -/
theorem fit_qe : Shape.Slices S32x4x64x4x128 ![n.val, 0, 0, 0, 0] S1x4x64x4x128 :=
  ⟨rfl, fun a => by
    have hn := n.isLt
    fin_cases a
    · show n.val + 1 ≤ 32; omega
    all_goals exact Nat.le_refl _⟩
/-- One chunk's block fits. -/
theorem fit_ys : Shape.Slices S32x4x64x4x256 ![n.val, 0, 0, 0, 0] S1x4x64x4x256 :=
  ⟨rfl, fun a => by
    have hn := n.isLt
    fin_cases a
    · show n.val + 1 ≤ 32; omega
    all_goals exact Nat.le_refl _⟩

/-- One trip's new state, entry by entry. -/
theorem nextR_ix (dcs dss s) : nextR (fun _ => BitVec.ofNat 32 n.val) dcs dss s (ix4 b h d e)
    = s (ix4 b h d e) * dcs (ix4 n b h d) + dss (ix5 n b h d e) := by
  have hn := n.isLt
  unfold nextR
  rw [dynamicSlice_eq_extract S1x4x4x128 dcs _ _ ![n.val, 0, 0, 0] (fit_dec n) (start4 n),
    dynamicSlice_eq_extract S1x4x4x128x256 dss _ _ ![n.val, 0, 0, 0, 0] (fit_dS n) (start5 n)]
  pointwise

/-- One trip's outputs: its own written in, the others kept. -/
theorem ysR_ix (qes s ys) (n' : Fin 32) : ysR (fun _ => BitVec.ofNat 32 n.val) qes s ys (ix5 n' b i h e)
    = if n' = n then ∑ d : Fin 128, qes (ix5 n b i h d) * s (ix4 b h d e) else ys (ix5 n' b i h e) := by
  have hn := n.isLt
  unfold ysR
  rw [dynamicSlice_eq_extract S1x4x64x4x128 qes _ _ ![n.val, 0, 0, 0, 0] (fit_qe n) (start5 n),
    dynamicUpdateSlice_eq_update (u := S1x4x64x4x256) ys _ _ _ ![n.val, 0, 0, 0, 0] (fit_ys n) (start5 n)]
  pointwise
  by_cases h1 : n' = n
  · rw [if_pos h1, dif_pos (by rw [h1]; omega)]
    exact Finset.sum_congr rfl (fun x _ => mul_comm _ _)
  · rw [if_neg h1, dif_neg (fun h2 => h1 (Fin.ext (by omega)))]

/-- Both parts of the outputs added, by batch, step, head and lane. -/
def tR (o : FVec Ideal S4x32x64x4x256 .f32) (ys : FVec Ideal S32x4x64x4x256 .f32) : FVec Ideal S4x2048x4x256 .f32 :=
  shapeCast S4x2048x4x256 (addf o (transpose S4x32x64x4x256 [1, 0, 2, 3, 4] ys transposes_S32x4x64x4x256_S4x32x64x4x256_1_0_2_3_4)) shapeCasts_S4x32x64x4x256_S4x2048x4x256
/-- The mean over a head's lanes. -/
def mR (t : FVec Ideal S4x2048x4x256 .f32) : FVec Ideal S4x2048x4x1 .f32 :=
  Host.divf (broadcastInDim S4x2048x4x1 ![0, 1, 2] bcast_S4x2048x4_S4x2048x4x1_0_1_2 (Host.reduceAdd t (constant (F := Ideal) S_ .f32 0x00000000#32) reducesTo_S4x2048x4x256_S4x2048x4_d3 h_S_))
    (broadcastInDim S4x2048x4x1 ![] bcast_S_S4x2048x4x1 (constant S_ .f32 0x43800000#32))
/-- The outputs with the mean taken out. -/
def ocR (t : FVec Ideal S4x2048x4x256 .f32) : FVec Ideal S4x2048x4x256 .f32 :=
  subf t (broadcastInDim S4x2048x4x256 ![0, 1, 2, 3] bcast_S4x2048x4x1_S4x2048x4x256_0_1_2_3 (mR t))
/-- The outputs normalised, scaled and shifted. -/
def lnR (t : FVec Ideal S4x2048x4x256 .f32) (lw lb : FVec Ideal S1024 .f32) : FVec Ideal S4x2048x4x256 .f32 :=
  addf (mulf (mulf (ocR t) (broadcastInDim S4x2048x4x256 ![0, 1, 2, 3] bcast_S4x2048x4x1_S4x2048x4x256_0_1_2_3
      (Host.rsqrt (addf (mR (mulf (ocR t) (ocR t))) (broadcastInDim S4x2048x4x1 ![] bcast_S_S4x2048x4x1 (constant S_ .f32 0x3727C5AC#32))))))
    (broadcastInDim S4x2048x4x256 ![0, 1, 2, 3] bcast_S1x1x4x256_S4x2048x4x256_0_1_2_3 (broadcastInDim S1x1x4x256 ![2, 3] bcast_S4x256_S1x1x4x256_2_3 (shapeCast S4x256 lw shapeCasts_S1024_S4x256))))
    (broadcastInDim S4x2048x4x256 ![0, 1, 2, 3] bcast_S1x1x4x256_S4x2048x4x256_0_1_2_3 (broadcastInDim S1x1x4x256 ![2, 3] bcast_S4x256_S1x1x4x256_2_3 (shapeCast S4x256 lb shapeCasts_S1024_S4x256)))
/-- The output gate after its activation. -/
def siluR (r : FVec Ideal S4x2048x1024 .f32) : FVec Ideal S4x2048x1024 .f32 :=
  mulf r (Host.divf (broadcastInDim S4x2048x1024 ![] bcast_S_S4x2048x1024 (constant S_ .f32 0x3F800000#32)) (addf (broadcastInDim S4x2048x1024 ![] bcast_S_S4x2048x1024 (constant S_ .f32 0x3F800000#32)) (Host.exp (Host.negf r))))
/-- The first result, from its stages. -/
def outR (t : FVec Ideal S4x2048x4x256 .f32) (r : FVec Ideal S4x2048x1024 .f32) (lw lb : FVec Ideal S1024 .f32) : FVec Ideal S8320x1024 .f32 :=
  pad S8320x1024 ![0, 0] ![128, 0] ![0, 0] (shapeCast S8192x1024 (mulf (shapeCast S4x2048x1024 (lnR t lw lb) shapeCasts_S4x2048x4x256_S4x2048x1024) (siluR r)) shapeCasts_S4x2048x1024_S8192x1024)
    (sitofp .f32 (constantI S_ 32 0#32)) pads_S8192x1024_S8320x1024_01280_000 h_S_

/-- The outputs of all chunks, laid out by token. -/
theorem tR_ix (o : FVec Ideal S4x32x64x4x256 .f32) (ys : FVec Ideal S32x4x64x4x256 .f32) :
    tR o ys (ix4 b (⟨n.val * 64 + i.val, by omega⟩ : Fin 2048) h e) = o (ix5 b n i h e) + ys (ix5 n b i h e) := by
  unfold tR
  pointwise
/-- A head's mean. -/
theorem mR_ix (t : FVec Ideal S4x2048x4x256 .f32) (j : Fin 2048) (u : Fin 1) : mR t (ix4 b j h u) = Gla.mean (fun e => t (ix4 b j h e)) := by
  unfold mR Gla.mean
  pointwise
/-- A head's entry less its mean. -/
theorem ocR_ix (t : FVec Ideal S4x2048x4x256 .f32) (j : Fin 2048) : ocR t (ix4 b j h e) = t (ix4 b j h e) - Gla.mean (fun e => t (ix4 b j h e)) := by
  unfold ocR
  pointwise
  rw [mR_ix]
/-- A head's entry normed, scaled and shifted. -/
theorem lnR_ix (t : FVec Ideal S4x2048x4x256 .f32) (lw lb : FVec Ideal S1024 .f32) (j : Fin 2048) : lnR t lw lb (ix4 b j h e)
    = Gla.norm (fun e => t (ix4 b j h e)) e * lw (ix1 (Gla.vl h e)) + lb (ix1 (Gla.vl h e)) := by
  unfold lnR Gla.norm
  pointwise
  simp only [mR_ix, ocR_ix, mulf, Nat.mul_comm h.val 256]
  rfl
/-- A gate times its logistic function. -/
theorem siluR_ix (r : FVec Ideal S4x2048x1024 .f32) (j : Fin 2048) (l : Fin 1024) : siluR r (ix3 b j l)
    = r (ix3 b j l) * Ideal.div 1 (1 + Ideal.exp (-(r (ix3 b j l)))) := by
  unfold siluR
  pointwise
/-- The gated output, entry by entry. -/
theorem outR_ix (t : FVec Ideal S4x2048x4x256 .f32) (r : FVec Ideal S4x2048x1024 .f32) (lw lb : FVec Ideal S1024 .f32) :
    outR t r lw lb (ix2 (Gla.tok b n i) (Gla.vl h e))
    = lnR t lw lb (ix4 b (⟨n.val * 64 + i.val, by omega⟩ : Fin 2048) h e) * siluR r (ix3 b (⟨n.val * 64 + i.val, by omega⟩ : Fin 2048) (Gla.vl h e)) := by
  unfold outR
  pointwise
  have hb := b.isLt
  have hn := n.isLt
  have hi := i.isLt
  have hh := h.isLt
  have he := e.isLt
  have h1 : (b.val * 2048 + (n.val * 64 + i.val)) % 2048 = n.val * 64 + i.val := by omega
  rw [dif_pos (by omega)]
  simp only [h1]

end Cert.ReferenceIdeal.Pure

namespace Cert.ReferenceIdeal.Value

open Cert.ReferenceIdeal Cert.ReferenceIdeal.Pure Cert.ReferenceIdeal.Gen

variable (m : (ℓ : Loc nD τ sig) → Buf (Elt Ideal) ℓ) (c : Dev nD)

/-- The first argument's array. -/
abbrev A0 : FVec Ideal S8320x3072 .f32 := launchContents m c (Proc.devRef .tc main_arg0)
/-- Argument 1. -/
abbrev A1 : FVec Ideal S8320x128 .f32 := launchContents m c (Proc.devRef .tc main_arg1)
/-- Argument 2. -/
abbrev A2 : FVec Ideal S16x512 .f32 := launchContents m c (Proc.devRef .tc main_arg2)
/-- Argument 3. -/
abbrev A3 : FVec Ideal S512 .f32 := launchContents m c (Proc.devRef .tc main_arg3)
/-- Argument 4. -/
abbrev A4 : FVec Ideal S1024 .f32 := launchContents m c (Proc.devRef .tc main_arg4)
/-- Argument 5. -/
abbrev A5 : FVec Ideal S1024 .f32 := launchContents m c (Proc.devRef .tc main_arg5)
/-- The running sums of the gates. -/
abbrev bRm : FVec Ideal S4x32x64x4x128 .f32 := bR (laR (zR (A1 m c) (A2 m c) (A3 m c)))

/-- The loop is entered with the scaled queries, chunks first. -/
theorem e_v52_0 : entryContents preI m c (Proc.devRef .tc main_v52_0)
    = transpose S32x4x64x4x128 [1, 0, 2, 3, 4] (qeR (qR (A0 m c)) (bRm m c)) transposes_S4x32x64x4x128_S32x4x64x4x128_1_0_2_3_4 := by
  simp only [entryContents, afterL_cons, afterL_nil]
  after_reads_simp
  rfl
/-- The loop is entered with the chunks' key and value products, chunks first. -/
theorem e_v52_1 : entryContents preI m c (Proc.devRef .tc main_v52_1)
    = dSR (kdR (kR (A0 m c)) (bRm m c)) (vR (A0 m c)) := by
  simp only [entryContents, afterL_cons, afterL_nil]
  after_reads_simp
  rfl
/-- The loop is entered with the chunks' decays, chunks first. -/
theorem e_v52_2 : entryContents preI m c (Proc.devRef .tc main_v52_2)
    = transpose S32x4x4x128 [1, 0, 2, 3] (decR (bRm m c)) transposes_S4x32x4x128_S32x4x4x128_1_0_2_3 := by
  simp only [entryContents, afterL_cons, afterL_nil]
  after_reads_simp
  rfl
/-- The loop is entered with a zero state. -/
theorem e_v52_4 : entryContents preI m c (Proc.devRef .tc main_v52_4)
    = broadcastInDim S4x4x128x256 ![] bcast_S_S4x4x128x256 (constant (F := Ideal) S_ .f32 0x00000000#32) := by
  simp only [entryContents, afterL_cons, afterL_nil]
  after_reads_simp
  rfl
/-- The part of the outputs within the chunks is there when the loop is entered. -/
theorem e_v42 : entryContents preI m c (Proc.devRef .tc main_v42)
    = intraR (qeR (qR (A0 m c)) (bRm m c)) (keR (kR (A0 m c)) (bRm m c)) (vR (A0 m c)) := by
  simp only [entryContents, afterL_cons, afterL_nil]
  after_reads_simp
  rfl
/-- So are the output gates. -/
theorem e_v8 : entryContents preI m c (Proc.devRef .tc main_v8) = rR (A0 m c) := by
  simp only [entryContents, afterL_cons, afterL_nil]
  after_reads_simp
  rfl

end Cert.ReferenceIdeal.Value
-- ==== Proof.RefVal.lean ====
module

public import proofs.«01_k».proof.Proof.RefLoop
public import Idealize.ShloMosaic.Lib.WordCmp

@[expose] public section

set_option maxRecDepth 100000
noncomputable section

open Idealize.ShloMosaic.WordCmp Idealize.ShloMosaic Idealize.ShloMosaic.TcCoe Idealize.SL.Sem Idealize.ShloMosaic.StableHlo

namespace Cert.ReferenceIdeal.Value

open Cert.ReferenceIdeal Cert.ReferenceIdeal.Pure Cert.ReferenceIdeal.Gen

variable (m : (ℓ : Loc nD τ sig) → Buf (Elt Ideal) ℓ) (c : Dev nD)

/-- The arguments entry by entry. -/
abbrev P0 (r : Fin 8320) (l : Fin 3072) : EReal := A0 m c (ix2 r l)
/-- Argument 1, by row and column. -/
abbrev P1 (r : Fin 8320) (l : Fin 128) : EReal := A1 m c (ix2 r l)
/-- Argument 2, by row and column. -/
abbrev P2 (r : Fin 16) (l : Fin 512) : EReal := A2 m c (ix2 r l)
/-- Argument 3, by column. -/
abbrev P3 (l : Fin 512) : EReal := A3 m c (ix1 l)
/-- Argument 4, by column. -/
abbrev P4 (l : Fin 1024) : EReal := A4 m c (ix1 l)
/-- Argument 5, by column. -/
abbrev P5 (l : Fin 1024) : EReal := A5 m c (ix1 l)

section
variable (n : Fin 32) (b h : Fin 4) (i : Fin 64) (d : Fin 128) (e : Fin 256)

/-- The running sums are the specification's. -/
theorem bRm_spec : bRm m c (ix5 b n i h d) = Gla.cum (P1 m c) (P2 m c) (P3 m c) b n i (Gla.kl h d) :=
  bR_spec (A1 m c) (A2 m c) (A3 m c) b n i h d
/-- The scaled queries are the specification's. -/
theorem qe_spec : qeR (qR (A0 m c)) (bRm m c) (ix5 b n i h d) = Gla.qe (P0 m c) (P1 m c) (P2 m c) (P3 m c) b n i (Gla.kl h d) := by
  rw [qeR_ix, qR_ix, bRm_spec]
  rfl
/-- The shrunk keys are the specification's. -/
theorem ke_spec : keR (kR (A0 m c)) (bRm m c) (ix5 b n i h d) = Gla.ke (P0 m c) (P1 m c) (P2 m c) (P3 m c) b n i (Gla.kl h d) := by
  rw [keR_ix, kR_ix, bRm_spec]
  rfl
/-- The decayed keys are the specification's. -/
theorem kd_spec : kdR (kR (A0 m c)) (bRm m c) (ix5 b n i h d) = Gla.kd (P0 m c) (P1 m c) (P2 m c) (P3 m c) b n i (Gla.kl h d) := by
  rw [kdR_ix, kR_ix, bRm_spec, bRm_spec]
  rfl
/-- The decays are the specification's. -/
theorem dec_spec : decR (bRm m c) (ix4 b n h d) = Gla.dec (P1 m c) (P2 m c) (P3 m c) b n (Gla.kl h d) := by
  rw [decR_ix, bRm_spec]
  rfl
/-- The loop's queries are the specification's. -/
theorem qes_spec : (entryContents preI m c (Proc.devRef .tc main_v52_0) : FVec Ideal S32x4x64x4x128 .f32) (ix5 n b i h d)
    = Gla.qe (P0 m c) (P1 m c) (P2 m c) (P3 m c) b n i (Gla.kl h d) := by
  rw [e_v52_0, ← qe_spec]
  pointwise
/-- The loop's products are the specification's. -/
theorem dS_spec : (entryContents preI m c (Proc.devRef .tc main_v52_1) : FVec Ideal S32x4x4x128x256 .f32) (ix5 n b h d e)
    = ∑ j : Fin 64, Gla.kd (P0 m c) (P1 m c) (P2 m c) (P3 m c) b n j (Gla.kl h d) * Gla.val (P0 m c) b n j (Gla.vl h e) := by
  rw [e_v52_1, dSR_ix]
  simp only [kd_spec, vR_ix]
/-- The loop's decays are the specification's. -/
theorem decs_spec : (entryContents preI m c (Proc.devRef .tc main_v52_2) : FVec Ideal S32x4x4x128 .f32) (ix4 n b h d)
    = Gla.dec (P1 m c) (P2 m c) (P3 m c) b n (Gla.kl h d) := by
  rw [e_v52_2, ← dec_spec]
  pointwise
/-- The loop's first state is zero. -/
theorem S0_spec : (entryContents preI m c (Proc.devRef .tc main_v52_4) : FVec Ideal S4x4x128x256 .f32) (ix4 b h d e) = (0 : EReal) := by
  rw [e_v52_4]
  pointwise
/-- The part within the chunks is the specification's. -/
theorem intra_spec : (entryContents preI m c (Proc.devRef .tc main_v42) : FVec Ideal S4x32x64x4x256 .f32) (ix5 b n i h e)
    = Gla.intra (P0 m c) (P1 m c) (P2 m c) (P3 m c) b n i h e := by
  rw [e_v42, intraR_ix]
  simp only [qe_spec, ke_spec, vR_ix]
  rfl
end

/-- What one trip leaves in the state, from the contents before it. -/
theorem step4 (V : Valuation τ sig (Elt Ideal)) : step_main_v52_4 V
    = nextR (V (Proc.devRef .tc main_v52_3)) (V (Proc.devRef .tc main_v52_2)) (V (Proc.devRef .tc main_v52_1)) (V (Proc.devRef .tc main_v52_4)) := by
  unfold step_main_v52_4 nextR id
  rfl
/-- What a trip does to the outputs. -/
theorem step5 (V : Valuation τ sig (Elt Ideal)) : step_main_v52_5 V
    = ysR (V (Proc.devRef .tc main_v52_3)) (V (Proc.devRef .tc main_v52_0)) (V (Proc.devRef .tc main_v52_4)) (V (Proc.devRef .tc main_v52_5)) := by
  unfold step_main_v52_5 ysR id
  rfl

/-- After `k` trips the state is the state before chunk `k`, and the first `k` chunks' outputs from the state are written. -/
theorem loop_inv (k : ℕ) (hk : k ≤ 32) :
    (STEP^[k] (entryContents preI m c)) (Proc.devRef .tc main_v52_0) = entryContents preI m c (Proc.devRef .tc main_v52_0)
    ∧ (STEP^[k] (entryContents preI m c)) (Proc.devRef .tc main_v52_1) = entryContents preI m c (Proc.devRef .tc main_v52_1)
    ∧ (STEP^[k] (entryContents preI m c)) (Proc.devRef .tc main_v52_2) = entryContents preI m c (Proc.devRef .tc main_v52_2)
    ∧ (STEP^[k] (entryContents preI m c)) (Proc.devRef .tc main_v52_3) = (fun _ => BitVec.ofNat 32 k : IVec S_ 32)
    ∧ (∀ (b h : Fin 4) (d : Fin 128) (e : Fin 256), ((STEP^[k] (entryContents preI m c)) (Proc.devRef .tc main_v52_4) : FVec Ideal S4x4x128x256 .f32) (ix4 b h d e)
        = Gla.S (P0 m c) (P1 m c) (P2 m c) (P3 m c) b k h d e)
    ∧ (∀ (n : Fin 32) (b : Fin 4) (i : Fin 64) (h : Fin 4) (e : Fin 256), n.val < k →
        ((STEP^[k] (entryContents preI m c)) (Proc.devRef .tc main_v52_5) : FVec Ideal S32x4x64x4x256 .f32) (ix5 n b i h e)
        = Gla.inter (P0 m c) (P1 m c) (P2 m c) (P3 m c) b n i h e) := by
  induction k with
  | zero =>
    refine ⟨rfl, rfl, rfl, ctr_entry m c, fun b h d e => S0_spec m c b h d e, fun n b i h e hn => absurd hn (by omega)⟩
  | succ k ih =>
    obtain ⟨h0, h1, h2, h3, h4, h5⟩ := ih (by omega)
    rw [Function.iterate_succ_apply']
    generalize STEP^[k] (entryContents preI m c) = V at h0 h1 h2 h3 h4 h5 ⊢
    rw [STEP_main_v52_0, STEP_main_v52_1, STEP_main_v52_2, STEP_main_v52_3, STEP_main_v52_4, STEP_main_v52_5]
    refine ⟨h0, h1, h2, ?_, ?_, ?_⟩
    · show addi (V (Proc.devRef .tc main_v52_3)) (constantI S_ 32 1#32) = _
      rw [h3]
      funext x
      exact (BitVec.ofNat_add k 1).symm
    · intro b h d e
      rw [step4, h1, h2, h3, nextR_ix ⟨k, by omega⟩, h4, dS_spec, decs_spec, Gla.S_succ _ _ _ _ b ⟨k, by omega⟩]
      rfl
    · intro n b i h e hn
      rw [step5, h0, h3, ysR_ix ⟨k, by omega⟩]
      by_cases hnk : n = ⟨k, by omega⟩
      · rw [if_pos hnk, hnk]
        have e1 : ∀ (q : FVec Ideal S32x4x64x4x128 .f32) (s : FVec Ideal S4x4x128x256 .f32),
            (∀ d : Fin 128, q (ix5 ⟨k, by omega⟩ b i h d) = Gla.qe (P0 m c) (P1 m c) (P2 m c) (P3 m c) b ⟨k, by omega⟩ i (Gla.kl h d)) →
            (∀ d : Fin 128, s (ix4 b h d e) = Gla.S (P0 m c) (P1 m c) (P2 m c) (P3 m c) b k h d e) →
            (∑ d : Fin 128, q (ix5 ⟨k, by omega⟩ b i h d) * s (ix4 b h d e))
              = Gla.inter (P0 m c) (P1 m c) (P2 m c) (P3 m c) b ⟨k, by omega⟩ i h e :=
          fun q s hq hs => Finset.sum_congr rfl fun d _ => by rw [hq, hs]
        exact e1 _ _ (fun d => qes_spec m c ⟨k, by omega⟩ b h i d) (fun d => h4 b h d e)
      · rw [if_neg hnk]
        refine h5 n b i h e ?_
        have : n.val ≠ k := fun h => hnk (Fin.ext h)
        omega

/-- A buffer that no trip writes holds at every trip what it held before the loop. -/
theorem atK_keep (r : Ref sig .tc) (hc : r ∉ condOps_W) (w0 : r ∉ while0Ops0_W) (w1 : r ∉ while0Ops0_1_W) (w2 : r ∉ while0Ops0_2_W)
    (w3 : r ∉ while0Ops0_3_W) (w4 : r ∉ while0Ops0_4_W) (w5 : r ∉ while0Ops0_5_W) : ∀ k, atK m k c (Proc.devRef .tc r) = entryContents preI m c (Proc.devRef .tc r)
  | 0 => rfl
  | k + 1 => by
    rw [show atK m (k + 1) c = afterL bodyI (after condOps (atK m k c)) from rfl]
    simp only [bodyI, afterL_cons, afterL_nil]
    rw [after_of_writes_sub while0Ops0_5 _ while0Ops0_5_writes w5, after_of_writes_sub while0Ops0_4 _ while0Ops0_4_writes w4,
      after_of_writes_sub while0Ops0_3 _ while0Ops0_3_writes w3, after_of_writes_sub while0Ops0_2 _ while0Ops0_2_writes w2,
      after_of_writes_sub while0Ops0_1 _ while0Ops0_1_writes w1, after_of_writes_sub while0Ops0 _ while0Ops0_writes w0,
      after_of_writes_sub condOps _ condOps_writes hc, atK_keep r hc w0 w1 w2 w3 w4 w5 k]
    rfl

/-- The norm's weights are still the argument when the loop is entered. -/
theorem e_arg4 : entryContents preI m c (Proc.devRef .tc main_arg4) = A4 m c := by
  simp only [entryContents, afterL_cons, afterL_nil]
  after_reads_simp
/-- So is the norm's bias. -/
theorem e_arg5 : entryContents preI m c (Proc.devRef .tc main_arg5) = A5 m c := by
  simp only [entryContents, afterL_cons, afterL_nil]
  after_reads_simp

/-- The first result, from the contents at the loop's end. -/
theorem post84 (V : Valuation τ sig (Elt Ideal)) : afterL postI V (Proc.devRef .tc main_v84)
    = outR (tR (V (Proc.devRef .tc main_v42)) (V (Proc.devRef .tc main_v52_5))) (V (Proc.devRef .tc main_v8)) (V (Proc.devRef .tc main_arg4)) (V (Proc.devRef .tc main_arg5)) := by
  simp only [afterL_cons, afterL_nil]
  after_reads_simp
  rfl
/-- The second result, from the contents at the loop's end. -/
theorem post85 (V : Valuation τ sig (Elt Ideal)) : afterL postI V (Proc.devRef .tc main_v85)
    = broadcastInDim S1x4x4x128x256 ![1, 2, 3, 4] bcast_S4x4x128x256_S1x4x4x128x256_1_2_3_4 (V (Proc.devRef .tc main_v52_4) : FVec Ideal S4x4x128x256 .f32) := by
  simp only [afterL_cons, afterL_nil]
  after_reads_simp

/-- What the condition leaves where it writes nothing. -/
theorem cond_keep (r : Ref sig .tc) (hc : r ∉ condOps_W) (V : Valuation τ sig (Elt Ideal)) : after condOps V (Proc.devRef .tc r) = V (Proc.devRef .tc r) :=
  after_of_writes_sub condOps _ condOps_writes hc

/-- The first result, entry by entry on the prompt's rows. -/
theorem final84 (b : Fin 4) (n : Fin 32) (i : Fin 64) (h : Fin 4) (e : Fin 256) :
    (finalContents condOps preI bodyI postI 32 m c (Proc.devRef .tc main_v84) : FVec Ideal S8320x1024 .f32) (ix2 (Gla.tok b n i) (Gla.vl h e))
    = Gla.out (P0 m c) (P1 m c) (P2 m c) (P3 m c) (P4 m c) (P5 m c) b n i h e := by
  have h1 : finalContents condOps preI bodyI postI 32 m c (Proc.devRef .tc main_v84)
      = outR (tR (entryContents preI m c (Proc.devRef .tc main_v42)) (STEP^[32] (entryContents preI m c) (Proc.devRef .tc main_v52_5))) (rR (A0 m c)) (A4 m c) (A5 m c) := by
    refine (post84 (after condOps (atK m 32 c))).trans ?_
    rw [cond_keep main_v42 (by decide), cond_keep main_v52_5 (by decide), cond_keep main_v8 (by decide), cond_keep main_arg4 (by decide), cond_keep main_arg5 (by decide),
      atK_keep m c main_v42 (by decide) (by decide) (by decide) (by decide) (by decide) (by decide) (by decide),
      atK_keep m c main_v8 (by decide) (by decide) (by decide) (by decide) (by decide) (by decide) (by decide),
      atK_keep m c main_arg4 (by decide) (by decide) (by decide) (by decide) (by decide) (by decide) (by decide),
      atK_keep m c main_arg5 (by decide) (by decide) (by decide) (by decide) (by decide) (by decide) (by decide),
      e_v8, e_arg4, e_arg5, atK_agree m c 32 main_v52_5 (by decide)]
  rw [h1, outR_ix, lnR_ix, siluR_ix, rR_ix]
  have e1 : ∀ (o : FVec Ideal S4x32x64x4x256 .f32) (ys : FVec Ideal S32x4x64x4x256 .f32),
      (∀ k : Fin 256, o (ix5 b n i h k) = Gla.intra (P0 m c) (P1 m c) (P2 m c) (P3 m c) b n i h k) →
      (∀ k : Fin 256, ys (ix5 n b i h k) = Gla.inter (P0 m c) (P1 m c) (P2 m c) (P3 m c) b n i h k) →
      (fun k : Fin 256 => tR o ys (ix4 b (⟨n.val * 64 + i.val, by omega⟩ : Fin 2048) h k))
        = fun k => Gla.intra (P0 m c) (P1 m c) (P2 m c) (P3 m c) b n i h k + Gla.inter (P0 m c) (P1 m c) (P2 m c) (P3 m c) b n i h k :=
    fun o ys ho hy => funext fun k => by rw [tR_ix, ho, hy]
  rw [e1 _ _ (fun k => intra_spec m c n b h i k) (fun k => (loop_inv m c 32 (le_refl _)).2.2.2.2.2 n b i h k n.isLt)]
  rfl

/-- The second result, entry by entry. -/
theorem final85 (b h : Fin 4) (d : Fin 128) (e : Fin 256) (u : Fin 1) :
    (finalContents condOps preI bodyI postI 32 m c (Proc.devRef .tc main_v85) : FVec Ideal S1x4x4x128x256 .f32) (ix5 u b h d e)
    = Gla.S (P0 m c) (P1 m c) (P2 m c) (P3 m c) b 32 h d e := by
  have h1 : finalContents condOps preI bodyI postI 32 m c (Proc.devRef .tc main_v85)
      = broadcastInDim S1x4x4x128x256 ![1, 2, 3, 4] bcast_S4x4x128x256_S1x4x4x128x256_1_2_3_4 (STEP^[32] (entryContents preI m c) (Proc.devRef .tc main_v52_4) : FVec Ideal S4x4x128x256 .f32) := by
    refine (post85 (after condOps (atK m 32 c))).trans ?_
    rw [cond_keep main_v52_4 (by decide), atK_agree m c 32 main_v52_4 (by decide)]
  rw [h1, ← (loop_inv m c 32 (le_refl _)).2.2.2.2.1 b h d e]
  pointwise

end Cert.ReferenceIdeal.Value
-- ==== Proof.Body.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable (x0 : Vec Ideal S256x3072 .f32) (x1 : Vec Ideal S256x128 .f32) (x3 : Vec Ideal S128x512 .bf16)
  (x4 : Vec Ideal S1x512 .f32)

/-- The logarithm of the gate on a block of 256 rows, as the body computes it. -/
def LA : FVec Ideal S256x512 .f32 := k0_pay7 x1 x3 x4

/-- The 64 by 64 lower triangular matrix of ones that the body sums with. -/
def T0 : FVec Ideal S64x64 .f32 :=
  k0_pay10 (iota Kind.tc S64x64 32 [0] iota_S64x64_d0_w32) (iota Kind.tc S64x64 32 [1] iota_S64x64_d1_w32) (64#32) k0_pay8 k0_pay9 0#32

/-- The running sum of the gate's logarithm within each chunk of 64 rows. -/
def CUM : FVec Ideal S256x512 .f32 :=
  k0_pay20 T0 (k0_pay12 T0 (k0_pay11 (LA x1 x3 x4))) (k0_pay14 (LA x1 x3 x4) T0) (k0_pay16 (LA x1 x3 x4) T0) (k0_pay18 (LA x1 x3 x4))

/-- The running sum at the chunk's last row, at every row of the chunk. -/
def CEND : FVec Ideal S256x512 .f32 :=
  k0_pay21 T0 (k0_pay13 T0 (k0_pay11 (LA x1 x3 x4))) (k0_pay15 (LA x1 x3 x4) T0) (k0_pay17 (LA x1 x3 x4) T0) (k0_pay18 (LA x1 x3 x4))

/-- The scaled queries times the exponential of the running sum. -/
def QE : FVec Ideal S256x512 .f32 :=
  k0_pay22 (k0_pay3 x0) T0 (k0_pay12 T0 (k0_pay11 (LA x1 x3 x4))) (k0_pay14 (LA x1 x3 x4) T0) (k0_pay16 (LA x1 x3 x4) T0) (k0_pay18 (LA x1 x3 x4))

/-- The keys times the exponential of the running sum's negative. -/
def KE : FVec Ideal S256x512 .f32 :=
  k0_pay23 (k0_pay4 x0) T0 (k0_pay12 T0 (k0_pay11 (LA x1 x3 x4))) (k0_pay14 (LA x1 x3 x4) T0) (k0_pay16 (LA x1 x3 x4) T0) (k0_pay18 (LA x1 x3 x4))

/-- The keys decayed to the end of their chunk. -/
def KD : FVec Ideal S256x512 .f32 :=
  k0_pay24 (k0_pay4 x0) T0 (k0_pay12 T0 (k0_pay11 (LA x1 x3 x4))) (k0_pay13 T0 (k0_pay11 (LA x1 x3 x4))) (k0_pay14 (LA x1 x3 x4) T0) (k0_pay15 (LA x1 x3 x4) T0) (k0_pay16 (LA x1 x3 x4) T0) (k0_pay17 (LA x1 x3 x4) T0) (k0_pay18 (LA x1 x3 x4))

/-- The decay over a whole chunk. -/
def DEC : FVec Ideal S256x512 .f32 :=
  k0_pay25 T0 (k0_pay13 T0 (k0_pay11 (LA x1 x3 x4))) (k0_pay15 (LA x1 x3 x4) T0) (k0_pay17 (LA x1 x3 x4) T0) (k0_pay18 (LA x1 x3 x4))

/-- The scaled queries, by their short name. -/
theorem QE_fold : k0_pay22 (k0_pay3 x0) T0 (k0_pay12 T0 (k0_pay11 (k0_pay7 x1 x3 x4))) (k0_pay14 (k0_pay7 x1 x3 x4) T0) (k0_pay16 (k0_pay7 x1 x3 x4) T0) (k0_pay18 (k0_pay7 x1 x3 x4)) = QE x0 x1 x3 x4 := rfl
/-- The keys against the decay, by their short name. -/
theorem KE_fold : k0_pay23 (k0_pay4 x0) T0 (k0_pay12 T0 (k0_pay11 (k0_pay7 x1 x3 x4))) (k0_pay14 (k0_pay7 x1 x3 x4) T0) (k0_pay16 (k0_pay7 x1 x3 x4) T0) (k0_pay18 (k0_pay7 x1 x3 x4)) = KE x0 x1 x3 x4 := rfl
/-- The keys decayed to the chunk's end, by their short name. -/
theorem KD_fold : k0_pay24 (k0_pay4 x0) T0 (k0_pay12 T0 (k0_pay11 (k0_pay7 x1 x3 x4))) (k0_pay13 T0 (k0_pay11 (k0_pay7 x1 x3 x4))) (k0_pay14 (k0_pay7 x1 x3 x4) T0) (k0_pay15 (k0_pay7 x1 x3 x4) T0) (k0_pay16 (k0_pay7 x1 x3 x4) T0) (k0_pay17 (k0_pay7 x1 x3 x4) T0) (k0_pay18 (k0_pay7 x1 x3 x4)) = KD x0 x1 x3 x4 := rfl
/-- The chunk's decay, by its short name. -/
theorem DEC_fold : k0_pay25 T0 (k0_pay13 T0 (k0_pay11 (k0_pay7 x1 x3 x4))) (k0_pay15 (k0_pay7 x1 x3 x4) T0) (k0_pay17 (k0_pay7 x1 x3 x4) T0) (k0_pay18 (k0_pay7 x1 x3 x4)) = DEC x1 x3 x4 := rfl
/-- The matrix that sums, by its short name. -/
theorem T0_fold : k0_pay10 (iota Kind.tc S64x64 32 [0] iota_S64x64_d0_w32) (iota Kind.tc S64x64 32 [1] iota_S64x64_d1_w32) (64#32) k0_pay8 k0_pay9 0#32 = T0 := rfl

/-- Row `j` of chunk `ci` of a block of four chunks. -/
abbrev crow (ci : Fin 4) (j : Fin 64) : Fin 256 := ⟨64 * ci.val + j.val, by omega⟩
/-- Lane `d` of head `h` among the keys. -/
abbrev klane (h : Fin 4) (d : Fin 128) : Fin 512 := ⟨128 * h.val + d.val, by omega⟩
/-- Lane `e` of head `h` among the values. -/
abbrev vlane (h : Fin 4) (e : Fin 256) : Fin 1024 := ⟨256 * h.val + e.val, by omega⟩

/-- The number of the chunk that a block's row lies in. -/
abbrev rowChunk (r : Fin 256) : Fin 4 := ⟨r.val / 64, by omega⟩
/-- A block's row within its chunk. -/
abbrev rowIn (r : Fin 256) : Fin 64 := ⟨r.val % 64, by omega⟩
/-- The head that a lane of the values belongs to. -/
abbrev laneHead (l : Fin 1024) : Fin 4 := ⟨l.val / 256, by omega⟩
/-- A lane of the values within its head. -/
abbrev laneIn (l : Fin 1024) : Fin 256 := ⟨l.val % 256, by omega⟩

/-- The state after a chunk, from the state before it: decayed, and the chunk's outer products added. -/
def stepS (dec kd : FVec Ideal S256x512 .f32) (v : FVec Ideal S256x1024 .f32) (ci : Fin 4) (s : Vec Ideal S1x4x128x256 .f32) :
    Vec Ideal S1x4x128x256 .f32 := fun y =>
  s y * dec (ix2 (crow ci 0) (klane (y 1) (y 2)))
    + ∑ j : Fin 64, kd (ix2 (crow ci j) (klane (y 1) (y 2))) * v (ix2 (crow ci j) (vlane (y 1) (y 3)))

/-- One chunk's new state: the old state decayed, and the chunk's keys against its values. -/
theorem stepS_ix (dec kd : FVec Ideal S256x512 .f32) (v : FVec Ideal S256x1024 .f32) (ci : Fin 4) (s : Vec Ideal S1x4x128x256 .f32)
    (u : Fin 1) (h : Fin 4) (d : Fin 128) (e : Fin 256) : stepS dec kd v ci s (ix4 u h d e)
      = s (ix4 u h d e) * dec (ix2 (crow ci 0) (klane h d))
        + ∑ j : Fin 64, kd (ix2 (crow ci j) (klane h d)) * v (ix2 (crow ci j) (vlane h e)) := rfl

/-- The state after the block's first `n` chunks. -/
def st (dec kd : FVec Ideal S256x512 .f32) (v : FVec Ideal S256x1024 .f32) (s : Vec Ideal S1x4x128x256 .f32) : ℕ → Vec Ideal S1x4x128x256 .f32
  | 0 => s
  | 1 => stepS dec kd v 0 s
  | 2 => stepS dec kd v 1 (stepS dec kd v 0 s)
  | 3 => stepS dec kd v 2 (stepS dec kd v 1 (stepS dec kd v 0 s))
  | _ => stepS dec kd v 3 (stepS dec kd v 2 (stepS dec kd v 1 (stepS dec kd v 0 s)))

/-- A piece of the state that holds one head agrees with `G` there if it does at each of the head's places. -/
theorem piece_of (h : Fin 4) (inb) (P : Vec Ideal S1x1x128x256 .f32) (G : Vec Ideal S1x4x128x256 .f32)
    (hP : ∀ (d : Fin 128) (e : Fin 256), P (ix4 (0 : Fin 1) (0 : Fin 1) d e) = G (ix4 (0 : Fin 1) h d e)) (x : S1x1x128x256.Idx) :
    P x = G ((Rect.unit (s := S1x4x128x256) ![0, h.val, 0, 0] ![1, 1, 128, 256] inb).emb x) := by
  have h0 : (x 0).val < 1 := (x 0).isLt
  have h1 : (x 1).val < 1 := (x 1).isLt
  have e1 : x = ix4 (0 : Fin 1) (0 : Fin 1) (x 2 : Fin 128) (x 3 : Fin 256) := by
    funext a
    apply Fin.ext
    fin_cases a
    · show (x 0).val = 0; omega
    · show (x 1).val = 0; omega
    · rfl
    · rfl
  have e2 : (Rect.unit (s := S1x4x128x256) ![0, h.val, 0, 0] ![1, 1, 128, 256] inb).emb x
      = ix4 (0 : Fin 1) h (x 2 : Fin 128) (x 3 : Fin 256) := by
    funext a
    apply Fin.ext
    fin_cases a
    · show 0 + 1 * (x 0).val = 0; omega
    · show h.val + 1 * (x 1).val = h.val; omega
    · show 0 + 1 * (x 2).val = (x 2).val; omega
    · show 0 + 1 * (x 3).val = (x 3).val; omega
  exact (congrArg P e1).trans ((hP _ _).trans (congrArg G e2).symm)

/-- A piece of the block of outputs that holds one chunk's rows and one head's lanes agrees with `G` there if it does at each place. -/
theorem opiece_of (ci h : Fin 4) (inb) (P : Vec Ideal S64x256 .f32) (G : Vec Ideal S256x1024 .f32)
    (hP : ∀ (i : Fin 64) (e : Fin 256), P (ix2 i e) = G (ix2 (crow ci i) (vlane h e))) (x : S64x256.Idx) :
    P x = G ((Rect.unit (s := S256x1024) ![64 * ci.val, 256 * h.val] ![64, 256] inb).emb x) := by
  have e1 : x = ix2 (x 0 : Fin 64) (x 1 : Fin 256) := by
    funext a
    fin_cases a <;> rfl
  have e2 : (Rect.unit (s := S256x1024) ![64 * ci.val, 256 * h.val] ![64, 256] inb).emb x
      = ix2 (crow ci (x 0 : Fin 64)) (vlane h (x 1 : Fin 256)) := by
    funext a
    apply Fin.ext
    fin_cases a
    · show 64 * ci.val + 1 * (x 0).val = 64 * ci.val + (x 0).val; omega
    · show 256 * h.val + 1 * (x 1).val = 256 * h.val + (x 1).val; omega
  exact (congrArg P e1).trans ((hP _ _).trans (congrArg G e2).symm)

/-- Reading the whole of a buffer after a list of stores reads what the list leaves. -/
theorem readCov_whole (w : Memref sig .tc .vmem S256x1024 .f32) (inb) (L : List (View.Piece (Elt Ideal) S256x1024 .f32))
    (G : Vec Ideal S256x1024 .f32) (h : ∀ y, View.canon L y = G y) :
    w.view.readCov L (Rect.unit (s := S256x1024) ![0, 0] ![256, 1024] inb).toLoadRect = G := by
  rw [View.readCov_eq_canon']
  funext y
  refine (h _).trans (congrArg G ?_)
  funext a
  apply Fin.ext
  fin_cases a
  · show 0 + 1 * (y 0).val = (y 0).val; omega
  · show 0 + 1 * (y 1).val = (y 1).val; omega

/-- The comparison of two small numbers as the body makes it, and the choice made by it. -/
theorem select_ge (i j : Fin 64) (a b : EReal) :
    Scalar.select (IntOp.cmpi CmpIPredicate.sge (BitVec.ofNat 32 i.val) (BitVec.ofNat 32 j.val)) a b = if j ≤ i then a else b := by
  have h : IntOp.cmpi CmpIPredicate.sge (BitVec.ofNat 32 i.val) (BitVec.ofNat 32 j.val) = if j ≤ i then 1#1 else 0#1 := by
    revert i j
    decide
  rw [h]
  by_cases hij : j ≤ i <;> simp [hij, Scalar.select]

/-- A chunk's outputs of one head before they are normalised: the chunk's own part, and the part read from the state. -/
def rawO (qe ke : FVec Ideal S256x512 .f32) (v : FVec Ideal S256x1024 .f32) (s : Vec Ideal S1x4x128x256 .f32) (ci h : Fin 4) :
    FVec Ideal S64x256 .f32 := fun y =>
  (∑ j : Fin 64, if j ≤ (y 0 : Fin 64) then
      (∑ d : Fin 128, qe (ix2 (crow ci (y 0)) (klane h d)) * ke (ix2 (crow ci j) (klane h d))) * v (ix2 (crow ci j) (vlane h (y 1)))
    else 0)
  + ∑ d : Fin 128, qe (ix2 (crow ci (y 0)) (klane h d)) * s (ix4 (0 : Fin 1) h d (y 1 : Fin 256))

/-- One chunk's output before the norm: the queries against the state, and the part within the chunk. -/
theorem rawO_ix (qe ke : FVec Ideal S256x512 .f32) (v : FVec Ideal S256x1024 .f32) (s : Vec Ideal S1x4x128x256 .f32) (ci h : Fin 4)
    (i : Fin 64) (e : Fin 256) : rawO qe ke v s ci h (ix2 i e)
    = (∑ j : Fin 64, if j ≤ i then
        (∑ d : Fin 128, qe (ix2 (crow ci i) (klane h d)) * ke (ix2 (crow ci j) (klane h d))) * v (ix2 (crow ci j) (vlane h e))
      else 0)
    + ∑ d : Fin 128, qe (ix2 (crow ci i) (klane h d)) * s (ix4 (0 : Fin 1) h d e) := rfl

/-- A row's mean over its 256 lanes. -/
def mean256 (f : Fin 256 → EReal) : EReal := Ideal.div (∑ e, f e) (Ideal.ofBits FTy.f32 1132462080#32)

/-- A row with its mean taken out, divided by the root of its variance plus the constant. -/
def lnRow (f : Fin 256 → EReal) (e : Fin 256) : EReal :=
  (f e - mean256 f) * Ideal.rsqrt (mean256 (fun k => (f k - mean256 f) * (f k - mean256 f)) + Ideal.ofBits FTy.f32 925353388#32)

/-- The block of outputs: each row normalised head by head, scaled and shifted, times the gate. -/
def outAt (o : FVec Ideal S64x256 .f32) (sr : FVec Ideal S256x1024 .f32) (w b : Vec Ideal S1x1024 .f32) (ci h : Fin 4) (i : Fin 64) (e : Fin 256) : EReal :=
  (lnRow (fun k => o (ix2 i k)) e * w (ix2 (0 : Fin 1) (vlane h e)) + b (ix2 (0 : Fin 1) (vlane h e))) * sr (ix2 (crow ci i) (vlane h e))

variable (qe ke kd dec : FVec Ideal S256x512 .f32) (v sr : FVec Ideal S256x1024 .f32) (x5 x6 : Vec Ideal S1x1024 .f32) (xs0 : Vec Ideal S1x4x128x256 .f32)

/-- Chunk 0, head 0: the outputs before the normalisation. -/
theorem raw_0_0 : k0_pay82 qe (k0_pay50 v (select k0_pay27 (matmul dot_S64x128_S64x128_S64x64_1_1_0_0_n_n none (truncf FTy.bf16 (extractStridedSlice S64x128 ![0, 0] qe slices_S256x512_o0_0_S64x128) bitsLt_bf16_f32) (truncf FTy.bf16 (extractStridedSlice S64x128 ![0, 0] ke slices_S256x512_o0_0_S64x128) bitsLt_bf16_f32) (constant S64x64 FTy.f32 0#32)) (broadcast S64x64 (FloatOps.ofBits FTy.f32 0#32)))) (View.ld xs0 (Rect.unit ![0, 0, 0, 0] ![1, 1, 128, 256] inb_S1x4x128x256_S1x1x128x256_0_0_0_0))
    = rawO qe ke v (st dec kd v xs0 0) 0 0 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 0, head 0: the outputs that are stored. -/
theorem out_0_0 (i : Fin 64) (e : Fin 256) : (k0_pay92 sr (k0_pay82 qe (k0_pay50 v (select k0_pay27 (matmul dot_S64x128_S64x128_S64x64_1_1_0_0_n_n none (truncf FTy.bf16 (extractStridedSlice S64x128 ![0, 0] qe slices_S256x512_o0_0_S64x128) bitsLt_bf16_f32) (truncf FTy.bf16 (extractStridedSlice S64x128 ![0, 0] ke slices_S256x512_o0_0_S64x128) bitsLt_bf16_f32) (constant S64x64 FTy.f32 0#32)) (broadcast S64x64 (FloatOps.ofBits FTy.f32 0#32)))) (View.ld xs0 (Rect.unit ![0, 0, 0, 0] ![1, 1, 128, 256] inb_S1x4x128x256_S1x1x128x256_0_0_0_0))) (View.ld x5 (Rect.unit ![0, 0] ![1, 256] inb_S1x1024_S1x256_0_0)) (View.ld x6 (Rect.unit ![0, 0] ![1, 256] inb_S1x1024_S1x256_0_0)) : FVec Ideal S64x256 .f32) (ix2 i e)
    = outAt (rawO qe ke v (st dec kd v xs0 0) 0 0) sr x5 x6 0 0 i e := by
  simp only [raw_0_0 qe ke kd dec v xs0]
  generalize rawO qe ke v (st dec kd v xs0 0) 0 0 = o
  unfold_payloads
  pointwise
  simp only [outAt, lnRow, mean256, crow, klane, vlane, Fin.val_zero, Nat.mul_zero, Nat.zero_add]
  try rfl

/-- Chunk 0, head 1: the outputs before the normalisation. -/
theorem raw_0_1 : k0_pay83 qe (k0_pay51 v (k0_pay31 k0_pay27 (truncf FTy.bf16 (extractStridedSlice S64x128 ![0, 128] qe slices_S256x512_o0_128_S64x128) bitsLt_bf16_f32) (truncf FTy.bf16 (extractStridedSlice S64x128 ![0, 128] ke slices_S256x512_o0_128_S64x128) bitsLt_bf16_f32) (constant S64x64 FTy.f32 0#32))) (View.ld xs0 (Rect.unit ![0, 1, 0, 0] ![1, 1, 128, 256] inb_S1x4x128x256_S1x1x128x256_0_1_0_0))
    = rawO qe ke v (st dec kd v xs0 0) 0 1 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 0, head 1: the outputs that are stored. -/
theorem out_0_1 (i : Fin 64) (e : Fin 256) : (k0_pay93 sr (k0_pay83 qe (k0_pay51 v (k0_pay31 k0_pay27 (truncf FTy.bf16 (extractStridedSlice S64x128 ![0, 128] qe slices_S256x512_o0_128_S64x128) bitsLt_bf16_f32) (truncf FTy.bf16 (extractStridedSlice S64x128 ![0, 128] ke slices_S256x512_o0_128_S64x128) bitsLt_bf16_f32) (constant S64x64 FTy.f32 0#32))) (View.ld xs0 (Rect.unit ![0, 1, 0, 0] ![1, 1, 128, 256] inb_S1x4x128x256_S1x1x128x256_0_1_0_0))) (View.ld x5 (Rect.unit ![0, 256] ![1, 256] inb_S1x1024_S1x256_0_256)) (View.ld x6 (Rect.unit ![0, 256] ![1, 256] inb_S1x1024_S1x256_0_256)) : FVec Ideal S64x256 .f32) (ix2 i e)
    = outAt (rawO qe ke v (st dec kd v xs0 0) 0 1) sr x5 x6 0 1 i e := by
  simp only [raw_0_1 qe ke kd dec v xs0]
  generalize rawO qe ke v (st dec kd v xs0 0) 0 1 = o
  unfold_payloads
  pointwise
  simp only [outAt, lnRow, mean256, crow, klane, vlane, Fin.val_zero, Nat.mul_zero, Nat.zero_add]
  try rfl

/-- Chunk 0, head 2: the outputs before the normalisation. -/
theorem raw_0_2 : k0_pay84 qe (k0_pay52 v (k0_pay32 qe ke k0_pay27)) (View.ld xs0 (Rect.unit ![0, 2, 0, 0] ![1, 1, 128, 256] inb_S1x4x128x256_S1x1x128x256_0_2_0_0))
    = rawO qe ke v (st dec kd v xs0 0) 0 2 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 0, head 2: the outputs that are stored. -/
theorem out_0_2 (i : Fin 64) (e : Fin 256) : (k0_pay98 sr (k0_pay94 (View.ld x5 (Rect.unit ![0, 512] ![1, 256] inb_S1x1024_S1x256_0_512))) (k0_pay95 (View.ld x6 (Rect.unit ![0, 512] ![1, 256] inb_S1x1024_S1x256_0_512))) (k0_pay96 (k0_pay84 qe (k0_pay52 v (k0_pay32 qe ke k0_pay27)) (View.ld xs0 (Rect.unit ![0, 2, 0, 0] ![1, 1, 128, 256] inb_S1x4x128x256_S1x1x128x256_0_2_0_0)))) (k0_pay97 (k0_pay84 qe (k0_pay52 v (k0_pay32 qe ke k0_pay27)) (View.ld xs0 (Rect.unit ![0, 2, 0, 0] ![1, 1, 128, 256] inb_S1x4x128x256_S1x1x128x256_0_2_0_0)))) : FVec Ideal S64x256 .f32) (ix2 i e)
    = outAt (rawO qe ke v (st dec kd v xs0 0) 0 2) sr x5 x6 0 2 i e := by
  simp only [raw_0_2 qe ke kd dec v xs0]
  generalize rawO qe ke v (st dec kd v xs0 0) 0 2 = o
  unfold_payloads
  pointwise
  simp only [outAt, lnRow, mean256, crow, klane, vlane, Fin.val_zero, Nat.mul_zero, Nat.zero_add]
  try rfl

/-- Chunk 0, head 3: the outputs before the normalisation. -/
theorem raw_0_3 : k0_pay85 qe (k0_pay53 v (k0_pay33 qe ke k0_pay27)) (View.ld xs0 (Rect.unit ![0, 3, 0, 0] ![1, 1, 128, 256] inb_S1x4x128x256_S1x1x128x256_0_3_0_0))
    = rawO qe ke v (st dec kd v xs0 0) 0 3 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 0, head 3: the outputs that are stored. -/
theorem out_0_3 (i : Fin 64) (e : Fin 256) : (k0_pay100 (k0_pay99 sr (k0_pay85 qe (k0_pay53 v (k0_pay33 qe ke k0_pay27)) (View.ld xs0 (Rect.unit ![0, 3, 0, 0] ![1, 1, 128, 256] inb_S1x4x128x256_S1x1x128x256_0_3_0_0))) (View.ld x5 (Rect.unit ![0, 768] ![1, 256] inb_S1x1024_S1x256_0_768)) (View.ld x6 (Rect.unit ![0, 768] ![1, 256] inb_S1x1024_S1x256_0_768))) : FVec Ideal S64x256 .f32) (ix2 i e)
    = outAt (rawO qe ke v (st dec kd v xs0 0) 0 3) sr x5 x6 0 3 i e := by
  simp only [raw_0_3 qe ke kd dec v xs0]
  generalize rawO qe ke v (st dec kd v xs0 0) 0 3 = o
  unfold_payloads
  pointwise
  simp only [outAt, lnRow, mean256, crow, klane, vlane, Fin.val_zero, Nat.mul_zero, Nat.zero_add]
  try rfl

/-- Chunk 1, head 0: the outputs before the normalisation. -/
theorem raw_1_0 : k0_pay101 qe (k0_pay54 v (k0_pay34 qe ke k0_pay27)) (k0_pay87 (k0_pay66 v kd) (k0_pay86 dec) (View.ld xs0 (Rect.unit ![0, 0, 0, 0] ![1, 1, 128, 256] inb_S1x4x128x256_S1x1x128x256_0_0_0_0)))
    = rawO qe ke v (st dec kd v xs0 1) 1 0 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 1, head 0: the outputs that are stored. -/
theorem out_1_0 (i : Fin 64) (e : Fin 256) : (k0_pay112 sr (k0_pay101 qe (k0_pay54 v (k0_pay34 qe ke k0_pay27)) (k0_pay87 (k0_pay66 v kd) (k0_pay86 dec) (View.ld xs0 (Rect.unit ![0, 0, 0, 0] ![1, 1, 128, 256] inb_S1x4x128x256_S1x1x128x256_0_0_0_0)))) (View.ld x5 (Rect.unit ![0, 0] ![1, 256] inb_S1x1024_S1x256_0_0)) (View.ld x6 (Rect.unit ![0, 0] ![1, 256] inb_S1x1024_S1x256_0_0)) : FVec Ideal S64x256 .f32) (ix2 i e)
    = outAt (rawO qe ke v (st dec kd v xs0 1) 1 0) sr x5 x6 1 0 i e := by
  simp only [raw_1_0 qe ke kd dec v xs0]
  generalize rawO qe ke v (st dec kd v xs0 1) 1 0 = o
  unfold_payloads
  pointwise
  simp only [outAt, lnRow, mean256, crow, klane, vlane, Fin.val_zero, Nat.mul_zero, Nat.zero_add]
  try rfl

/-- Chunk 1, head 1: the outputs before the normalisation. -/
theorem raw_1_1 : k0_pay102 qe (k0_pay55 v (k0_pay35 qe ke k0_pay27)) (k0_pay88 dec (k0_pay67 v kd) (View.ld xs0 (Rect.unit ![0, 1, 0, 0] ![1, 1, 128, 256] inb_S1x4x128x256_S1x1x128x256_0_1_0_0)))
    = rawO qe ke v (st dec kd v xs0 1) 1 1 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 1, head 1: the outputs that are stored. -/
theorem out_1_1 (i : Fin 64) (e : Fin 256) : (k0_pay114 sr (k0_pay102 qe (k0_pay55 v (k0_pay35 qe ke k0_pay27)) (k0_pay88 dec (k0_pay67 v kd) (View.ld xs0 (Rect.unit ![0, 1, 0, 0] ![1, 1, 128, 256] inb_S1x4x128x256_S1x1x128x256_0_1_0_0)))) (k0_pay113 (View.ld x5 (Rect.unit ![0, 256] ![1, 256] inb_S1x1024_S1x256_0_256))) (View.ld x6 (Rect.unit ![0, 256] ![1, 256] inb_S1x1024_S1x256_0_256)) : FVec Ideal S64x256 .f32) (ix2 i e)
    = outAt (rawO qe ke v (st dec kd v xs0 1) 1 1) sr x5 x6 1 1 i e := by
  simp only [raw_1_1 qe ke kd dec v xs0]
  generalize rawO qe ke v (st dec kd v xs0 1) 1 1 = o
  unfold_payloads
  pointwise
  simp only [outAt, lnRow, mean256, crow, klane, vlane, Fin.val_zero, Nat.mul_zero, Nat.zero_add]
  try rfl

/-- Chunk 1, head 2: the outputs before the normalisation. -/
theorem raw_1_2 : k0_pay103 qe (k0_pay56 v (k0_pay36 qe ke k0_pay27)) (k0_pay89 dec (k0_pay68 v kd) (View.ld xs0 (Rect.unit ![0, 2, 0, 0] ![1, 1, 128, 256] inb_S1x4x128x256_S1x1x128x256_0_2_0_0)))
    = rawO qe ke v (st dec kd v xs0 1) 1 2 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 1, head 2: the outputs that are stored. -/
theorem out_1_2 (i : Fin 64) (e : Fin 256) : (k0_pay119 sr (k0_pay115 (View.ld x5 (Rect.unit ![0, 512] ![1, 256] inb_S1x1024_S1x256_0_512))) (k0_pay116 (View.ld x6 (Rect.unit ![0, 512] ![1, 256] inb_S1x1024_S1x256_0_512))) (k0_pay117 (k0_pay103 qe (k0_pay56 v (k0_pay36 qe ke k0_pay27)) (k0_pay89 dec (k0_pay68 v kd) (View.ld xs0 (Rect.unit ![0, 2, 0, 0] ![1, 1, 128, 256] inb_S1x4x128x256_S1x1x128x256_0_2_0_0))))) (k0_pay118 (k0_pay103 qe (k0_pay56 v (k0_pay36 qe ke k0_pay27)) (k0_pay89 dec (k0_pay68 v kd) (View.ld xs0 (Rect.unit ![0, 2, 0, 0] ![1, 1, 128, 256] inb_S1x4x128x256_S1x1x128x256_0_2_0_0))))) (FloatOps.ofBits FTy.f32 925353388#32) : FVec Ideal S64x256 .f32) (ix2 i e)
    = outAt (rawO qe ke v (st dec kd v xs0 1) 1 2) sr x5 x6 1 2 i e := by
  simp only [raw_1_2 qe ke kd dec v xs0]
  generalize rawO qe ke v (st dec kd v xs0 1) 1 2 = o
  unfold_payloads
  pointwise
  simp only [outAt, lnRow, mean256, crow, klane, vlane, Fin.val_zero, Nat.mul_zero, Nat.zero_add]
  try rfl

/-- Chunk 1, head 3: the outputs before the normalisation. -/
theorem raw_1_3 : k0_pay104 qe (k0_pay57 v (k0_pay37 qe ke k0_pay27)) (k0_pay91 (k0_pay69 v kd) (k0_pay90 dec) (View.ld xs0 (Rect.unit ![0, 3, 0, 0] ![1, 1, 128, 256] inb_S1x4x128x256_S1x1x128x256_0_3_0_0)))
    = rawO qe ke v (st dec kd v xs0 1) 1 3 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 1, head 3: the outputs that are stored. -/
theorem out_1_3 (i : Fin 64) (e : Fin 256) : (k0_pay120 sr (k0_pay104 qe (k0_pay57 v (k0_pay37 qe ke k0_pay27)) (k0_pay91 (k0_pay69 v kd) (k0_pay90 dec) (View.ld xs0 (Rect.unit ![0, 3, 0, 0] ![1, 1, 128, 256] inb_S1x4x128x256_S1x1x128x256_0_3_0_0)))) (View.ld x5 (Rect.unit ![0, 768] ![1, 256] inb_S1x1024_S1x256_0_768)) (View.ld x6 (Rect.unit ![0, 768] ![1, 256] inb_S1x1024_S1x256_0_768)) : FVec Ideal S64x256 .f32) (ix2 i e)
    = outAt (rawO qe ke v (st dec kd v xs0 1) 1 3) sr x5 x6 1 3 i e := by
  simp only [raw_1_3 qe ke kd dec v xs0]
  generalize rawO qe ke v (st dec kd v xs0 1) 1 3 = o
  unfold_payloads
  pointwise
  simp only [outAt, lnRow, mean256, crow, klane, vlane, Fin.val_zero, Nat.mul_zero, Nat.zero_add]
  try rfl

/-- Chunk 2, head 0: the outputs before the normalisation. -/
theorem raw_2_0 : k0_pay122 (k0_pay58 v (k0_pay40 k0_pay27 (k0_pay38 qe) (k0_pay39 ke))) (k0_pay121 qe) (k0_pay107 (k0_pay70 v kd) (k0_pay105 dec) (k0_pay106 (k0_pay87 (k0_pay66 v kd) (k0_pay86 dec) (View.ld xs0 (Rect.unit ![0, 0, 0, 0] ![1, 1, 128, 256] inb_S1x4x128x256_S1x1x128x256_0_0_0_0)))))
    = rawO qe ke v (st dec kd v xs0 2) 2 0 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 2, head 0: the outputs that are stored. -/
theorem out_2_0 (i : Fin 64) (e : Fin 256) : (k0_pay133 sr (k0_pay122 (k0_pay58 v (k0_pay40 k0_pay27 (k0_pay38 qe) (k0_pay39 ke))) (k0_pay121 qe) (k0_pay107 (k0_pay70 v kd) (k0_pay105 dec) (k0_pay106 (k0_pay87 (k0_pay66 v kd) (k0_pay86 dec) (View.ld xs0 (Rect.unit ![0, 0, 0, 0] ![1, 1, 128, 256] inb_S1x4x128x256_S1x1x128x256_0_0_0_0)))))) (View.ld x5 (Rect.unit ![0, 0] ![1, 256] inb_S1x1024_S1x256_0_0)) (View.ld x6 (Rect.unit ![0, 0] ![1, 256] inb_S1x1024_S1x256_0_0)) : FVec Ideal S64x256 .f32) (ix2 i e)
    = outAt (rawO qe ke v (st dec kd v xs0 2) 2 0) sr x5 x6 2 0 i e := by
  simp only [raw_2_0 qe ke kd dec v xs0]
  generalize rawO qe ke v (st dec kd v xs0 2) 2 0 = o
  unfold_payloads
  pointwise
  simp only [outAt, lnRow, mean256, crow, klane, vlane, Fin.val_zero, Nat.mul_zero, Nat.zero_add]
  try rfl

/-- Chunk 2, head 1: the outputs before the normalisation. -/
theorem raw_2_1 : k0_pay123 qe (k0_pay59 v (k0_pay41 qe ke k0_pay27)) (k0_pay108 dec (k0_pay71 v kd) (k0_pay88 dec (k0_pay67 v kd) (View.ld xs0 (Rect.unit ![0, 1, 0, 0] ![1, 1, 128, 256] inb_S1x4x128x256_S1x1x128x256_0_1_0_0))))
    = rawO qe ke v (st dec kd v xs0 2) 2 1 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 2, head 1: the outputs that are stored. -/
theorem out_2_1 (i : Fin 64) (e : Fin 256) : (k0_pay136 sr (k0_pay123 qe (k0_pay59 v (k0_pay41 qe ke k0_pay27)) (k0_pay108 dec (k0_pay71 v kd) (k0_pay88 dec (k0_pay67 v kd) (View.ld xs0 (Rect.unit ![0, 1, 0, 0] ![1, 1, 128, 256] inb_S1x4x128x256_S1x1x128x256_0_1_0_0))))) (k0_pay134 (View.ld x5 (Rect.unit ![0, 256] ![1, 256] inb_S1x1024_S1x256_0_256))) (k0_pay135 (View.ld x6 (Rect.unit ![0, 256] ![1, 256] inb_S1x1024_S1x256_0_256))) : FVec Ideal S64x256 .f32) (ix2 i e)
    = outAt (rawO qe ke v (st dec kd v xs0 2) 2 1) sr x5 x6 2 1 i e := by
  simp only [raw_2_1 qe ke kd dec v xs0]
  generalize rawO qe ke v (st dec kd v xs0 2) 2 1 = o
  unfold_payloads
  pointwise
  simp only [outAt, lnRow, mean256, crow, klane, vlane, Fin.val_zero, Nat.mul_zero, Nat.zero_add]
  try rfl

/-- Chunk 2, head 2: the outputs before the normalisation. -/
theorem raw_2_2 : k0_pay124 qe (k0_pay60 v (k0_pay42 qe ke k0_pay27)) (k0_pay109 dec (k0_pay72 v kd) (k0_pay89 dec (k0_pay68 v kd) (View.ld xs0 (Rect.unit ![0, 2, 0, 0] ![1, 1, 128, 256] inb_S1x4x128x256_S1x1x128x256_0_2_0_0))))
    = rawO qe ke v (st dec kd v xs0 2) 2 2 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 2, head 2: the outputs that are stored. -/
theorem out_2_2 (i : Fin 64) (e : Fin 256) : (k0_pay141 sr (k0_pay137 (View.ld x5 (Rect.unit ![0, 512] ![1, 256] inb_S1x1024_S1x256_0_512))) (k0_pay138 (View.ld x6 (Rect.unit ![0, 512] ![1, 256] inb_S1x1024_S1x256_0_512))) (k0_pay139 (k0_pay124 qe (k0_pay60 v (k0_pay42 qe ke k0_pay27)) (k0_pay109 dec (k0_pay72 v kd) (k0_pay89 dec (k0_pay68 v kd) (View.ld xs0 (Rect.unit ![0, 2, 0, 0] ![1, 1, 128, 256] inb_S1x4x128x256_S1x1x128x256_0_2_0_0)))))) (k0_pay140 (k0_pay124 qe (k0_pay60 v (k0_pay42 qe ke k0_pay27)) (k0_pay109 dec (k0_pay72 v kd) (k0_pay89 dec (k0_pay68 v kd) (View.ld xs0 (Rect.unit ![0, 2, 0, 0] ![1, 1, 128, 256] inb_S1x4x128x256_S1x1x128x256_0_2_0_0)))))) : FVec Ideal S64x256 .f32) (ix2 i e)
    = outAt (rawO qe ke v (st dec kd v xs0 2) 2 2) sr x5 x6 2 2 i e := by
  simp only [raw_2_2 qe ke kd dec v xs0]
  generalize rawO qe ke v (st dec kd v xs0 2) 2 2 = o
  unfold_payloads
  pointwise
  simp only [outAt, lnRow, mean256, crow, klane, vlane, Fin.val_zero, Nat.mul_zero, Nat.zero_add]
  try rfl

/-- Chunk 2, head 3: the outputs before the normalisation. -/
theorem raw_2_3 : k0_pay125 qe (k0_pay61 v (k0_pay43 qe ke k0_pay27)) (k0_pay111 (k0_pay73 v kd) (k0_pay110 dec) (k0_pay91 (k0_pay69 v kd) (k0_pay90 dec) (View.ld xs0 (Rect.unit ![0, 3, 0, 0] ![1, 1, 128, 256] inb_S1x4x128x256_S1x1x128x256_0_3_0_0))))
    = rawO qe ke v (st dec kd v xs0 2) 2 3 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 2, head 3: the outputs that are stored. -/
theorem out_2_3 (i : Fin 64) (e : Fin 256) : (k0_pay142 sr (k0_pay125 qe (k0_pay61 v (k0_pay43 qe ke k0_pay27)) (k0_pay111 (k0_pay73 v kd) (k0_pay110 dec) (k0_pay91 (k0_pay69 v kd) (k0_pay90 dec) (View.ld xs0 (Rect.unit ![0, 3, 0, 0] ![1, 1, 128, 256] inb_S1x4x128x256_S1x1x128x256_0_3_0_0))))) (View.ld x5 (Rect.unit ![0, 768] ![1, 256] inb_S1x1024_S1x256_0_768)) (View.ld x6 (Rect.unit ![0, 768] ![1, 256] inb_S1x1024_S1x256_0_768)) : FVec Ideal S64x256 .f32) (ix2 i e)
    = outAt (rawO qe ke v (st dec kd v xs0 2) 2 3) sr x5 x6 2 3 i e := by
  simp only [raw_2_3 qe ke kd dec v xs0]
  generalize rawO qe ke v (st dec kd v xs0 2) 2 3 = o
  unfold_payloads
  pointwise
  simp only [outAt, lnRow, mean256, crow, klane, vlane, Fin.val_zero, Nat.mul_zero, Nat.zero_add]
  try rfl

/-- Chunk 3, head 0: the outputs before the normalisation. -/
theorem raw_3_0 : k0_pay144 (k0_pay62 v (k0_pay44 qe ke k0_pay27)) (k0_pay143 qe) (k0_pay127 (k0_pay126 dec (k0_pay74 v kd) (k0_pay107 (k0_pay70 v kd) (k0_pay105 dec) (k0_pay106 (k0_pay87 (k0_pay66 v kd) (k0_pay86 dec) (View.ld xs0 (Rect.unit ![0, 0, 0, 0] ![1, 1, 128, 256] inb_S1x4x128x256_S1x1x128x256_0_0_0_0)))))))
    = rawO qe ke v (st dec kd v xs0 3) 3 0 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 3, head 0: the outputs that are stored. -/
theorem out_3_0 (i : Fin 64) (e : Fin 256) : (k0_pay154 sr (k0_pay144 (k0_pay62 v (k0_pay44 qe ke k0_pay27)) (k0_pay143 qe) (k0_pay127 (k0_pay126 dec (k0_pay74 v kd) (k0_pay107 (k0_pay70 v kd) (k0_pay105 dec) (k0_pay106 (k0_pay87 (k0_pay66 v kd) (k0_pay86 dec) (View.ld xs0 (Rect.unit ![0, 0, 0, 0] ![1, 1, 128, 256] inb_S1x4x128x256_S1x1x128x256_0_0_0_0)))))))) (View.ld x5 (Rect.unit ![0, 0] ![1, 256] inb_S1x1024_S1x256_0_0)) (View.ld x6 (Rect.unit ![0, 0] ![1, 256] inb_S1x1024_S1x256_0_0)) : FVec Ideal S64x256 .f32) (ix2 i e)
    = outAt (rawO qe ke v (st dec kd v xs0 3) 3 0) sr x5 x6 3 0 i e := by
  simp only [raw_3_0 qe ke kd dec v xs0]
  generalize rawO qe ke v (st dec kd v xs0 3) 3 0 = o
  unfold_payloads
  pointwise
  simp only [outAt, lnRow, mean256, crow, klane, vlane, Fin.val_zero, Nat.mul_zero, Nat.zero_add]
  try rfl

/-- Chunk 3, head 1: the outputs before the normalisation. -/
theorem raw_3_1 : k0_pay145 qe (k0_pay63 v (k0_pay45 qe ke k0_pay27)) (k0_pay128 dec (k0_pay75 v kd) (k0_pay108 dec (k0_pay71 v kd) (k0_pay88 dec (k0_pay67 v kd) (View.ld xs0 (Rect.unit ![0, 1, 0, 0] ![1, 1, 128, 256] inb_S1x4x128x256_S1x1x128x256_0_1_0_0)))))
    = rawO qe ke v (st dec kd v xs0 3) 3 1 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 3, head 1: the outputs that are stored. -/
theorem out_3_1 (i : Fin 64) (e : Fin 256) : (k0_pay159 sr (k0_pay145 qe (k0_pay63 v (k0_pay45 qe ke k0_pay27)) (k0_pay128 dec (k0_pay75 v kd) (k0_pay108 dec (k0_pay71 v kd) (k0_pay88 dec (k0_pay67 v kd) (View.ld xs0 (Rect.unit ![0, 1, 0, 0] ![1, 1, 128, 256] inb_S1x4x128x256_S1x1x128x256_0_1_0_0)))))) (k0_pay155 (View.ld x5 (Rect.unit ![0, 256] ![1, 256] inb_S1x1024_S1x256_0_256))) (k0_pay156 (View.ld x6 (Rect.unit ![0, 256] ![1, 256] inb_S1x1024_S1x256_0_256))) (k0_pay157 (k0_pay145 qe (k0_pay63 v (k0_pay45 qe ke k0_pay27)) (k0_pay128 dec (k0_pay75 v kd) (k0_pay108 dec (k0_pay71 v kd) (k0_pay88 dec (k0_pay67 v kd) (View.ld xs0 (Rect.unit ![0, 1, 0, 0] ![1, 1, 128, 256] inb_S1x4x128x256_S1x1x128x256_0_1_0_0))))))) k0_pay158 : FVec Ideal S64x256 .f32) (ix2 i e)
    = outAt (rawO qe ke v (st dec kd v xs0 3) 3 1) sr x5 x6 3 1 i e := by
  simp only [raw_3_1 qe ke kd dec v xs0]
  generalize rawO qe ke v (st dec kd v xs0 3) 3 1 = o
  unfold_payloads
  pointwise
  simp only [outAt, lnRow, mean256, crow, klane, vlane, Fin.val_zero, Nat.mul_zero, Nat.zero_add]
  try rfl

/-- Chunk 3, head 2: the outputs before the normalisation. -/
theorem raw_3_2 : k0_pay146 qe (k0_pay64 v (k0_pay48 k0_pay27 (k0_pay46 qe ke) k0_pay47)) (k0_pay129 dec (k0_pay76 v kd) (k0_pay109 dec (k0_pay72 v kd) (k0_pay89 dec (k0_pay68 v kd) (View.ld xs0 (Rect.unit ![0, 2, 0, 0] ![1, 1, 128, 256] inb_S1x4x128x256_S1x1x128x256_0_2_0_0)))))
    = rawO qe ke v (st dec kd v xs0 3) 3 2 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 3, head 2: the outputs that are stored. -/
theorem out_3_2 (i : Fin 64) (e : Fin 256) : (k0_pay162 sr (k0_pay160 (k0_pay146 qe (k0_pay64 v (k0_pay48 k0_pay27 (k0_pay46 qe ke) k0_pay47)) (k0_pay129 dec (k0_pay76 v kd) (k0_pay109 dec (k0_pay72 v kd) (k0_pay89 dec (k0_pay68 v kd) (View.ld xs0 (Rect.unit ![0, 2, 0, 0] ![1, 1, 128, 256] inb_S1x4x128x256_S1x1x128x256_0_2_0_0)))))) (View.ld x5 (Rect.unit ![0, 512] ![1, 256] inb_S1x1024_S1x256_0_512))) (k0_pay161 (View.ld x6 (Rect.unit ![0, 512] ![1, 256] inb_S1x1024_S1x256_0_512))) : FVec Ideal S64x256 .f32) (ix2 i e)
    = outAt (rawO qe ke v (st dec kd v xs0 3) 3 2) sr x5 x6 3 2 i e := by
  simp only [raw_3_2 qe ke kd dec v xs0]
  generalize rawO qe ke v (st dec kd v xs0 3) 3 2 = o
  unfold_payloads
  pointwise
  simp only [outAt, lnRow, mean256, crow, klane, vlane, Fin.val_zero, Nat.mul_zero, Nat.zero_add]
  try rfl

/-- Chunk 3, head 3: the outputs before the normalisation. -/
theorem raw_3_3 : k0_pay147 qe (k0_pay65 v (k0_pay49 qe ke k0_pay27)) (k0_pay132 (k0_pay77 v kd) (k0_pay130 (k0_pay111 (k0_pay73 v kd) (k0_pay110 dec) (k0_pay91 (k0_pay69 v kd) (k0_pay90 dec) (View.ld xs0 (Rect.unit ![0, 3, 0, 0] ![1, 1, 128, 256] inb_S1x4x128x256_S1x1x128x256_0_3_0_0))))) (k0_pay131 dec))
    = rawO qe ke v (st dec kd v xs0 3) 3 3 := by
  funext y
  obtain ⟨i, e, rfl⟩ : ∃ (i : Fin 64) (e : Fin 256), y = ix2 i e := ⟨y 0, y 1, by funext a; fin_cases a <;> rfl⟩
  unfold_payloads
  pointwise
  rw [rawO_ix]
  simp only [select_ge, dite_eq_ite, ite_self, st, stepS_ix, crow, klane, vlane, Fin.val_zero, Nat.mul_zero, Nat.zero_add]
  try rfl

/-- Chunk 3, head 3: the outputs that are stored. -/
theorem out_3_3 (i : Fin 64) (e : Fin 256) : (k0_pay163 sr (k0_pay147 qe (k0_pay65 v (k0_pay49 qe ke k0_pay27)) (k0_pay132 (k0_pay77 v kd) (k0_pay130 (k0_pay111 (k0_pay73 v kd) (k0_pay110 dec) (k0_pay91 (k0_pay69 v kd) (k0_pay90 dec) (View.ld xs0 (Rect.unit ![0, 3, 0, 0] ![1, 1, 128, 256] inb_S1x4x128x256_S1x1x128x256_0_3_0_0))))) (k0_pay131 dec))) (View.ld x5 (Rect.unit ![0, 768] ![1, 256] inb_S1x1024_S1x256_0_768)) (View.ld x6 (Rect.unit ![0, 768] ![1, 256] inb_S1x1024_S1x256_0_768)) : FVec Ideal S64x256 .f32) (ix2 i e)
    = outAt (rawO qe ke v (st dec kd v xs0 3) 3 3) sr x5 x6 3 3 i e := by
  simp only [raw_3_3 qe ke kd dec v xs0]
  generalize rawO qe ke v (st dec kd v xs0 3) 3 3 = o
  unfold_payloads
  pointwise
  simp only [outAt, lnRow, mean256, crow, klane, vlane, Fin.val_zero, Nat.mul_zero, Nat.zero_add]
  try rfl

/-- The block of outputs as one function of the row and the lane. -/
def outB (qe ke kd dec : FVec Ideal S256x512 .f32) (v sr : FVec Ideal S256x1024 .f32) (x5 x6 : Vec Ideal S1x1024 .f32) (xs0 : Vec Ideal S1x4x128x256 .f32) :
    Vec Ideal S256x1024 .f32 := fun y =>
  outAt (rawO qe ke v (st dec kd v xs0 (rowChunk (y 0)).val) (rowChunk (y 0)) (laneHead (y 1))) sr x5 x6 (rowChunk (y 0)) (laneHead (y 1))
    (rowIn (y 0)) (laneIn (y 1))

/-- The body's output block, chunk by chunk and head by head. -/
theorem outB_ix (ci h : Fin 4) (i : Fin 64) (e : Fin 256) : outB qe ke kd dec v sr x5 x6 xs0 (ix2 (crow ci i) (vlane h e))
    = outAt (rawO qe ke v (st dec kd v xs0 ci.val) ci h) sr x5 x6 ci h i e := by
  have e1 : rowChunk (crow ci i) = ci := Fin.ext (by show (64 * ci.val + i.val) / 64 = ci.val; omega)
  have e2 : rowIn (crow ci i) = i := Fin.ext (by show (64 * ci.val + i.val) % 64 = i.val; omega)
  have e3 : laneHead (vlane h e) = h := Fin.ext (by show (256 * h.val + e.val) / 256 = h.val; omega)
  have e4 : laneIn (vlane h e) = e := Fin.ext (by show (256 * h.val + e.val) % 256 = e.val; omega)
  show outAt (rawO qe ke v (st dec kd v xs0 (rowChunk (crow ci i)).val) (rowChunk (crow ci i)) (laneHead (vlane h e))) sr x5 x6 (rowChunk (crow ci i)) (laneHead (vlane h e))
    (rowIn (crow ci i)) (laneIn (vlane h e)) = _
  rw [e1, e2, e3, e4]

variable (c : Dev nD) (i : grid0.Coords) (a2 : Memref sig .tc .vmem S256x3072 .f32) (h2 : a2.IsWhole) (a3 : Memref sig .tc .vmem S256x128 .f32) (h3 : a3.IsWhole) (a4 : Memref sig .tc .vmem S1x1x4x128x256 .f32) (h4 : a4.IsWhole) (a5 : Memref sig .tc .vmem S128x512 .bf16) (h5 : a5.IsWhole) (a6 : Memref sig .tc .vmem S1x512 .f32) (h6 : a6.IsWhole) (a7 : Memref sig .tc .vmem S1x1024 .f32) (h7 : a7.IsWhole) (a8 : Memref sig .tc .vmem S1x1024 .f32) (h8 : a8.IsWhole) (a9 : Memref sig .tc .vmem S256x1024 .f32) (h9 : a9.IsWhole) (a10 : Memref sig .tc .vmem S1x1x4x128x256 .f32) (h10 : a10.IsWhole) (a11 : Memref sig .tc .vmem S1x4x128x256 .f32) (h11 : a11.IsWhole) (a12 : Memref sig .tc .vmem S256x1024 .f32) (h12 : a12.IsWhole)
  (x2 : Vec Ideal S1x1x4x128x256 .f32)

/-- The block of outputs a batch's first point writes. -/
theorem oA (hc0 : cond0_0 i) (hc1 : ¬cond0_1 i) :
    out0_A_7 (F := Ideal) c i a2 h2 a3 h3 a4 h4 a5 h5 a6 h6 a7 h7 a8 h8 a9 h9 a10 h10 a11 h11 a12 h12 hc0 hc1 x0 x1 x2 x3 x4 x5 x6
      = outB (QE x0 x1 x3 x4) (KE x0 x1 x3 x4) (KD x0 x1 x3 x4) (DEC x1 x3 x4) (k0_pay5 x0) (k0_pay26 (k0_pay6 x0)) x5 x6 (k0_pay2 x2) := by
  unfold out0_A_7
  rw [View.read_writes_eq_canon _ _ _ (cover0_A_7 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp (disch := decide) only [View.ld_unit_lit, View.canon_cons_unit_lit]
  rw [T0_fold]
  simp only [k0_pay28, k0_pay29, k0_pay30]
  simp only [KD_fold, DEC_fold, QE_fold, KE_fold]
  generalize DEC x1 x3 x4 = dec
  generalize KD x0 x1 x3 x4 = kd
  generalize QE x0 x1 x3 x4 = qe
  generalize KE x0 x1 x3 x4 = ke
  generalize k0_pay5 x0 = v
  generalize k0_pay26 (k0_pay6 x0) = sr
  generalize k0_pay2 x2 = xs0
  refine readCov_whole _ _ _ _ fun y => ?_
  refine View.canon_append_of_piecesOf (outB qe ke kd dec v sr x5 x6 xs0) [] [_, _, _, _, _, _, _, _, _, _, _, _, _, _, _, _]
    ⟨?_, ?_, ?_, ?_, ?_, ?_, ?_, ?_, ?_, ?_, ?_, ?_, ?_, ?_, ?_, ?_, trivial⟩ y ?_
  · exact opiece_of 3 3 inb_S256x1024_S64x256_192_768 _ _ fun r e => (out_3_3 qe ke kd dec v sr x5 x6 xs0 r e).trans (outB_ix qe ke kd dec v sr x5 x6 xs0 3 3 r e).symm
  · exact opiece_of 3 2 inb_S256x1024_S64x256_192_512 _ _ fun r e => (out_3_2 qe ke kd dec v sr x5 x6 xs0 r e).trans (outB_ix qe ke kd dec v sr x5 x6 xs0 3 2 r e).symm
  · exact opiece_of 3 1 inb_S256x1024_S64x256_192_256 _ _ fun r e => (out_3_1 qe ke kd dec v sr x5 x6 xs0 r e).trans (outB_ix qe ke kd dec v sr x5 x6 xs0 3 1 r e).symm
  · exact opiece_of 3 0 inb_S256x1024_S64x256_192_0 _ _ fun r e => (out_3_0 qe ke kd dec v sr x5 x6 xs0 r e).trans (outB_ix qe ke kd dec v sr x5 x6 xs0 3 0 r e).symm
  · exact opiece_of 2 3 inb_S256x1024_S64x256_128_768 _ _ fun r e => (out_2_3 qe ke kd dec v sr x5 x6 xs0 r e).trans (outB_ix qe ke kd dec v sr x5 x6 xs0 2 3 r e).symm
  · exact opiece_of 2 2 inb_S256x1024_S64x256_128_512 _ _ fun r e => (out_2_2 qe ke kd dec v sr x5 x6 xs0 r e).trans (outB_ix qe ke kd dec v sr x5 x6 xs0 2 2 r e).symm
  · exact opiece_of 2 1 inb_S256x1024_S64x256_128_256 _ _ fun r e => (out_2_1 qe ke kd dec v sr x5 x6 xs0 r e).trans (outB_ix qe ke kd dec v sr x5 x6 xs0 2 1 r e).symm
  · exact opiece_of 2 0 inb_S256x1024_S64x256_128_0 _ _ fun r e => (out_2_0 qe ke kd dec v sr x5 x6 xs0 r e).trans (outB_ix qe ke kd dec v sr x5 x6 xs0 2 0 r e).symm
  · exact opiece_of 1 3 inb_S256x1024_S64x256_64_768 _ _ fun r e => (out_1_3 qe ke kd dec v sr x5 x6 xs0 r e).trans (outB_ix qe ke kd dec v sr x5 x6 xs0 1 3 r e).symm
  · exact opiece_of 1 2 inb_S256x1024_S64x256_64_512 _ _ fun r e => (out_1_2 qe ke kd dec v sr x5 x6 xs0 r e).trans (outB_ix qe ke kd dec v sr x5 x6 xs0 1 2 r e).symm
  · exact opiece_of 1 1 inb_S256x1024_S64x256_64_256 _ _ fun r e => (out_1_1 qe ke kd dec v sr x5 x6 xs0 r e).trans (outB_ix qe ke kd dec v sr x5 x6 xs0 1 1 r e).symm
  · exact opiece_of 1 0 inb_S256x1024_S64x256_64_0 _ _ fun r e => (out_1_0 qe ke kd dec v sr x5 x6 xs0 r e).trans (outB_ix qe ke kd dec v sr x5 x6 xs0 1 0 r e).symm
  · exact opiece_of 0 3 inb_S256x1024_S64x256_0_768 _ _ fun r e => (out_0_3 qe ke kd dec v sr x5 x6 xs0 r e).trans (outB_ix qe ke kd dec v sr x5 x6 xs0 0 3 r e).symm
  · exact opiece_of 0 2 inb_S256x1024_S64x256_0_512 _ _ fun r e => (out_0_2 qe ke kd dec v sr x5 x6 xs0 r e).trans (outB_ix qe ke kd dec v sr x5 x6 xs0 0 2 r e).symm
  · exact opiece_of 0 1 inb_S256x1024_S64x256_0_256 _ _ fun r e => (out_0_1 qe ke kd dec v sr x5 x6 xs0 r e).trans (outB_ix qe ke kd dec v sr x5 x6 xs0 0 1 r e).symm
  · exact opiece_of 0 0 inb_S256x1024_S64x256_0_0 _ _ fun r e => (out_0_0 qe ke kd dec v sr x5 x6 xs0 r e).trans (outB_ix qe ke kd dec v sr x5 x6 xs0 0 0 r e).symm
  · refine View.cover_of_tiledL (s := S256x1024) _ ![64, 256] ?_ y
    sl_kernel_rfl

/-- The state a batch's first point leaves. -/
theorem sA (hc0 : cond0_0 i) (hc1 : ¬cond0_1 i) :
    sout0_A_0 (F := Ideal) c i a2 h2 a3 h3 a4 h4 a5 h5 a6 h6 a7 h7 a8 h8 a9 h9 a10 h10 a11 h11 a12 h12 hc0 hc1 x0 x1 x2 x3 x4 x5 x6
      = st (DEC x1 x3 x4) (KD x0 x1 x3 x4) (k0_pay5 x0) (k0_pay2 x2) 4 := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6)]
  unfold kernelRun0_A
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp (disch := decide) only [View.ld_unit_lit, View.canon_cons_unit_lit]
  rw [T0_fold]
  simp only [KD_fold, DEC_fold]
  generalize DEC x1 x3 x4 = dec
  generalize KD x0 x1 x3 x4 = kd
  generalize k0_pay5 x0 = v
  generalize k0_pay2 x2 = xs0
  funext y
  refine View.canon_append_of_piecesOf (st dec kd v xs0 4) [_, _, _, _, _, _, _, _, _, _, _, _, _] [_, _, _, _] ⟨?_, ?_, ?_, ?_, trivial⟩ y ?_
  · refine piece_of 3 inb_S1x4x128x256_S1x1x128x256_0_3_0_0 _ _ fun d e => ?_
    unfold_payloads
    pointwise
    simp only [dite_eq_ite, ite_self, st, stepS_ix, crow, klane, vlane, Fin.val_zero, Nat.mul_zero, Nat.zero_add]
    try rfl
  · refine piece_of 2 inb_S1x4x128x256_S1x1x128x256_0_2_0_0 _ _ fun d e => ?_
    unfold_payloads
    pointwise
    simp only [dite_eq_ite, ite_self, st, stepS_ix, crow, klane, vlane, Fin.val_zero, Nat.mul_zero, Nat.zero_add]
    try rfl
  · refine piece_of 1 inb_S1x4x128x256_S1x1x128x256_0_1_0_0 _ _ fun d e => ?_
    unfold_payloads
    pointwise
    simp only [dite_eq_ite, ite_self, st, stepS_ix, crow, klane, vlane, Fin.val_zero, Nat.mul_zero, Nat.zero_add]
    try rfl
  · refine piece_of 0 inb_S1x4x128x256_S1x1x128x256_0_0_0_0 _ _ fun d e => ?_
    unfold_payloads
    pointwise
    simp only [dite_eq_ite, ite_self, st, stepS_ix, crow, klane, vlane, Fin.val_zero, Nat.mul_zero, Nat.zero_add]
    try rfl
  · refine View.cover_of_tiledL (s := S1x4x128x256) _ ![1, 1, 128, 256] ?_ y
    sl_kernel_rfl

/-- The block of outputs a batch's middle point writes. -/
theorem oB (hc0 : ¬cond0_0 i) (hc1 : ¬cond0_1 i) :
    out0_B_7 (F := Ideal) c i a2 h2 a3 h3 a4 h4 a5 h5 a6 h6 a7 h7 a8 h8 a9 h9 a10 h10 a11 h11 a12 h12 hc0 hc1 x0 x1 x2 x3 x4 x5 x6 xs0
      = outB (QE x0 x1 x3 x4) (KE x0 x1 x3 x4) (KD x0 x1 x3 x4) (DEC x1 x3 x4) (k0_pay5 x0) (k0_pay26 (k0_pay6 x0)) x5 x6 xs0 := by
  unfold out0_B_7
  rw [View.read_writes_eq_canon _ _ _ (cover0_B_7 c i a2 h2 a3 h3 a4 h4 a5 h5 a6 h6 a7 h7 a8 h8 a9 h9 a10 h10 a11 h11 a12 h12 hc0 hc1 x0 x1 x2 x3 x4 x5 x6 xs0)]
  unfold kernelRun0_B
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp (disch := decide) only [View.ld_unit_lit, View.canon_cons_unit_lit]
  rw [T0_fold]
  simp only [k0_pay28, k0_pay29, k0_pay30]
  simp only [KD_fold, DEC_fold, QE_fold, KE_fold]
  generalize DEC x1 x3 x4 = dec
  generalize KD x0 x1 x3 x4 = kd
  generalize QE x0 x1 x3 x4 = qe
  generalize KE x0 x1 x3 x4 = ke
  generalize k0_pay5 x0 = v
  generalize k0_pay26 (k0_pay6 x0) = sr
  refine readCov_whole _ _ _ _ fun y => ?_
  refine View.canon_append_of_piecesOf (outB qe ke kd dec v sr x5 x6 xs0) [] [_, _, _, _, _, _, _, _, _, _, _, _, _, _, _, _]
    ⟨?_, ?_, ?_, ?_, ?_, ?_, ?_, ?_, ?_, ?_, ?_, ?_, ?_, ?_, ?_, ?_, trivial⟩ y ?_
  · exact opiece_of 3 3 inb_S256x1024_S64x256_192_768 _ _ fun r e => (out_3_3 qe ke kd dec v sr x5 x6 xs0 r e).trans (outB_ix qe ke kd dec v sr x5 x6 xs0 3 3 r e).symm
  · exact opiece_of 3 2 inb_S256x1024_S64x256_192_512 _ _ fun r e => (out_3_2 qe ke kd dec v sr x5 x6 xs0 r e).trans (outB_ix qe ke kd dec v sr x5 x6 xs0 3 2 r e).symm
  · exact opiece_of 3 1 inb_S256x1024_S64x256_192_256 _ _ fun r e => (out_3_1 qe ke kd dec v sr x5 x6 xs0 r e).trans (outB_ix qe ke kd dec v sr x5 x6 xs0 3 1 r e).symm
  · exact opiece_of 3 0 inb_S256x1024_S64x256_192_0 _ _ fun r e => (out_3_0 qe ke kd dec v sr x5 x6 xs0 r e).trans (outB_ix qe ke kd dec v sr x5 x6 xs0 3 0 r e).symm
  · exact opiece_of 2 3 inb_S256x1024_S64x256_128_768 _ _ fun r e => (out_2_3 qe ke kd dec v sr x5 x6 xs0 r e).trans (outB_ix qe ke kd dec v sr x5 x6 xs0 2 3 r e).symm
  · exact opiece_of 2 2 inb_S256x1024_S64x256_128_512 _ _ fun r e => (out_2_2 qe ke kd dec v sr x5 x6 xs0 r e).trans (outB_ix qe ke kd dec v sr x5 x6 xs0 2 2 r e).symm
  · exact opiece_of 2 1 inb_S256x1024_S64x256_128_256 _ _ fun r e => (out_2_1 qe ke kd dec v sr x5 x6 xs0 r e).trans (outB_ix qe ke kd dec v sr x5 x6 xs0 2 1 r e).symm
  · exact opiece_of 2 0 inb_S256x1024_S64x256_128_0 _ _ fun r e => (out_2_0 qe ke kd dec v sr x5 x6 xs0 r e).trans (outB_ix qe ke kd dec v sr x5 x6 xs0 2 0 r e).symm
  · exact opiece_of 1 3 inb_S256x1024_S64x256_64_768 _ _ fun r e => (out_1_3 qe ke kd dec v sr x5 x6 xs0 r e).trans (outB_ix qe ke kd dec v sr x5 x6 xs0 1 3 r e).symm
  · exact opiece_of 1 2 inb_S256x1024_S64x256_64_512 _ _ fun r e => (out_1_2 qe ke kd dec v sr x5 x6 xs0 r e).trans (outB_ix qe ke kd dec v sr x5 x6 xs0 1 2 r e).symm
  · exact opiece_of 1 1 inb_S256x1024_S64x256_64_256 _ _ fun r e => (out_1_1 qe ke kd dec v sr x5 x6 xs0 r e).trans (outB_ix qe ke kd dec v sr x5 x6 xs0 1 1 r e).symm
  · exact opiece_of 1 0 inb_S256x1024_S64x256_64_0 _ _ fun r e => (out_1_0 qe ke kd dec v sr x5 x6 xs0 r e).trans (outB_ix qe ke kd dec v sr x5 x6 xs0 1 0 r e).symm
  · exact opiece_of 0 3 inb_S256x1024_S64x256_0_768 _ _ fun r e => (out_0_3 qe ke kd dec v sr x5 x6 xs0 r e).trans (outB_ix qe ke kd dec v sr x5 x6 xs0 0 3 r e).symm
  · exact opiece_of 0 2 inb_S256x1024_S64x256_0_512 _ _ fun r e => (out_0_2 qe ke kd dec v sr x5 x6 xs0 r e).trans (outB_ix qe ke kd dec v sr x5 x6 xs0 0 2 r e).symm
  · exact opiece_of 0 1 inb_S256x1024_S64x256_0_256 _ _ fun r e => (out_0_1 qe ke kd dec v sr x5 x6 xs0 r e).trans (outB_ix qe ke kd dec v sr x5 x6 xs0 0 1 r e).symm
  · exact opiece_of 0 0 inb_S256x1024_S64x256_0_0 _ _ fun r e => (out_0_0 qe ke kd dec v sr x5 x6 xs0 r e).trans (outB_ix qe ke kd dec v sr x5 x6 xs0 0 0 r e).symm
  · refine View.cover_of_tiledL (s := S256x1024) _ ![64, 256] ?_ y
    sl_kernel_rfl

/-- The state a batch's middle point leaves. -/
theorem sB (hc0 : ¬cond0_0 i) (hc1 : ¬cond0_1 i) :
    sout0_B_0 (F := Ideal) c i a2 h2 a3 h3 a4 h4 a5 h5 a6 h6 a7 h7 a8 h8 a9 h9 a10 h10 a11 h11 a12 h12 hc0 hc1 x0 x1 x2 x3 x4 x5 x6 xs0
      = st (DEC x1 x3 x4) (KD x0 x1 x3 x4) (k0_pay5 x0) xs0 4 := by
  unfold sout0_B_0
  rw [View.read_writes_eq_canon _ _ _ (scover0_B_0 c i a2 h2 a3 h3 a4 h4 a5 h5 a6 h6 a7 h7 a8 h8 a9 h9 a10 h10 a11 h11 a12 h12 hc0 hc1 x0 x1 x2 x3 x4 x5 x6 xs0)]
  unfold kernelRun0_B
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp (disch := decide) only [View.ld_unit_lit, View.canon_cons_unit_lit]
  rw [T0_fold]
  simp only [KD_fold, DEC_fold]
  generalize DEC x1 x3 x4 = dec
  generalize KD x0 x1 x3 x4 = kd
  generalize k0_pay5 x0 = v
  funext y
  refine View.canon_append_of_piecesOf (st dec kd v xs0 4) [_, _, _, _, _, _, _, _, _, _, _, _] [_, _, _, _] ⟨?_, ?_, ?_, ?_, trivial⟩ y ?_
  · refine piece_of 3 inb_S1x4x128x256_S1x1x128x256_0_3_0_0 _ _ fun d e => ?_
    unfold_payloads
    pointwise
    simp only [dite_eq_ite, ite_self, st, stepS_ix, crow, klane, vlane, Fin.val_zero, Nat.mul_zero, Nat.zero_add]
    try rfl
  · refine piece_of 2 inb_S1x4x128x256_S1x1x128x256_0_2_0_0 _ _ fun d e => ?_
    unfold_payloads
    pointwise
    simp only [dite_eq_ite, ite_self, st, stepS_ix, crow, klane, vlane, Fin.val_zero, Nat.mul_zero, Nat.zero_add]
    try rfl
  · refine piece_of 1 inb_S1x4x128x256_S1x1x128x256_0_1_0_0 _ _ fun d e => ?_
    unfold_payloads
    pointwise
    simp only [dite_eq_ite, ite_self, st, stepS_ix, crow, klane, vlane, Fin.val_zero, Nat.mul_zero, Nat.zero_add]
    try rfl
  · refine piece_of 0 inb_S1x4x128x256_S1x1x128x256_0_0_0_0 _ _ fun d e => ?_
    unfold_payloads
    pointwise
    simp only [dite_eq_ite, ite_self, st, stepS_ix, crow, klane, vlane, Fin.val_zero, Nat.mul_zero, Nat.zero_add]
    try rfl
  · refine View.cover_of_tiledL (s := S1x4x128x256) _ ![1, 1, 128, 256] ?_ y
    sl_kernel_rfl

/-- The block of outputs a batch's last point writes. -/
theorem oC (hc0 : ¬cond0_0 i) (hc1 : cond0_1 i) :
    out0_C_7 (F := Ideal) c i a2 h2 a3 h3 a4 h4 a5 h5 a6 h6 a7 h7 a8 h8 a9 h9 a10 h10 a11 h11 a12 h12 hc0 hc1 x0 x1 x2 x3 x4 x5 x6 xs0
      = outB (QE x0 x1 x3 x4) (KE x0 x1 x3 x4) (KD x0 x1 x3 x4) (DEC x1 x3 x4) (k0_pay5 x0) (k0_pay26 (k0_pay6 x0)) x5 x6 xs0 := by
  unfold out0_C_7
  rw [View.read_writes_eq_canon _ _ _ (cover0_C_7 c i a2 h2 a3 h3 a4 h4 a5 h5 a6 h6 a7 h7 a8 h8 a9 h9 a10 h10 a11 h11 a12 h12 hc0 hc1 x0 x1 x2 x3 x4 x5 x6 xs0)]
  unfold kernelRun0_C
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp (disch := decide) only [View.ld_unit_lit, View.canon_cons_unit_lit]
  rw [T0_fold]
  simp only [k0_pay28, k0_pay29, k0_pay30]
  simp only [KD_fold, DEC_fold, QE_fold, KE_fold]
  generalize DEC x1 x3 x4 = dec
  generalize KD x0 x1 x3 x4 = kd
  generalize QE x0 x1 x3 x4 = qe
  generalize KE x0 x1 x3 x4 = ke
  generalize k0_pay5 x0 = v
  generalize k0_pay26 (k0_pay6 x0) = sr
  refine readCov_whole _ _ _ _ fun y => ?_
  refine View.canon_append_of_piecesOf (outB qe ke kd dec v sr x5 x6 xs0) [] [_, _, _, _, _, _, _, _, _, _, _, _, _, _, _, _]
    ⟨?_, ?_, ?_, ?_, ?_, ?_, ?_, ?_, ?_, ?_, ?_, ?_, ?_, ?_, ?_, ?_, trivial⟩ y ?_
  · exact opiece_of 3 3 inb_S256x1024_S64x256_192_768 _ _ fun r e => (out_3_3 qe ke kd dec v sr x5 x6 xs0 r e).trans (outB_ix qe ke kd dec v sr x5 x6 xs0 3 3 r e).symm
  · exact opiece_of 3 2 inb_S256x1024_S64x256_192_512 _ _ fun r e => (out_3_2 qe ke kd dec v sr x5 x6 xs0 r e).trans (outB_ix qe ke kd dec v sr x5 x6 xs0 3 2 r e).symm
  · exact opiece_of 3 1 inb_S256x1024_S64x256_192_256 _ _ fun r e => (out_3_1 qe ke kd dec v sr x5 x6 xs0 r e).trans (outB_ix qe ke kd dec v sr x5 x6 xs0 3 1 r e).symm
  · exact opiece_of 3 0 inb_S256x1024_S64x256_192_0 _ _ fun r e => (out_3_0 qe ke kd dec v sr x5 x6 xs0 r e).trans (outB_ix qe ke kd dec v sr x5 x6 xs0 3 0 r e).symm
  · exact opiece_of 2 3 inb_S256x1024_S64x256_128_768 _ _ fun r e => (out_2_3 qe ke kd dec v sr x5 x6 xs0 r e).trans (outB_ix qe ke kd dec v sr x5 x6 xs0 2 3 r e).symm
  · exact opiece_of 2 2 inb_S256x1024_S64x256_128_512 _ _ fun r e => (out_2_2 qe ke kd dec v sr x5 x6 xs0 r e).trans (outB_ix qe ke kd dec v sr x5 x6 xs0 2 2 r e).symm
  · exact opiece_of 2 1 inb_S256x1024_S64x256_128_256 _ _ fun r e => (out_2_1 qe ke kd dec v sr x5 x6 xs0 r e).trans (outB_ix qe ke kd dec v sr x5 x6 xs0 2 1 r e).symm
  · exact opiece_of 2 0 inb_S256x1024_S64x256_128_0 _ _ fun r e => (out_2_0 qe ke kd dec v sr x5 x6 xs0 r e).trans (outB_ix qe ke kd dec v sr x5 x6 xs0 2 0 r e).symm
  · exact opiece_of 1 3 inb_S256x1024_S64x256_64_768 _ _ fun r e => (out_1_3 qe ke kd dec v sr x5 x6 xs0 r e).trans (outB_ix qe ke kd dec v sr x5 x6 xs0 1 3 r e).symm
  · exact opiece_of 1 2 inb_S256x1024_S64x256_64_512 _ _ fun r e => (out_1_2 qe ke kd dec v sr x5 x6 xs0 r e).trans (outB_ix qe ke kd dec v sr x5 x6 xs0 1 2 r e).symm
  · exact opiece_of 1 1 inb_S256x1024_S64x256_64_256 _ _ fun r e => (out_1_1 qe ke kd dec v sr x5 x6 xs0 r e).trans (outB_ix qe ke kd dec v sr x5 x6 xs0 1 1 r e).symm
  · exact opiece_of 1 0 inb_S256x1024_S64x256_64_0 _ _ fun r e => (out_1_0 qe ke kd dec v sr x5 x6 xs0 r e).trans (outB_ix qe ke kd dec v sr x5 x6 xs0 1 0 r e).symm
  · exact opiece_of 0 3 inb_S256x1024_S64x256_0_768 _ _ fun r e => (out_0_3 qe ke kd dec v sr x5 x6 xs0 r e).trans (outB_ix qe ke kd dec v sr x5 x6 xs0 0 3 r e).symm
  · exact opiece_of 0 2 inb_S256x1024_S64x256_0_512 _ _ fun r e => (out_0_2 qe ke kd dec v sr x5 x6 xs0 r e).trans (outB_ix qe ke kd dec v sr x5 x6 xs0 0 2 r e).symm
  · exact opiece_of 0 1 inb_S256x1024_S64x256_0_256 _ _ fun r e => (out_0_1 qe ke kd dec v sr x5 x6 xs0 r e).trans (outB_ix qe ke kd dec v sr x5 x6 xs0 0 1 r e).symm
  · exact opiece_of 0 0 inb_S256x1024_S64x256_0_0 _ _ fun r e => (out_0_0 qe ke kd dec v sr x5 x6 xs0 r e).trans (outB_ix qe ke kd dec v sr x5 x6 xs0 0 0 r e).symm
  · refine View.cover_of_tiledL (s := S256x1024) _ ![64, 256] ?_ y
    sl_kernel_rfl

/-- The state a batch's last point leaves. -/
theorem sC (hc0 : ¬cond0_0 i) (hc1 : cond0_1 i) :
    sout0_C_0 (F := Ideal) c i a2 h2 a3 h3 a4 h4 a5 h5 a6 h6 a7 h7 a8 h8 a9 h9 a10 h10 a11 h11 a12 h12 hc0 hc1 x0 x1 x2 x3 x4 x5 x6 xs0
      = st (DEC x1 x3 x4) (KD x0 x1 x3 x4) (k0_pay5 x0) xs0 4 := by
  unfold sout0_C_0
  rw [View.read_writes_eq_canon _ _ _ (scover0_C_0 c i a2 h2 a3 h3 a4 h4 a5 h5 a6 h6 a7 h7 a8 h8 a9 h9 a10 h10 a11 h11 a12 h12 hc0 hc1 x0 x1 x2 x3 x4 x5 x6 xs0)]
  unfold kernelRun0_C
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp (disch := decide) only [View.ld_unit_lit, View.canon_cons_unit_lit]
  rw [T0_fold]
  simp only [KD_fold, DEC_fold]
  generalize DEC x1 x3 x4 = dec
  generalize KD x0 x1 x3 x4 = kd
  generalize k0_pay5 x0 = v
  funext y
  refine View.canon_append_of_piecesOf (st dec kd v xs0 4) [_, _, _, _, _, _, _, _, _, _, _, _] [_, _, _, _] ⟨?_, ?_, ?_, ?_, trivial⟩ y ?_
  · refine piece_of 3 inb_S1x4x128x256_S1x1x128x256_0_3_0_0 _ _ fun d e => ?_
    unfold_payloads
    pointwise
    simp only [dite_eq_ite, ite_self, st, stepS_ix, crow, klane, vlane, Fin.val_zero, Nat.mul_zero, Nat.zero_add]
    try rfl
  · refine piece_of 2 inb_S1x4x128x256_S1x1x128x256_0_2_0_0 _ _ fun d e => ?_
    unfold_payloads
    pointwise
    simp only [dite_eq_ite, ite_self, st, stepS_ix, crow, klane, vlane, Fin.val_zero, Nat.mul_zero, Nat.zero_add]
    try rfl
  · refine piece_of 1 inb_S1x4x128x256_S1x1x128x256_0_1_0_0 _ _ fun d e => ?_
    unfold_payloads
    pointwise
    simp only [dite_eq_ite, ite_self, st, stepS_ix, crow, klane, vlane, Fin.val_zero, Nat.mul_zero, Nat.zero_add]
    try rfl
  · refine piece_of 0 inb_S1x4x128x256_S1x1x128x256_0_0_0_0 _ _ fun d e => ?_
    unfold_payloads
    pointwise
    simp only [dite_eq_ite, ite_self, st, stepS_ix, crow, klane, vlane, Fin.val_zero, Nat.mul_zero, Nat.zero_add]
    try rfl
  · refine View.cover_of_tiledL (s := S1x4x128x256) _ ![1, 1, 128, 256] ?_ y
    sl_kernel_rfl

/-- Reading the whole of the scratch after a list of stores reads what the list leaves. -/
theorem readCov_whole4 (w : Memref sig .tc .vmem S1x4x128x256 .f32) (inb) (L : List (View.Piece (Elt Ideal) S1x4x128x256 .f32))
    (G : Vec Ideal S1x4x128x256 .f32) (h : ∀ y, View.canon L y = G y) :
    w.view.readCov L (Rect.unit (s := S1x4x128x256) ![0, 0, 0, 0] ![1, 4, 128, 256] inb).toLoadRect = G := by
  rw [View.readCov_eq_canon']
  funext y
  refine (h _).trans (congrArg G ?_)
  funext a
  apply Fin.ext
  fin_cases a
  · show 0 + 1 * (y 0).val = (y 0).val; omega
  · show 0 + 1 * (y 1).val = (y 1).val; omega
  · show 0 + 1 * (y 2).val = (y 2).val; omega
  · show 0 + 1 * (y 3).val = (y 3).val; omega

/-- What a batch's last point writes back is the state after its chunks. -/
theorem wC (hc0 : ¬cond0_0 i) (hc1 : cond0_1 i) :
    out0_C_8 (F := Ideal) c i a2 h2 a3 h3 a4 h4 a5 h5 a6 h6 a7 h7 a8 h8 a9 h9 a10 h10 a11 h11 a12 h12 hc0 hc1 x0 x1 x2 x3 x4 x5 x6 xs0
      = k0_pay1 (st (DEC x1 x3 x4) (KD x0 x1 x3 x4) (k0_pay5 x0) xs0 4) := by
  unfold out0_C_8
  rw [View.read_writes_eq_canon _ _ _ (cover0_C_8 c i a2 h2 a3 h3 a4 h4 a5 h5 a6 h6 a7 h7 a8 h8 a9 h9 a10 h10 a11 h11 a12 h12 hc0 hc1 x0 x1 x2 x3 x4 x5 x6 xs0)]
  unfold kernelRun0_C
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread, h11.read_unread]
  simp (disch := decide) only [View.ld_unit_lit, View.canon_cons_unit_lit]
  rw [T0_fold]
  simp only [KD_fold, DEC_fold]
  generalize DEC x1 x3 x4 = dec
  generalize KD x0 x1 x3 x4 = kd
  generalize k0_pay5 x0 = v
  refine congrArg k0_pay1 (readCov_whole4 _ _ _ _ fun y => ?_)
  refine View.canon_append_of_piecesOf (st dec kd v xs0 4) [_, _, _, _, _, _, _, _, _, _, _, _] [_, _, _, _] ⟨?_, ?_, ?_, ?_, trivial⟩ y ?_
  · refine piece_of 3 inb_S1x4x128x256_S1x1x128x256_0_3_0_0 _ _ fun d e => ?_
    unfold_payloads
    pointwise
    simp only [dite_eq_ite, ite_self, st, stepS_ix, crow, klane, vlane, Fin.val_zero, Nat.mul_zero, Nat.zero_add]
    try rfl
  · refine piece_of 2 inb_S1x4x128x256_S1x1x128x256_0_2_0_0 _ _ fun d e => ?_
    unfold_payloads
    pointwise
    simp only [dite_eq_ite, ite_self, st, stepS_ix, crow, klane, vlane, Fin.val_zero, Nat.mul_zero, Nat.zero_add]
    try rfl
  · refine piece_of 1 inb_S1x4x128x256_S1x1x128x256_0_1_0_0 _ _ fun d e => ?_
    unfold_payloads
    pointwise
    simp only [dite_eq_ite, ite_self, st, stepS_ix, crow, klane, vlane, Fin.val_zero, Nat.mul_zero, Nat.zero_add]
    try rfl
  · refine piece_of 0 inb_S1x4x128x256_S1x1x128x256_0_0_0_0 _ _ fun d e => ?_
    unfold_payloads
    pointwise
    simp only [dite_eq_ite, ite_self, st, stepS_ix, crow, klane, vlane, Fin.val_zero, Nat.mul_zero, Nat.zero_add]
    try rfl
  · refine View.cover_of_tiledL (s := S1x4x128x256) _ ![1, 1, 128, 256] ?_ y
    sl_kernel_rfl

end Cert.KernelIdeal.Body
-- ==== Proof.Gate.lean ====
module

public import proofs.«01_k».proof.Proof.Body
public import proofs.«01_k».proof.Proof.Spec

@[expose] public section

set_option maxRecDepth 16384

noncomputable section

open Idealize.ShloMosaic Idealize.ShloMosaic.TcCoe Idealize.SL.Sem

namespace Cert.KernelIdeal.Body

open Cert.KernelIdeal Cert.KernelIdeal.Gen

variable (x0 : Vec Ideal S256x3072 .f32) (x1 : Vec Ideal S256x128 .f32) (x3 : Vec Ideal S128x512 .bf16)
  (x4 : Vec Ideal S1x512 .f32)

/-- The matrix that the body sums with has a one where the column is not after the row. -/
theorem T0_ix (i j : Fin 64) : T0 (ix2 i j) = if j ≤ i then 1 else 0 := by
  have key : ∀ i j : Fin 64, (BitVec.setWidth 32
        (IntOp.andi
          (IntOp.cmpi CmpIPredicate.eq
            (Scalar.select
              (IntOp.andi
                (IntOp.cmpi CmpIPredicate.ne
                  (IntOp.subi (BitVec.setWidth 32 (IntOp.cmpi CmpIPredicate.sgt (BitVec.ofNat 32 i.val) 0#32))
                    (BitVec.setWidth 32 (IntOp.cmpi CmpIPredicate.slt (BitVec.ofNat 32 i.val) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 i.val) 64#32) 0#32))
              (IntOp.subi (IntOp.divsi ArithUnit.vector (BitVec.ofNat 32 i.val) 64#32) 1#32)
              (IntOp.divsi ArithUnit.vector (BitVec.ofNat 32 i.val) 64#32))
            (Scalar.select
              (IntOp.andi
                (IntOp.cmpi CmpIPredicate.ne
                  (IntOp.subi (BitVec.setWidth 32 (IntOp.cmpi CmpIPredicate.sgt (BitVec.ofNat 32 j.val) 0#32))
                    (BitVec.setWidth 32 (IntOp.cmpi CmpIPredicate.slt (BitVec.ofNat 32 j.val) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 j.val) 64#32) 0#32))
              (IntOp.subi (IntOp.divsi ArithUnit.vector (BitVec.ofNat 32 j.val) 64#32) 1#32)
              (IntOp.divsi ArithUnit.vector (BitVec.ofNat 32 j.val) 64#32)))
          (IntOp.cmpi CmpIPredicate.sge (BitVec.ofNat 32 i.val) (BitVec.ofNat 32 j.val))) : BitVec 32) = if j ≤ i then 1#32 else 0#32 := by
    decide
  unfold T0
  unfold_payloads
  pointwise
  rw [key]
  by_cases h : j ≤ i
  · rw [if_pos h, if_pos h]
    show (((1#32).toInt : ℝ) : EReal) = 1
    simp
  · rw [if_neg h, if_neg h]
    show (((0#32).toInt : ℝ) : EReal) = 0
    simp

/-- The gate's logarithm, from a row of the gate's inputs. -/
theorem LA_ix (i : Fin 256) (j : Fin 512) : LA x1 x3 x4 (ix2 i j)
    = Gla.lsig (∑ x : Fin 128, x1 (ix2 i x) * x3 (ix2 x j) + x4 (ix2 (0 : Fin 1) j)) * Ideal.ofBits FTy.f32 1031798784#32 := by
  unfold LA
  unfold_payloads
  pointwise
  rfl

/-- The running sums, by chunk. -/
theorem CUM_ix (hla : ∀ i j, LA x1 x3 x4 (ix2 i j) ≠ ⊤) (ci : Fin 4) (i : Fin 64) (l : Fin 512) : CUM x1 x3 x4 (ix2 (crow ci i) l)
    = ∑ j : Fin 64, if j ≤ i then LA x1 x3 x4 (ix2 (crow ci j) l) else 0 := by
  rw [← Gla.split_sum (fun x => LA x1 x3 x4 (ix2 (crow ci x) l)) (fun x => hla _ _) i]
  unfold CUM
  generalize LA x1 x3 x4 = la
  simp only [← T0_ix i]
  generalize T0 = t
  unfold_payloads
  pointwise
  have hi := i.isLt
  fin_cases ci
  · rw [dif_pos (show 64 * 0 + i.val < 64 by omega)]
    simp only [crow, Nat.mul_zero, Nat.zero_add, Fin.eta]
  · rw [dif_neg (show ¬ 64 * 1 + i.val < 64 by omega), dif_pos (show 64 * 1 + i.val - 64 < 64 by omega)]
    simp only [show 64 * 1 + i.val - 64 = i.val by omega, Fin.eta]
    rfl
  · rw [dif_neg (show ¬ 64 * 2 + i.val < 64 by omega), dif_neg (show ¬ 64 * 2 + i.val - 64 < 64 by omega), dif_pos (show 64 * 2 + i.val - 64 - 64 < 64 by omega)]
    simp only [show 64 * 2 + i.val - 64 - 64 = i.val by omega, Fin.eta]
    rfl
  · rw [dif_neg (show ¬ 64 * 3 + i.val < 64 by omega), dif_neg (show ¬ 64 * 3 + i.val - 64 < 64 by omega), dif_neg (show ¬ 64 * 3 + i.val - 64 - 64 < 64 by omega)]
    simp only [show 64 * 3 + i.val - 64 - 64 - 64 = i.val by omega, Fin.eta]
    rfl

/-- The running sums at the chunk's last row. -/
theorem CEND_ix (hla : ∀ i j, LA x1 x3 x4 (ix2 i j) ≠ ⊤) (ci : Fin 4) (i : Fin 64) (l : Fin 512) : CEND x1 x3 x4 (ix2 (crow ci i) l)
    = ∑ j : Fin 64, if j ≤ 63 then LA x1 x3 x4 (ix2 (crow ci j) l) else 0 := by
  rw [← Gla.split_sum (fun x => LA x1 x3 x4 (ix2 (crow ci x) l)) (fun x => hla _ _) 63]
  unfold CEND
  generalize LA x1 x3 x4 = la
  simp only [← T0_ix 63]
  generalize T0 = t
  unfold_payloads
  pointwise
  have hi := i.isLt
  fin_cases ci
  · rw [dif_pos (show 64 * 0 + i.val < 64 by omega)]
    simp only [crow, Nat.mul_zero, Nat.zero_add, Fin.eta]
  · rw [dif_neg (show ¬ 64 * 1 + i.val < 64 by omega), dif_pos (show 64 * 1 + i.val - 64 < 64 by omega)]
    rfl
  · rw [dif_neg (show ¬ 64 * 2 + i.val < 64 by omega), dif_neg (show ¬ 64 * 2 + i.val - 64 < 64 by omega), dif_pos (show 64 * 2 + i.val - 64 - 64 < 64 by omega)]
    rfl
  · rw [dif_neg (show ¬ 64 * 3 + i.val < 64 by omega), dif_neg (show ¬ 64 * 3 + i.val - 64 < 64 by omega), dif_neg (show ¬ 64 * 3 + i.val - 64 - 64 < 64 by omega)]
    rfl

/-- A query scaled and grown by its running sum's exponential. -/
theorem QE_ix (i : Fin 256) (l : Fin 512) : QE x0 x1 x3 x4 (ix2 i l)
    = x0 (ix2 i ⟨l.val, by omega⟩) * Ideal.ofBits FTy.f32 1035273459#32 * Ideal.exp (CUM x1 x3 x4 (ix2 i l)) := by
  have h1 : QE x0 x1 x3 x4 = mulf (k0_pay3 x0) (exp (CUM x1 x3 x4)) := rfl
  rw [h1]
  generalize CUM x1 x3 x4 = c
  unfold_payloads
  pointwise

/-- A key shrunk by the exponential of its running sum. -/
theorem KE_ix (i : Fin 256) (l : Fin 512) : KE x0 x1 x3 x4 (ix2 i l)
    = x0 (ix2 i ⟨512 + l.val, by omega⟩) * Ideal.exp (-(CUM x1 x3 x4 (ix2 i l))) := by
  have h1 : KE x0 x1 x3 x4 = mulf (k0_pay4 x0) (exp (subf (constant (F := Ideal) S256x512 .f32 0x00000000#32) (CUM x1 x3 x4))) := rfl
  rw [h1]
  generalize CUM x1 x3 x4 = c
  unfold_payloads
  pointwise
  rw [zero_sub]

/-- A key decayed to the chunk's end. -/
theorem KD_ix (i : Fin 256) (l : Fin 512) : KD x0 x1 x3 x4 (ix2 i l)
    = x0 (ix2 i ⟨512 + l.val, by omega⟩) * Ideal.exp (CEND x1 x3 x4 (ix2 i l) - CUM x1 x3 x4 (ix2 i l)) := by
  have h1 : KD x0 x1 x3 x4 = mulf (k0_pay4 x0) (exp (subf (CEND x1 x3 x4) (CUM x1 x3 x4))) := rfl
  rw [h1]
  generalize CUM x1 x3 x4 = c
  generalize CEND x1 x3 x4 = c'
  unfold_payloads
  pointwise

/-- The chunk's decay is the exponential of its whole sum. -/
theorem DEC_ix (i : Fin 256) (l : Fin 512) : DEC x1 x3 x4 (ix2 i l) = Ideal.exp (CEND x1 x3 x4 (ix2 i l)) := by
  have h1 : DEC x1 x3 x4 = exp (CEND x1 x3 x4) := rfl
  rw [h1]
  rfl

/-- The values are the block's columns from 1024 on. -/
theorem V_ix (i : Fin 256) (l : Fin 1024) : k0_pay5 x0 (ix2 i l) = x0 (ix2 i ⟨1024 + l.val, by omega⟩) := by
  unfold_payloads
  pointwise

/-- The output gate is its column times the logistic function of it. -/
theorem SR_ix (i : Fin 256) (l : Fin 1024) : k0_pay26 (k0_pay6 x0) (ix2 i l)
    = x0 (ix2 i ⟨2048 + l.val, by omega⟩) * Ideal.div 1 (1 + Ideal.exp (-(x0 (ix2 i ⟨2048 + l.val, by omega⟩)))) := by
  unfold_payloads
  pointwise
  rw [zero_sub]

end Cert.KernelIdeal.Body
-- ==== Proof.KerIn.lean ====
module

public import proofs.«01_k».proof.Proof.Gate
public import proofs.«01_k».proof.Proof.Gen.KernelIdeal.Value
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.KernelIdeal.In

open Cert.KernelIdeal Cert.KernelIdeal.Gen Cert.KernelIdeal.Body

variable (m : (ℓ : Loc nD τ sig) → Buf (Elt Ideal) ℓ) (c : Dev nD)

/-- The arguments entry by entry. -/
abbrev P0 (r : Fin 8320) (l : Fin 3072) : EReal := (m ((c : Thread nD τ).loc main_arg0) : FVec Ideal S8320x3072 .f32) (ix2 r l)
/-- Argument 1, by row and column. -/
abbrev P1 (r : Fin 8320) (l : Fin 128) : EReal := (m ((c : Thread nD τ).loc main_arg1) : FVec Ideal S8320x128 .f32) (ix2 r l)
/-- Argument 2, by row and column. -/
abbrev P2 (r : Fin 16) (l : Fin 512) : EReal := (m ((c : Thread nD τ).loc main_arg2) : FVec Ideal S16x512 .f32) (ix2 r l)
/-- Argument 3, by column. -/
abbrev P3 (l : Fin 512) : EReal := (m ((c : Thread nD τ).loc main_arg3) : FVec Ideal S512 .f32) (ix1 l)
/-- Argument 4, by column. -/
abbrev P4 (l : Fin 1024) : EReal := (m ((c : Thread nD τ).loc main_arg4) : FVec Ideal S1024 .f32) (ix1 l)
/-- Argument 5, by column. -/
abbrev P5 (l : Fin 1024) : EReal := (m ((c : Thread nD τ).loc main_arg5) : FVec Ideal S1024 .f32) (ix1 l)

/-- The grid has thirty-two points. -/
theorem hN : cfg0.N = 32 := N_0

/-- The batch of a grid point. -/
abbrev bat (t : Fin cfg0.N) : Fin 4 := ⟨t.val / 8, by have := t.isLt; have := hN; omega⟩
/-- The chunk that a grid point's `ci`-th chunk is. -/
abbrev chk (t : Fin cfg0.N) (ci : Fin 4) : Fin 32 := ⟨4 * (t.val % 8) + ci.val, by have := ci.isLt; omega⟩

/-- Point t reads the t-th block of 256 rows. -/
theorem idx0 : ∀ t : Fin cfg0.N, win0_0.index t = ![t.val, 0] := (by decide +kernel : ∀ t : Fin grid0.N, win0_0.index t = ![t.val, 0])
/-- The gate reads the same rows. -/
theorem idx1 : ∀ t : Fin cfg0.N, win0_1.index t = ![t.val, 0] := (by decide +kernel : ∀ t : Fin grid0.N, win0_1.index t = ![t.val, 0])
/-- The initial state is its batch entry's. -/
theorem idx2 : ∀ t : Fin cfg0.N, win0_2.index t = ![0, t.val / 8, 0, 0, 0] := (by decide +kernel : ∀ t : Fin grid0.N, win0_2.index t = ![0, t.val / 8, 0, 0, 0])
/-- The gate matrix is read whole. -/
theorem idx3 : ∀ t : Fin cfg0.N, win0_3.index t = ![0, 0] := (by decide +kernel : ∀ t : Fin grid0.N, win0_3.index t = ![0, 0])
/-- The gate bias is read whole. -/
theorem idx4 : ∀ t : Fin cfg0.N, win0_4.index t = ![0, 0] := (by decide +kernel : ∀ t : Fin grid0.N, win0_4.index t = ![0, 0])
/-- The norm's weights are read whole. -/
theorem idx5 : ∀ t : Fin cfg0.N, win0_5.index t = ![0, 0] := (by decide +kernel : ∀ t : Fin grid0.N, win0_5.index t = ![0, 0])
/-- The norm's bias is read whole. -/
theorem idx6 : ∀ t : Fin cfg0.N, win0_6.index t = ![0, 0] := (by decide +kernel : ∀ t : Fin grid0.N, win0_6.index t = ![0, 0])
/-- Point t writes the t-th block of 256 rows. -/
theorem idx7 : ∀ t : Fin cfg0.N, win0_7.index t = ![t.val, 0] := (by decide +kernel : ∀ t : Fin grid0.N, win0_7.index t = ![t.val, 0])
/-- The final state is its batch entry's. -/
theorem idx8 : ∀ t : Fin cfg0.N, win0_8.index t = ![0, t.val / 8, 0, 0, 0] := (by decide +kernel : ∀ t : Fin grid0.N, win0_8.index t = ![0, t.val / 8, 0, 0, 0])

/-- The state that the first chunk starts from is zero. -/
theorem V_v0 : (V m c main_v0 : FVec Ideal S1x4x4x128x256 .f32) = broadcastInDim S1x4x4x128x256 ![] bcast_S_S1x4x4x128x256 (constant (F := Ideal) S_ .f32 0x00000000#32) := by
  show StableHlo.after (List.flatten [hostOps0, hostOps0_1, hostOps0_2]) (fun b => m (c, b)) (Proc.devRef .tc main_v0) = _
  simp only [List.flatten_cons, List.flatten_nil, List.append_nil, List.cons_append, List.nil_append]
  after_reads_simp
/-- The gate's weights reach the kernel with zero rows below them. -/
theorem V_v2 : (V m c main_v2 : FVec Ideal S128x512 .bf16)
    = truncf .bf16 (pad S128x512 ![0, 0] ![112, 0] ![0, 0] (m ((c : Thread nD τ).loc main_arg2) : FVec Ideal S16x512 .f32) (sitofp (F := Ideal) .f32 (constantI S_ 32 0#32)) pads_S16x512_S128x512_01120_000 h_S_) bitsLt_bf16_f32 := by
  show StableHlo.after (List.flatten [hostOps0, hostOps0_1, hostOps0_2]) (fun b => m (c, b)) (Proc.devRef .tc main_v2) = _
  simp only [List.flatten_cons, List.flatten_nil, List.append_nil, List.cons_append, List.nil_append]
  after_reads_simp
  rfl
/-- Rows of zeros below a matrix, entry by entry. -/
theorem pad_ix (x : FVec Ideal S16x512 .f32) (r : Fin 128) (l : Fin 512) :
    truncf .bf16 (pad S128x512 ![0, 0] ![112, 0] ![0, 0] x (sitofp (F := Ideal) .f32 (constantI S_ 32 0#32)) pads_S16x512_S128x512_01120_000 h_S_) bitsLt_bf16_f32 (ix2 r l)
      = if h : r.val < 16 then x (ix2 ⟨r.val, h⟩ l) else 0 := by
  pointwise
  have h0 : (FloatOps.sitofp (F := Ideal) .f32 0#32 : EReal) = 0 := by
    show (((0#32).toInt : ℝ) : EReal) = 0
    simp
  rw [h0]
/-- The weights with their zero rows, entry by entry. -/
theorem V_v2_ix (r : Fin 128) (l : Fin 512) : (V m c main_v2 : FVec Ideal S128x512 .bf16) (ix2 r l)
    = if h : r.val < 16 then P2 m c ⟨r.val, h⟩ l else 0 := by
  rw [V_v2, pad_ix]
/-- A vector of weights reaches the kernel as one row. -/
theorem V_v3 (u : Fin 1) (l : Fin 512) : (V m c main_v3 : FVec Ideal S1x512 .f32) (ix2 u l) = P3 m c l := by
  have h : (V m c main_v3 : FVec Ideal S1x512 .f32) = shapeCast S1x512 (m ((c : Thread nD τ).loc main_arg3) : FVec Ideal S512 .f32) shapeCasts_S512_S1x512 := by
    show StableHlo.after (List.flatten [hostOps0, hostOps0_1, hostOps0_2]) (fun b => m (c, b)) (Proc.devRef .tc main_v3) = _
    simp only [List.flatten_cons, List.flatten_nil, List.append_nil, List.cons_append, List.nil_append]
    after_reads_simp
    rfl
  rw [h]
  pointwise
/-- A vector of weights reaches the kernel as one row. -/
theorem V_v4 (u : Fin 1) (l : Fin 1024) : (V m c main_v4 : FVec Ideal S1x1024 .f32) (ix2 u l) = P4 m c l := by
  have h : (V m c main_v4 : FVec Ideal S1x1024 .f32) = shapeCast S1x1024 (m ((c : Thread nD τ).loc main_arg4) : FVec Ideal S1024 .f32) shapeCasts_S1024_S1x1024 := by
    show StableHlo.after (List.flatten [hostOps0, hostOps0_1, hostOps0_2]) (fun b => m (c, b)) (Proc.devRef .tc main_v4) = _
    simp only [List.flatten_cons, List.flatten_nil, List.append_nil, List.cons_append, List.nil_append]
    after_reads_simp
    rfl
  rw [h]
  pointwise
/-- A vector of weights reaches the kernel as one row. -/
theorem V_v5 (u : Fin 1) (l : Fin 1024) : (V m c main_v5 : FVec Ideal S1x1024 .f32) (ix2 u l) = P5 m c l := by
  have h : (V m c main_v5 : FVec Ideal S1x1024 .f32) = shapeCast S1x1024 (m ((c : Thread nD τ).loc main_arg5) : FVec Ideal S1024 .f32) shapeCasts_S1024_S1x1024 := by
    show StableHlo.after (List.flatten [hostOps0, hostOps0_1, hostOps0_2]) (fun b => m (c, b)) (Proc.devRef .tc main_v5) = _
    simp only [List.flatten_cons, List.flatten_nil, List.append_nil, List.cons_append, List.nil_append]
    after_reads_simp
    rfl
  rw [h]
  pointwise

/-- The first block's entries in the argument. -/
theorem x0_ix (t : Fin cfg0.N) (ci : Fin 4) (i : Fin 64) (l : Fin 3072) :
    X0_0 m c t (ix2 (crow ci i) l) = P0 m c (Gla.tok (bat t) (chk t ci) i) l := by
  unfold X0_0 Pipeline.Window.fill
  rw [dif_pos (moved0_0 t _)]
  have e := V_main_arg0 m c
  unfold iblk P0
  rw [← e]
  blk_ext [idx0 t]

/-- The gate block's entries in the argument. -/
theorem x1_ix (t : Fin cfg0.N) (ci : Fin 4) (i : Fin 64) (l : Fin 128) :
    X0_1 m c t (ix2 (crow ci i) l) = P1 m c (Gla.tok (bat t) (chk t ci) i) l := by
  unfold X0_1 Pipeline.Window.fill
  rw [dif_pos (moved0_1 t _)]
  have e := V_main_arg1 m c
  unfold iblk P1
  rw [← e]
  blk_ext [idx1 t]

/-- The initial state is zero. -/
theorem x2_ix (t : Fin cfg0.N) (h : Fin 4) (d : Fin 128) (e : Fin 256) :
    (iblk m c 2 t : Vec Ideal S1x1x4x128x256 .f32) (ix5 (0 : Fin 1) (0 : Fin 1) h d e) = (0 : EReal) := by
  have e1 : (iblk m c 2 t : Vec Ideal S1x1x4x128x256 .f32) (ix5 (0 : Fin 1) (0 : Fin 1) h d e)
      = (V m c main_v0 : FVec Ideal S1x4x4x128x256 .f32) (ix5 (0 : Fin 1) (bat t) h d e) := by
    blk_ext [iblk, idx2 t]
  rw [e1, V_v0]
  pointwise

/-- The gate matrix's entries in the argument, zero below its sixteen rows. -/
theorem x3_ix (t : Fin cfg0.N) (r : Fin 128) (l : Fin 512) :
    (iblk m c 3 t : Vec Ideal S128x512 .bf16) (ix2 r l) = if h : r.val < 16 then P2 m c ⟨r.val, h⟩ l else 0 := by
  have e1 : (iblk m c 3 t : Vec Ideal S128x512 .bf16) (ix2 r l) = (V m c main_v2 : FVec Ideal S128x512 .bf16) (ix2 r l) := by
    blk_ext [iblk, idx3 t]
  rw [e1, V_v2_ix]

/-- The gate bias's entries in the argument. -/
theorem x4_ix (t : Fin cfg0.N) (l : Fin 512) :
    (iblk m c 4 t : Vec Ideal S1x512 .f32) (ix2 (0 : Fin 1) l) = P3 m c l := by
  rw [← V_v3 m c 0 l]
  blk_ext [iblk, idx4 t]
/-- The norm's weights in the argument. -/
theorem x5_ix (t : Fin cfg0.N) (l : Fin 1024) :
    (iblk m c 5 t : Vec Ideal S1x1024 .f32) (ix2 (0 : Fin 1) l) = P4 m c l := by
  rw [← V_v4 m c 0 l]
  blk_ext [iblk, idx5 t]
/-- The norm's bias in the argument. -/
theorem x6_ix (t : Fin cfg0.N) (l : Fin 1024) :
    (iblk m c 6 t : Vec Ideal S1x1024 .f32) (ix2 (0 : Fin 1) l) = P5 m c l := by
  rw [← V_v5 m c 0 l]
  blk_ext [iblk, idx6 t]

/-- A sum over the padded columns is the sum over the sixteen. -/
theorem pad_sum (g : Fin 128 → EReal) (w : Fin 16 → EReal) :
    (∑ x : Fin 128, g x * (if h : x.val < 16 then w ⟨x.val, h⟩ else 0)) = ∑ x : Fin 16, g ⟨x.val, by omega⟩ * w x := by
  have h := Fin.sum_univ_add (a := 16) (b := 112) (fun x : Fin 128 => g x * (if h : x.val < 16 then w ⟨x.val, h⟩ else 0))
  refine h.trans ?_
  have h2 : (∑ i : Fin 112, g (Fin.natAdd 16 i) * (if h : (Fin.natAdd 16 i : Fin 128).val < 16 then w ⟨(Fin.natAdd 16 i : Fin 128).val, h⟩ else 0)) = 0 :=
    Finset.sum_eq_zero fun i _ => by rw [dif_neg (by simp), mul_zero]
  refine (congrArg _ h2).trans ?_
  rw [add_zero]
  refine Finset.sum_congr rfl fun i _ => ?_
  rw [dif_pos (show (Fin.castAdd 112 i).val < 16 from i.isLt)]
  rfl

/-- A block's row by its chunk and its place there. -/
theorem row_eq (i : Fin 256) : i = crow (rowChunk i) (rowIn i) := by
  apply Fin.ext
  show i.val = 64 * (i.val / 64) + i.val % 64
  omega

/-- The gate's logarithm at a point's rows. -/
theorem la_blk (t : Fin cfg0.N) (ci : Fin 4) (i : Fin 64) (l : Fin 512) :
    LA (X0_1 m c t) (iblk m c 3 t) (iblk m c 4 t) (ix2 (crow ci i) l) = Gla.la (P1 m c) (P2 m c) (P3 m c) (Gla.tok (bat t) (chk t ci) i) l := by
  rw [LA_ix]
  have h : ∀ (x1 : Vec Ideal S256x128 .f32) (x3 : Vec Ideal S128x512 .bf16) (x4 : Vec Ideal S1x512 .f32),
      (∀ x, x1 (ix2 (crow ci i) x) = P1 m c (Gla.tok (bat t) (chk t ci) i) x) →
      (∀ x, x3 (ix2 x l) = if h : x.val < 16 then P2 m c ⟨x.val, h⟩ l else 0) →
      x4 (ix2 (0 : Fin 1) l) = P3 m c l →
      Gla.lsig (∑ x : Fin 128, x1 (ix2 (crow ci i) x) * x3 (ix2 x l) + x4 (ix2 (0 : Fin 1) l)) * Ideal.ofBits FTy.f32 1031798784#32
        = Gla.la (P1 m c) (P2 m c) (P3 m c) (Gla.tok (bat t) (chk t ci) i) l := by
    intro x1 x3 x4 e1 e3 e4
    unfold Gla.la Gla.gz
    rw [← pad_sum (fun x => P1 m c (Gla.tok (bat t) (chk t ci) i) x) (fun x => P2 m c x l), e4]
    simp only [e1, e3]
  exact h _ _ _ (x1_ix m c t ci i) (fun x => x3_ix m c t x l) (x4_ix m c t l)

/-- It is never infinite upwards. -/
theorem hla (t : Fin cfg0.N) (i : Fin 256) (l : Fin 512) : LA (X0_1 m c t) (iblk m c 3 t) (iblk m c 4 t) (ix2 i l) ≠ ⊤ := by
  rw [row_eq i, la_blk]
  exact Gla.la_ne_top _ _ _ _ _

/-- The running sums at a point's rows. -/
theorem cum_blk (t : Fin cfg0.N) (ci : Fin 4) (i : Fin 64) (l : Fin 512) :
    CUM (X0_1 m c t) (iblk m c 3 t) (iblk m c 4 t) (ix2 (crow ci i) l) = Gla.cum (P1 m c) (P2 m c) (P3 m c) (bat t) (chk t ci) i l := by
  rw [CUM_ix _ _ _ (hla m c t)]
  simp only [la_blk]
  rfl
/-- A block's whole sums are the specification's. -/
theorem cend_blk (t : Fin cfg0.N) (ci : Fin 4) (i : Fin 64) (l : Fin 512) :
    CEND (X0_1 m c t) (iblk m c 3 t) (iblk m c 4 t) (ix2 (crow ci i) l) = Gla.cum (P1 m c) (P2 m c) (P3 m c) (bat t) (chk t ci) 63 l := by
  rw [CEND_ix _ _ _ (hla m c t)]
  simp only [la_blk]
  rfl
/-- A block's scaled queries are the specification's. -/
theorem qe_blk (t : Fin cfg0.N) (ci : Fin 4) (i : Fin 64) (l : Fin 512) :
    QE (X0_0 m c t) (X0_1 m c t) (iblk m c 3 t) (iblk m c 4 t) (ix2 (crow ci i) l) = Gla.qe (P0 m c) (P1 m c) (P2 m c) (P3 m c) (bat t) (chk t ci) i l := by
  rw [QE_ix, cum_blk, x0_ix]
  rfl
/-- A block's shrunk keys are the specification's. -/
theorem ke_blk (t : Fin cfg0.N) (ci : Fin 4) (i : Fin 64) (l : Fin 512) :
    KE (X0_0 m c t) (X0_1 m c t) (iblk m c 3 t) (iblk m c 4 t) (ix2 (crow ci i) l) = Gla.ke (P0 m c) (P1 m c) (P2 m c) (P3 m c) (bat t) (chk t ci) i l := by
  rw [KE_ix, cum_blk, x0_ix]
  rfl
/-- A block's decayed keys are the specification's. -/
theorem kd_blk (t : Fin cfg0.N) (ci : Fin 4) (i : Fin 64) (l : Fin 512) :
    KD (X0_0 m c t) (X0_1 m c t) (iblk m c 3 t) (iblk m c 4 t) (ix2 (crow ci i) l) = Gla.kd (P0 m c) (P1 m c) (P2 m c) (P3 m c) (bat t) (chk t ci) i l := by
  rw [KD_ix, cum_blk, cend_blk, x0_ix]
  rfl
/-- A block's decays are the specification's. -/
theorem dec_blk (t : Fin cfg0.N) (ci : Fin 4) (i : Fin 64) (l : Fin 512) :
    DEC (X0_1 m c t) (iblk m c 3 t) (iblk m c 4 t) (ix2 (crow ci i) l) = Gla.dec (P1 m c) (P2 m c) (P3 m c) (bat t) (chk t ci) l := by
  rw [DEC_ix, cend_blk]
  rfl
/-- A block's values are the specification's. -/
theorem v_blk (t : Fin cfg0.N) (ci : Fin 4) (i : Fin 64) (l : Fin 1024) :
    k0_pay5 (F := Ideal) (X0_0 m c t) (ix2 (crow ci i) l) = Gla.val (P0 m c) (bat t) (chk t ci) i l := by
  rw [V_ix, x0_ix]
  rfl
/-- A block's output gates are the specification's. -/
theorem sr_blk (t : Fin cfg0.N) (ci : Fin 4) (i : Fin 64) (l : Fin 1024) :
    k0_pay26 (F := Ideal) (k0_pay6 (X0_0 m c t)) (ix2 (crow ci i) l) = Gla.sr (P0 m c) (bat t) (chk t ci) i l := by
  rw [SR_ix, x0_ix]
  rfl

end Cert.KernelIdeal.In
-- ==== Proof.KerVal.lean ====
module

public import proofs.«01_k».proof.Proof.KerIn

@[expose] public section

set_option maxRecDepth 16384

noncomputable section

open Idealize.ShloMosaic Idealize.ShloMosaic.TcCoe Idealize.SL.Sem Idealize.ShloMosaic.StableHlo

namespace Cert.KernelIdeal.Out

open Cert.KernelIdeal Cert.KernelIdeal.Gen Cert.KernelIdeal.Body Cert.KernelIdeal.In Cert.KernelIdeal.Value

variable (m : (ℓ : Loc nD τ sig) → Buf (Elt Ideal) ℓ) (c : Dev nD)

/-- The state before a chunk, on this program's arguments. -/
abbrev SS (b : Fin 4) (n : ℕ) : Fin 4 → Fin 128 → Fin 256 → EReal := Gla.S (P0 m c) (P1 m c) (P2 m c) (P3 m c) b n

/-- A point's decays, from its blocks. -/
abbrev Dt (t : Fin cfg0.N) := DEC (X0_1 m c t) (iblk m c 3 t) (iblk m c 4 t)
/-- A point's decayed keys. -/
abbrev Kt (t : Fin cfg0.N) := KD (X0_0 m c t) (X0_1 m c t) (iblk m c 3 t) (iblk m c 4 t)
/-- A point's values. -/
abbrev Vt (t : Fin cfg0.N) : FVec Ideal S256x1024 .f32 := k0_pay5 (F := Ideal) (X0_0 m c t)

/-- One chunk's step takes the state before it to the state after it. -/
theorem step_blk (t : Fin cfg0.N) (ci : Fin 4) (s : Vec Ideal S1x4x128x256 .f32)
    (hs : ∀ h d e, s (ix4 (0 : Fin 1) h d e) = SS m c (bat t) (4 * (t.val % 8) + ci.val) h d e) (h : Fin 4) (d : Fin 128) (e : Fin 256) :
    stepS (Dt m c t) (Kt m c t) (Vt m c t) ci s (ix4 (0 : Fin 1) h d e) = SS m c (bat t) (4 * (t.val % 8) + ci.val + 1) h d e := by
  rw [stepS_ix, hs]
  unfold SS
  rw [Gla.S_succ _ _ _ _ (bat t) (chk t ci)]
  unfold Gla.next
  simp only [dec_blk, kd_blk, v_blk]

/-- The state after the first `j` chunks of a point. -/
theorem st_blk (t : Fin cfg0.N) (s : Vec Ideal S1x4x128x256 .f32)
    (hs : ∀ h d e, s (ix4 (0 : Fin 1) h d e) = SS m c (bat t) (4 * (t.val % 8)) h d e) (j : ℕ) (hj : j ≤ 4) (h : Fin 4) (d : Fin 128) (e : Fin 256) :
    st (Dt m c t) (Kt m c t) (Vt m c t) s j (ix4 (0 : Fin 1) h d e) = SS m c (bat t) (4 * (t.val % 8) + j) h d e := by
  have h1 := step_blk m c t 0 s hs
  have h2 := step_blk m c t 1 _ h1
  have h3 := step_blk m c t 2 _ h2
  have h4 := step_blk m c t 3 _ h3
  match j, hj with
  | 0, _ => exact hs h d e
  | 1, _ => exact h1 h d e
  | 2, _ => exact h2 h d e
  | 3, _ => exact h3 h d e
  | 4, _ => exact h4 h d e

/-- The block of zeros that the first chunk starts from. -/
theorem init_blk (t : Fin cfg0.N) (h0 : t.val % 8 = 0) (h : Fin 4) (d : Fin 128) (e : Fin 256) :
    k0_pay2 (F := Ideal) (iblk m c 2 t) (ix4 (0 : Fin 1) h d e) = SS m c (bat t) (4 * (t.val % 8)) h d e := by
  have e1 : k0_pay2 (F := Ideal) (iblk m c 2 t) (ix4 (0 : Fin 1) h d e) = (iblk m c 2 t : Vec Ideal S1x1x4x128x256 .f32) (ix5 (0 : Fin 1) (0 : Fin 1) h d e) := by
    generalize (iblk m c 2 t : Vec Ideal S1x1x4x128x256 .f32) = x
    unfold_payloads
    pointwise
  rw [e1, x2_ix, h0]
  rfl

/-- What the scratch holds before a point's chunks: the state before the point's first chunk. -/
theorem scr (n : ℕ) (hn : n < cfg0.N) (h : Fin 4) (d : Fin 128) (e : Fin 256) :
    (outsAt0 m c n hn).2.2 (ix4 (0 : Fin 1) h d e) = SS m c (bat ⟨n, hn⟩) (4 * (n % 8) + 4) h d e := by
  induction n generalizing h d e with
  | zero =>
    rw [outsAt0_A m c ⟨0, hn⟩ rfl (by dsimp only; omega)]
    dsimp only
    rw [sA]
    exact st_blk m c ⟨0, hn⟩ _ (init_blk m c ⟨0, hn⟩ rfl) 4 (le_refl _) h d e
  | succ n ih =>
    by_cases h0 : (n + 1) % 8 = 0
    · rw [outsAt0_A m c ⟨n + 1, hn⟩ h0 (by dsimp only; omega)]
      dsimp only
      rw [sA]
      exact st_blk m c ⟨n + 1, hn⟩ _ (init_blk m c ⟨n + 1, hn⟩ h0) 4 (le_refl _) h d e
    · have hb : bat ⟨n, Nat.lt_of_succ_lt hn⟩ = bat ⟨n + 1, hn⟩ := Fin.ext (show n / 8 = (n + 1) / 8 by omega)
      have hs : ∀ h d e, (outsAt0 m c n (Nat.lt_of_succ_lt hn)).2.2 (ix4 (0 : Fin 1) h d e) = SS m c (bat ⟨n + 1, hn⟩) (4 * ((n + 1) % 8)) h d e := by
        intro h d e
        rw [ih (Nat.lt_of_succ_lt hn), hb, show 4 * (n % 8) + 4 = 4 * ((n + 1) % 8) by omega]
      by_cases h1 : (n + 1) % 8 = 7
      · rw [outsAt0_C m c ⟨n + 1, hn⟩ h0 h1]
        dsimp only
        rw [sC]
        exact st_blk m c ⟨n + 1, hn⟩ _ hs 4 (le_refl _) h d e
      · rw [outsAt0_B m c ⟨n + 1, hn⟩ h0 h1]
        dsimp only
        rw [sB]
        exact st_blk m c ⟨n + 1, hn⟩ _ hs 4 (le_refl _) h d e

/-- The scratch after the point before, where that point is of the same batch. -/
theorem scr_prev (t : Fin cfg0.N) (h0 : ¬ t.val % 8 = 0) (hp : t.val - 1 < cfg0.N) (h : Fin 4) (d : Fin 128) (e : Fin 256) :
    (outsAt0 m c (t.val - 1) hp).2.2 (ix4 (0 : Fin 1) h d e) = SS m c (bat t) (4 * (t.val % 8)) h d e := by
  have hb : bat ⟨t.val - 1, hp⟩ = bat t := Fin.ext (show (t.val - 1) / 8 = t.val / 8 by omega)
  rw [scr, hb, show 4 * ((t.val - 1) % 8) + 4 = 4 * (t.val % 8) by omega]

/-- A point's block of outputs, from the state before it. -/
theorem out_of (t : Fin cfg0.N) (s : Vec Ideal S1x4x128x256 .f32)
    (hs : ∀ h d e, s (ix4 (0 : Fin 1) h d e) = SS m c (bat t) (4 * (t.val % 8)) h d e) (ci : Fin 4) (i : Fin 64) (h : Fin 4) (e : Fin 256) :
    outB (QE (X0_0 m c t) (X0_1 m c t) (iblk m c 3 t) (iblk m c 4 t)) (KE (X0_0 m c t) (X0_1 m c t) (iblk m c 3 t) (iblk m c 4 t)) (Kt m c t) (Dt m c t) (Vt m c t)
        (k0_pay26 (k0_pay6 (X0_0 m c t))) (iblk m c 5 t) (iblk m c 6 t) s (ix2 (crow ci i) (vlane h e))
      = Gla.out (P0 m c) (P1 m c) (P2 m c) (P3 m c) (P4 m c) (P5 m c) (bat t) (chk t ci) i h e := by
  rw [outB_ix]
  have e1 : (fun k : Fin 256 => rawO (QE (X0_0 m c t) (X0_1 m c t) (iblk m c 3 t) (iblk m c 4 t)) (KE (X0_0 m c t) (X0_1 m c t) (iblk m c 3 t) (iblk m c 4 t)) (Vt m c t)
        (st (Dt m c t) (Kt m c t) (Vt m c t) s ci.val) ci h (ix2 i k))
      = fun k => Gla.intra (P0 m c) (P1 m c) (P2 m c) (P3 m c) (bat t) (chk t ci) i h k + Gla.inter (P0 m c) (P1 m c) (P2 m c) (P3 m c) (bat t) (chk t ci) i h k := by
    funext k
    rw [rawO_ix]
    simp only [qe_blk, ke_blk, v_blk, st_blk m c t s hs ci.val (by omega)]
    rfl
  unfold outAt
  rw [e1, sr_blk, x5_ix, x6_ix]
  rfl

/-- A point's block of outputs. -/
theorem out_blk (t : Fin cfg0.N) (ci : Fin 4) (i : Fin 64) (h : Fin 4) (e : Fin 256) :
    (outsAt0 m c t.val t.isLt).1 (ix2 (crow ci i) (vlane h e))
      = Gla.out (P0 m c) (P1 m c) (P2 m c) (P3 m c) (P4 m c) (P5 m c) (bat t) (chk t ci) i h e := by
  by_cases h0 : t.val % 8 = 0
  · rw [outsAt0_A m c t h0 (by omega)]
    dsimp only
    rw [oA]
    exact out_of m c t _ (init_blk m c t h0) ci i h e
  · by_cases h1 : t.val % 8 = 7
    · rw [outsAt0_C m c t h0 h1]
      dsimp only
      rw [oC]
      exact out_of m c t _ (scr_prev m c t h0 _) ci i h e
    · rw [outsAt0_B m c t h0 h1]
      dsimp only
      rw [oB]
      exact out_of m c t _ (scr_prev m c t h0 _) ci i h e

/-- The state that a batch's last point writes. -/
theorem fin_blk (t : Fin cfg0.N) (h1 : t.val % 8 = 7) (h : Fin 4) (d : Fin 128) (e : Fin 256) :
    (outsAt0 m c t.val t.isLt).2.1 (ix5 (0 : Fin 1) (0 : Fin 1) h d e) = SS m c (bat t) 32 h d e := by
  have h0 : ¬ t.val % 8 = 0 := by omega
  rw [outsAt0_C m c t h0 h1]
  dsimp only
  rw [wC]
  have e0 : ∀ s : Vec Ideal S1x4x128x256 .f32, k0_pay1 (F := Ideal) s (ix5 (0 : Fin 1) (0 : Fin 1) h d e) = s (ix4 (0 : Fin 1) h d e) := by
    intro s
    unfold_payloads
    pointwise
  rw [e0]
  refine (st_blk m c t _ (scr_prev m c t h0 _) 4 (le_refl _) h d e).trans ?_
  rw [show 4 * (t.val % 8) + 4 = 32 by omega]

/-- The first result where the prompt's rows are. -/
def G7 : Vec Ideal S8320x1024 .f32 := fun j =>
  Gla.out (P0 m c) (P1 m c) (P2 m c) (P3 m c) (P4 m c) (P5 m c) ⟨(j 0).val / 2048 % 4, by omega⟩ ⟨(j 0).val % 2048 / 64, by omega⟩ ⟨(j 0).val % 64, by omega⟩
    ⟨(j 1).val / 256 % 4, by omega⟩ ⟨(j 1).val % 256, by omega⟩

/-- The second result. -/
def G8 : Vec Ideal S1x4x4x128x256 .f32 := fun j => SS m c (j 1) 32 (j 2) (j 3) (j 4)

/-- A point's block of outputs lies in the first result where the point's block is placed. -/
theorem place7 (t : Fin cfg0.N) (z : S256x1024.Idx) (w : S8320x1024.Idx) (v0 : (w 0).val = t.val * 256 + (z 0).val) (v1 : (w 1).val = (z 1).val) :
    (outsAt0 m c t.val t.isLt).1 z = G7 m c w := by
  have z0 : (z 0).val < 256 := (z 0).isLt
  have z1 : (z 1).val < 1024 := (z 1).isLt
  have ez : z = ix2 (crow (⟨(z 0).val / 64, by omega⟩ : Fin 4) (⟨(z 0).val % 64, by omega⟩ : Fin 64)) (vlane (⟨(z 1).val / 256, by omega⟩ : Fin 4) (⟨(z 1).val % 256, by omega⟩ : Fin 256)) := by
    funext a
    apply Fin.ext
    fin_cases a
    · show (z 0).val = 64 * ((z 0).val / 64) + (z 0).val % 64
      omega
    · show (z 1).val = 256 * ((z 1).val / 256) + (z 1).val % 256
      omega
  have ht := t.isLt
  have hN := In.hN
  refine ((congrArg (outsAt0 m c t.val t.isLt).1 ez).trans (out_blk m c t _ _ _ _)).trans ?_
  unfold G7
  congr 1
  · apply Fin.ext
    show t.val / 8 = (w 0).val / 2048 % 4
    omega
  · apply Fin.ext
    show 4 * (t.val % 8) + (z 0).val / 64 = (w 0).val % 2048 / 64
    omega
  · apply Fin.ext
    show (z 0).val % 64 = (w 0).val % 64
    omega
  · apply Fin.ext
    show (z 1).val / 256 = (w 1).val / 256 % 4
    omega
  · apply Fin.ext
    show (z 1).val % 256 = (w 1).val % 256
    omega

/-- The first result after the run, on the prompt's rows. -/
theorem final7 (i : S8320x1024.Idx) (hi : (i 0).val < 8192) : ((dats m 0 c).arrAt 7 cfg0.N : Vec Ideal S8320x1024 .f32) i = G7 m c i := by
  have h := (dats m 0 c).arrAt_apply_of_coversWhere 7 (G7 m c) (P := fun i : S8320x1024.Idx => (i 0).val / 256 < 32) (fun β => β (0 : Fin 2) < 32) (by decide +kernel)
    (fun t hf y => by
      blk_simp
      rw [after0_7]
      refine place7 m c t _ _ ?_ ?_
      · blk_simp [idx7 t]
      · blk_simp [idx7 t])
    (fun j => Iff.rfl) i
  rw [if_pos (by omega)] at h
  exact h

/-- A batch's last point is the one that writes the state back. -/
theorem flush8 : ∀ t : Fin cfg0.N, (cfg0.win 8).flush t = true → t.val % 8 = 7 :=
  (by decide +kernel : ∀ t : Fin grid0.N, win0_8.flush t = true → t.val % 8 = 7)

/-- A batch's last point's state lies in the second result where the point's block is placed. -/
theorem place8 (t : Fin cfg0.N) (h7 : t.val % 8 = 7) (z : S1x1x4x128x256.Idx) (w : S1x4x4x128x256.Idx) (v1 : (w 1).val = t.val / 8)
    (v2 : (w 2).val = (z 2).val) (v3 : (w 3).val = (z 3).val) (v4 : (w 4).val = (z 4).val) :
    (outsAt0 m c t.val t.isLt).2.1 z = G8 m c w := by
  have z0 : (z 0).val < 1 := (z 0).isLt
  have z1 : (z 1).val < 1 := (z 1).isLt
  have ez : z = ix5 (0 : Fin 1) (0 : Fin 1) (z 2 : Fin 4) (z 3 : Fin 128) (z 4 : Fin 256) := by
    funext a
    apply Fin.ext
    fin_cases a
    · show (z 0).val = 0; omega
    · show (z 1).val = 0; omega
    all_goals rfl
  refine ((congrArg (outsAt0 m c t.val t.isLt).2.1 ez).trans (fin_blk m c t h7 _ _ _)).trans ?_
  have e1 : bat t = w 1 := Fin.ext v1.symm
  have e2 : z 2 = w 2 := Fin.ext v2.symm
  have e3 : z 3 = w 3 := Fin.ext v3.symm
  have e4 : z 4 = w 4 := Fin.ext v4.symm
  unfold G8
  rw [e1, e2, e3, e4]

/-- The second result after the run. -/
theorem final8 : (dats m 0 c).arrAt 8 cfg0.N = G8 m c := by
  refine (dats m 0 c).arrAt_eq_of_covers 8 _ (by decide +kernel) fun t hf y => ?_
  blk_simp
  rw [after0_8]
  refine place8 m c t (flush8 t hf) _ _ ?_ ?_ ?_ ?_ <;> blk_simp [idx8 t]

end Cert.KernelIdeal.Out
-- ==== Proof.GlaClaims.lean ====
module

public import proofs.«01_k».proof.Defs
public import proofs.«01_k».proof.Proof.RefVal
public import proofs.«01_k».proof.Proof.KerVal
public import proofs.«01_k».proof.Proof.Gen.Kernel.Frame
public import proofs.«01_k».proof.Proof.Gen.KernelIdeal.Frame
public import proofs.«01_k».proof.Proof.Gen.On_prompt_rows
public import Idealize.ShloMosaic.Adequacy
public import Idealize.ShloMosaic.Init

@[expose] public section

set_option maxRecDepth 100000

noncomputable section

/-! # The claims about the gated linear attention call: its frames, and its values against the reference -/

open Idealize.ShloMosaic Idealize.ShloMosaic.TcCoe Idealize.SL.Sem Idealize.ShloMosaic.StableHlo

namespace Cert.ReferenceIdeal.Value

open Cert.ReferenceIdeal Cert.ReferenceIdeal.Gen

variable (m : (ℓ : Loc nD τ sig) → Buf (Elt Ideal) ℓ) (c : Dev nD)

/-- A buffer that the stages before and after the loop keep, and that no trip writes, ends as it was launched. -/
theorem kept (r : Ref sig .tc) (hp : ∀ V : Valuation τ sig (Elt Ideal), afterL postI V (Proc.devRef .tc r) = V (Proc.devRef .tc r))
    (he : entryContents preI m c (Proc.devRef .tc r) = launchContents m c (Proc.devRef .tc r))
    (hc : r ∉ condOps_W) (hw : r ∉ while0Ops0_W ∧ r ∉ while0Ops0_1_W ∧ r ∉ while0Ops0_2_W ∧ r ∉ while0Ops0_3_W ∧ r ∉ while0Ops0_4_W ∧ r ∉ while0Ops0_5_W) :
    finalContents condOps preI bodyI postI 32 m c (Proc.devRef .tc r) = launchContents m c (Proc.devRef .tc r) := by
  refine (hp (after condOps (atK m 32 c))).trans ?_
  rw [cond_keep r hc, atK_keep m c r hc hw.1 hw.2.1 hw.2.2.1 hw.2.2.2.1 hw.2.2.2.2.1 hw.2.2.2.2.2, he]

/-- The reference leaves its six arguments as it found them. -/
theorem kept_args : ∀ r ∈ [main_arg0, main_arg1, main_arg2, main_arg3, main_arg4, main_arg5],
    finalContents condOps preI bodyI postI 32 m c (Proc.devRef .tc r) = launchContents m c (Proc.devRef .tc r) := by
  intro r hr
  simp only [List.mem_cons, List.not_mem_nil, or_false] at hr
  rcases hr with rfl | rfl | rfl | rfl | rfl | rfl <;>
    exact kept m c _ (fun V => by simp only [afterL_cons, afterL_nil]; after_reads_simp) (by simp only [entryContents, afterL_cons, afterL_nil]; after_reads_simp)
      (by decide) (by decide)

/-- The reference's run: its two results and its arguments, buffer by buffer. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v84) = finalContents condOps preI bodyI postI 32 m c (Proc.devRef .tc main_v84)
    ∧ r.2.mem ((c.tc : Thread nD τ).loc main_v85) = finalContents condOps preI bodyI postI 32 m c (Proc.devRef .tc main_v85)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨h c main_v84 (by decide), h c main_v85 (by decide), (h c main_arg0 (by decide)).trans (kept_args m c main_arg0 (by simp)), (h c main_arg1 (by decide)).trans (kept_args m c main_arg1 (by simp)), (h c main_arg2 (by decide)).trans (kept_args m c main_arg2 (by simp)), (h c main_arg3 (by decide)).trans (kept_args m c main_arg3 (by simp)), (h c main_arg4 (by decide)).trans (kept_args m c main_arg4 (by simp)), (h c main_arg5 (by decide)).trans (kept_args m c main_arg5 (by simp))⟩) (run_fold m ρ)

end Cert.ReferenceIdeal.Value

namespace Cert.On_prompt_rows

open Cert.On_prompt_rows.Gen

/-- The mask of the first result is set exactly on the prompt's rows. -/
theorem fn_apply_iff (x0 : FVec Ideal S8320x3072 .f32) (x1 : FVec Ideal S8320x128 .f32) (x2 : FVec Ideal S16x512 .f32) (x3 : FVec Ideal S512 .f32)
    (x4 x5 : FVec Ideal S1024 .f32) (i : S8320x1024.Idx) : (fn x0 x1 x2 x3 x4 x5).1 i = 1#1 ↔ (i 0 : Nat) < 8192 := by
  have key : ∀ r : Nat, r < 8320 → (IntOp.cmpi .slt (BitVec.ofNat 32 r) 8192#32 = 1#1 ↔ r < 8192) := by
    intro r hr
    unfold IntOp.cmpi
    have e : (BitVec.ofNat 32 r).slt 8192#32 = decide (r < 8192) := by
      rw [BitVec.slt_eq_decide, BitVec.toInt_ofNat', Int.bmod_eq_of_le (by omega) (by omega), show (8192#32 : BitVec 32).toInt = 8192 from by decide]
      simp only [decide_eq_decide]
      omega
    simp only [e]
    by_cases h : r < 8192 <;> simp [h]
  show IntOp.cmpi .slt (BitVec.ofNat 32 (i 0 : Nat)) 8192#32 = 1#1 ↔ _
  exact key _ (i 0).isLt

end Cert.On_prompt_rows

namespace Cert.Proof.Gla

open Cert.KernelIdeal (nD)

/-- The kernel runs, ends, and leaves its arguments and every semaphore as they were. -/
theorem frame_k : Cert.quiescent_Kernel := fun m ρ _ => Cert.Kernel.Gen.frame m ρ
/-- So does the kernel read at the extended reals. -/
theorem frame_ki : Cert.quiescent_KernelIdeal := fun m ρ _ => Cert.KernelIdeal.Gen.frame m ρ
/-- So does the reference. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run m ρ)

/-- The ideal reading rewrote no operation. -/
theorem preserves : Cert.preserves_Kernel_KernelIdeal := trivial

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Arguments that agree have the same entries. -/
theorem P_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.P0 m' c = Cert.KernelIdeal.In.P0 m c ∧ Cert.ReferenceIdeal.Value.P1 m' c = Cert.KernelIdeal.In.P1 m c ∧ Cert.ReferenceIdeal.Value.P2 m' c = Cert.KernelIdeal.In.P2 m c ∧ Cert.ReferenceIdeal.Value.P3 m' c = Cert.KernelIdeal.In.P3 m c ∧ Cert.ReferenceIdeal.Value.P4 m' c = Cert.KernelIdeal.In.P4 m c ∧ Cert.ReferenceIdeal.Value.P5 m' c = Cert.KernelIdeal.In.P5 m c :=
  ⟨funext fun r => funext fun l => congrFun h0 (ix2 r l), funext fun r => funext fun l => congrFun h1 (ix2 r l), funext fun r => funext fun l => congrFun h2 (ix2 r l), funext fun l => congrFun h3 (ix1 l), funext fun l => congrFun h4 (ix1 l), funext fun l => congrFun h5 (ix1 l)⟩

/-- The reference's first result on the prompt's rows is the kernel's. -/
theorem ref7 (hP : Cert.ReferenceIdeal.Value.P0 m' c = Cert.KernelIdeal.In.P0 m c ∧ Cert.ReferenceIdeal.Value.P1 m' c = Cert.KernelIdeal.In.P1 m c ∧ Cert.ReferenceIdeal.Value.P2 m' c = Cert.KernelIdeal.In.P2 m c ∧ Cert.ReferenceIdeal.Value.P3 m' c = Cert.KernelIdeal.In.P3 m c ∧ Cert.ReferenceIdeal.Value.P4 m' c = Cert.KernelIdeal.In.P4 m c ∧ Cert.ReferenceIdeal.Value.P5 m' c = Cert.KernelIdeal.In.P5 m c)
    (i : Cert.KernelIdeal.S8320x1024.Idx) (hi : (i 0 : Nat) < 8192) :
    (finalContents Cert.ReferenceIdeal.Value.condOps Cert.ReferenceIdeal.Value.preI Cert.ReferenceIdeal.Value.bodyI Cert.ReferenceIdeal.Value.postI 32 m' c
      (Proc.devRef .tc Cert.ReferenceIdeal.main_v84) : FVec Ideal Cert.KernelIdeal.S8320x1024 .f32) i = Cert.KernelIdeal.Out.G7 m c i := by
  have i1 : (i 1).val < 1024 := (i 1).isLt
  obtain ⟨h0, h1, h2, h3, h4, h5⟩ := hP
  have e : i = ix2 (Cert.Gla.tok ⟨(i 0).val / 2048 % 4, by omega⟩ ⟨(i 0).val % 2048 / 64, by omega⟩ ⟨(i 0).val % 64, by omega⟩)
      (Cert.Gla.vl ⟨(i 1).val / 256 % 4, by omega⟩ ⟨(i 1).val % 256, by omega⟩) := by
    funext a
    refine Fin.cases ?_ (fun a => ?_) a
    · apply Fin.ext
      show (i 0).val = _
      simp only [Cert.Gla.tok]
      show (i 0).val = (i 0).val / 2048 % 4 * 2048 + ((i 0).val % 2048 / 64 * 64 + (i 0).val % 64)
      omega
    · obtain rfl : a = 0 := Subsingleton.elim _ _
      apply Fin.ext
      show (i 1).val = 256 * ((i 1).val / 256 % 4) + (i 1).val % 256
      omega
  have k := Cert.ReferenceIdeal.Value.final84 m' c ⟨(i 0).val / 2048 % 4, by omega⟩ ⟨(i 0).val % 2048 / 64, by omega⟩ ⟨(i 0).val % 64, by omega⟩
    ⟨(i 1).val / 256 % 4, by omega⟩ ⟨(i 1).val % 256, by omega⟩
  rw [← e, h0, h1, h2, h3, h4, h5] at k
  exact k

/-- The reference's second result is the kernel's. -/
theorem ref8 (hP : Cert.ReferenceIdeal.Value.P0 m' c = Cert.KernelIdeal.In.P0 m c ∧ Cert.ReferenceIdeal.Value.P1 m' c = Cert.KernelIdeal.In.P1 m c ∧ Cert.ReferenceIdeal.Value.P2 m' c = Cert.KernelIdeal.In.P2 m c ∧ Cert.ReferenceIdeal.Value.P3 m' c = Cert.KernelIdeal.In.P3 m c ∧ Cert.ReferenceIdeal.Value.P4 m' c = Cert.KernelIdeal.In.P4 m c ∧ Cert.ReferenceIdeal.Value.P5 m' c = Cert.KernelIdeal.In.P5 m c)
    (i : Cert.KernelIdeal.S1x4x4x128x256.Idx) :
    (finalContents Cert.ReferenceIdeal.Value.condOps Cert.ReferenceIdeal.Value.preI Cert.ReferenceIdeal.Value.bodyI Cert.ReferenceIdeal.Value.postI 32 m' c
      (Proc.devRef .tc Cert.ReferenceIdeal.main_v85) : FVec Ideal Cert.KernelIdeal.S1x4x4x128x256 .f32) i = Cert.KernelIdeal.Out.G8 m c i := by
  obtain ⟨h0, h1, h2, h3, h4, h5⟩ := hP
  have e : i = ix5 (i 0) (i 1) (i 2) (i 3) (i 4) := by
    funext a; fin_cases a <;> rfl
  have k := Cert.ReferenceIdeal.Value.final85 m' c (i 1) (i 2) (i 3) (i 4) (i 0)
  rw [h0, h1, h2, h3] at k
  refine (congrArg _ e).trans (k.trans ?_)
  rfl

/-- At the extended reals the kernel and the reference, from arguments that agree, end with the same outputs on every prompt row and with the
    same final states. -/
theorem algebraic : Cert.algebraic_KernelIdeal_ReferenceIdeal_on_prompt_rows := by
  intro m ρ m' ρ' _ hagree
  have hP (c : Dev Cert.KernelIdeal.nD) := P_eq m m' c (hagree c).1 (hagree c).2.1 (hagree c).2.2.1 (hagree c).2.2.2.1 (hagree c).2.2.2.2.1 (hagree c).2.2.2.2.2
  refine ⟨fun c => Cert.KernelIdeal.Out.G7 m c, fun c => Cert.KernelIdeal.Out.G8 m c, ?_, ?_⟩
  · refine (θ_run Cert.KernelIdeal.defs _ _).mono (fun r h c => ⟨fun i hi => ?_, fun i _ => ?_, (h c).2.2⟩) (Cert.KernelIdeal.Value.run_blocks m ρ)
    · exact (congrFun (h c).1 i).trans (Cert.KernelIdeal.Out.final7 m c i ((Cert.On_prompt_rows.fn_apply_iff _ _ _ _ _ _ i).mp hi))
    · exact congrFun ((h c).2.1.trans (Cert.KernelIdeal.Out.final8 m c)) i
  · refine (θ_run Cert.ReferenceIdeal.defs _ _).mono (fun r h c => ⟨fun i hi => ?_, fun i _ => ?_, (h c).2.2⟩) (Cert.ReferenceIdeal.Value.run m' ρ')
    · exact (congrFun (h c).1 i).trans (ref7 m m' c (hP c) i ((Cert.On_prompt_rows.fn_apply_iff _ _ _ _ _ _ i).mp hi))
    · exact (congrFun (h c).2.1 i).trans (ref8 m m' c (hP c) i)

end Cert.Proof.Gla

end
-- ==== Proof.Dense.lean ====
module

public import Idealize.ShloMosaic.PureOps.Ideal
public import Idealize.ShloMosaic.Lib.Pointwise

@[expose] public section

noncomputable section

/-! # The dense parts of the layer, as sums over the extended reals -/

open Idealize.ShloMosaic

namespace Cert.Dense

/-- A product of the token rows with a matrix, entry by entry. -/
def mm {K n : ℕ} (a : Fin 8320 → Fin K → EReal) (w : Fin K → Fin n → EReal) (i : Fin 8320) (j : Fin n) : EReal := ∑ k : Fin K, a i k * w k j

/-- A block's sum of products is the product's entry where its factors are the rows' and the matrix's. -/
theorem mm_of {K n : ℕ} {a : Fin 8320 → Fin K → EReal} {w : Fin K → Fin n → EReal} {i : Fin 8320} {j : Fin n} {x y : Fin K → EReal}
    (hx : ∀ k, x k = a i k) (hy : ∀ k, y k = w k j) : ∑ k, x k * y k = mm a w i j := by
  unfold mm
  exact Finset.sum_congr rfl fun k _ => by rw [hx, hy]

/-- A product depends on a row and a column alone. -/
theorem mm_congr {K n n' : ℕ} {a a' : Fin 8320 → Fin K → EReal} {w : Fin K → Fin n → EReal} {w' : Fin K → Fin n' → EReal} {i : Fin 8320} {j : Fin n} {j' : Fin n'}
    (ha : ∀ k, a i k = a' i k) (hw : ∀ k, w k j = w' k j') : mm a w i j = mm a' w' i j' :=
  mm_of ha hw

/-- Against a column of zeros a product is zero. -/
theorem mm_zero {K n : ℕ} {a : Fin 8320 → Fin K → EReal} {w : Fin K → Fin n → EReal} {i : Fin 8320} {j : Fin n} (hw : ∀ k, w k j = 0) : mm a w i j = 0 := by
  unfold mm
  exact Finset.sum_eq_zero fun k _ => by rw [hw, mul_zero]

/-- The root mean square norm of the token rows, scaled: each entry by the reciprocal root of its row's mean square plus a small constant, and by its column's
scale. -/
def norm (x : Fin 8320 → Fin 2048 → EReal) (g : Fin 2048 → EReal) (i : Fin 8320) (l : Fin 2048) : EReal :=
  x i l * Ideal.rsqrt (Ideal.div (∑ k, x i k * x i k) (Ideal.ofBits FTy.f32 1157627904#32) + Ideal.ofBits FTy.f32 897988541#32) * g l

/-- A block's norm is the norm's entry where its row and its scale are the array's. -/
theorem norm_of {x : Fin 8320 → Fin 2048 → EReal} {g : Fin 2048 → EReal} {i : Fin 8320} {l : Fin 2048} {x' g' : EReal} {X : Fin 2048 → EReal}
    (hx : x' = x i l) (hX : ∀ k, X k = x i k) (hg : g' = g l) :
    x' * Ideal.rsqrt (Ideal.div (∑ k, X k * X k) (Ideal.ofBits FTy.f32 1157627904#32) + Ideal.ofBits FTy.f32 897988541#32) * g' = norm x g i l := by
  unfold norm
  rw [hx, hg, Finset.sum_congr rfl fun k _ => by rw [hX k]]

/-- A gate: the logistic function. -/
def gate (x : EReal) : EReal := Ideal.div 1 (1 + Ideal.exp (-x))

/-- The three branches' outputs, each projected and gated, added up. -/
def mix (a b d : Fin 8320 → Fin 1024 → EReal) (p : Fin 8320 → Fin 6144 → EReal) (w : Fin 3 → Fin 1024 → Fin 2048 → EReal) (i : Fin 8320) (j : Fin 2048) : EReal :=
  gate (p i ⟨j.val, by omega⟩) * mm a (w 0) i j + gate (p i ⟨2048 + j.val, by omega⟩) * mm b (w 1) i j + gate (p i ⟨4096 + j.val, by omega⟩) * mm d (w 2) i j

/-- A block's mix is the mix's entry where its gates and its factors are the arrays'. -/
theorem mix_of {a b d : Fin 8320 → Fin 1024 → EReal} {p : Fin 8320 → Fin 6144 → EReal} {w : Fin 3 → Fin 1024 → Fin 2048 → EReal} {i : Fin 8320} {j : Fin 2048}
    {g0 g1 g2 : EReal} {x0 x1 x2 y0 y1 y2 : Fin 1024 → EReal} (h0 : g0 = p i ⟨j.val, by omega⟩) (h1 : g1 = p i ⟨2048 + j.val, by omega⟩) (h2 : g2 = p i ⟨4096 + j.val, by omega⟩)
    (e0 : ∀ k, x0 k = a i k) (e1 : ∀ k, x1 k = b i k) (e2 : ∀ k, x2 k = d i k) (f0 : ∀ k, y0 k = w 0 k j) (f1 : ∀ k, y1 k = w 1 k j) (f2 : ∀ k, y2 k = w 2 k j) :
    Ideal.div 1 (1 + Ideal.exp (0 - g0)) * ∑ k, x0 k * y0 k + Ideal.div 1 (1 + Ideal.exp (0 - g1)) * ∑ k, x1 k * y1 k
      + Ideal.div 1 (1 + Ideal.exp (0 - g2)) * ∑ k, x2 k * y2 k = mix a b d p w i j := by
  rw [mm_of e0 f0, mm_of e1 f1, mm_of e2 f2, h0, h1, h2, zero_sub, zero_sub, zero_sub]
  rfl

/-- Rows and a product added to them. -/
def addmm {K : ℕ} (r : Fin 8320 → Fin 2048 → EReal) (a : Fin 8320 → Fin K → EReal) (w : Fin K → Fin 2048 → EReal) (i : Fin 8320) (j : Fin 2048) : EReal := r i j + mm a w i j

/-- A block's entry and its sum of products are those of the arrays. -/
theorem addmm_of {K : ℕ} {r : Fin 8320 → Fin 2048 → EReal} {a : Fin 8320 → Fin K → EReal} {w : Fin K → Fin 2048 → EReal} {i : Fin 8320} {j : Fin 2048} {x0 : EReal} {x y : Fin K → EReal}
    (h : x0 = r i j) (hx : ∀ k, x k = a i k) (hy : ∀ k, y k = w k j) : x0 + ∑ k, x k * y k = addmm r a w i j := by
  rw [h, mm_of hx hy]
  rfl

/-- Rows with a product added depend on the entry, on a row and on a column alone. -/
theorem addmm_congr {K : ℕ} {r r' : Fin 8320 → Fin 2048 → EReal} {a a' : Fin 8320 → Fin K → EReal} {w w' : Fin K → Fin 2048 → EReal} {i : Fin 8320} {j : Fin 2048}
    (hr : r i j = r' i j) (ha : ∀ k, a i k = a' i k) (hw : ∀ k, w k j = w' k j) : addmm r a w i j = addmm r' a' w' i j :=
  addmm_of hr ha hw

/-- Matrices with the same entries are the same. -/
theorem ext2 {α : Type} {a b : ℕ} {f g : (⟨2, ![a, b]⟩ : Shape).Idx → α} (h : ∀ i j, f (ix2 i j) = g (ix2 i j)) : f = g := by
  funext i
  have e : i = ix2 (i 0) (i 1) := by funext k; fin_cases k <;> rfl
  rw [e]
  exact h _ _

end Cert.Dense

end
-- ==== Proof.InVal.lean ====
module

public import proofs.«01_k».proof.Proof.Dense
public import proofs.«01_k».proof.Proof.Gen.KernelInIdeal.Frame
public import Idealize.ShloMosaic.Lib.Pipeline.ValueKit
public import Idealize.ShloMosaic.Lib.StableHlo.RunRead

@[expose] public section

set_option maxRecDepth 16384

noncomputable section

/-! # What each call of the input projections leaves in its result, from what it is entered with -/

open Idealize.ShloMosaic Idealize.ShloMosaic.TcCoe Idealize.SL.Sem Idealize.ShloMosaic.StableHlo

namespace Cert.KernelInIdeal.Val

open Cert.KernelInIdeal Cert.KernelInIdeal.Gen

variable (V : (c : Dev nD) → (b : Ref sig .tc) → Buf (Elt Ideal) ((c : Thread nD τ).loc b)) (c : Dev nD)

/-- The norm's blocks: 640 rows at a time. -/
theorem idx0 (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- The norm's result. -/
theorem out0 : (dat0 V c).arrAt 2 cfg0.N = (fun j : S8320x2048.Idx => Dense.norm (fun i k => (V c main_arg0 : FVec Ideal S8320x2048 .f32) (ix2 i k))
    (fun k => (V c main_v0 : FVec Ideal S1x2048 .f32) (ix2 0 k)) (j 0) (j 1)) := by
  refine (dat0 V c).arrAt_eq_of_covers 2 _ (by decide +kernel) fun t hf y => ?_
  blk_simp
  rw [after0_2]
  frame_out
  unfold_payloads
  pointwise
  refine Dense.norm_of ?_ (fun k => ?_) ?_
  · unfold iblk0
    blk_ext [(idx0 t).1, (idx0 t).2.2]
  · unfold iblk0
    blk_ext [(idx0 t).1, (idx0 t).2.2]
  · unfold iblk0
    blk_ext [(idx0 t).2.1, (idx0 t).2.2]

/-- Product 1's blocks: 640 rows against a panel of columns, the rows first. -/
theorem idx1 (t : Fin cfg1.N) : win1_0.index t = ![t.val % 13, 0] ∧ win1_1.index t = ![0, t.val / 13] ∧ win1_2.index t = ![t.val % 13, t.val / 13] :=
  (by decide +kernel : ∀ t : Fin grid1.N, win1_0.index t = ![t.val % 13, 0] ∧ win1_1.index t = ![0, t.val / 13] ∧ win1_2.index t = ![t.val % 13, t.val / 13]) t

/-- Product 1's result. -/
theorem out1 : (dat1 V c).arrAt 2 cfg1.N = (fun j : S8320x3328.Idx => Dense.mm (fun i k => (V c main_v1 : FVec Ideal S8320x2048 .bf16) (ix2 i k))
    (fun k j => (V c main_v3 : FVec Ideal S2048x3328 .bf16) (ix2 k j)) (j 0) (j 1)) := by
  refine (dat1 V c).arrAt_eq_of_covers 2 _ (by decide +kernel) fun t hf y => ?_
  blk_simp
  rw [after1_2]
  frame_out
  unfold_payloads
  pointwise
  refine Dense.mm_of (fun k => ?_) (fun k => ?_)
  · unfold iblk1
    blk_ext [(idx1 t).1, (idx1 t).2.2]
  · unfold iblk1
    blk_ext [(idx1 t).2.1, (idx1 t).2.2]

/-- Product 2's blocks: 640 rows against a panel of columns, the rows first. -/
theorem idx2 (t : Fin cfg2.N) : win2_0.index t = ![t.val % 13, 0] ∧ win2_1.index t = ![0, t.val / 13] ∧ win2_2.index t = ![t.val % 13, t.val / 13] :=
  (by decide +kernel : ∀ t : Fin grid2.N, win2_0.index t = ![t.val % 13, 0] ∧ win2_1.index t = ![0, t.val / 13] ∧ win2_2.index t = ![t.val % 13, t.val / 13]) t

/-- Product 2's result. -/
theorem out2 : (dat2 V c).arrAt 2 cfg2.N = (fun j : S8320x3072.Idx => Dense.mm (fun i k => (V c main_v1 : FVec Ideal S8320x2048 .bf16) (ix2 i k))
    (fun k j => (V c main_v8 : FVec Ideal S2048x3072 .bf16) (ix2 k j)) (j 0) (j 1)) := by
  refine (dat2 V c).arrAt_eq_of_covers 2 _ (by decide +kernel) fun t hf y => ?_
  blk_simp
  rw [after2_2]
  frame_out
  unfold_payloads
  pointwise
  refine Dense.mm_of (fun k => ?_) (fun k => ?_)
  · unfold iblk2
    blk_ext [(idx2 t).1, (idx2 t).2.2]
  · unfold iblk2
    blk_ext [(idx2 t).2.1, (idx2 t).2.2]

/-- Product 3's blocks: 640 rows against a panel of columns, the rows first. -/
theorem idx3 (t : Fin cfg3.N) : win3_0.index t = ![t.val % 13, 0] ∧ win3_1.index t = ![0, t.val / 13] ∧ win3_2.index t = ![t.val % 13, t.val / 13] :=
  (by decide +kernel : ∀ t : Fin grid3.N, win3_0.index t = ![t.val % 13, 0] ∧ win3_1.index t = ![0, t.val / 13] ∧ win3_2.index t = ![t.val % 13, t.val / 13]) t

/-- Product 3's result. -/
theorem out3 : (dat3 V c).arrAt 2 cfg3.N = (fun j : S8320x128.Idx => Dense.mm (fun i k => (V c main_v1 : FVec Ideal S8320x2048 .bf16) (ix2 i k))
    (fun k j => (V c main_v12 : FVec Ideal S2048x128 .bf16) (ix2 k j)) (j 0) (j 1)) := by
  refine (dat3 V c).arrAt_eq_of_covers 2 _ (by decide +kernel) fun t hf y => ?_
  blk_simp
  rw [after3_2]
  frame_out
  unfold_payloads
  pointwise
  refine Dense.mm_of (fun k => ?_) (fun k => ?_)
  · unfold iblk3
    blk_ext [(idx3 t).1, (idx3 t).2.2]
  · unfold iblk3
    blk_ext [(idx3 t).2.1, (idx3 t).2.2]

/-- Product 4's blocks: 640 rows against a panel of columns, the rows first. -/
theorem idx4 (t : Fin cfg4.N) : win4_0.index t = ![t.val % 13, 0] ∧ win4_1.index t = ![0, t.val / 13] ∧ win4_2.index t = ![t.val % 13, t.val / 13] :=
  (by decide +kernel : ∀ t : Fin grid4.N, win4_0.index t = ![t.val % 13, 0] ∧ win4_1.index t = ![0, t.val / 13] ∧ win4_2.index t = ![t.val % 13, t.val / 13]) t

/-- Product 4's result. -/
theorem out4 : (dat4 V c).arrAt 2 cfg4.N = (fun j : S8320x2048.Idx => Dense.mm (fun i k => (V c main_v1 : FVec Ideal S8320x2048 .bf16) (ix2 i k))
    (fun k j => (V c main_v15 : FVec Ideal S2048x2048 .bf16) (ix2 k j)) (j 0) (j 1)) := by
  refine (dat4 V c).arrAt_eq_of_covers 2 _ (by decide +kernel) fun t hf y => ?_
  blk_simp
  rw [after4_2]
  frame_out
  unfold_payloads
  pointwise
  refine Dense.mm_of (fun k => ?_) (fun k => ?_)
  · unfold iblk4
    blk_ext [(idx4 t).1, (idx4 t).2.2]
  · unfold iblk4
    blk_ext [(idx4 t).2.1, (idx4 t).2.2]

/-- Product 5's blocks: 640 rows against a panel of columns, the rows first. -/
theorem idx5 (t : Fin cfg5.N) : win5_0.index t = ![t.val % 13, 0] ∧ win5_1.index t = ![0, t.val / 13] ∧ win5_2.index t = ![t.val % 13, t.val / 13] :=
  (by decide +kernel : ∀ t : Fin grid5.N, win5_0.index t = ![t.val % 13, 0] ∧ win5_1.index t = ![0, t.val / 13] ∧ win5_2.index t = ![t.val % 13, t.val / 13]) t

/-- Product 5's result. -/
theorem out5 : (dat5 V c).arrAt 2 cfg5.N = (fun j : S8320x6144.Idx => Dense.mm (fun i k => (V c main_v1 : FVec Ideal S8320x2048 .bf16) (ix2 i k))
    (fun k j => (V c main_v18 : FVec Ideal S2048x6144 .bf16) (ix2 k j)) (j 0) (j 1)) := by
  refine (dat5 V c).arrAt_eq_of_covers 2 _ (by decide +kernel) fun t hf y => ?_
  blk_simp
  rw [after5_2]
  frame_out
  unfold_payloads
  pointwise
  refine Dense.mm_of (fun k => ?_) (fun k => ?_)
  · unfold iblk5
    blk_ext [(idx5 t).1, (idx5 t).2.2]
  · unfold iblk5
    blk_ext [(idx5 t).2.1, (idx5 t).2.2]

end Cert.KernelInIdeal.Val

end
-- ==== Proof.InHost.lean ====
module

public import proofs.«01_k».proof.Proof.InVal

@[expose] public section

set_option maxRecDepth 16384

noncomputable section

/-! # The weights the host cuts for each product -/

open Idealize.ShloMosaic Idealize.ShloMosaic.TcCoe Idealize.SL.Sem Idealize.ShloMosaic.StableHlo

namespace Cert.KernelInIdeal.Val

open Cert.KernelInIdeal Cert.KernelInIdeal.Gen

variable (V : Valuation τ sig (Elt Ideal))

/-- The scale as a row. -/
theorem host0 (l : Fin 2048) : (after hostOps0 V (Proc.devRef .tc main_v0) : FVec Ideal S1x2048 .f32) (ix2 0 l)
    = (V (Proc.devRef .tc main_arg1) : FVec Ideal S2048 .f32) (ix1 l) := by
  after_reads_simp
  pointwise

/-- The first product's columns. -/
theorem host1 (k : Fin 2048) (j : Fin 3328) : (after hostOps1 V (Proc.devRef .tc main_v3) : FVec Ideal S2048x3328 .bf16) (ix2 k j)
    = (V (Proc.devRef .tc main_arg2) : FVec Ideal S2048x14608 .f32) (ix2 k ⟨j.val, by omega⟩) := by
  after_reads_simp
  pointwise

/-- The second product's columns: the queries, keys and values, then the output gates. -/
theorem host2 (k : Fin 2048) (j : Fin 3072) : (after hostOps2 V (Proc.devRef .tc main_v8) : FVec Ideal S2048x3072 .bf16) (ix2 k j)
    = (V (Proc.devRef .tc main_arg2) : FVec Ideal S2048x14608 .f32) (ix2 k ⟨if j.val < 2048 then 3328 + j.val else 3344 + j.val, by split <;> omega⟩) := by
  after_reads_simp
  pointwise
  have e5 : (upto hostOps2 V 2 (Proc.devRef .tc main_v5) : FVec Ideal S2048x2048 .f32)
      = extractStridedSlice S2048x2048 ![0, 3328] (V (Proc.devRef .tc main_arg2) : FVec Ideal S2048x14608 .f32) slices_S2048x14608_S2048x2048_0_3328 := by
    after_reads_simp
  have e6 : (upto hostOps2 V 2 (Proc.devRef .tc main_v6) : FVec Ideal S2048x1024 .f32)
      = extractStridedSlice S2048x1024 ![0, 5392] (V (Proc.devRef .tc main_arg2) : FVec Ideal S2048x14608 .f32) slices_S2048x14608_S2048x1024_0_5392 := by
    after_reads_simp
  split
  · refine (congrFun e5 _).trans ?_
    pointwise
  · refine (congrFun e6 _).trans ?_
    pointwise
    exact congrArg (fun l : Fin 14608 => (V (Proc.devRef .tc main_arg2) : FVec Ideal S2048x14608 .f32) (ix2 k l)) (Fin.ext (show 5392 + (j.val - 2048) = 3344 + j.val by omega))

/-- The third product's columns: the sixteen of the gate's low rank, and zeros. -/
theorem host3 (k : Fin 2048) (j : Fin 128) : (after hostOps3_2 (after hostOps3_1 (after hostOps3 V)) (Proc.devRef .tc main_v12) : FVec Ideal S2048x128 .bf16) (ix2 k j)
    = if h : j.val < 16 then (V (Proc.devRef .tc main_arg2) : FVec Ideal S2048x14608 .f32) (ix2 k ⟨5376 + j.val, by omega⟩) else (0 : EReal) := by
  after_reads_simp
  simp only [TRef.toBuf, TRef.ofBuf, cast_eq]
  pointwise
  split
  · rfl
  · show (((0#32 : BitVec 32).toInt : ℝ) : EReal) = 0
    simp

/-- The fourth product's columns. -/
theorem host4 (k : Fin 2048) (j : Fin 2048) : (after hostOps4 V (Proc.devRef .tc main_v15) : FVec Ideal S2048x2048 .bf16) (ix2 k j)
    = (V (Proc.devRef .tc main_arg2) : FVec Ideal S2048x14608 .f32) (ix2 k ⟨6416 + j.val, by omega⟩) := by
  after_reads_simp
  pointwise
/-- The fifth product's columns. -/
theorem host5 (k : Fin 2048) (j : Fin 6144) : (after hostOps5 V (Proc.devRef .tc main_v18) : FVec Ideal S2048x6144 .bf16) (ix2 k j)
    = (V (Proc.devRef .tc main_arg2) : FVec Ideal S2048x14608 .f32) (ix2 k ⟨8464 + j.val, by omega⟩) := by
  after_reads_simp
  pointwise

end Cert.KernelInIdeal.Val

end
-- ==== Proof.InRun.lean ====
module

public import proofs.«01_k».proof.Proof.InHost

@[expose] public section

set_option maxRecDepth 16384

noncomputable section

/-! # The run of the input projections: what every call is entered with, and what the launch ends with -/

open Idealize.ShloMosaic Idealize.ShloMosaic.TcCoe
open Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelInIdeal.Val

open Cert.KernelInIdeal Cert.KernelInIdeal.Gen

variable (m : (ℓ : Loc nD τ sig) → Buf (Elt Ideal) ℓ) (ρ : Dev nD → PrngReg) (c : Dev nD)

/-- The token rows. -/
abbrev X : FVec Ideal S8320x2048 .f32 := m ((c : Thread nD τ).loc main_arg0)
/-- The norm's scale. -/
abbrev G : FVec Ideal S2048 .f32 := m ((c : Thread nD τ).loc main_arg1)
/-- The projections' matrix. -/
abbrev Wt : FVec Ideal S2048x14608 .f32 := m ((c : Thread nD τ).loc main_arg2)
/-- The normed rows. -/
abbrev H : Fin 8320 → Fin 2048 → EReal := Dense.norm (fun i k => X m c (ix2 i k)) (fun k => G m c (ix1 k))
/-- A projection's entry. -/
abbrev P (i : Fin 8320) (j : Fin 14608) : EReal := Dense.mm (H m c) (fun k l => Wt m c (ix2 k l)) i j

/-- The norm's call leaves the normed rows. -/
theorem h2 (i : Fin 8320) (k : Fin 2048) : (W2 m ρ c (Proc.devRef .tc main_v1) : FVec Ideal S8320x2048 .bf16) (ix2 i k) = H m c i k := by
  refine (congrFun ((W2_arr m ρ c 2).trans (out0 (V1 m ρ) c)) (ix2 i k)).trans ?_
  have e0 : V1 m ρ c main_arg0 = X m c := W1_args m ρ c _ (by decide)
  have e1 : (fun k => (V1 m ρ c main_v0 : FVec Ideal S1x2048 .f32) (ix2 0 k)) = fun k => G m c (ix1 k) := funext fun k => host0 (W0 m ρ c) k
  show Dense.norm (fun i k => (V1 m ρ c main_arg0 : FVec Ideal S8320x2048 .f32) (ix2 i k)) (fun k => (V1 m ρ c main_v0 : FVec Ideal S1x2048 .f32) (ix2 0 k)) i k = _
  rw [e0, e1]

/-- The normed rows as the first product is entered with them. -/
theorem v1_3 : W3 m ρ c (Proc.devRef .tc main_v1) = W2 m ρ c (Proc.devRef .tc main_v1) := W3_of m ρ c _ (by decide)
/-- The normed rows as the second product is entered with them. -/
theorem v1_5 : W5 m ρ c (Proc.devRef .tc main_v1) = W2 m ρ c (Proc.devRef .tc main_v1) :=
  (W5_of m ρ c _ (by decide)).trans ((W4_of m ρ c _ (by decide)).trans (v1_3 m ρ c))
/-- The normed rows as the third product is entered with them. -/
theorem v1_9 : W9 m ρ c (Proc.devRef .tc main_v1) = W2 m ρ c (Proc.devRef .tc main_v1) :=
  (W9_of m ρ c _ (by decide)).trans ((W8_of m ρ c _ (by decide)).trans ((W7_of m ρ c _ (by decide)).trans ((W6_of m ρ c _ (by decide)).trans (v1_5 m ρ c))))
/-- The normed rows as the fourth product is entered with them. -/
theorem v1_11 : W11 m ρ c (Proc.devRef .tc main_v1) = W2 m ρ c (Proc.devRef .tc main_v1) :=
  (W11_of m ρ c _ (by decide)).trans ((W10_of m ρ c _ (by decide)).trans (v1_9 m ρ c))
/-- The normed rows as the fifth product is entered with them. -/
theorem v1_13 : W13 m ρ c (Proc.devRef .tc main_v1) = W2 m ρ c (Proc.devRef .tc main_v1) :=
  (W13_of m ρ c _ (by decide)).trans ((W12_of m ρ c _ (by decide)).trans (v1_11 m ρ c))

/-- What the last product and its weights' cut leave alone ends as the fourth product left it. -/
theorem end12 (r : Ref sig .tc) (h : r ∉ hostOps5_W) (hr : ∀ w : Fin cfg5.W, Pipeline.arrRef spec5 w = r → (cfg5.win w).isOut = false) :
    W14 m ρ c (Proc.devRef .tc r) = W12 m ρ c (Proc.devRef .tc r) :=
  (W14_of m ρ c r hr).trans (W13_of m ρ c r h)
/-- The third product's result ends as that product left it. -/
theorem end10 : W14 m ρ c (Proc.devRef .tc main_v13) = W10 m ρ c (Proc.devRef .tc main_v13) :=
  (end12 m ρ c _ (by decide) (by decide)).trans ((W12_of m ρ c _ (by decide)).trans (W11_of m ρ c _ (by decide)))
/-- The second product's result ends as that product left it. -/
theorem end6 : W14 m ρ c (Proc.devRef .tc main_v9) = W6 m ρ c (Proc.devRef .tc main_v9) :=
  (end12 m ρ c _ (by decide) (by decide)).trans <| (W12_of m ρ c _ (by decide)).trans <| (W11_of m ρ c _ (by decide)).trans <| (W10_of m ρ c _ (by decide)).trans <|
    (W9_of m ρ c _ (by decide)).trans <| (W8_of m ρ c _ (by decide)).trans (W7_of m ρ c _ (by decide))
/-- The first product's result ends as that product left it. -/
theorem end4 : W14 m ρ c (Proc.devRef .tc main_v4) = W4 m ρ c (Proc.devRef .tc main_v4) :=
  (end12 m ρ c _ (by decide) (by decide)).trans <| (W12_of m ρ c _ (by decide)).trans <| (W11_of m ρ c _ (by decide)).trans <| (W10_of m ρ c _ (by decide)).trans <|
    (W9_of m ρ c _ (by decide)).trans <| (W8_of m ρ c _ (by decide)).trans <| (W7_of m ρ c _ (by decide)).trans <| (W6_of m ρ c _ (by decide)).trans (W5_of m ρ c _ (by decide))

/-- The first product's result at the launch's end. -/
theorem res1 (i : Fin 8320) (j : Fin 3328) : (W14 m ρ c (Proc.devRef .tc main_v4) : FVec Ideal S8320x3328 .f32) (ix2 i j) = P m c i ⟨j.val, by omega⟩ := by
  refine (congrFun ((end4 m ρ c).trans ((W4_arr m ρ c 2).trans (out1 (V3 m ρ) c))) (ix2 i j)).trans ?_
  refine Dense.mm_congr (fun k => (congrFun (v1_3 m ρ c) _).trans (h2 m ρ c i k)) (fun k => ?_)
  exact (host1 (W2 m ρ c) k j).trans (congrFun (W2_args m ρ c main_arg2 (by decide)) _)

/-- The second product's result at the launch's end. -/
theorem res2 (i : Fin 8320) (j : Fin 3072) : (W14 m ρ c (Proc.devRef .tc main_v9) : FVec Ideal S8320x3072 .f32) (ix2 i j)
    = P m c i ⟨if j.val < 2048 then 3328 + j.val else 3344 + j.val, by split <;> omega⟩ := by
  refine (congrFun ((end6 m ρ c).trans ((W6_arr m ρ c 2).trans (out2 (V5 m ρ) c))) (ix2 i j)).trans ?_
  refine Dense.mm_congr (fun k => (congrFun (v1_5 m ρ c) _).trans (h2 m ρ c i k)) (fun k => ?_)
  exact (host2 (W4 m ρ c) k j).trans (congrFun (W4_args m ρ c main_arg2 (by decide)) _)

/-- The third product's result at the launch's end. -/
theorem res3 (i : Fin 8320) (j : Fin 128) : (W14 m ρ c (Proc.devRef .tc main_v13) : FVec Ideal S8320x128 .f32) (ix2 i j)
    = if h : j.val < 16 then P m c i ⟨5376 + j.val, by omega⟩ else 0 := by
  refine (congrFun (end10 m ρ c |>.trans ((W10_arr m ρ c 2).trans (out3 (V9 m ρ) c))) (ix2 i j)).trans ?_
  split
  · rename_i h
    refine Dense.mm_congr (fun k => (congrFun (v1_9 m ρ c) _).trans (h2 m ρ c i k)) (fun k => ?_)
    exact ((host3 (W6 m ρ c) k j).trans (dif_pos h)).trans (congrFun (W6_args m ρ c main_arg2 (by decide)) _)
  · rename_i h
    exact Dense.mm_zero fun k => (host3 (W6 m ρ c) k j).trans (dif_neg h)

/-- The fourth product's result at the launch's end. -/
theorem res4 (i : Fin 8320) (j : Fin 2048) : (W14 m ρ c (Proc.devRef .tc main_v16) : FVec Ideal S8320x2048 .f32) (ix2 i j) = P m c i ⟨6416 + j.val, by omega⟩ := by
  refine (congrFun ((end12 m ρ c main_v16 (by decide) (by decide)).trans ((W12_arr m ρ c 2).trans (out4 (V11 m ρ) c))) (ix2 i j)).trans ?_
  refine Dense.mm_congr (fun k => (congrFun (v1_11 m ρ c) _).trans (h2 m ρ c i k)) (fun k => ?_)
  exact (host4 (W10 m ρ c) k j).trans (congrFun (W10_args m ρ c main_arg2 (by decide)) _)

/-- The fifth product's result at the launch's end. -/
theorem res5 (i : Fin 8320) (j : Fin 6144) : (W14 m ρ c (Proc.devRef .tc main_v19) : FVec Ideal S8320x6144 .f32) (ix2 i j) = P m c i ⟨8464 + j.val, by omega⟩ := by
  refine (congrFun ((W14_arr m ρ c 2).trans (out5 (V13 m ρ) c)) (ix2 i j)).trans ?_
  refine Dense.mm_congr (fun k => (congrFun (v1_13 m ρ c) _).trans (h2 m ρ c i k)) (fun k => ?_)
  exact (host5 (W12 m ρ c) k j).trans (congrFun (W12_args m ρ c main_arg2 (by decide)) _)

set_option backward.isDefEq.respectTransparency.types false in
/-- The launch ends with every buffer at what the last product leaves. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W14 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := by repeat' first | exact fun _ => .rfl | constructor)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ => h)

/-- The kernel's run: its five results and its arguments, buffer by buffer. -/
theorem run : θ_run defs (onTc (τ := τ) (main (F := Ideal))) ⟨m, fun _ => 0, ρ⟩ (fun r => ∀ c : Dev nD,
    r.2.mem ((c.tc : Thread nD τ).loc main_v4) = W14 m ρ c (Proc.devRef .tc main_v4)
    ∧ r.2.mem ((c.tc : Thread nD τ).loc main_v9) = W14 m ρ c (Proc.devRef .tc main_v9)
    ∧ r.2.mem ((c.tc : Thread nD τ).loc main_v13) = W14 m ρ c (Proc.devRef .tc main_v13)
    ∧ r.2.mem ((c.tc : Thread nD τ).loc main_v16) = W14 m ρ c (Proc.devRef .tc main_v16)
    ∧ r.2.mem ((c.tc : Thread nD τ).loc main_v19) = W14 m ρ c (Proc.devRef .tc main_v19)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨h c _ (mem_uc main_v4 (by decide)), h c _ (mem_uc main_v9 (by decide)), h c _ (mem_uc main_v13 (by decide)),
    h c _ (mem_uc main_v16 (by decide)), h c _ (mem_uc main_v19 (by decide)), (h c _ (mem_uc main_arg0 (by decide))).trans (W14_main_arg0 m ρ c),
    (h c _ (mem_uc main_arg1 (by decide))).trans (W14_main_arg1 m ρ c), (h c _ (mem_uc main_arg2 (by decide))).trans (W14_main_arg2 m ρ c)⟩) (ends m ρ)

end Cert.KernelInIdeal.Val

end
-- ==== Proof.InRef.lean ====
module

public import proofs.«01_k».proof.Proof.Dense
public import proofs.«01_k».proof.Proof.Gen.ReferenceInIdeal.Run

@[expose] public section

set_option maxRecDepth 16384

noncomputable section

open Idealize.ShloMosaic Idealize.ShloMosaic.TcCoe Idealize.SL.Sem Idealize.ShloMosaic.StableHlo

namespace Cert.ReferenceInIdeal.Value

open Cert.ReferenceInIdeal Cert.ReferenceInIdeal.Gen

variable (x : FVec Ideal S8320x2048 .f32) (g : FVec Ideal S2048 .f32) (w : FVec Ideal S2048x14608 .f32)

/-- The product of the normed rows with the whole matrix. -/
abbrev prodR : FVec Ideal S8320x14608 .f32 := Host.dotGeneral dot_S8320x2048_S2048x14608_S8320x14608_1_0_0_1_n_n none (mulf (mulf x (broadcastInDim S8320x2048 ![0, 1] bcast_S8320x1_S8320x2048_0_1 (Host.rsqrt (addf (Host.divf (broadcastInDim S8320x1 ![0] bcast_S8320_S8320x1_0 (Host.reduceAdd (mulf x x) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 g))) w

/-- The product, entry by entry. -/
theorem prodR_ix (i : Fin 8320) (j : Fin 14608) : prodR x g w (ix2 i j)
    = Dense.mm (Dense.norm (fun i k => x (ix2 i k)) (fun k => g (ix1 k))) (fun k j => w (ix2 k j)) i j := by
  unfold prodR
  pointwise
  rfl

/-- The columns cut from the product: the first result. -/
theorem cut1 (i : Fin 8320) (j : Fin 3328) : extractStridedSlice S8320x3328 ![0, 0] (prodR x g w) slices_S8320x14608_S8320x3328_0_0 (ix2 i j)
    = prodR x g w (ix2 i ⟨j.val, by omega⟩) := by
  generalize prodR x g w = p
  pointwise

/-- The second result: queries, keys, values and output gates side by side. -/
theorem cut2 (i : Fin 8320) (j : Fin 3072) : concatenate S8320x3072 1 [⟨S8320x512, (extractStridedSlice S8320x512 ![0, 3328] (prodR x g w) slices_S8320x14608_S8320x512_0_3328 : FVec Ideal S8320x512 .f32)⟩,
      ⟨S8320x512, (extractStridedSlice S8320x512 ![0, 3840] (prodR x g w) slices_S8320x14608_S8320x512_0_3840 : FVec Ideal S8320x512 .f32)⟩,
      ⟨S8320x1024, (extractStridedSlice S8320x1024 ![0, 4352] (prodR x g w) slices_S8320x14608_S8320x1024_0_4352 : FVec Ideal S8320x1024 .f32)⟩,
      ⟨S8320x1024, (extractStridedSlice S8320x1024 ![0, 5392] (prodR x g w) slices_S8320x14608_S8320x1024_0_5392 : FVec Ideal S8320x1024 .f32)⟩]
      concatenates_S8320x512_S8320x512_S8320x1024_S8320x1024_S8320x3072_d1 (ix2 i j)
    = prodR x g w (ix2 i ⟨if j.val < 2048 then 3328 + j.val else 3344 + j.val, by split <;> omega⟩) := by
  generalize prodR x g w = p
  pointwise
  have e : ∀ a b : Fin 14608, a.val = b.val → p (ix2 i a) = p (ix2 i b) := fun a b h => by rw [Fin.ext h]
  have hj := j.isLt
  split
  · exact e _ _ (show 3328 + j.val = if j.val < 2048 then 3328 + j.val else 3344 + j.val by split <;> omega)
  split
  · exact e _ _ (show 3840 + (j.val - 512) = if j.val < 2048 then 3328 + j.val else 3344 + j.val by split <;> omega)
  split
  · exact e _ _ (show 4352 + (j.val - 512 - 512) = if j.val < 2048 then 3328 + j.val else 3344 + j.val by split <;> omega)
  · exact e _ _ (show 5392 + (j.val - 512 - 512 - 1024) = if j.val < 2048 then 3328 + j.val else 3344 + j.val by split <;> omega)

/-- The third result: the sixteen columns of the gate's low rank, and zeros. -/
theorem cut3 (i : Fin 8320) (j : Fin 128) : pad S8320x128 ![0, 0] ![0, 112] ![0, 0] (extractStridedSlice S8320x16 ![0, 5376] (prodR x g w) slices_S8320x14608_S8320x16_0_5376)
      (sitofp .f32 (constantI S_ 32 0#32)) pads_S8320x16_S8320x128_000_01120 h_S_ (ix2 i j)
    = if h : j.val < 16 then prodR x g w (ix2 i ⟨5376 + j.val, by omega⟩) else (0 : EReal) := by
  generalize prodR x g w = p
  pointwise
  split
  · rfl
  · show (((0#32 : BitVec 32).toInt : ℝ) : EReal) = 0
    simp

/-- The fourth result's columns. -/
theorem cut4 (i : Fin 8320) (j : Fin 2048) : extractStridedSlice S8320x2048 ![0, 6416] (prodR x g w) slices_S8320x14608_S8320x2048_0_6416 (ix2 i j)
    = prodR x g w (ix2 i ⟨6416 + j.val, by omega⟩) := by
  generalize prodR x g w = p
  pointwise

/-- The fifth result's columns. -/
theorem cut5 (i : Fin 8320) (j : Fin 6144) : extractStridedSlice S8320x6144 ![0, 8464] (prodR x g w) slices_S8320x14608_S8320x6144_0_8464 (ix2 i j)
    = prodR x g w (ix2 i ⟨8464 + j.val, by omega⟩) := by
  generalize prodR x g w = p
  pointwise

end Cert.ReferenceInIdeal.Value

end
-- ==== Proof.InClaims.lean ====
module

public import proofs.«01_k».proof.Defs
public import proofs.«01_k».proof.Proof.InRun
public import proofs.«01_k».proof.Proof.InRef
public import proofs.«01_k».proof.Proof.Gen.KernelIn.Frame
public import Idealize.ShloMosaic.Adequacy
public import Idealize.ShloMosaic.Init

@[expose] public section

set_option maxRecDepth 16384

noncomputable section

/-! # The claims about the input projections: their frames, and their values against the reference -/

open Idealize.ShloMosaic Idealize.ShloMosaic.TcCoe Idealize.SL.Sem Idealize.ShloMosaic.StableHlo

namespace Cert.Proof.In

open Cert.KernelInIdeal.Gen Cert.KernelInIdeal.Val Cert.ReferenceInIdeal.Value

/-- The kernel runs, ends, and leaves its arguments and every semaphore as they were. -/
theorem frame_k : Cert.quiescent_KernelIn := fun m ρ _ => Cert.KernelIn.Gen.frame m ρ
/-- So does the kernel read at the extended reals. -/
theorem frame_ki : Cert.quiescent_KernelInIdeal := fun m ρ _ => Cert.KernelInIdeal.Gen.frame m ρ
/-- So does the reference. -/
theorem frame_ri : Cert.quiescent_ReferenceInIdeal := fun m ρ _ =>
  (θ_run Cert.ReferenceInIdeal.defs _ _).mono (fun r h => ⟨fun c => (h c).2.2.2.2.2, Idealize.ShloMosaic.sem_eq_zero_of_no_sems (by decide) r.2⟩)
    (Cert.ReferenceInIdeal.Value.run m ρ)

/-- The ideal reading rewrote no operation. -/
theorem preserves : Cert.preserves_KernelIn_KernelInIdeal := trivial

/-- At the extended reals the kernel and the reference, from arguments that agree, end with the same five arrays of projected rows. -/
theorem algebraic : Cert.algebraic_KernelInIdeal_ReferenceInIdeal := by
  intro m ρ m' ρ' _ hagree
  refine ⟨fun c => W14 m ρ c (Proc.devRef .tc Cert.KernelInIdeal.main_v4), fun c => W14 m ρ c (Proc.devRef .tc Cert.KernelInIdeal.main_v9),
    fun c => W14 m ρ c (Proc.devRef .tc Cert.KernelInIdeal.main_v13), fun c => W14 m ρ c (Proc.devRef .tc Cert.KernelInIdeal.main_v16),
    fun c => W14 m ρ c (Proc.devRef .tc Cert.KernelInIdeal.main_v19), Cert.KernelInIdeal.Val.run m ρ, ?_⟩
  refine (θ_run Cert.ReferenceInIdeal.defs _ _).mono (fun r h c => ?_) (Cert.ReferenceInIdeal.Value.run m' ρ')
  obtain ⟨h1, h2, h3, h4, h5, ha⟩ := h c
  obtain ⟨a0, a1, a2⟩ := hagree c
  have hp : ∀ i j, prodR (m' ((c.tc : Thread Cert.ReferenceInIdeal.nD Cert.ReferenceInIdeal.τ).loc Cert.ReferenceInIdeal.main_arg0))
      (m' ((c.tc : Thread Cert.ReferenceInIdeal.nD Cert.ReferenceInIdeal.τ).loc Cert.ReferenceInIdeal.main_arg1))
      (m' ((c.tc : Thread Cert.ReferenceInIdeal.nD Cert.ReferenceInIdeal.τ).loc Cert.ReferenceInIdeal.main_arg2)) (ix2 i j) = Cert.KernelInIdeal.Val.P m c i j := by
    intro i j
    refine (prodR_ix _ _ _ i j).trans ?_
    rw [a0, a1, a2]
  refine ⟨h1.trans (Dense.ext2 fun i j => ?_), h2.trans (Dense.ext2 fun i j => ?_), h3.trans (Dense.ext2 fun i j => ?_), h4.trans (Dense.ext2 fun i j => ?_),
    h5.trans (Dense.ext2 fun i j => ?_), ha⟩
  · exact (cut1 _ _ _ i j).trans ((hp i _).trans (res1 m ρ c i j).symm)
  · exact (cut2 _ _ _ i j).trans ((hp i _).trans (res2 m ρ c i j).symm)
  · refine (cut3 _ _ _ i j).trans (Eq.trans ?_ (res3 m ρ c i j).symm)
    split
    · exact hp i _
    · rfl
  · exact (cut4 _ _ _ i j).trans ((hp i _).trans (res4 m ρ c i j).symm)
  · exact (cut5 _ _ _ i j).trans ((hp i _).trans (res5 m ρ c i j).symm)

end Cert.Proof.In

end
-- ==== Proof.OutVal.lean ====
module

public import proofs.«01_k».proof.Proof.Dense
public import proofs.«01_k».proof.Proof.Gen.KernelOutIdeal.Frame
public import Idealize.ShloMosaic.Lib.Pipeline.ValueKit
public import Idealize.ShloMosaic.Lib.StableHlo.RunRead

@[expose] public section

set_option maxRecDepth 16384

noncomputable section

/-! # What each call of the mixing and of the feed-forward part's queries leaves in its result, from what it is entered with -/

open Idealize.ShloMosaic Idealize.ShloMosaic.TcCoe Idealize.SL.Sem Idealize.ShloMosaic.StableHlo

namespace Cert.KernelOutIdeal.Val

open Cert.KernelOutIdeal Cert.KernelOutIdeal.Gen

variable (V : (c : Dev nD) → (b : Ref sig .tc) → Buf (Elt Ideal) ((c : Thread nD τ).loc b)) (c : Dev nD)

/-- The mixing's blocks: 640 rows, half of the columns. -/
theorem idx0 (t : Fin cfg0.N) : win0_0.index t = ![t.val / 2, 0] ∧ win0_1.index t = ![t.val / 2, 0] ∧ win0_2.index t = ![t.val / 2, 0]
    ∧ win0_3.index t = ![t.val / 2, t.val % 2] ∧ win0_4.index t = ![t.val / 2, 2 + t.val % 2] ∧ win0_5.index t = ![t.val / 2, 4 + t.val % 2]
    ∧ win0_6.index t = ![0, 0, t.val % 2] ∧ win0_7.index t = ![t.val / 2, t.val % 2] :=
  (by decide +kernel : ∀ t : Fin grid0.N, win0_0.index t = ![t.val / 2, 0] ∧ win0_1.index t = ![t.val / 2, 0] ∧ win0_2.index t = ![t.val / 2, 0]
    ∧ win0_3.index t = ![t.val / 2, t.val % 2] ∧ win0_4.index t = ![t.val / 2, 2 + t.val % 2] ∧ win0_5.index t = ![t.val / 2, 4 + t.val % 2]
    ∧ win0_6.index t = ![0, 0, t.val % 2] ∧ win0_7.index t = ![t.val / 2, t.val % 2]) t

set_option maxHeartbeats 2000000 in
/-- The mixing's result. -/
theorem out0 : (dat0 V c).arrAt 7 cfg0.N = (fun j : S8320x2048.Idx => Dense.mix (fun i k => (V c main_arg1 : FVec Ideal S8320x1024 .f32) (ix2 i k))
    (fun i k => (V c main_arg2 : FVec Ideal S8320x1024 .f32) (ix2 i k)) (fun i k => (V c main_arg3 : FVec Ideal S8320x1024 .f32) (ix2 i k))
    (fun i l => (V c main_arg4 : FVec Ideal S8320x6144 .f32) (ix2 i l)) (fun b k j => (V c main_v0 : FVec Ideal S3x1024x2048 .bf16) (ix3 b k j)) (j 0) (j 1)) := by
  refine (dat0 V c).arrAt_eq_of_covers 7 _ (by decide +kernel) fun t hf y => ?_
  blk_simp
  rw [after0_7]
  frame_out
  unfold_payloads
  pointwise
  refine Dense.mix_of ?_ ?_ ?_ (fun k => ?_) (fun k => ?_) (fun k => ?_) (fun k => ?_) (fun k => ?_) (fun k => ?_)
  · unfold iblk0
    blk_ext [(idx0 t).2.2.2.1, (idx0 t).2.2.2.2.2.2.2]
  · unfold iblk0
    blk_ext [(idx0 t).2.2.2.2.1, (idx0 t).2.2.2.2.2.2.2]
  · unfold iblk0
    blk_ext [(idx0 t).2.2.2.2.2.1, (idx0 t).2.2.2.2.2.2.2]
  · unfold iblk0
    blk_ext [(idx0 t).1, (idx0 t).2.2.2.2.2.2.2]
  · unfold iblk0
    blk_ext [(idx0 t).2.1, (idx0 t).2.2.2.2.2.2.2]
  · unfold iblk0
    blk_ext [(idx0 t).2.2.1, (idx0 t).2.2.2.2.2.2.2]
  · unfold iblk0
    blk_ext [(idx0 t).2.2.2.2.2.2.1, (idx0 t).2.2.2.2.2.2.2]
  · unfold iblk0
    blk_ext [(idx0 t).2.2.2.2.2.2.1, (idx0 t).2.2.2.2.2.2.2]
  · unfold iblk0
    blk_ext [(idx0 t).2.2.2.2.2.2.1, (idx0 t).2.2.2.2.2.2.2]

/-- The output product's blocks: 640 rows against half of the columns, the rows first. -/
theorem idx1 (t : Fin cfg1.N) : win1_0.index t = ![t.val % 13, 0] ∧ win1_1.index t = ![0, t.val / 13] ∧ win1_2.index t = ![t.val % 13, t.val / 13] ∧ win1_3.index t = ![t.val % 13, t.val / 13] :=
  (by decide +kernel : ∀ t : Fin grid1.N, win1_0.index t = ![t.val % 13, 0] ∧ win1_1.index t = ![0, t.val / 13] ∧ win1_2.index t = ![t.val % 13, t.val / 13] ∧ win1_3.index t = ![t.val % 13, t.val / 13]) t

/-- The output product's result: the rows it is added to, and the product. -/
theorem out1 : (dat1 V c).arrAt 3 cfg1.N = (fun j : S8320x2048.Idx => Dense.addmm (fun i k => (V c main_arg0 : FVec Ideal S8320x2048 .f32) (ix2 i k))
    (fun i k => (V c main_v1 : FVec Ideal S8320x2048 .bf16) (ix2 i k)) (fun k j => (V c main_v2 : FVec Ideal S2048x2048 .bf16) (ix2 k j)) (j 0) (j 1)) := by
  refine (dat1 V c).arrAt_eq_of_covers 3 _ (by decide +kernel) fun t hf y => ?_
  blk_simp
  rw [after1_3]
  frame_out
  unfold_payloads
  pointwise
  refine Dense.addmm_of ?_ (fun k => ?_) (fun k => ?_)
  · unfold iblk1
    blk_ext [(idx1 t).2.2.1, (idx1 t).2.2.2]
  · unfold iblk1
    blk_ext [(idx1 t).1, (idx1 t).2.2.2]
  · unfold iblk1
    blk_ext [(idx1 t).2.1, (idx1 t).2.2.2]

/-- The norm's blocks: 640 rows at a time. -/
theorem idx2 (t : Fin cfg2.N) : win2_0.index t = ![t.val, 0] ∧ win2_1.index t = ![0, 0] ∧ win2_2.index t = ![t.val, 0] :=
  (by decide +kernel : ∀ t : Fin grid2.N, win2_0.index t = ![t.val, 0] ∧ win2_1.index t = ![0, 0] ∧ win2_2.index t = ![t.val, 0]) t

/-- The norm's result. -/
theorem out2 : (dat2 V c).arrAt 2 cfg2.N = (fun j : S8320x2048.Idx => Dense.norm (fun i k => (V c main_v3 : FVec Ideal S8320x2048 .f32) (ix2 i k))
    (fun k => (V c main_v4 : FVec Ideal S1x2048 .f32) (ix2 0 k)) (j 0) (j 1)) := by
  refine (dat2 V c).arrAt_eq_of_covers 2 _ (by decide +kernel) fun t hf y => ?_
  blk_simp
  rw [after2_2]
  frame_out
  unfold_payloads
  pointwise
  refine Dense.norm_of ?_ (fun k => ?_) ?_
  · unfold iblk2
    blk_ext [(idx2 t).1, (idx2 t).2.2]
  · unfold iblk2
    blk_ext [(idx2 t).1, (idx2 t).2.2]
  · unfold iblk2
    blk_ext [(idx2 t).2.1, (idx2 t).2.2]

/-- The queries' blocks: 640 rows against half of the columns, the rows first. -/
theorem idx3 (t : Fin cfg3.N) : win3_0.index t = ![t.val % 13, 0] ∧ win3_1.index t = ![0, t.val / 13] ∧ win3_2.index t = ![t.val % 13, t.val / 13] :=
  (by decide +kernel : ∀ t : Fin grid3.N, win3_0.index t = ![t.val % 13, 0] ∧ win3_1.index t = ![0, t.val / 13] ∧ win3_2.index t = ![t.val % 13, t.val / 13]) t

/-- The queries' result. -/
theorem out3 : (dat3 V c).arrAt 2 cfg3.N = (fun j : S8320x2048.Idx => Dense.mm (fun i k => (V c main_v5 : FVec Ideal S8320x2048 .bf16) (ix2 i k))
    (fun k j => (V c main_v6 : FVec Ideal S2048x2048 .bf16) (ix2 k j)) (j 0) (j 1)) := by
  refine (dat3 V c).arrAt_eq_of_covers 2 _ (by decide +kernel) fun t hf y => ?_
  blk_simp
  rw [after3_2]
  frame_out
  unfold_payloads
  pointwise
  refine Dense.mm_of (fun k => ?_) (fun k => ?_)
  · unfold iblk3
    blk_ext [(idx3 t).1, (idx3 t).2.2]
  · unfold iblk3
    blk_ext [(idx3 t).2.1, (idx3 t).2.2]

end Cert.KernelOutIdeal.Val

end
-- ==== Proof.OutRun.lean ====
module

public import proofs.«01_k».proof.Proof.OutVal

@[expose] public section

set_option maxRecDepth 16384

noncomputable section

/-! # The run of the mixing and of the feed-forward part's queries: what every call is entered with, and what the launch ends with -/

open Idealize.ShloMosaic Idealize.ShloMosaic.TcCoe
open Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelOutIdeal.Val

open Cert.KernelOutIdeal Cert.KernelOutIdeal.Gen

variable (m : (ℓ : Loc nD τ sig) → Buf (Elt Ideal) ℓ) (ρ : Dev nD → PrngReg) (c : Dev nD)

/-- The token rows. -/
abbrev X (i : Fin 8320) (j : Fin 2048) : EReal := (m ((c : Thread nD τ).loc main_arg0) : FVec Ideal S8320x2048 .f32) (ix2 i j)
/-- The mixed branches. -/
abbrev M : Fin 8320 → Fin 2048 → EReal := Dense.mix (fun i k => (m ((c : Thread nD τ).loc main_arg1) : FVec Ideal S8320x1024 .f32) (ix2 i k))
  (fun i k => (m ((c : Thread nD τ).loc main_arg2) : FVec Ideal S8320x1024 .f32) (ix2 i k)) (fun i k => (m ((c : Thread nD τ).loc main_arg3) : FVec Ideal S8320x1024 .f32) (ix2 i k))
  (fun i l => (m ((c : Thread nD τ).loc main_arg4) : FVec Ideal S8320x6144 .f32) (ix2 i l)) (fun b k j => (m ((c : Thread nD τ).loc main_arg5) : FVec Ideal S3x1024x2048 .f32) (ix3 b k j))
/-- The rows after the mix. -/
abbrev Y : Fin 8320 → Fin 2048 → EReal := Dense.addmm (X m c) (M m c) (fun k j => (m ((c : Thread nD τ).loc main_arg6) : FVec Ideal S2048x2048 .f32) (ix2 k j))
/-- Those rows normed. -/
abbrev H : Fin 8320 → Fin 2048 → EReal := Dense.norm (Y m c) (fun k => (m ((c : Thread nD τ).loc main_arg7) : FVec Ideal S2048 .f32) (ix1 k))
/-- The queries. -/
abbrev Q : Fin 8320 → Fin 2048 → EReal := Dense.mm (H m c) (fun k j => (m ((c : Thread nD τ).loc main_arg8) : FVec Ideal S2048x2048 .f32) (ix2 k j))

/-- The branches' matrices reach the mixing as they are. -/
theorem host0 (V : Valuation τ sig (Elt Ideal)) (b : Fin 3) (k : Fin 1024) (j : Fin 2048) :
    (after hostOps0 V (Proc.devRef .tc main_v0) : FVec Ideal S3x1024x2048 .bf16) (ix3 b k j) = (V (Proc.devRef .tc main_arg5) : FVec Ideal S3x1024x2048 .f32) (ix3 b k j) := by
  after_reads_simp
  pointwise

/-- So does the output matrix reach its product. -/
theorem host1 (V : Valuation τ sig (Elt Ideal)) (k j : Fin 2048) :
    (after hostOps1 V (Proc.devRef .tc main_v2) : FVec Ideal S2048x2048 .bf16) (ix2 k j) = (V (Proc.devRef .tc main_arg6) : FVec Ideal S2048x2048 .f32) (ix2 k j) := by
  after_reads_simp
  pointwise

/-- The second norm's scale as a row. -/
theorem host2 (V : Valuation τ sig (Elt Ideal)) (l : Fin 2048) :
    (after hostOps2 V (Proc.devRef .tc main_v4) : FVec Ideal S1x2048 .f32) (ix2 0 l) = (V (Proc.devRef .tc main_arg7) : FVec Ideal S2048 .f32) (ix1 l) := by
  after_reads_simp
  pointwise

/-- The queries' matrix reaches its product as it is. -/
theorem host3 (V : Valuation τ sig (Elt Ideal)) (k j : Fin 2048) :
    (after hostOps3 V (Proc.devRef .tc main_v6) : FVec Ideal S2048x2048 .bf16) (ix2 k j) = (V (Proc.devRef .tc main_arg8) : FVec Ideal S2048x2048 .f32) (ix2 k j) := by
  after_reads_simp
  pointwise

/-- The mixing leaves the mixed branches. -/
theorem mixed (i : Fin 8320) (j : Fin 2048) : (W2 m ρ c (Proc.devRef .tc main_v1) : FVec Ideal S8320x2048 .bf16) (ix2 i j) = M m c i j := by
  refine (congrFun ((W2_arr m ρ c 7).trans (out0 (V1 m ρ) c)) (ix2 i j)).trans ?_
  have e1 : V1 m ρ c main_arg1 = m ((c : Thread nD τ).loc main_arg1) := W1_args m ρ c _ (by decide)
  have e2 : V1 m ρ c main_arg2 = m ((c : Thread nD τ).loc main_arg2) := W1_args m ρ c _ (by decide)
  have e3 : V1 m ρ c main_arg3 = m ((c : Thread nD τ).loc main_arg3) := W1_args m ρ c _ (by decide)
  have e4 : V1 m ρ c main_arg4 = m ((c : Thread nD τ).loc main_arg4) := W1_args m ρ c _ (by decide)
  have e5 : (fun b k j => (V1 m ρ c main_v0 : FVec Ideal S3x1024x2048 .bf16) (ix3 b k j)) = fun b k j => (m ((c : Thread nD τ).loc main_arg5) : FVec Ideal S3x1024x2048 .f32) (ix3 b k j) :=
    funext fun b => funext fun k => funext fun j => host0 (W0 m ρ c) b k j
  show Dense.mix (fun i k => (V1 m ρ c main_arg1 : FVec Ideal S8320x1024 .f32) (ix2 i k)) (fun i k => (V1 m ρ c main_arg2 : FVec Ideal S8320x1024 .f32) (ix2 i k))
    (fun i k => (V1 m ρ c main_arg3 : FVec Ideal S8320x1024 .f32) (ix2 i k)) (fun i l => (V1 m ρ c main_arg4 : FVec Ideal S8320x6144 .f32) (ix2 i l))
    (fun b k j => (V1 m ρ c main_v0 : FVec Ideal S3x1024x2048 .bf16) (ix3 b k j)) i j = _
  rw [e1, e2, e3, e4, e5]

/-- The output product leaves the rows after the mix. -/
theorem rows (i : Fin 8320) (j : Fin 2048) : (W4 m ρ c (Proc.devRef .tc main_v3) : FVec Ideal S8320x2048 .f32) (ix2 i j) = Y m c i j := by
  refine (congrFun ((W4_arr m ρ c 3).trans (out1 (V3 m ρ) c)) (ix2 i j)).trans ?_
  refine Dense.addmm_congr ?_ (fun k => ?_) (fun k => ?_)
  · exact congrFun (W3_args m ρ c main_arg0 (by decide)) _
  · exact (congrFun (W3_of m ρ c main_v1 (by decide)) _).trans (mixed m ρ c i k)
  · exact (host1 (W2 m ρ c) k j).trans (congrFun (W2_args m ρ c main_arg6 (by decide)) _)

/-- The second norm leaves those rows normed. -/
theorem normed (i : Fin 8320) (k : Fin 2048) : (W6 m ρ c (Proc.devRef .tc main_v5) : FVec Ideal S8320x2048 .bf16) (ix2 i k) = H m c i k := by
  refine (congrFun ((W6_arr m ρ c 2).trans (out2 (V5 m ρ) c)) (ix2 i k)).trans ?_
  have e0 : (fun i k => (V5 m ρ c main_v3 : FVec Ideal S8320x2048 .f32) (ix2 i k)) = Y m c :=
    funext fun i => funext fun k => (congrFun (W5_of m ρ c main_v3 (by decide)) _).trans (rows m ρ c i k)
  have e1 : (fun k => (V5 m ρ c main_v4 : FVec Ideal S1x2048 .f32) (ix2 0 k)) = fun k => (m ((c : Thread nD τ).loc main_arg7) : FVec Ideal S2048 .f32) (ix1 k) :=
    funext fun k => (host2 (W4 m ρ c) k).trans (congrFun (W4_args m ρ c main_arg7 (by decide)) _)
  show Dense.norm (fun i k => (V5 m ρ c main_v3 : FVec Ideal S8320x2048 .f32) (ix2 i k)) (fun k => (V5 m ρ c main_v4 : FVec Ideal S1x2048 .f32) (ix2 0 k)) i k = _
  rw [e0, e1]

/-- The first result at the launch's end. -/
theorem res1 (i : Fin 8320) (j : Fin 2048) : (W8 m ρ c (Proc.devRef .tc main_v3) : FVec Ideal S8320x2048 .f32) (ix2 i j) = Y m c i j :=
  (congrFun ((W8_of m ρ c main_v3 (by decide)).trans <| (W7_of m ρ c _ (by decide)).trans <| (W6_of m ρ c _ (by decide)).trans (W5_of m ρ c _ (by decide))) _).trans (rows m ρ c i j)

/-- The second result at the launch's end. -/
theorem res2 (i : Fin 8320) (j : Fin 2048) : (W8 m ρ c (Proc.devRef .tc main_v7) : FVec Ideal S8320x2048 .f32) (ix2 i j) = Q m c i j := by
  refine (congrFun ((W8_arr m ρ c 2).trans (out3 (V7 m ρ) c)) (ix2 i j)).trans ?_
  refine Dense.mm_congr (fun k => (congrFun (W7_of m ρ c main_v5 (by decide)) _).trans (normed m ρ c i k)) (fun k => ?_)
  exact (host3 (W6 m ρ c) k j).trans (congrFun (W6_args m ρ c main_arg8 (by decide)) _)

set_option backward.isDefEq.respectTransparency.types false in
/-- The launch ends with every buffer at what the last call leaves. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := by repeat' first | exact fun _ => .rfl | constructor)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The kernel's run: its two results and its arguments, buffer by buffer. -/
theorem run : θ_run defs (onTc (τ := τ) (main (F := Ideal))) ⟨m, fun _ => 0, ρ⟩ (fun r => ∀ c : Dev nD,
    r.2.mem ((c.tc : Thread nD τ).loc main_v3) = W8 m ρ c (Proc.devRef .tc main_v3)
    ∧ r.2.mem ((c.tc : Thread nD τ).loc main_v7) = W8 m ρ c (Proc.devRef .tc main_v7)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun r h c => ⟨h c _ (mem_uc main_v3 (by decide)), h c _ (mem_uc main_v7 (by decide)),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c)⟩) (ends m ρ)

end Cert.KernelOutIdeal.Val

end
-- ==== Proof.OutRef.lean ====
module

public import proofs.«01_k».proof.Proof.Dense
public import proofs.«01_k».proof.Proof.Gen.ReferenceOutIdeal.Run

@[expose] public section

set_option maxRecDepth 16384

noncomputable section

/-! # The reference's mixing and queries, entry by entry -/

open Idealize.ShloMosaic Idealize.ShloMosaic.TcCoe Idealize.SL.Sem Idealize.ShloMosaic.StableHlo

namespace Cert.ReferenceOutIdeal.Value

open Cert.ReferenceOutIdeal Cert.ReferenceOutIdeal.Gen

variable (a0 : FVec Ideal S8320x2048 .f32) (a1 a2 a3 : FVec Ideal S8320x1024 .f32) (a4 : FVec Ideal S8320x6144 .f32) (a5 : FVec Ideal S3x1024x2048 .f32)

/-- The gates. -/
abbrev gateR : FVec Ideal S8320x3x2048 .f32 := Host.divf (broadcastInDim S8320x3x2048 ![] bcast_S_S8320x3x2048 (constant S_ .f32 0x3F800000#32)) (addf (broadcastInDim S8320x3x2048 ![] bcast_S_S8320x3x2048 (constant S_ .f32 0x3F800000#32)) (Host.exp (Host.negf (shapeCast _ a4 shapeCasts_S8320x6144_S8320x3x2048))))

/-- The branches' outputs side by side. -/
abbrev stackR : FVec Ideal S8320x3x1024 .f32 := concatenate S8320x3x1024 1 [⟨S8320x1x1024, (broadcastInDim S8320x1x1024 ![0, 2] bcast_S8320x1024_S8320x1x1024_0_2 a1 : FVec Ideal S8320x1x1024 .f32)⟩, ⟨S8320x1x1024, (broadcastInDim S8320x1x1024 ![0, 2] bcast_S8320x1024_S8320x1x1024_0_2 a2 : FVec Ideal S8320x1x1024 .f32)⟩, ⟨S8320x1x1024, (broadcastInDim S8320x1x1024 ![0, 2] bcast_S8320x1024_S8320x1x1024_0_2 a3 : FVec Ideal S8320x1x1024 .f32)⟩] concatenates_S8320x1x1024_S8320x1x1024_S8320x1x1024_S8320x3x1024_d1

/-- A gate's entry. -/
theorem gateR_ix (i : Fin 8320) (b : Fin 3) (j : Fin 2048) : gateR a4 (ix3 i b j) = Dense.gate (a4 (ix2 i ⟨b.val * 2048 + j.val, by omega⟩)) := by
  unfold gateR
  pointwise
  rfl

/-- A branch's entry. -/
theorem stackR_ix (i : Fin 8320) (b : Fin 3) (j : Fin 1024) : stackR a1 a2 a3 (ix3 i b j) = if b.val < 1 then a1 (ix2 i j) else if b.val - 1 < 1 then a2 (ix2 i j) else a3 (ix2 i j) := by
  unfold stackR
  pointwise
  rfl

/-- The branches projected, each by its own matrix. -/
abbrev projR (s : FVec Ideal S8320x3x1024 .f32) : FVec Ideal S8320x3x2048 .f32 :=
  transpose S8320x3x2048 [2, 0, 1] (Host.dotGeneral dot_S3x1024x2048_S8320x3x1024_S3x2048x8320_1_2_2_0_0_1 none a5 s) transposes_S3x2048x8320_S8320x3x2048_2_0_1

/-- A projection's entry. -/
theorem projR_ix (s : FVec Ideal S8320x3x1024 .f32) (i : Fin 8320) (b : Fin 3) (j : Fin 2048) :
    projR a5 s (ix3 i b j) = Dense.mm (fun i k => s (ix3 i b k)) (fun k j => a5 (ix3 b k j)) i j := by
  unfold projR
  pointwise
  exact Finset.sum_congr rfl fun k _ => mul_comm _ _

/-- The gated projections added up. -/
abbrev mixR : FVec Ideal S8320x2048 .f32 :=
  Host.reduceAdd (mulf (gateR a4) (projR a5 (stackR a1 a2 a3))) (constant S_ .f32 0x00000000#32) reducesTo_S8320x3x2048_S8320x2048_d1 h_S_

/-- The mix, entry by entry. -/
theorem mixR_ix (i : Fin 8320) (j : Fin 2048) : mixR a1 a2 a3 a4 a5 (ix2 i j) = Dense.mix (fun i k => a1 (ix2 i k)) (fun i k => a2 (ix2 i k)) (fun i k => a3 (ix2 i k))
    (fun i l => a4 (ix2 i l)) (fun b k j => a5 (ix3 b k j)) i j := by
  have h : ∀ p q : FVec Ideal S8320x3x2048 .f32, Host.reduceAdd (mulf p q) (constant S_ .f32 0x00000000#32) reducesTo_S8320x3x2048_S8320x2048_d1 h_S_ (ix2 i j)
      = ((∑ b : Fin 3, p (ix3 i b j) * q (ix3 i b j) : EReal)) := by
    intro p q
    pointwise
  refine (h _ _).trans ?_
  rw [Fin.sum_univ_three, gateR_ix, gateR_ix, gateR_ix, projR_ix, projR_ix, projR_ix]
  unfold Dense.mix
  refine congrArg₂ _ (congrArg₂ _ (congrArg₂ _ ?_ ?_) (congrArg₂ _ ?_ ?_)) (congrArg₂ _ ?_ ?_)
  · exact congrArg (fun l : Fin 6144 => Dense.gate (a4 (ix2 i l))) (Fin.ext (show 0 * 2048 + j.val = j.val by omega))
  · exact Dense.mm_congr (fun k => (stackR_ix a1 a2 a3 i 0 k).trans rfl) fun k => rfl
  · exact congrArg (fun l : Fin 6144 => Dense.gate (a4 (ix2 i l))) (Fin.ext (show 1 * 2048 + j.val = 2048 + j.val by omega))
  · exact Dense.mm_congr (fun k => (stackR_ix a1 a2 a3 i 1 k).trans rfl) fun k => rfl
  · exact congrArg (fun l : Fin 6144 => Dense.gate (a4 (ix2 i l))) (Fin.ext (show 2 * 2048 + j.val = 4096 + j.val by omega))
  · exact Dense.mm_congr (fun k => (stackR_ix a1 a2 a3 i 2 k).trans rfl) fun k => rfl

variable (x : FVec Ideal S8320x2048 .f32) (w : FVec Ideal S2048x2048 .f32) (g : FVec Ideal S2048 .f32)

/-- The first result: the rows and the mix's product with the output matrix. -/
abbrev resR (y : FVec Ideal S8320x2048 .f32) : FVec Ideal S8320x2048 .f32 := addf x (Host.dotGeneral dot_S8320x2048_S2048x2048_S8320x2048_1_0_0_1_n_n none y w)

/-- The first result, entry by entry. -/
theorem resR_ix (y : FVec Ideal S8320x2048 .f32) (i : Fin 8320) (j : Fin 2048) : resR x w y (ix2 i j)
    = Dense.addmm (fun i k => x (ix2 i k)) (fun i k => y (ix2 i k)) (fun k j => w (ix2 k j)) i j := by
  unfold resR
  pointwise
  rfl

/-- The second result: the product of the normed rows. -/
abbrev queryR : FVec Ideal S8320x2048 .f32 := Host.dotGeneral dot_S8320x2048_S2048x2048_S8320x2048_1_0_0_1_n_n none (mulf (mulf x (broadcastInDim S8320x2048 ![0, 1] bcast_S8320x1_S8320x2048_0_1 (Host.rsqrt (addf (Host.divf (broadcastInDim S8320x1 ![0] bcast_S8320_S8320x1_0 (Host.reduceAdd (mulf x x) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 g))) w

/-- The second result, entry by entry. -/
theorem queryR_ix (i : Fin 8320) (j : Fin 2048) : queryR x w g (ix2 i j)
    = Dense.mm (Dense.norm (fun i k => x (ix2 i k)) (fun k => g (ix1 k))) (fun k j => w (ix2 k j)) i j := by
  unfold queryR
  pointwise
  rfl

end Cert.ReferenceOutIdeal.Value

end
-- ==== Proof.OutClaims.lean ====
module

public import proofs.«01_k».proof.Defs
public import proofs.«01_k».proof.Proof.OutRun
public import proofs.«01_k».proof.Proof.OutRef
public import proofs.«01_k».proof.Proof.Gen.KernelOut.Frame
public import Idealize.ShloMosaic.Adequacy
public import Idealize.ShloMosaic.Init

@[expose] public section

set_option maxRecDepth 16384

noncomputable section

/-! # The claims about the mixing and the feed-forward part's queries: their frames, and their values against the reference -/

open Idealize.ShloMosaic Idealize.ShloMosaic.TcCoe Idealize.SL.Sem Idealize.ShloMosaic.StableHlo

namespace Cert.Proof.Out

open Cert.KernelOutIdeal.Gen Cert.KernelOutIdeal.Val Cert.ReferenceOutIdeal.Value

/-- The kernel runs, ends, and leaves its arguments and every semaphore as they were. -/
theorem frame_k : Cert.quiescent_KernelOut := fun m ρ _ => Cert.KernelOut.Gen.frame m ρ
/-- So does the kernel read at the extended reals. -/
theorem frame_ki : Cert.quiescent_KernelOutIdeal := fun m ρ _ => Cert.KernelOutIdeal.Gen.frame m ρ
/-- So does the reference. -/
theorem frame_ri : Cert.quiescent_ReferenceOutIdeal := fun m ρ _ =>
  (θ_run Cert.ReferenceOutIdeal.defs _ _).mono (fun r h => ⟨fun c => (h c).2.2, Idealize.ShloMosaic.sem_eq_zero_of_no_sems (by decide) r.2⟩)
    (Cert.ReferenceOutIdeal.Value.run m ρ)

/-- The ideal reading rewrote no operation. -/
theorem preserves : Cert.preserves_KernelOut_KernelOutIdeal := trivial

/-- At the extended reals the kernel and the reference, from arguments that agree, end with the same rows and the same queries. -/
theorem algebraic : Cert.algebraic_KernelOutIdeal_ReferenceOutIdeal := by
  intro m ρ m' ρ' _ hagree
  refine ⟨fun c => W8 m ρ c (Proc.devRef .tc Cert.KernelOutIdeal.main_v3), fun c => W8 m ρ c (Proc.devRef .tc Cert.KernelOutIdeal.main_v7), Cert.KernelOutIdeal.Val.run m ρ, ?_⟩
  refine (θ_run Cert.ReferenceOutIdeal.defs _ _).mono (fun r h c => ?_) (Cert.ReferenceOutIdeal.Value.run m' ρ')
  obtain ⟨h1, h2, ha⟩ := h c
  obtain ⟨a0, a1, a2, a3, a4, a5, a6, a7, a8⟩ := hagree c
  have hy : ∀ i j, resR (m' ((c.tc : Thread Cert.ReferenceOutIdeal.nD Cert.ReferenceOutIdeal.τ).loc Cert.ReferenceOutIdeal.main_arg0))
      (m' ((c.tc : Thread Cert.ReferenceOutIdeal.nD Cert.ReferenceOutIdeal.τ).loc Cert.ReferenceOutIdeal.main_arg6))
      (mixR (m' ((c.tc : Thread Cert.ReferenceOutIdeal.nD Cert.ReferenceOutIdeal.τ).loc Cert.ReferenceOutIdeal.main_arg1))
        (m' ((c.tc : Thread Cert.ReferenceOutIdeal.nD Cert.ReferenceOutIdeal.τ).loc Cert.ReferenceOutIdeal.main_arg2))
        (m' ((c.tc : Thread Cert.ReferenceOutIdeal.nD Cert.ReferenceOutIdeal.τ).loc Cert.ReferenceOutIdeal.main_arg3))
        (m' ((c.tc : Thread Cert.ReferenceOutIdeal.nD Cert.ReferenceOutIdeal.τ).loc Cert.ReferenceOutIdeal.main_arg4))
        (m' ((c.tc : Thread Cert.ReferenceOutIdeal.nD Cert.ReferenceOutIdeal.τ).loc Cert.ReferenceOutIdeal.main_arg5))) (ix2 i j) = Y m c i j := by
    intro i j
    refine (resR_ix _ _ _ i j).trans (Dense.addmm_congr (congrFun a0 _) (fun k => ?_) (fun k => congrFun a6 _))
    refine (mixR_ix _ _ _ _ _ i k).trans ?_
    rw [a1, a2, a3, a4, a5]
  refine ⟨h1.trans (Dense.ext2 fun i j => ?_), h2.trans (Dense.ext2 fun i j => ?_), ha⟩
  · exact (hy i j).trans (res1 m ρ c i j).symm
  · refine (queryR_ix _ _ _ i j).trans (Eq.trans ?_ (res2 m ρ c i j).symm)
    refine Dense.mm_congr (fun k => ?_) (fun k => congrFun a8 _)
    have e : (fun i k => resR (m' ((c.tc : Thread Cert.ReferenceOutIdeal.nD Cert.ReferenceOutIdeal.τ).loc Cert.ReferenceOutIdeal.main_arg0))
      (m' ((c.tc : Thread Cert.ReferenceOutIdeal.nD Cert.ReferenceOutIdeal.τ).loc Cert.ReferenceOutIdeal.main_arg6))
      (mixR (m' ((c.tc : Thread Cert.ReferenceOutIdeal.nD Cert.ReferenceOutIdeal.τ).loc Cert.ReferenceOutIdeal.main_arg1))
        (m' ((c.tc : Thread Cert.ReferenceOutIdeal.nD Cert.ReferenceOutIdeal.τ).loc Cert.ReferenceOutIdeal.main_arg2))
        (m' ((c.tc : Thread Cert.ReferenceOutIdeal.nD Cert.ReferenceOutIdeal.τ).loc Cert.ReferenceOutIdeal.main_arg3))
        (m' ((c.tc : Thread Cert.ReferenceOutIdeal.nD Cert.ReferenceOutIdeal.τ).loc Cert.ReferenceOutIdeal.main_arg4))
        (m' ((c.tc : Thread Cert.ReferenceOutIdeal.nD Cert.ReferenceOutIdeal.τ).loc Cert.ReferenceOutIdeal.main_arg5))) (ix2 i k)) = Y m c := funext fun i => funext fun k => hy i k
    rw [e, a7]

end Cert.Proof.Out

end
-- ==== Proof.Cm.lean ====
module

public import Idealize.ShloMosaic.PureOps.Ideal
public import Idealize.ShloMosaic.Lib.Pointwise

@[expose] public section

noncomputable section

/-! # The chunked gMLP branch, over the extended reals -/

open Idealize.ShloMosaic

namespace Cert.Cm

/-- The activation: half the value, times one plus the error function at the value over the root of two. -/
def gelu (x : EReal) : EReal := Ideal.ofBits FTy.f32 1056964608#32 * x * (1 + Ideal.erf (x * Ideal.ofBits FTy.f32 1060439283#32))

/-- A row's mean over its 1024 columns. -/
def mean (f : Fin 1024 → EReal) : EReal := Ideal.div (∑ k, f k) (Ideal.ofBits FTy.f32 1149239296#32)

/-- A row normalised: its mean taken out, divided by the root of its variance plus a small constant, scaled and shifted column by column. -/
def ln (f w b : Fin 1024 → EReal) (l : Fin 1024) : EReal :=
  (f l - mean f) * Ideal.rsqrt (mean (fun k => (f k - mean f) * (f k - mean f)) + Ideal.ofBits FTy.f32 925353388#32) * w l + b l

/-- A normalised row depends on its entries alone. -/
theorem ln_congr {f w b f' w' b' : Fin 1024 → EReal} {l l' : Fin 1024} (hl : l = l') (hf : ∀ k, f k = f' k) (hw : w l = w' l') (hb : b l = b' l') :
    ln f w b l = ln f' w' b' l' := by
  subst hl
  have e : f = f' := funext hf
  subst e
  unfold ln
  rw [hw, hb]

/-- The part of a column's group. -/
def grp (l : Fin 1024) : Fin 8 := ⟨l.val / 128, by omega⟩

/-- The first half of a token's activated columns. -/
def u (p : Fin 8320 → Fin 2048 → EReal) (i : Fin 8320) (l : Fin 1024) : EReal := gelu (p i ⟨l.val, by omega⟩)

/-- The second half of a token's activated columns, normalised. -/
def v (p : Fin 8320 → Fin 2048 → EReal) (w b : Fin 1024 → EReal) (i : Fin 8320) (l : Fin 1024) : EReal :=
  ln (fun k => gelu (p i ⟨1024 + k.val, by omega⟩)) w b l

/-- The token at a place of the chunk of 128 that a token lies in. -/
def mate (i : Fin 8320) (j : Fin 128) : Fin 8320 := ⟨i.val / 128 * 128 + j.val, by omega⟩

/-- A token's place in its chunk of 128. -/
def pos (i : Fin 8320) : Fin 128 := ⟨i.val % 128, by omega⟩

/-- The branch's output at a prompt token: the first half, times the mix, over the tokens of the chunk up to this one, of the second half, plus the bias. -/
def outP (p : Fin 8320 → Fin 2048 → EReal) (w b : Fin 1024 → EReal) (ws : Fin 8 → Fin 128 → Fin 128 → EReal) (bt : Fin 128 → Fin 8 → EReal) (i : Fin 8320)
    (l : Fin 1024) : EReal :=
  u p i l * ((∑ j : Fin 128, if j ≤ pos i then ws (grp l) (pos i) j * v p w b (mate i j) l else 0) + bt (pos i) (grp l))

/-- The branch's output at a sample token, which is the first of its chunk. -/
def outS (p : Fin 8320 → Fin 2048 → EReal) (w b : Fin 1024 → EReal) (ws : Fin 8 → EReal) (bt : Fin 8 → EReal) (i : Fin 8320) (l : Fin 1024) : EReal :=
  u p i l * (ws (grp l) * v p w b i l + bt (grp l))

end Cert.Cm
-- ==== Proof.CmVal.lean ====
module

public import proofs.«01_k».proof.Proof.Cm
public import proofs.«01_k».proof.Proof.Gen.KernelCmIdeal.Frame
public import Idealize.ShloMosaic.Lib.Pipeline.ValueKit
public import Idealize.ShloMosaic.Lib.Pipeline.ReadBack
public import Idealize.ShloMosaic.Lib.StableHlo.RunRead

@[expose] public section

set_option maxRecDepth 16384

noncomputable section

/-! # What the two calls of the chunked gMLP leave in a block -/

open Idealize.ShloMosaic Idealize.ShloMosaic.TcCoe Idealize.SL.Sem Idealize.ShloMosaic.StableHlo

namespace Cert.KernelCmIdeal.Val

open Cert.KernelCmIdeal Cert.KernelCmIdeal.Gen

/-- The comparison of two small numbers as the body makes it, and the choice made by it. -/
theorem select_ge (i j : Fin 128) (a b : EReal) :
    Scalar.select (IntOp.cmpi CmpIPredicate.sge (BitVec.ofNat 32 i.val) (BitVec.ofNat 32 j.val)) a b = if j ≤ i then a else b := by
  have h : IntOp.cmpi CmpIPredicate.sge (BitVec.ofNat 32 i.val) (BitVec.ofNat 32 j.val) = if j ≤ i then 1#1 else 0#1 := by
    have hi : (BitVec.ofNat 32 i.val).toInt = i.val := by
      rw [BitVec.toInt_eq_toNat_of_lt] <;> simp <;> omega
    have hj : (BitVec.ofNat 32 j.val).toInt = j.val := by
      rw [BitVec.toInt_eq_toNat_of_lt] <;> simp <;> omega
    simp only [IntOp.cmpi, BitVec.sle, hi, hj, Nat.cast_le, Fin.le_def]
    by_cases hij : j.val ≤ i.val <;> simp [hij]
  rw [h]
  by_cases hij : j ≤ i <;> simp [hij, Scalar.select]

/-- The activated first half of a block of 128 tokens. -/
theorem u0_ix (x0 : Vec Ideal S128x2048 .f32) (i : Fin 128) (l : Fin 1024) :
    (k0_pay5 x0 : FVec Ideal S128x1024 .f32) (ix2 i l) = Cm.gelu (x0 (ix2 i (⟨l.val, by omega⟩ : Fin 2048))) := by
  unfold_payloads
  pointwise
  rfl

/-- The normalised second half of a block of 128 tokens. -/
theorem v0_ix (x0 : Vec Ideal S128x2048 .f32) (x1 x2 : Vec Ideal S1x1024 .f32) (i : Fin 128) (l : Fin 1024) :
    (k0_pay6 x0 x1 x2 : FVec Ideal S128x1024 .f32) (ix2 i l) = Cm.ln (fun k => Cm.gelu (x0 (ix2 i (⟨1024 + k.val, by omega⟩ : Fin 2048))))
      (fun k => x1 (ix2 (0 : Fin 1) k)) (fun k => x2 (ix2 (0 : Fin 1) k)) l := by
  unfold_payloads
  pointwise
  rfl

/-- A block's outputs, from its halves, the spatial weights and the biases. -/
def G0 (u v : FVec Ideal S128x1024 .f32) (ws : Vec Ideal S8x128x128 .f32) (bt : Vec Ideal S128x8 .f32) : Vec Ideal S128x1024 .f32 := fun y =>
  u y * ((∑ j : Fin 128, if j ≤ (y 0 : Fin 128) then ws (ix3 (Cm.grp (y 1)) (y 0 : Fin 128) j) * v (ix2 j (y 1 : Fin 1024)) else 0)
    + bt (ix2 (y 0 : Fin 128) (Cm.grp (y 1))))

/-- A column's group's columns agree with the block's outputs if they do at each place. -/
theorem opiece0 (g : Fin 8) (inb) (P : Vec Ideal S128x128 .f32) (G : Vec Ideal S128x1024 .f32)
    (hP : ∀ (i : Fin 128) (e : Fin 128), P (ix2 i e) = G (ix2 i (⟨128 * g.val + e.val, by omega⟩ : Fin 1024))) (x : S128x128.Idx) :
    P x = G ((Rect.unit (s := S128x1024) ![0, 128 * g.val] ![128, 128] inb).emb x) := by
  have e1 : x = ix2 (x 0 : Fin 128) (x 1 : Fin 128) := by
    funext a
    fin_cases a <;> rfl
  have e2 : (Rect.unit (s := S128x1024) ![0, 128 * g.val] ![128, 128] inb).emb x
      = ix2 (x 0 : Fin 128) (⟨128 * g.val + (x 1).val, by have h1 : (x 1).val < 128 := (x 1).isLt; omega⟩ : Fin 1024) := by
    funext a
    apply Fin.ext
    fin_cases a
    · show 0 + 1 * (x 0).val = (x 0).val; omega
    · show 128 * g.val + 1 * (x 1).val = 128 * g.val + (x 1).val; omega
  exact (congrArg P e1).trans ((hP _ _).trans (congrArg G e2).symm)

/-- The whole scratch read back after stores that are together one array. -/
theorem readCov_whole0 (w : Memref sig .tc .vmem S128x1024 .f32) (inb) (L : List (View.Piece (Elt Ideal) S128x1024 .f32))
    (G : Vec Ideal S128x1024 .f32) (h : ∀ y, View.canon L y = G y) :
    w.view.readCov L (Rect.unit (s := S128x1024) ![0, 0] ![128, 1024] inb).toLoadRect = G := by
  rw [View.readCov_eq_canon']
  funext y
  refine (h _).trans (congrArg G ?_)
  funext a
  apply Fin.ext
  fin_cases a
  · show 0 + 1 * (y 0).val = (y 0).val; omega
  · show 0 + 1 * (y 1).val = (y 1).val; omega

/-- The stores of a block's outputs, a group of columns at a time, the last first. -/
abbrev stores0 (u v : FVec Ideal S128x1024 .f32) (x3 : Vec Ideal S8x128x128 .f32) (x4 : Vec Ideal S128x8 .f32) : List (View.Piece (Elt Ideal) S128x1024 .f32) :=
  [⟨Rect.unit ![0, 896] ![128, 128] inb_S128x1024_S128x128_0_896,
      k0_pay2 u v k0_pay7 (View.ld x3 (Rect.unit ![7, 0, 0] ![1, 128, 128] inb_S8x128x128_S1x128x128_7_0_0))
        (View.ld x4 (Rect.unit ![0, 7] ![128, 1] inb_S128x8_S128x1_0_7))⟩,
    ⟨Rect.unit ![0, 768] ![128, 128] inb_S128x1024_S128x128_0_768,
      k0_pay1 (k0_pay19 u v k0_pay7 (View.ld x3 (Rect.unit ![6, 0, 0] ![1, 128, 128] inb_S8x128x128_S1x128x128_6_0_0))
        (View.ld x4 (Rect.unit ![0, 6] ![128, 1] inb_S128x8_S128x1_0_6)))⟩,
    ⟨Rect.unit ![0, 640] ![128, 128] inb_S128x1024_S128x128_0_640,
      k0_pay18 u v k0_pay7 (View.ld x3 (Rect.unit ![5, 0, 0] ![1, 128, 128] inb_S8x128x128_S1x128x128_5_0_0))
        (View.ld x4 (Rect.unit ![0, 5] ![128, 1] inb_S128x8_S128x1_0_5))⟩,
    ⟨Rect.unit ![0, 512] ![128, 128] inb_S128x1024_S128x128_0_512,
      k0_pay17 u (k0_pay15 v k0_pay7 (View.ld x3 (Rect.unit ![4, 0, 0] ![1, 128, 128] inb_S8x128x128_S1x128x128_4_0_0)))
        (k0_pay16 (View.ld x4 (Rect.unit ![0, 4] ![128, 1] inb_S128x8_S128x1_0_4)))⟩,
    ⟨Rect.unit ![0, 384] ![128, 128] inb_S128x1024_S128x128_0_384,
      k0_pay14 u v k0_pay7 (View.ld x3 (Rect.unit ![3, 0, 0] ![1, 128, 128] inb_S8x128x128_S1x128x128_3_0_0))
        (View.ld x4 (Rect.unit ![0, 3] ![128, 1] inb_S128x8_S128x1_0_3))⟩,
    ⟨Rect.unit ![0, 256] ![128, 128] inb_S128x1024_S128x128_0_256,
      k0_pay13 u (k0_pay11 k0_pay7 (View.ld x3 (Rect.unit ![2, 0, 0] ![1, 128, 128] inb_S8x128x128_S1x128x128_2_0_0)))
        (k0_pay12 v) (constant S128x128 FTy.f32 0#32) (View.ld x4 (Rect.unit ![0, 2] ![128, 1] inb_S128x8_S128x1_0_2))⟩,
    ⟨Rect.unit ![0, 128] ![128, 128] inb_S128x1024_S128x128_0_128,
      k0_pay10 u v k0_pay7 (View.ld x3 (Rect.unit ![1, 0, 0] ![1, 128, 128] inb_S8x128x128_S1x128x128_1_0_0))
        (View.ld x4 (Rect.unit ![0, 1] ![128, 1] inb_S128x8_S128x1_0_1))⟩,
    ⟨Rect.unit ![0, 0] ![128, 128] inb_S128x1024_S128x128_0_0,
      k0_pay9 u v k0_pay7 (k0_pay8 (View.ld x3 (Rect.unit ![0, 0, 0] ![1, 128, 128] inb_S8x128x128_S1x128x128_0_0_0)))
        (FloatOps.ofBits FTy.f32 0#32) (View.ld x4 (Rect.unit ![0, 0] ![128, 1] inb_S128x8_S128x1_0_0))⟩]

/-- A block's outputs at a group's column, with the group named. -/
theorem G0_ix (u v : FVec Ideal S128x1024 .f32) (ws : Vec Ideal S8x128x128 .f32) (bt : Vec Ideal S128x8 .f32) (g : Fin 8) (i e : Fin 128) :
    G0 u v ws bt (ix2 i (⟨128 * g.val + e.val, by omega⟩ : Fin 1024)) = u (ix2 i (⟨128 * g.val + e.val, by omega⟩ : Fin 1024))
      * ((∑ j : Fin 128, if j ≤ i then ws (ix3 g i j) * v (ix2 j (⟨128 * g.val + e.val, by omega⟩ : Fin 1024)) else 0) + bt (ix2 i g)) := by
  have hg : Cm.grp (⟨128 * g.val + e.val, by omega⟩ : Fin 1024) = g := Fin.ext (by show (128 * g.val + e.val) / 128 = g.val; omega)
  show u _ * ((∑ j : Fin 128, if j ≤ i then ws (ix3 (Cm.grp ⟨128 * g.val + e.val, _⟩) i j) * v _ else 0) + bt (ix2 i (Cm.grp ⟨128 * g.val + e.val, _⟩))) = _
  rw [hg]
  rfl

set_option maxHeartbeats 2000000 in
/-- The stores leave the block's outputs. -/
theorem stores0_eq (u v : FVec Ideal S128x1024 .f32) (x3 : Vec Ideal S8x128x128 .f32) (x4 : Vec Ideal S128x8 .f32) (y : S128x1024.Idx) :
    View.canon (stores0 u v x3 x4) y = G0 u v x3 x4 y := by
  refine View.canon_append_of_piecesOf (G0 u v x3 x4) [] (stores0 u v x3 x4) ⟨opiece0 7 (by decide) _ _ fun i e => ?_, opiece0 6 (by decide) _ _ fun i e => ?_,
    opiece0 5 (by decide) _ _ fun i e => ?_, opiece0 4 (by decide) _ _ fun i e => ?_, opiece0 3 (by decide) _ _ fun i e => ?_, opiece0 2 (by decide) _ _ fun i e => ?_, opiece0 1 (by decide) _ _ fun i e => ?_,
    opiece0 0 (by decide) _ _ fun i e => ?_, trivial⟩ y (View.cover_of_tiledL (s := S128x1024) _ ![128, 128] (by sl_kernel_rfl) y)
  all_goals
    refine Eq.trans ?_ (G0_ix u v x3 x4 _ i e).symm
    unfold_payloads
    pointwise
    simp only [select_ge]

set_option maxHeartbeats 2000000 in
/-- A block's outputs at a step that does not write the last rows' second halves. -/
theorem out0_A (c : Dev nD) (i : grid0.Coords) (a2 : Memref sig .tc .vmem S128x2048 .f32) (h2 : a2.IsWhole) (a3 : Memref sig .tc .vmem S1x1024 .f32) (h3 : a3.IsWhole)
    (a4 : Memref sig .tc .vmem S1x1024 .f32) (h4 : a4.IsWhole) (a5 : Memref sig .tc .vmem S8x128x128 .f32) (h5 : a5.IsWhole) (a6 : Memref sig .tc .vmem S128x8 .f32)
    (h6 : a6.IsWhole) (a7 : Memref sig .tc .vmem S128x1024 .f32) (h7 : a7.IsWhole) (a8 : Memref sig .tc .vmem S1x128x1024 .f32) (h8 : a8.IsWhole)
    (a9 : Memref sig .tc .vmem S128x1024 .f32) (h9 : a9.IsWhole) (hc : ¬cond0_0 i) (x0 : Vec Ideal S128x2048 .f32) (x1 x2 : Vec Ideal S1x1024 .f32)
    (x3 : Vec Ideal S8x128x128 .f32) (x4 : Vec Ideal S128x8 .f32) :
    out0_A_5 (F := Ideal) c i a2 h2 a3 h3 a4 h4 a5 h5 a6 h6 a7 h7 a8 h8 a9 h9 hc x0 x1 x2 x3 x4 = G0 (k0_pay5 x0) (k0_pay6 x0 x1 x2) x3 x4 := by
  unfold out0_A_5
  rw [View.read_writes_eq_canon _ _ _ (cover0_A_5 c i a2 h2 a3 h3 a4 h4 a5 h5 a6 h6 a7 h7 a8 h8 a9 h9 hc x0 x1 x2 x3 x4)]
  unfold kernelRun0_A
  dsimp only
  sl_unfold_words
  simp only [View.readAt_eq_ld, h2.read_unread, h3.read_unread, h4.read_unread, h5.read_unread, h6.read_unread]
  simp (disch := decide) only [View.ld_unit_lit, View.canon_cons_unit_lit]
  generalize k0_pay5 x0 = u
  generalize k0_pay6 x0 x1 x2 = v
  refine readCov_whole0 _ _ _ _ fun y => ?_
  exact stores0_eq u v x3 x4 y

set_option maxHeartbeats 2000000 in
/-- A block's outputs at a step that writes the last rows' second halves. -/
theorem out0_B (c : Dev nD) (i : grid0.Coords) (a2 : Memref sig .tc .vmem S128x2048 .f32) (h2 : a2.IsWhole) (a3 : Memref sig .tc .vmem S1x1024 .f32) (h3 : a3.IsWhole)
    (a4 : Memref sig .tc .vmem S1x1024 .f32) (h4 : a4.IsWhole) (a5 : Memref sig .tc .vmem S8x128x128 .f32) (h5 : a5.IsWhole) (a6 : Memref sig .tc .vmem S128x8 .f32)
    (h6 : a6.IsWhole) (a7 : Memref sig .tc .vmem S128x1024 .f32) (h7 : a7.IsWhole) (a8 : Memref sig .tc .vmem S1x128x1024 .f32) (h8 : a8.IsWhole)
    (a9 : Memref sig .tc .vmem S128x1024 .f32) (h9 : a9.IsWhole) (hc : cond0_0 i) (x0 : Vec Ideal S128x2048 .f32) (x1 x2 : Vec Ideal S1x1024 .f32)
    (x3 : Vec Ideal S8x128x128 .f32) (x4 : Vec Ideal S128x8 .f32) :
    out0_B_5 (F := Ideal) c i a2 h2 a3 h3 a4 h4 a5 h5 a6 h6 a7 h7 a8 h8 a9 h9 hc x0 x1 x2 x3 x4 = G0 (k0_pay5 x0) (k0_pay6 x0 x1 x2) x3 x4 := by
  unfold out0_B_5
  rw [View.read_writes_eq_canon _ _ _ (cover0_B_5 c i a2 h2 a3 h3 a4 h4 a5 h5 a6 h6 a7 h7 a8 h8 a9 h9 hc x0 x1 x2 x3 x4)]
  unfold kernelRun0_B
  dsimp only
  sl_unfold_words
  simp only [View.readAt_eq_ld, h2.read_unread, h3.read_unread, h4.read_unread, h5.read_unread, h6.read_unread]
  simp (disch := decide) only [View.ld_unit_lit, View.canon_cons_unit_lit]
  generalize k0_pay5 x0 = u
  generalize k0_pay6 x0 x1 x2 = v
  refine readCov_whole0 _ _ _ _ fun y => ?_
  exact stores0_eq u v x3 x4 y

/-- A block's outputs are the branch's where the block's rows, weights and biases are the arrays'. -/
theorem G0_of {x0 : Vec Ideal S128x2048 .f32} {x1 x2 : Vec Ideal S1x1024 .f32} {x3 : Vec Ideal S8x128x128 .f32} {x4 : Vec Ideal S128x8 .f32} {y : S128x1024.Idx}
    (T : ℕ) (hT : T < 64) {p : Fin 8320 → Fin 2048 → EReal} {w b : Fin 1024 → EReal} {ws : Fin 8 → Fin 128 → Fin 128 → EReal} {bt : Fin 128 → Fin 8 → EReal} {i : Fin 8320} {l : Fin 1024}
    (h0 : ∀ (j : Fin 128) (k : Fin 2048), x0 (ix2 j k) = p ⟨T * 128 + j.val, by omega⟩ k) (h1 : ∀ k : Fin 1024, x1 (ix2 (0 : Fin 1) k) = w k)
    (h2 : ∀ k : Fin 1024, x2 (ix2 (0 : Fin 1) k) = b k) (h3 : ∀ (g : Fin 8) (a j : Fin 128), x3 (ix3 g a j) = ws g a j)
    (h4 : ∀ (a : Fin 128) (g : Fin 8), x4 (ix2 a g) = bt a g) (hi : i.val = T * 128 + (y 0).val) (hl : l.val = (y 1).val) :
    G0 (k0_pay5 x0) (k0_pay6 x0 x1 x2) x3 x4 y = Cm.outP p w b ws bt i l := by
  have ey : y = ix2 (Cm.pos i) l := by
    funext a
    fin_cases a
    · have h := (y 0).isLt
      exact Fin.ext (by show (y 0).val = i.val % 128; change (y 0).val < 128 at h; omega)
    · exact Fin.ext hl.symm
  have e0 : ∀ (j : Fin 128) (k : Fin 2048), x0 (ix2 j k) = p (Cm.mate i j) k := fun j k => (h0 j k).trans
    (congrArg (fun r => p r k) (Fin.ext (by
      have h := (y 0).isLt
      show T * 128 + j.val = i.val / 128 * 128 + j.val
      change (y 0).val < 128 at h
      omega)))
  have em : Cm.mate i (Cm.pos i) = i := Fin.ext (by show i.val / 128 * 128 + i.val % 128 = i.val; omega)
  subst ey
  show k0_pay5 x0 (ix2 (Cm.pos i) l) * ((∑ j : Fin 128, if j ≤ Cm.pos i then x3 (ix3 (Cm.grp l) (Cm.pos i) j) * k0_pay6 x0 x1 x2 (ix2 j l) else 0)
    + x4 (ix2 (Cm.pos i) (Cm.grp l))) = _
  unfold Cm.outP Cm.u Cm.v
  rw [u0_ix, e0, em, h4]
  congr 2
  refine Finset.sum_congr rfl fun j _ => ?_
  rw [v0_ix, h3]
  simp only [e0, h1, h2]

variable (V : (c : Dev nD) → (b : Ref sig .tc) → Buf (Elt Ideal) ((c : Thread nD τ).loc b)) (c : Dev nD)

/-- The prompt call's blocks: 128 rows, the weights and biases whole, and the last rows' second halves of one batch entry. -/
theorem idx0 (t : Fin cfg0.N) : win0_0.index t = ![t.val, 0] ∧ win0_1.index t = ![0, 0] ∧ win0_2.index t = ![0, 0]
    ∧ win0_3.index t = ![0, 0, 0] ∧ win0_4.index t = ![0, 0] ∧ win0_5.index t = ![t.val, 0] ∧ win0_6.index t = ![t.val / 16, 0, 0] :=
  (by decide +kernel : ∀ t : Fin grid0.N, win0_0.index t = ![t.val, 0] ∧ win0_1.index t = ![0, 0] ∧ win0_2.index t = ![0, 0]
    ∧ win0_3.index t = ![0, 0, 0] ∧ win0_4.index t = ![0, 0] ∧ win0_5.index t = ![t.val, 0] ∧ win0_6.index t = ![t.val / 16, 0, 0]) t

set_option maxHeartbeats 2000000 in
/-- A step's outputs. -/
theorem after5 (t : Fin cfg0.N) : (outsAt0 V c t.val t.isLt).1 = G0 (k0_pay5 (iblk0 V c 0 t)) (k0_pay6 (iblk0 V c 0 t) (iblk0 V c 1 t) (iblk0 V c 2 t)) (iblk0 V c 3 t) (iblk0 V c 4 t) := by
  by_cases h0 : t.val % 16 = 15
  · rw [outsAt0_B V c t h0]
    dsimp only
    exact out0_B _ _ _ _ _ _ _ _ _ _ _ _ _ _ _ _ _ _ _ _ _ _ _ _
  · rw [outsAt0_A V c t h0]
    dsimp only
    exact out0_A _ _ _ _ _ _ _ _ _ _ _ _ _ _ _ _ _ _ _ _ _ _ _ _

set_option maxHeartbeats 2000000 in
/-- The prompt call's outputs: the rows it writes, the others as they were. -/
theorem out0 : (dat0 V c).arrAt 5 cfg0.N = (fun j : S8320x1024.Idx => if (j 0 : Fin 8320).val / 128 < 64 then
    Cm.outP (fun i k => (V c main_arg0 : FVec Ideal S8320x2048 .f32) (ix2 i k))
    (fun k => (V c main_v0 : FVec Ideal S1x1024 .f32) (ix2 0 k)) (fun k => (V c main_v1 : FVec Ideal S1x1024 .f32) (ix2 0 k))
    (fun g i k => (V c main_arg3 : FVec Ideal S8x128x128 .f32) (ix3 g i k)) (fun i g => (V c main_v2 : FVec Ideal S128x8 .f32) (ix2 i g)) (j 0) (j 1)
    else (V c main_v3_0 : FVec Ideal S8320x1024 .f32) j) := by
  refine (dat0 V c).arrAt_eq_of_coversWhere 5 _ (fun β => β 0 < 64) (by decide +kernel) (fun t hf y => ?_) (fun j => Iff.rfl)
  blk_simp
  rw [after0_5, after5]
  refine G0_of t.val t.isLt (fun j k => ?_) (fun k => ?_) (fun k => ?_) (fun g i j => ?_) (fun i g => ?_) ?_ ?_
  · unfold iblk0
    blk_ext [(idx0 t).1, (idx0 t).2.2.2.2.2.1]
  · unfold iblk0
    blk_ext [(idx0 t).2.1]
  · unfold iblk0
    blk_ext [(idx0 t).2.2.1]
  · unfold iblk0
    blk_ext [(idx0 t).2.2.2.1]
  · unfold iblk0
    blk_ext [(idx0 t).2.2.2.2.1]
  · blk_simp [(idx0 t).2.2.2.2.2.1]
  · blk_simp [(idx0 t).2.2.2.2.2.1]

set_option maxHeartbeats 2000000 in
/-- The prompt call's last rows' second halves. -/
theorem out0v : (dat0 V c).arrAt 6 cfg0.N = (fun j : S4x128x1024.Idx => Cm.v (fun i k => (V c main_arg0 : FVec Ideal S8320x2048 .f32) (ix2 i k))
    (fun k => (V c main_v0 : FVec Ideal S1x1024 .f32) (ix2 0 k)) (fun k => (V c main_v1 : FVec Ideal S1x1024 .f32) (ix2 0 k))
    (⟨2048 * (j 0 : Fin 4).val + 1920 + (j 1 : Fin 128).val, by have h0 : (j 0).val < 4 := (j 0).isLt; have h1 : (j 1).val < 128 := (j 1).isLt; omega⟩ : Fin 8320) (j 2)) := by
  refine (dat0 V c).arrAt_eq_of_covers 6 _ (by decide +kernel) fun t hf y => ?_
  have ht : t.val % 16 = 15 := (flush0_6 t).mp hf
  blk_simp
  rw [after0_6]
  rw [outsAt0_B V c t ht]
  frame_out
  generalize hv : k0_pay6 (iblk0 V c 0 t) (iblk0 V c 1 t) (iblk0 V c 2 t) = v
  unfold_payloads
  pointwise
  rw [← hv]
  refine (v0_ix _ _ _ _ _).trans ?_
  refine Cm.ln_congr ?_ (fun k => congrArg Cm.gelu ?_) ?_ ?_
  · apply Fin.ext
    blk_simp [(idx0 t).2.2.2.2.2.2]
  · unfold iblk0
    blk_ext [(idx0 t).1, (idx0 t).2.2.2.2.2.2]
  · unfold iblk0
    blk_ext [(idx0 t).2.1, (idx0 t).2.2.2.2.2.2]
  · unfold iblk0
    blk_ext [(idx0 t).2.2.1, (idx0 t).2.2.2.2.2.2]

end Cert.KernelCmIdeal.Val
-- ==== Proof.CmVal2.lean ====
module

public import proofs.«01_k».proof.Proof.Cm
public import proofs.«01_k».proof.Proof.Gen.KernelCmIdeal.Frame
public import Idealize.ShloMosaic.Lib.Pipeline.ValueKit
public import Idealize.ShloMosaic.Lib.Pipeline.ReadBack
public import Idealize.ShloMosaic.Lib.StableHlo.RunRead

@[expose] public section

set_option maxRecDepth 16384

noncomputable section

/-! # What the sample call of the chunked gMLP leaves in a block -/

open Idealize.ShloMosaic Idealize.ShloMosaic.TcCoe Idealize.SL.Sem Idealize.ShloMosaic.StableHlo

namespace Cert.KernelCmIdeal.Val

open Cert.KernelCmIdeal Cert.KernelCmIdeal.Gen

/-- The comparison of two small numbers as the body makes it, and the choice made by it. -/
theorem select_ge8 (i j : Fin 8) (a b : EReal) :
    Scalar.select (IntOp.cmpi CmpIPredicate.sge (BitVec.ofNat 32 i.val) (BitVec.ofNat 32 j.val)) a b = if j ≤ i then a else b := by
  have h : IntOp.cmpi CmpIPredicate.sge (BitVec.ofNat 32 i.val) (BitVec.ofNat 32 j.val) = if j ≤ i then 1#1 else 0#1 := by
    revert i j
    decide
  rw [h]
  by_cases hij : j ≤ i <;> simp [hij, Scalar.select]

/-- The body finds that the first token of a chunk of eight has a place that is a multiple of eight. -/
theorem first (n : Fin 8) : IntOp.cmpi CmpIPredicate.eq (Scalar.select (IntOp.andi (IntOp.xori (IntOp.cmpi CmpIPredicate.slt
      (IntOp.remsi ArithUnit.vector (BitVec.ofNat 32 (8 * n.val)) (Scalar.select (Scalar.cmpi CmpIPredicate.eq 8#32 0#32) 1#32 8#32)) 0#32)
      (Scalar.cmpi CmpIPredicate.slt (Scalar.select (Scalar.cmpi CmpIPredicate.eq 8#32 0#32) 1#32 8#32) 0#32))
      (IntOp.cmpi CmpIPredicate.ne (IntOp.remsi ArithUnit.vector (BitVec.ofNat 32 (8 * n.val)) (Scalar.select (Scalar.cmpi CmpIPredicate.eq 8#32 0#32) 1#32 8#32)) 0#32))
      (IntOp.addi (IntOp.remsi ArithUnit.vector (BitVec.ofNat 32 (8 * n.val)) (Scalar.select (Scalar.cmpi CmpIPredicate.eq 8#32 0#32) 1#32 8#32))
      (Scalar.select (Scalar.cmpi CmpIPredicate.eq 8#32 0#32) 1#32 8#32))
      (IntOp.remsi ArithUnit.vector (BitVec.ofNat 32 (8 * n.val)) (Scalar.select (Scalar.cmpi CmpIPredicate.eq 8#32 0#32) 1#32 8#32))) 0#32 = 1#1 := by
  revert n
  decide

/-- The choice made where the condition holds. -/
theorem select_one (a b : EReal) : Scalar.select 1#1 a b = a := by simp [Scalar.select]

/-- The activated columns of a block of eight chunks, at a chunk's first token. -/
theorem z1_ix (x0 : Vec Ideal S8x2048 .f32) (n : Fin 8) (k : Fin 2048) :
    (k1_pay2 x0 : FVec Ideal S64x2048 .f32) (ix2 (⟨8 * n.val, by omega⟩ : Fin 64) k) = Cm.gelu (x0 (ix2 n k)) := by
  unfold_payloads
  pointwise
  simp only [first, select_one]
  rfl

/-- The activated first half of a block of eight chunks, at a chunk's first token. -/
theorem u1_ix (x0 : Vec Ideal S8x2048 .f32) (n : Fin 8) (l : Fin 1024) :
    (k1_pay3 x0 : FVec Ideal S64x1024 .f32) (ix2 (⟨8 * n.val, by omega⟩ : Fin 64) l) = Cm.gelu (x0 (ix2 n (⟨l.val, by omega⟩ : Fin 2048))) := by
  unfold k1_pay3
  generalize hz : k1_pay2 x0 = z
  pointwise
  subst hz
  exact z1_ix x0 n _

/-- The normalised second half of a block of eight chunks, at a chunk's first token. -/
theorem v1_ix (x0 : Vec Ideal S8x2048 .f32) (x1 x2 : Vec Ideal S1x1024 .f32) (n : Fin 8) (l : Fin 1024) :
    (k1_pay6 (k1_pay4 x0) (k1_pay5 x1) x2 : FVec Ideal S64x1024 .f32) (ix2 (⟨8 * n.val, by omega⟩ : Fin 64) l)
      = Cm.ln (fun k => Cm.gelu (x0 (ix2 n (⟨1024 + k.val, by omega⟩ : Fin 2048)))) (fun k => x1 (ix2 (0 : Fin 1) k)) (fun k => x2 (ix2 (0 : Fin 1) k)) l := by
  have hv : ∀ k : Fin 1024, (k1_pay4 x0 : FVec Ideal S64x1024 .f32) (ix2 (⟨8 * n.val, by omega⟩ : Fin 64) k) = Cm.gelu (x0 (ix2 n (⟨1024 + k.val, by omega⟩ : Fin 2048))) := by
    intro k
    unfold k1_pay4
    generalize hz : k1_pay2 x0 = z
    pointwise
    subst hz
    exact z1_ix x0 n _
  generalize k1_pay4 x0 = z at hv
  unfold_payloads
  pointwise
  simp only [hv]
  rfl

/-- A block's rows, from its halves, the spatial weights and the biases. -/
def G1 (u v : FVec Ideal S64x1024 .f32) (ws : Vec Ideal S8x8x8 .f32) (bt : Vec Ideal S8x8 .f32) : Vec Ideal S64x1024 .f32 := fun y =>
  u y * ((∑ j : Fin 8, if j ≤ (⟨(y 0).val % 8, by omega⟩ : Fin 8) then
      ws (ix3 (Cm.grp (y 1)) (⟨(y 0).val % 8, by omega⟩ : Fin 8) j)
        * v (ix2 (⟨(y 0).val / 8 * 8 + j.val, by have h : (y 0).val < 64 := (y 0).isLt; omega⟩ : Fin 64) (y 1 : Fin 1024)) else 0)
    + bt (ix2 (⟨(y 0).val % 8, by omega⟩ : Fin 8) (Cm.grp (y 1))))

/-- A chunk's store of a group of columns agrees with the block's rows if it does at each place. -/
theorem opiece1 {u v : FVec Ideal S64x1024 .f32} {ws : Vec Ideal S8x8x8 .f32} {bt : Vec Ideal S8x8 .f32} (o q : ℕ) (ho : o % 8 = 0 ∧ o + 8 ≤ 64)
    (hq : q % 128 = 0 ∧ q + 128 ≤ 1024) (inb) (P : Vec Ideal S8x128 .f32)
    (hP : ∀ (i : Fin 8) (e : Fin 128), P (ix2 i e) = u (ix2 (⟨o + i.val, by omega⟩ : Fin 64) (⟨q + e.val, by omega⟩ : Fin 1024))
      * ((∑ j : Fin 8, if j ≤ i then ws (ix3 (⟨q / 128, by omega⟩ : Fin 8) i j) * v (ix2 (⟨o + j.val, by omega⟩ : Fin 64) (⟨q + e.val, by omega⟩ : Fin 1024)) else 0)
        + bt (ix2 i (⟨q / 128, by omega⟩ : Fin 8)))) (x : S8x128.Idx) :
    P x = G1 u v ws bt ((Rect.unit (s := S64x1024) ![o, q] ![8, 128] inb).emb x) := by
  have h0 : (x 0).val < 8 := (x 0).isLt
  have h1 : (x 1).val < 128 := (x 1).isLt
  have e1 : x = ix2 (x 0 : Fin 8) (x 1 : Fin 128) := by
    funext a
    fin_cases a <;> rfl
  have e2 : (Rect.unit (s := S64x1024) ![o, q] ![8, 128] inb).emb x
      = ix2 (⟨o + (x 0).val, by omega⟩ : Fin 64) (⟨q + (x 1).val, by omega⟩ : Fin 1024) := by
    funext a
    apply Fin.ext
    fin_cases a
    · show o + 1 * (x 0).val = o + (x 0).val; omega
    · show q + 1 * (x 1).val = q + (x 1).val; omega
  refine (congrArg P e1).trans ((hP _ _).trans (Eq.trans ?_ (congrArg (G1 u v ws bt) e2).symm))
  have hg : Cm.grp (⟨q + (x 1).val, by omega⟩ : Fin 1024) = ⟨q / 128, by omega⟩ := Fin.ext (by show (q + (x 1).val) / 128 = q / 128; omega)
  have hm : (⟨(o + (x 0).val) % 8, by omega⟩ : Fin 8) = x 0 := Fin.ext (by show (o + (x 0).val) % 8 = (x 0).val; omega)
  have hd : ∀ j : Fin 8, (⟨(o + (x 0).val) / 8 * 8 + j.val, by omega⟩ : Fin 64) = ⟨o + j.val, by omega⟩ := fun j =>
    Fin.ext (by show (o + (x 0).val) / 8 * 8 + j.val = o + j.val; omega)
  show _ = u (ix2 _ _) * ((∑ j : Fin 8, if j ≤ (⟨(o + (x 0).val) % 8, by omega⟩ : Fin 8) then
      ws (ix3 (Cm.grp (⟨q + (x 1).val, by omega⟩ : Fin 1024)) (⟨(o + (x 0).val) % 8, by omega⟩ : Fin 8) j)
        * v (ix2 (⟨(o + (x 0).val) / 8 * 8 + j.val, by omega⟩ : Fin 64) _) else 0)
    + bt (ix2 (⟨(o + (x 0).val) % 8, by omega⟩ : Fin 8) (Cm.grp (⟨q + (x 1).val, by omega⟩ : Fin 1024))))
  simp only [hg, hm, hd]
  rfl

/-- The whole scratch read back after stores that are together one array. -/
theorem readCov_whole1 (w : Memref sig .tc .vmem S64x1024 .f32) (inb) (L : List (View.Piece (Elt Ideal) S64x1024 .f32))
    (G : Vec Ideal S64x1024 .f32) (h : ∀ y, View.canon L y = G y) :
    w.view.readCov L (Rect.unit (s := S64x1024) ![0, 0] ![64, 1024] inb).toLoadRect = G := by
  rw [View.readCov_eq_canon']
  funext y
  refine (h _).trans (congrArg G ?_)
  funext a
  apply Fin.ext
  fin_cases a
  · show 0 + 1 * (y 0).val = (y 0).val; omega
  · show 0 + 1 * (y 1).val = (y 1).val; omega

/-- Stores that are blocks of one array and cover it leave the array. -/
theorem canon_of_pieces {S : Shape} (G : Vec Ideal S .f32) (L : List (View.Piece (Elt Ideal) S .f32)) (h : View.PiecesOf G L) (y : S.Idx)
    (hc : ∃ p ∈ L, y ∈ p.1.set) : View.canon L y = G y := by
  have e := View.canon_append_of_piecesOf G [] L h y hc
  rwa [List.append_nil] at e

set_option maxHeartbeats 4000000 in
/-- A block's outputs. -/
theorem out1_A (c : Dev nD) (i : grid1.Coords) (a2 : Memref sig .tc .vmem S8x2048 .f32) (h2 : a2.IsWhole) (a3 : Memref sig .tc .vmem S1x1024 .f32) (h3 : a3.IsWhole)
    (a4 : Memref sig .tc .vmem S1x1024 .f32) (h4 : a4.IsWhole) (a5 : Memref sig .tc .vmem S8x8x8 .f32) (h5 : a5.IsWhole) (a6 : Memref sig .tc .vmem S8x8 .f32)
    (h6 : a6.IsWhole) (a8 : Memref sig .tc .vmem S8x1024 .f32) (h8 : a8.IsWhole) (a9 : Memref sig .tc .vmem S8x8x1024 .f32) (h9 : a9.IsWhole)
    (a10 : Memref sig .tc .vmem S64x1024 .f32) (h10 : a10.IsWhole) (hc : cond1_0 i) (x0 : Vec Ideal S8x2048 .f32) (x1 x2 : Vec Ideal S1x1024 .f32)
    (x3 : Vec Ideal S8x8x8 .f32) (x4 : Vec Ideal S8x8 .f32) :
    out1_A_5 (F := Ideal) c i a2 h2 a3 h3 a4 h4 a5 h5 a6 h6 a8 h8 a9 h9 a10 h10 hc x0 x1 x2 x3 x4
      = k1_pay111 (G1 (k1_pay3 x0) (k1_pay6 (k1_pay4 x0) (k1_pay5 x1) x2) x3 x4) := by
  unfold out1_A_5
  rw [View.read_writes_eq_canon _ _ _ (cover1_A_5 c i a2 h2 a3 h3 a4 h4 a5 h5 a6 h6 a8 h8 a9 h9 a10 h10 hc x0 x1 x2 x3 x4)]
  unfold kernelRun1_A
  dsimp only
  sl_unfold_words
  simp only [View.readAt_eq_ld, h2.read_unread, h3.read_unread, h4.read_unread, h5.read_unread, h6.read_unread]
  simp (disch := decide) only [View.ld_unit_lit, View.canon_cons_unit_lit]
  simp only [k1_pay9, k1_pay11]
  generalize k1_pay6 (k1_pay4 x0) (k1_pay5 x1) x2 = v
  generalize k1_pay3 x0 = u
  congr 1
  refine readCov_whole1 _ _ _ _ fun y => ?_
  refine canon_of_pieces (G1 u v x3 x4) _ ?_ y (View.cover_of_tiledL (s := S64x1024) _ ![8, 128] (by sl_kernel_rfl) y)
  repeat' refine And.intro ?_ ?_
  all_goals first
    | exact trivial
    | refine opiece1 _ _ (by decide) (by decide) (by decide) _ fun i e => ?_
      unfold_payloads
      pointwise
      simp only [select_ge8]
      try rfl

end Cert.KernelCmIdeal.Val
-- ==== Proof.CmArr.lean ====
module

public import proofs.«01_k».proof.Proof.CmVal2

@[expose] public section

set_option maxRecDepth 16384

noncomputable section

/-! # What the sample call of the chunked gMLP leaves in its results, from what it is entered with -/

open Idealize.ShloMosaic Idealize.ShloMosaic.TcCoe Idealize.SL.Sem Idealize.ShloMosaic.StableHlo

namespace Cert.KernelCmIdeal.Val

open Cert.KernelCmIdeal Cert.KernelCmIdeal.Gen

/-- The rows stored are each chunk's first. -/
theorem rows1_ix (G : FVec Ideal S64x1024 .f32) (n : Fin 8) (l : Fin 1024) :
    (k1_pay111 G : FVec Ideal S8x1024 .f32) (ix2 n l) = G (ix2 (⟨8 * n.val, by omega⟩ : Fin 64) l) := by
  unfold_payloads
  pointwise
  exact congrArg G (congrArg₂ _ (Fin.ext (by simp; omega)) rfl)

/-- The second halves stored are all of the block's, chunk by chunk. -/
theorem halves1_ix (G : FVec Ideal S64x1024 .f32) (n : Fin 8) (l : Fin 1024) :
    (k1_pay1 G : FVec Ideal S8x8x1024 .f32) (ix3 n (0 : Fin 8) l) = G (ix2 (⟨8 * n.val, by omega⟩ : Fin 64) l) := by
  unfold_payloads
  pointwise
  exact congrArg G (congrArg₂ _ (Fin.ext (by simp; omega)) rfl)

/-- A chunk's first row mixes with itself alone. -/
theorem G1_first (u v : FVec Ideal S64x1024 .f32) (ws : Vec Ideal S8x8x8 .f32) (bt : Vec Ideal S8x8 .f32) (n : Fin 8) (l : Fin 1024) :
    G1 u v ws bt (ix2 (⟨8 * n.val, by omega⟩ : Fin 64) l) = u (ix2 (⟨8 * n.val, by omega⟩ : Fin 64) l)
      * (ws (ix3 (Cm.grp l) (0 : Fin 8) (0 : Fin 8)) * v (ix2 (⟨8 * n.val, by omega⟩ : Fin 64) l) + bt (ix2 (0 : Fin 8) (Cm.grp l))) := by
  have hm : (⟨8 * n.val % 8, by omega⟩ : Fin 8) = 0 := Fin.ext (by show 8 * n.val % 8 = 0; omega)
  have hd : (⟨8 * n.val / 8 * 8 + (0 : Fin 8).val, by have : (0 : Fin 8).val = 0 := rfl; omega⟩ : Fin 64) = ⟨8 * n.val, by omega⟩ :=
    Fin.ext (by show 8 * n.val / 8 * 8 + 0 = 8 * n.val; omega)
  show u _ * ((∑ j : Fin 8, if j ≤ (⟨8 * n.val % 8, by omega⟩ : Fin 8) then ws (ix3 (Cm.grp l) (⟨8 * n.val % 8, by omega⟩ : Fin 8) j)
      * v (ix2 (⟨8 * n.val / 8 * 8 + j.val, by omega⟩ : Fin 64) l) else 0) + bt (ix2 (⟨8 * n.val % 8, by omega⟩ : Fin 8) (Cm.grp l))) = _
  rw [hm, Finset.sum_eq_single (0 : Fin 8)]
  · rw [if_pos (le_refl _), hd]
  · intro j _ hj
    rw [if_neg]
    intro h
    exact hj (Fin.le_zero_iff.mp h)
  · intro h
    exact absurd (Finset.mem_univ _) h

/-- A block's outputs are the branch's where the block's rows, weights and biases are the arrays'. -/
theorem G1_of {x0 : Vec Ideal S8x2048 .f32} {x1 x2 : Vec Ideal S1x1024 .f32} {x3 : Vec Ideal S8x8x8 .f32} {x4 : Vec Ideal S8x8 .f32} {y : S8x1024.Idx}
    {p : Fin 8320 → Fin 2048 → EReal} {w b : Fin 1024 → EReal} {ws : Fin 8 → EReal} {bt : Fin 8 → EReal} {i : Fin 8320} {l : Fin 1024}
    (h0 : ∀ (k : Fin 2048), x0 (ix2 (y 0 : Fin 8) k) = p i k) (h1 : ∀ k : Fin 1024, x1 (ix2 (0 : Fin 1) k) = w k)
    (h2 : ∀ k : Fin 1024, x2 (ix2 (0 : Fin 1) k) = b k) (h3 : ∀ (g : Fin 8), x3 (ix3 g (0 : Fin 8) (0 : Fin 8)) = ws g)
    (h4 : ∀ (g : Fin 8), x4 (ix2 (0 : Fin 8) g) = bt g) (hl : l.val = (y 1).val) :
    k1_pay111 (G1 (k1_pay3 x0) (k1_pay6 (k1_pay4 x0) (k1_pay5 x1) x2) x3 x4) y = Cm.outS p w b ws bt i l := by
  obtain ⟨n, e⟩ : ∃ n : Fin 8, (y 0 : Fin 8) = n := ⟨_, rfl⟩
  have ey : y = ix2 n l := by
    funext a
    fin_cases a
    · exact e
    · exact Fin.ext hl.symm
  have e0 : ∀ k : Fin 2048, x0 (ix2 n k) = p i k := fun k => e ▸ h0 k
  rw [ey]
  refine (rows1_ix _ _ _).trans ((G1_first _ _ _ _ _ _).trans ?_)
  unfold Cm.outS Cm.u Cm.v
  rw [u1_ix, v1_ix, h3, h4]
  simp only [e0, h1, h2]

variable (V : (c : Dev nD) → (b : Ref sig .tc) → Buf (Elt Ideal) ((c : Thread nD τ).loc b)) (c : Dev nD)

/-- The sample call's blocks: 8 rows after the prompt's 8192, the weights and biases whole, and the second halves of eight tokens. -/
theorem idx1 (t : Fin cfg1.N) : win1_0.index t = ![1024 + t.val, 0] ∧ win1_1.index t = ![0, 0] ∧ win1_2.index t = ![0, 0]
    ∧ win1_3.index t = ![0, 0, 0] ∧ win1_4.index t = ![0, 0] ∧ win1_5.index t = ![1024 + t.val, 0] ∧ win1_6.index t = ![t.val, 0, 0] :=
  (by decide +kernel : ∀ t : Fin grid1.N, win1_0.index t = ![1024 + t.val, 0] ∧ win1_1.index t = ![0, 0] ∧ win1_2.index t = ![0, 0]
    ∧ win1_3.index t = ![0, 0, 0] ∧ win1_4.index t = ![0, 0] ∧ win1_5.index t = ![1024 + t.val, 0] ∧ win1_6.index t = ![t.val, 0, 0]) t

set_option maxHeartbeats 2000000 in
/-- A step's outputs. -/
theorem after15 (t : Fin cfg1.N) : (outsAt1 V c t).1 = k1_pay111 (G1 (k1_pay3 (iblk1 V c 0 t))
    (k1_pay6 (k1_pay4 (iblk1 V c 0 t)) (k1_pay5 (iblk1 V c 1 t)) (iblk1 V c 2 t)) (iblk1 V c 3 t) (iblk1 V c 4 t)) := by
  unfold outsAt1
  dsimp only
  exact out1_A _ _ _ _ _ _ _ _ _ _ _ _ _ _ _ _ _ _ _ _ _ _ _ _

set_option maxHeartbeats 2000000 in
/-- The sample call's outputs: the rows it writes, the others as they were. -/
theorem out1 : (dat1 V c).arrAt 5 cfg1.N = (fun j : S8320x1024.Idx => if 1024 ≤ (j 0 : Fin 8320).val / 8 then
    Cm.outS (fun i k => (V c main_arg0 : FVec Ideal S8320x2048 .f32) (ix2 i k))
    (fun k => (V c main_v4 : FVec Ideal S1x1024 .f32) (ix2 0 k)) (fun k => (V c main_v5 : FVec Ideal S1x1024 .f32) (ix2 0 k))
    (fun g => (V c main_v6 : FVec Ideal S8x8x8 .f32) (ix3 g 0 0)) (fun g => (V c main_v8 : FVec Ideal S8x8 .f32) (ix2 0 g)) (j 0) (j 1)
    else (V c main_v9_0 : FVec Ideal S8320x1024 .f32) j) := by
  refine (dat1 V c).arrAt_eq_of_coversWhere 5 _ (fun β => 1024 ≤ β 0) (by decide +kernel) (fun t hf y => ?_) (fun j => Iff.rfl)
  blk_simp
  rw [after1_5, after15]
  refine G1_of (fun k => ?_) (fun k => ?_) (fun k => ?_) (fun g => ?_) (fun g => ?_) ?_
  · unfold iblk1
    blk_ext [(idx1 t).1, (idx1 t).2.2.2.2.2.1]
  · unfold iblk1
    blk_ext [(idx1 t).2.1]
  · unfold iblk1
    blk_ext [(idx1 t).2.2.1]
  · unfold iblk1
    blk_ext [(idx1 t).2.2.2.1]
  · unfold iblk1
    blk_ext [(idx1 t).2.2.2.2.1]
  · blk_simp [(idx1 t).2.2.2.2.2.1]

set_option maxHeartbeats 2000000 in
/-- The sample call's second halves, at each token's first place. -/
theorem out1v (n : Fin 128) (l : Fin 1024) : ((dat1 V c).arrAt 6 cfg1.N : FVec Ideal S128x8x1024 .f32) (ix3 n (0 : Fin 8) l)
    = Cm.v (fun i k => (V c main_arg0 : FVec Ideal S8320x2048 .f32) (ix2 i k))
    (fun k => (V c main_v4 : FVec Ideal S1x1024 .f32) (ix2 0 k)) (fun k => (V c main_v5 : FVec Ideal S1x1024 .f32) (ix2 0 k))
    (⟨8192 + n.val, by omega⟩ : Fin 8320) l := by
  refine (dat1 V c).arrAt_forall_of_covers 6 (fun (j : S128x8x1024.Idx) (x : EReal) => (j 1).val = 0 → x = Cm.v (fun i k => (V c main_arg0 : FVec Ideal S8320x2048 .f32) (ix2 i k))
    (fun k => (V c main_v4 : FVec Ideal S1x1024 .f32) (ix2 0 k)) (fun k => (V c main_v5 : FVec Ideal S1x1024 .f32) (ix2 0 k))
    (⟨8192 + (j 0).val, by have h : (j 0).val < 128 := (j 0).isLt; omega⟩ : Fin 8320) (j 2)) (by decide +kernel) (fun t hf y => ?_) (ix3 n (0 : Fin 8) l) ?_ rfl
  · intro h
    blk_simp [(idx1 t).2.2.2.2.2.2] at h
    blk_simp
    rw [after1_6]
    unfold outsAt1
    frame_out
    have ey : y = ix3 (y 0 : Fin 8) (0 : Fin 8) (y 2 : Fin 1024) := by
      funext a
      fin_cases a
      · rfl
      · exact Fin.ext h
      · rfl
    refine (congrArg (k1_pay1 (k1_pay6 (k1_pay4 (iblk1 V c 0 t)) (k1_pay5 (iblk1 V c 1 t)) (iblk1 V c 2 t))) ey).trans ((halves1_ix _ _ _).trans ((v1_ix _ _ _ _ _).trans ?_))
    refine Cm.ln_congr ?_ (fun k => congrArg Cm.gelu ?_) ?_ ?_
    · apply Fin.ext
      blk_simp [(idx1 t).2.2.2.2.2.2]
    · unfold iblk1
      blk_ext [(idx1 t).1, (idx1 t).2.2.2.2.2.2]
    · unfold iblk1
      blk_ext [(idx1 t).2.1, (idx1 t).2.2.2.2.2.2]
    · unfold iblk1
      blk_ext [(idx1 t).2.2.1, (idx1 t).2.2.2.2.2.2]
  · exact Memref.isWhole_whole _

end Cert.KernelCmIdeal.Val
-- ==== Proof.CmRun.lean ====
module

public import proofs.«01_k».proof.Proof.CmVal
public import proofs.«01_k».proof.Proof.CmArr

@[expose] public section

set_option maxRecDepth 16384

noncomputable section

/-! # The run of the chunked gMLP's two calls: what each is entered with, and what the launch ends with -/

open Idealize.ShloMosaic Idealize.ShloMosaic.TcCoe
open Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.KernelCmIdeal.Val

open Cert.KernelCmIdeal Cert.KernelCmIdeal.Gen

variable (m : (ℓ : Loc nD τ sig) → Buf (Elt Ideal) ℓ) (ρ : Dev nD → PrngReg) (c : Dev nD)

/-- The projected columns. -/
abbrev P (i : Fin 8320) (k : Fin 2048) : EReal := (m ((c : Thread nD τ).loc main_arg0) : FVec Ideal S8320x2048 .f32) (ix2 i k)
/-- The norm's scale. -/
abbrev Wn (k : Fin 1024) : EReal := (m ((c : Thread nD τ).loc main_arg1) : FVec Ideal S1024 .f32) (ix1 k)
/-- The norm's shift. -/
abbrev Bn (k : Fin 1024) : EReal := (m ((c : Thread nD τ).loc main_arg2) : FVec Ideal S1024 .f32) (ix1 k)
/-- The spatial weights. -/
abbrev Ws (g : Fin 8) (i j : Fin 128) : EReal := (m ((c : Thread nD τ).loc main_arg3) : FVec Ideal S8x128x128 .f32) (ix3 g i j)
/-- The spatial biases. -/
abbrev Bs (i : Fin 128) (g : Fin 8) : EReal := (m ((c : Thread nD τ).loc main_arg4) : FVec Ideal S8x128 .f32) (ix2 g i)

/-- The norm's scale as the prompt call's row. -/
theorem host0w (V : Valuation τ sig (Elt Ideal)) (l : Fin 1024) :
    (after hostOps0 V (Proc.devRef .tc main_v0) : FVec Ideal S1x1024 .f32) (ix2 0 l) = (V (Proc.devRef .tc main_arg1) : FVec Ideal S1024 .f32) (ix1 l) := by
  after_reads_simp
  pointwise

/-- The norm's shift as the prompt call's row. -/
theorem host0b (V : Valuation τ sig (Elt Ideal)) (l : Fin 1024) :
    (after hostOps0 V (Proc.devRef .tc main_v1) : FVec Ideal S1x1024 .f32) (ix2 0 l) = (V (Proc.devRef .tc main_arg2) : FVec Ideal S1024 .f32) (ix1 l) := by
  after_reads_simp
  pointwise

/-- The biases transposed for the prompt call. -/
theorem host0t (V : Valuation τ sig (Elt Ideal)) (i : Fin 128) (g : Fin 8) :
    (after hostOps0 V (Proc.devRef .tc main_v2) : FVec Ideal S128x8 .f32) (ix2 i g) = (V (Proc.devRef .tc main_arg4) : FVec Ideal S8x128 .f32) (ix2 g i) := by
  after_reads_simp
  pointwise

/-- The norm's scale as the sample call's row. -/
theorem host1w (V : Valuation τ sig (Elt Ideal)) (l : Fin 1024) :
    (after hostOps1 V (Proc.devRef .tc main_v4) : FVec Ideal S1x1024 .f32) (ix2 0 l) = (V (Proc.devRef .tc main_arg1) : FVec Ideal S1024 .f32) (ix1 l) := by
  after_reads_simp
  pointwise

/-- The norm's shift as the sample call's row. -/
theorem host1b (V : Valuation τ sig (Elt Ideal)) (l : Fin 1024) :
    (after hostOps1 V (Proc.devRef .tc main_v5) : FVec Ideal S1x1024 .f32) (ix2 0 l) = (V (Proc.devRef .tc main_arg2) : FVec Ideal S1024 .f32) (ix1 l) := by
  after_reads_simp
  pointwise

/-- The spatial weights cut for the sample call: the first of each group. -/
theorem host1s (V : Valuation τ sig (Elt Ideal)) (g : Fin 8) :
    (after hostOps1 V (Proc.devRef .tc main_v6) : FVec Ideal S8x8x8 .f32) (ix3 g 0 0) = (V (Proc.devRef .tc main_arg3) : FVec Ideal S8x128x128 .f32) (ix3 g 0 0) := by
  after_reads_simp
  pointwise

/-- The biases transposed and cut for the sample call: the first of each group. -/
theorem host1t (V : Valuation τ sig (Elt Ideal)) (g : Fin 8) :
    (after hostOps1 V (Proc.devRef .tc main_v8) : FVec Ideal S8x8 .f32) (ix2 0 g) = (V (Proc.devRef .tc main_arg4) : FVec Ideal S8x128 .f32) (ix2 g 0) := by
  after_reads_simp
  pointwise

/-- The sample call's result starts as the prompt call's. -/
theorem host1o (V : Valuation τ sig (Elt Ideal)) :
    (after hostOps1 V (Proc.devRef .tc main_v9_0) : FVec Ideal S8320x1024 .f32) = (V (Proc.devRef .tc main_v3_0) : FVec Ideal S8320x1024 .f32) := by
  after_reads_simp
  rfl

/-- The second halves' result cut to each token's own row. -/
theorem host2v (V : Valuation τ sig (Elt Ideal)) (n : Fin 128) (l : Fin 1024) :
    (after hostOps2 V (Proc.devRef .tc main_v10) : FVec Ideal S128x1x1024 .f32) (ix3 n 0 l) = (V (Proc.devRef .tc main_v9_1) : FVec Ideal S128x8x1024 .f32) (ix3 n 0 l) := by
  after_reads_simp
  pointwise

/-- The columns as the prompt call is entered with them. -/
theorem in0p : (fun i k => (V1 m ρ c main_arg0 : FVec Ideal S8320x2048 .f32) (ix2 i k)) = P m c :=
  funext fun i => funext fun k => congrFun (W1_args m ρ c main_arg0 (by decide)) _
/-- The scale as the prompt call is entered with it. -/
theorem in0w : (fun k => (V1 m ρ c main_v0 : FVec Ideal S1x1024 .f32) (ix2 0 k)) = Wn m c := funext fun k => host0w (W0 m ρ c) k
/-- The shift as the prompt call is entered with it. -/
theorem in0b : (fun k => (V1 m ρ c main_v1 : FVec Ideal S1x1024 .f32) (ix2 0 k)) = Bn m c := funext fun k => host0b (W0 m ρ c) k
/-- The weights as the prompt call is entered with them. -/
theorem in0s : (fun g i k => (V1 m ρ c main_arg3 : FVec Ideal S8x128x128 .f32) (ix3 g i k)) = Ws m c :=
  funext fun g => funext fun i => funext fun k => congrFun (W1_args m ρ c main_arg3 (by decide)) _
/-- The biases as the prompt call is entered with them. -/
theorem in0t : (fun i g => (V1 m ρ c main_v2 : FVec Ideal S128x8 .f32) (ix2 i g)) = Bs m c := funext fun i => funext fun g => host0t (W0 m ρ c) i g
/-- The columns as the sample call is entered with them. -/
theorem in1p : (fun i k => (V3 m ρ c main_arg0 : FVec Ideal S8320x2048 .f32) (ix2 i k)) = P m c :=
  funext fun i => funext fun k => congrFun (W3_args m ρ c main_arg0 (by decide)) _
/-- The scale as the sample call is entered with it. -/
theorem in1w : (fun k => (V3 m ρ c main_v4 : FVec Ideal S1x1024 .f32) (ix2 0 k)) = Wn m c :=
  funext fun k => (host1w (W2 m ρ c) k).trans (congrFun (W2_args m ρ c main_arg1 (by decide)) _)
/-- The shift as the sample call is entered with it. -/
theorem in1b : (fun k => (V3 m ρ c main_v5 : FVec Ideal S1x1024 .f32) (ix2 0 k)) = Bn m c :=
  funext fun k => (host1b (W2 m ρ c) k).trans (congrFun (W2_args m ρ c main_arg2 (by decide)) _)
/-- The weights as the sample call is entered with them. -/
theorem in1s : (fun g => (V3 m ρ c main_v6 : FVec Ideal S8x8x8 .f32) (ix3 g 0 0)) = fun g => Ws m c g 0 0 :=
  funext fun g => (host1s (W2 m ρ c) g).trans (congrFun (W2_args m ρ c main_arg3 (by decide)) _)
/-- The biases as the sample call is entered with them. -/
theorem in1t : (fun g => (V3 m ρ c main_v8 : FVec Ideal S8x8 .f32) (ix2 0 g)) = Bs m c 0 :=
  funext fun g => (host1t (W2 m ρ c) g).trans (congrFun (W2_args m ρ c main_arg4 (by decide)) _)

/-- The first result at the launch's end: the sample rows by the sample call, the prompt rows by the prompt call. -/
theorem res0 (i : Fin 8320) (l : Fin 1024) : (W5 m ρ c (Proc.devRef .tc main_v9_0) : FVec Ideal S8320x1024 .f32) (ix2 i l)
    = if 8192 ≤ i.val then Cm.outS (P m c) (Wn m c) (Bn m c) (fun g => Ws m c g 0 0) (Bs m c 0) i l else Cm.outP (P m c) (Wn m c) (Bn m c) (Ws m c) (Bs m c) i l := by
  refine (congrFun ((W5_of m ρ c main_v9_0 (by decide)).trans ((W4_arr m ρ c 5).trans (out1 (V3 m ρ) c))) (ix2 i l)).trans ?_
  have e0 : (V3 m ρ c main_v9_0 : FVec Ideal S8320x1024 .f32) (ix2 i l) = if i.val / 128 < 64 then Cm.outP (P m c) (Wn m c) (Bn m c) (Ws m c) (Bs m c) i l
      else (V1 m ρ c main_v3_0 : FVec Ideal S8320x1024 .f32) (ix2 i l) := by
    refine (congrFun ((host1o (W2 m ρ c)).trans ((W2_arr m ρ c 5).trans (out0 (V1 m ρ) c))) (ix2 i l)).trans ?_
    rw [in0p, in0w, in0b, in0s, in0t]
    rfl
  show (if 1024 ≤ i.val / 8 then Cm.outS (fun i k => (V3 m ρ c main_arg0 : FVec Ideal S8320x2048 .f32) (ix2 i k))
    (fun k => (V3 m ρ c main_v4 : FVec Ideal S1x1024 .f32) (ix2 0 k)) (fun k => (V3 m ρ c main_v5 : FVec Ideal S1x1024 .f32) (ix2 0 k))
    (fun g => (V3 m ρ c main_v6 : FVec Ideal S8x8x8 .f32) (ix3 g 0 0)) (fun g => (V3 m ρ c main_v8 : FVec Ideal S8x8 .f32) (ix2 0 g)) i l
    else (V3 m ρ c main_v9_0 : FVec Ideal S8320x1024 .f32) (ix2 i l)) = _
  rw [in1p, in1w, in1b, in1s, in1t, e0]
  by_cases h : 8192 ≤ i.val
  · rw [if_pos h, if_pos (by omega)]
  · rw [if_neg h, if_neg (by omega), if_pos (by omega)]

/-- The second result at the launch's end. -/
theorem res1 (b : Fin 4) (i : Fin 128) (l : Fin 1024) : (W5 m ρ c (Proc.devRef .tc main_v3_1) : FVec Ideal S4x128x1024 .f32) (ix3 b i l)
    = Cm.v (P m c) (Wn m c) (Bn m c) ⟨2048 * b.val + 1920 + i.val, by omega⟩ l := by
  refine (congrFun ((W5_of m ρ c main_v3_1 (by decide)).trans <| (W4_of m ρ c _ (by decide)).trans <| (W3_of m ρ c _ (by decide)).trans <|
    (W2_arr m ρ c 6).trans (out0v (V1 m ρ) c)) (ix3 b i l)).trans ?_
  rw [in0p, in0w, in0b]
  rfl

/-- The third result at the launch's end. -/
theorem res2 (n : Fin 128) (l : Fin 1024) : (W5 m ρ c (Proc.devRef .tc main_v10) : FVec Ideal S128x1x1024 .f32) (ix3 n 0 l)
    = Cm.v (P m c) (Wn m c) (Bn m c) ⟨8192 + n.val, by omega⟩ l := by
  refine (host2v (W4 m ρ c) n l).trans ((congrFun (W4_arr m ρ c 6) (ix3 n 0 l)).trans ((out1v (V3 m ρ) c n l).trans ?_))
  rw [in1p, in1w, in1b]

set_option backward.isDefEq.respectTransparency.types false in
/-- The launch ends with every buffer at what the last call leaves. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The kernel's run: its three results and its arguments, buffer by buffer. -/
theorem run : θ_run defs (onTc (τ := τ) (main (F := Ideal))) ⟨m, fun _ => 0, ρ⟩ (fun r => ∀ c : Dev nD,
    r.2.mem ((c.tc : Thread nD τ).loc main_v9_0) = W5 m ρ c (Proc.devRef .tc main_v9_0)
    ∧ r.2.mem ((c.tc : Thread nD τ).loc main_v3_1) = W5 m ρ c (Proc.devRef .tc main_v3_1)
    ∧ r.2.mem ((c.tc : Thread nD τ).loc main_v10) = W5 m ρ c (Proc.devRef .tc main_v10)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨h c _ (mem_uc main_v9_0 (by decide)), h c _ (mem_uc main_v3_1 (by decide)), h c _ (mem_uc main_v10 (by decide)),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c)⟩) (ends m ρ)

end Cert.KernelCmIdeal.Val

end
-- ==== Proof.CmRef.lean ====
module

public import proofs.«01_k».proof.Proof.CmVal
public import proofs.«01_k».proof.Proof.Gen.ReferenceCmIdeal.Run

@[expose] public section

set_option maxRecDepth 16384

noncomputable section

/-! # The reference's chunked gMLP, entry by entry -/

open Idealize.ShloMosaic Idealize.ShloMosaic.TcCoe Idealize.SL.Sem Idealize.ShloMosaic.StableHlo

namespace Cert.ReferenceCmIdeal.Value

open Cert.ReferenceCmIdeal Cert.ReferenceCmIdeal.Gen

/-- The exact gelu by the complementary error function at the negated argument is the one by the error function. -/
theorem gelu_of (x h k : EReal) : h * x * Ideal.erfc (-x * k) = h * x * (1 + Ideal.erf (x * k)) := by
  rw [EReal.neg_mul, Ideal.erfc_neg]

/-- The spatial weights with the later positions set to zero. -/
abbrev wsR (ws : FVec Ideal S8x128x128 .f32) : FVec Ideal S8x128x128 .f32 :=
  select (broadcastInDim S8x128x128 ![1, 2] bcast_S128x128_S8x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) ws (broadcastInDim S8x128x128 ![] bcast_S_S8x128x128 (id (constant S_ .f32 0x00000000#32)))

/-- A masked weight. -/
theorem wsR_ix (ws : FVec Ideal S8x128x128 .f32) (g : Fin 8) (i j : Fin 128) : wsR ws (ix3 g i j) = if j ≤ i then ws (ix3 g i j) else (0 : EReal) := by
  unfold wsR
  pointwise
  rw [show IntOp.addi (BitVec.ofNat 32 i.val) 0#32 = BitVec.ofNat 32 i.val from BitVec.add_zero _,
    (by decide : ∀ c : BitVec 1, Scalar.select c 1#1 0#1 = c) _]
  refine (Cert.KernelCmIdeal.Val.select_ge i j _ _).trans ?_
  have z : (id (constant S_ FTy.f32 0#32) : FVec Ideal S_ .f32) ix0 = (0 : EReal) := by
    show (constant S_ FTy.f32 0#32 : FVec Ideal S_ .f32) ix0 = (0 : EReal)
    pointwise
  exact if_congr Iff.rfl rfl z

section Prompt

variable (p : FVec Ideal S8320x2048 .f32) (w b : FVec Ideal S1024 .f32) (ws : FVec Ideal S8x128x128 .f32) (bs : FVec Ideal S8x128 .f32)

/-- The prompt's columns by sequence and step. -/
abbrev xP : FVec Ideal S4x2048x2048 .f32 := shapeCast _ (extractStridedSlice S8192x2048 ![0, 0] p slices_S8320x2048_S8192x2048_0_0) shapeCasts_S8192x2048_S4x2048x2048

/-- The prompt's gelu. -/
abbrev zP : FVec Ideal S4x2048x2048 .f32 := mulf (mulf (broadcastInDim S4x2048x2048 ![] bcast_S_S4x2048x2048 (constant S_ .f32 0x3F000000#32)) (xP p)) (Host.erfc (mulf (Host.negf (xP p)) (broadcastInDim S4x2048x2048 ![] bcast_S_S4x2048x2048 (constant S_ .f32 0x3F3504F3#32))))

/-- A gelu of the prompt. -/
theorem zP_ix (n : Fin 4) (i k : Fin 2048) : zP p (ix3 n i k) = Cm.gelu (p (ix2 ⟨2048 * n.val + i.val, by omega⟩ k)) := by
  unfold zP xP
  pointwise
  rw [gelu_of]
  exact congrArg (fun t : Fin 8320 => Cm.gelu (p (ix2 t k))) (Fin.ext (show n.val * 2048 + i.val = 2048 * n.val + i.val by omega))

/-- The prompt's first halves. -/
abbrev uP : FVec Ideal S4x2048x1024 .f32 := extractStridedSlice S4x2048x1024 ![0, 0, 0] (zP p) slices_S4x2048x2048_S4x2048x1024_0_0_0

/-- The prompt's second halves before the norm. -/
abbrev hP (z : FVec Ideal S4x2048x2048 .f32) : FVec Ideal S4x2048x1024 .f32 := extractStridedSlice S4x2048x1024 ![0, 0, 1024] z slices_S4x2048x2048_S4x2048x1024_0_0_1024

/-- The second halves less their mean. -/
abbrev dP (h : FVec Ideal S4x2048x1024 .f32) : FVec Ideal S4x2048x1024 .f32 := subf h (broadcastInDim S4x2048x1024 ![0, 1, 2] bcast_S4x2048x1_S4x2048x1024_0_1_2 (Host.divf (broadcastInDim S4x2048x1 ![0, 1] bcast_S4x2048_S4x2048x1_0_1 (Host.reduceAdd h (constant S_ .f32 0x00000000#32) reducesTo_S4x2048x1024_S4x2048_d2 h_S_)) (broadcastInDim S4x2048x1 ![] bcast_S_S4x2048x1 (constant S_ .f32 0x44800000#32))))

/-- The norm of the second halves. -/
abbrev lnP (h : FVec Ideal S4x2048x1024 .f32) : FVec Ideal S4x2048x1024 .f32 :=
  addf (mulf (mulf (dP h) (broadcastInDim S4x2048x1024 ![0, 1, 2] bcast_S4x2048x1_S4x2048x1024_0_1_2 (Host.rsqrt (addf (Host.divf (broadcastInDim S4x2048x1 ![0, 1] bcast_S4x2048_S4x2048x1_0_1 (Host.reduceAdd (mulf (dP h) (dP h)) (constant S_ .f32 0x00000000#32) reducesTo_S4x2048x1024_S4x2048_d2 h_S_)) (broadcastInDim S4x2048x1 ![] bcast_S_S4x2048x1 (constant S_ .f32 0x44800000#32))) (broadcastInDim S4x2048x1 ![] bcast_S_S4x2048x1 (constant S_ .f32 0x3727C5AC#32)))))) (broadcastInDim S4x2048x1024 ![0, 1, 2] bcast_S1x1x1024_S4x2048x1024_0_1_2 (broadcastInDim S1x1x1024 ![2] bcast_S1024_S1x1x1024_2 w))) (broadcastInDim S4x2048x1024 ![0, 1, 2] bcast_S1x1x1024_S4x2048x1024_0_1_2 (broadcastInDim S1x1x1024 ![2] bcast_S1024_S1x1x1024_2 b))

/-- A normed entry. -/
theorem lnP_ix (h : FVec Ideal S4x2048x1024 .f32) (n : Fin 4) (i : Fin 2048) (l : Fin 1024) : lnP w b h (ix3 n i l)
    = Cm.ln (fun k => h (ix3 n i k)) (fun k => w (ix1 k)) (fun k => b (ix1 k)) l := by
  unfold lnP dP
  pointwise
  rfl

/-- The mix of the prompt's chunks. -/
abbrev mxP (v : FVec Ideal S4x2048x1024 .f32) (a : FVec Ideal S8x128x128 .f32) : FVec Ideal S4x2048x1024 .f32 :=
  shapeCast _ (addf (transpose S4x16x128x8x128 [1, 2, 4, 0, 3] (Host.dotGeneral dot_S4x16x128x8x128_S8x128x128_S8x4x16x128x128_2_2_014_1_3_0 none (shapeCast S4x16x128x8x128 (pad S4x2048x1024 ![0, 0, 0] ![0, 0, 0] ![0, 0, 0] v (sitofp .f32 (constantI S_ 32 0#32)) pads_S4x2048x1024_S4x2048x1024_000_000_000 h_S_) shapeCasts_S4x2048x1024_S4x16x128x8x128) a) transposes_S8x4x16x128x128_S4x16x128x8x128_1_2_4_0_3) (broadcastInDim S4x16x128x8x128 ![0, 1, 2, 3, 4] bcast_S1x1x128x8x1_S4x16x128x8x128_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] bs transposes_S8x128_S128x8_1_0))))) shapeCasts_S4x16x128x8x128_S4x2048x1024

/-- An entry of the mix: the chunk's positions weighed by the group's row, and its bias. -/
theorem mxP_ix (v : FVec Ideal S4x2048x1024 .f32) (a : FVec Ideal S8x128x128 .f32) (n : Fin 4) (i : Fin 2048) (l : Fin 1024) : mxP bs v a (ix3 n i l)
    = (∑ j : Fin 128, v (ix3 n ⟨i.val / 128 * 128 + j.val, by omega⟩ l) * a (ix3 ⟨l.val / 128, by omega⟩ ⟨i.val % 128, by omega⟩ j) : EReal)
      + bs (ix2 ⟨l.val / 128, by omega⟩ ⟨i.val % 128, by omega⟩) := by
  unfold mxP
  pointwise
  refine congrArg (· + _) (Finset.sum_congr rfl fun j _ => ?_)
  rw [dif_pos (by omega)]

/-- A row of the prompt's gelu: the halves. -/
theorem uP_ix (z : FVec Ideal S4x2048x2048 .f32) (n : Fin 4) (i : Fin 2048) (l : Fin 1024) :
    (extractStridedSlice S4x2048x1024 ![0, 0, 0] z slices_S4x2048x2048_S4x2048x1024_0_0_0 : FVec Ideal S4x2048x1024 .f32) (ix3 n i l) = z (ix3 n i ⟨l.val, by omega⟩) := by
  pointwise

/-- An entry of the second halves. -/
theorem hP_ix (z : FVec Ideal S4x2048x2048 .f32) (n : Fin 4) (i : Fin 2048) (l : Fin 1024) : hP z (ix3 n i l) = z (ix3 n i ⟨1024 + l.val, by omega⟩) := by
  unfold hP
  pointwise

/-- The prompt's normed second halves. -/
abbrev vP : FVec Ideal S4x2048x1024 .f32 := lnP w b (hP (zP p))

/-- An entry of the prompt's normed second halves. -/
theorem vP_ix (n : Fin 4) (i : Fin 2048) (l : Fin 1024) : vP p w b (ix3 n i l)
    = Cm.v (fun i k => p (ix2 i k)) (fun k => w (ix1 k)) (fun k => b (ix1 k)) ⟨2048 * n.val + i.val, by omega⟩ l := by
  refine (lnP_ix w b _ n i l).trans (Cm.ln_congr rfl (fun k => ?_) rfl rfl)
  exact (hP_ix _ n i k).trans (zP_ix p n i _)

/-- The prompt's output, entry by entry. -/
theorem oP_ix (n : Fin 4) (i : Fin 2048) (l : Fin 1024) : mulf (uP p) (mxP bs (vP p w b) (wsR ws)) (ix3 n i l)
    = Cm.outP (fun i k => p (ix2 i k)) (fun k => w (ix1 k)) (fun k => b (ix1 k)) (fun g i j => ws (ix3 g i j)) (fun i g => bs (ix2 g i)) ⟨2048 * n.val + i.val, by omega⟩ l := by
  show uP p (ix3 n i l) * mxP bs (vP p w b) (wsR ws) (ix3 n i l) = _
  have hp : (⟨i.val % 128, by omega⟩ : Fin 128) = Cm.pos ⟨2048 * n.val + i.val, by omega⟩ := Fin.ext (show i.val % 128 = (2048 * n.val + i.val) % 128 by omega)
  unfold Cm.outP Cm.u
  refine congrArg₂ _ ((uP_ix _ n i l).trans (zP_ix p n i _)) ((mxP_ix bs _ _ n i l).trans ?_)
  rw [hp]
  refine congrArg₂ _ (Finset.sum_congr rfl fun j _ => ?_) rfl
  rw [wsR_ix, vP_ix, mul_comm, ite_mul, zero_mul]
  refine if_congr Iff.rfl ?_ rfl
  refine congrArg₂ _ rfl (congrArg (fun t => Cm.v _ _ _ t l) (Fin.ext ?_))
  show 2048 * n.val + (i.val / 128 * 128 + j.val) = (2048 * n.val + i.val) / 128 * 128 + j.val
  omega

end Prompt

section Sample

variable (p : FVec Ideal S8320x2048 .f32) (w b : FVec Ideal S1024 .f32) (ws : FVec Ideal S8x128x128 .f32) (bs : FVec Ideal S8x128 .f32)

/-- The sample batch's columns. -/
abbrev xS : FVec Ideal S128x1x2048 .f32 := shapeCast _ (extractStridedSlice S128x2048 ![8192, 0] p slices_S8320x2048_S128x2048_8192_0) shapeCasts_S128x2048_S128x1x2048

/-- The sample batch's gelu. -/
abbrev zS : FVec Ideal S128x1x2048 .f32 := mulf (mulf (broadcastInDim S128x1x2048 ![] bcast_S_S128x1x2048 (constant S_ .f32 0x3F000000#32)) (xS p)) (Host.erfc (mulf (Host.negf (xS p)) (broadcastInDim S128x1x2048 ![] bcast_S_S128x1x2048 (constant S_ .f32 0x3F3504F3#32))))

/-- A gelu of the sample batch. -/
theorem zS_ix (n : Fin 128) (k : Fin 2048) : zS p (ix3 n 0 k) = Cm.gelu (p (ix2 ⟨8192 + n.val, by omega⟩ k)) := by
  unfold zS xS
  pointwise
  rw [gelu_of]
  rfl

/-- The sample batch's first halves. -/
abbrev uS : FVec Ideal S128x1x1024 .f32 := extractStridedSlice S128x1x1024 ![0, 0, 0] (zS p) slices_S128x1x2048_S128x1x1024_0_0_0

/-- The sample batch's second halves before the norm. -/
abbrev hS (z : FVec Ideal S128x1x2048 .f32) : FVec Ideal S128x1x1024 .f32 := extractStridedSlice S128x1x1024 ![0, 0, 1024] z slices_S128x1x2048_S128x1x1024_0_0_1024

/-- The second halves less their mean. -/
abbrev dS (h : FVec Ideal S128x1x1024 .f32) : FVec Ideal S128x1x1024 .f32 := subf h (broadcastInDim S128x1x1024 ![0, 1, 2] bcast_S128x1x1_S128x1x1024_0_1_2 (Host.divf (broadcastInDim S128x1x1 ![0, 1] bcast_S128x1_S128x1x1_0_1 (Host.reduceAdd h (constant S_ .f32 0x00000000#32) reducesTo_S128x1x1024_S128x1_d2 h_S_)) (broadcastInDim S128x1x1 ![] bcast_S_S128x1x1 (constant S_ .f32 0x44800000#32))))

/-- The norm of the second halves. -/
abbrev lnS (h : FVec Ideal S128x1x1024 .f32) : FVec Ideal S128x1x1024 .f32 :=
  addf (mulf (mulf (dS h) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (dS h) (dS h)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x3727C5AC#32)))))) (broadcastInDim S128x1x1024 ![0, 1, 2] bcast_S1x1x1024_S128x1x1024_0_1_2 (broadcastInDim S1x1x1024 ![2] bcast_S1024_S1x1x1024_2 w))) (broadcastInDim S128x1x1024 ![0, 1, 2] bcast_S1x1x1024_S128x1x1024_0_1_2 (broadcastInDim S1x1x1024 ![2] bcast_S1024_S1x1x1024_2 b))

/-- A normed entry. -/
theorem lnS_ix (h : FVec Ideal S128x1x1024 .f32) (n : Fin 128) (l : Fin 1024) : lnS w b h (ix3 n 0 l)
    = Cm.ln (fun k => h (ix3 n 0 k)) (fun k => w (ix1 k)) (fun k => b (ix1 k)) l := by
  unfold lnS dS
  pointwise
  rfl

/-- An entry of the first halves. -/
theorem uS_ix (z : FVec Ideal S128x1x2048 .f32) (n : Fin 128) (l : Fin 1024) :
    (extractStridedSlice S128x1x1024 ![0, 0, 0] z slices_S128x1x2048_S128x1x1024_0_0_0 : FVec Ideal S128x1x1024 .f32) (ix3 n 0 l) = z (ix3 n 0 ⟨l.val, by omega⟩) := by
  pointwise

/-- An entry of the second halves. -/
theorem hS_ix (z : FVec Ideal S128x1x2048 .f32) (n : Fin 128) (l : Fin 1024) : hS z (ix3 n 0 l) = z (ix3 n 0 ⟨1024 + l.val, by omega⟩) := by
  unfold hS
  pointwise

/-- The sample batch's normed second halves. -/
abbrev vS : FVec Ideal S128x1x1024 .f32 := lnS w b (hS (zS p))

/-- An entry of the sample batch's normed second halves. -/
theorem vS_ix (n : Fin 128) (l : Fin 1024) : vS p w b (ix3 n 0 l)
    = Cm.v (fun i k => p (ix2 i k)) (fun k => w (ix1 k)) (fun k => b (ix1 k)) ⟨8192 + n.val, by omega⟩ l := by
  refine (lnS_ix w b _ n l).trans (Cm.ln_congr rfl (fun k => ?_) rfl rfl)
  exact (hS_ix _ n k).trans (zS_ix p n _)

/-- The mix of the sample batch's chunks, each one token and 127 rows of zeros; the token's own row. -/
abbrev mxS (v : FVec Ideal S128x1x1024 .f32) (a : FVec Ideal S8x128x128 .f32) : FVec Ideal S128x1x1024 .f32 :=
  extractStridedSlice S128x1x1024 ![0, 0, 0] (shapeCast S128x128x1024 (addf (transpose S128x1x128x8x128 [1, 2, 4, 0, 3] (Host.dotGeneral dot_S128x1x128x8x128_S8x128x128_S8x128x1x128x128_2_2_014_1_3_0 none (shapeCast S128x1x128x8x128 (pad S128x128x1024 ![0, 0, 0] ![0, 127, 0] ![0, 0, 0] v (sitofp .f32 (constantI S_ 32 0#32)) pads_S128x1x1024_S128x128x1024_000_01270_000 h_S_) shapeCasts_S128x128x1024_S128x1x128x8x128) a) transposes_S8x128x1x128x128_S128x1x128x8x128_1_2_4_0_3) (broadcastInDim S128x1x128x8x128 ![0, 1, 2, 3, 4] bcast_S1x1x128x8x1_S128x1x128x8x128_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] bs transposes_S8x128_S128x8_1_0))))) shapeCasts_S128x1x128x8x128_S128x128x1024) slices_S128x128x1024_S128x1x1024_0_0_0

/-- An entry of the mix, under the masked weights: the token's own value, weighed, and its bias. -/
theorem mxS_ix (v : FVec Ideal S128x1x1024 .f32) (n : Fin 128) (l : Fin 1024) : mxS bs v (wsR ws) (ix3 n 0 l)
    = (ws (ix3 (Cm.grp l) 0 0) * v (ix3 n 0 l) + bs (ix2 (Cm.grp l) 0) : EReal) := by
  have h : ∀ a : FVec Ideal S8x128x128 .f32, (∀ g j, j ≠ 0 → a (ix3 g 0 j) = (0 : EReal)) → mxS bs v a (ix3 n 0 l) = (v (ix3 n 0 l) * a (ix3 (Cm.grp l) 0 0) + bs (ix2 (Cm.grp l) 0) : EReal) := by
    intro a ha
    unfold mxS
    pointwise
    refine congrArg₂ _ ?_ rfl
    rw [Fin.sum_univ_one]
    refine (congrArg (v (ix3 n 0 l) * a (ix3 (Cm.grp l) 0 0) + ·) (Finset.sum_eq_zero fun j _ => ?_)).trans (add_zero _)
    exact (congrArg (_ * ·) (ha _ _ (Fin.ne_of_val_ne (show 1 + j.val ≠ 0 by omega)))).trans (mul_zero _)
  refine (h _ fun g j hj => ?_).trans ?_
  · rw [wsR_ix, if_neg (fun e => hj (Fin.le_zero_iff.mp e))]
  · rw [wsR_ix, if_pos (le_refl _), mul_comm]

/-- The sample batch's output, entry by entry. -/
theorem oS_ix (n : Fin 128) (l : Fin 1024) : mulf (uS p) (mxS bs (vS p w b) (wsR ws)) (ix3 n 0 l)
    = Cm.outS (fun i k => p (ix2 i k)) (fun k => w (ix1 k)) (fun k => b (ix1 k)) (fun g => ws (ix3 g 0 0)) (fun g => bs (ix2 g 0)) ⟨8192 + n.val, by omega⟩ l := by
  show uS p (ix3 n 0 l) * mxS bs (vS p w b) (wsR ws) (ix3 n 0 l) = _
  unfold Cm.outS Cm.u
  refine congrArg₂ _ ((uS_ix _ n l).trans (zS_ix p n _)) ((mxS_ix ws bs _ n l).trans ?_)
  rw [vS_ix]

end Sample

/-- The two batches' outputs under one another. -/
abbrev catR (q : FVec Ideal S4x2048x1024 .f32) (r : FVec Ideal S128x1x1024 .f32) : FVec Ideal S8320x1024 .f32 :=
  concatenate S8320x1024 0 [⟨S8192x1024, (shapeCast _ q shapeCasts_S4x2048x1024_S8192x1024 : FVec Ideal S8192x1024 .f32)⟩, ⟨S128x1024, (shapeCast _ r shapeCasts_S128x1x1024_S128x1024 : FVec Ideal S128x1024 .f32)⟩] concatenates_S8192x1024_S128x1024_S8320x1024_d0

/-- A row of the prompt. -/
theorem catR_lt (q : FVec Ideal S4x2048x1024 .f32) (r : FVec Ideal S128x1x1024 .f32) (i : Fin 8320) (l : Fin 1024) (h : i.val < 8192) :
    catR q r (ix2 i l) = q (ix3 ⟨i.val / 2048, by omega⟩ ⟨i.val % 2048, by omega⟩ l) := by
  unfold catR
  pointwise
  rw [dif_pos h]

/-- A row of the sample batch. -/
theorem catR_ge (q : FVec Ideal S4x2048x1024 .f32) (r : FVec Ideal S128x1x1024 .f32) (i : Fin 8320) (l : Fin 1024) (h : 8192 ≤ i.val) :
    catR q r (ix2 i l) = r (ix3 ⟨i.val - 8192, by omega⟩ 0 l) := by
  unfold catR
  pointwise
  rw [dif_neg (by omega)]

section Results

variable (m : (ℓ : Loc nD τ sig) → Buf (Elt Ideal) ℓ) (c : Dev nD)

/-- The columns. -/
abbrev A0 : FVec Ideal S8320x2048 .f32 := m ((c.tc : Thread nD τ).loc main_arg0)
/-- The norm's scale. -/
abbrev A1 : FVec Ideal S1024 .f32 := m ((c.tc : Thread nD τ).loc main_arg1)
/-- The norm's shift. -/
abbrev A2 : FVec Ideal S1024 .f32 := m ((c.tc : Thread nD τ).loc main_arg2)
/-- The spatial weights. -/
abbrev A3 : FVec Ideal S8x128x128 .f32 := m ((c.tc : Thread nD τ).loc main_arg3)
/-- The spatial biases. -/
abbrev A4 : FVec Ideal S8x128 .f32 := m ((c.tc : Thread nD τ).loc main_arg4)

/-- The first result's term by its parts. -/
theorem out0_eq : (res_out0 m c : FVec Ideal S8320x1024 .f32)
    = catR (mulf (uP (A0 m c)) (mxP (A4 m c) (vP (A0 m c) (A1 m c) (A2 m c)) (wsR (A3 m c))))
        (mulf (uS (A0 m c)) (mxS (A4 m c) (vS (A0 m c) (A1 m c) (A2 m c)) (wsR (A3 m c)))) := rfl

/-- The first result, entry by entry. -/
theorem out0_ix (i : Fin 8320) (l : Fin 1024) : (res_out0 m c : FVec Ideal S8320x1024 .f32) (ix2 i l)
    = if 8192 ≤ i.val then Cm.outS (fun i k => A0 m c (ix2 i k)) (fun k => A1 m c (ix1 k)) (fun k => A2 m c (ix1 k)) (fun g => A3 m c (ix3 g 0 0)) (fun g => A4 m c (ix2 g 0)) i l
      else Cm.outP (fun i k => A0 m c (ix2 i k)) (fun k => A1 m c (ix1 k)) (fun k => A2 m c (ix1 k)) (fun g i j => A3 m c (ix3 g i j)) (fun i g => A4 m c (ix2 g i)) i l := by
  refine (congrFun (out0_eq m c) (ix2 i l)).trans ?_
  by_cases h : 8192 ≤ i.val
  · rw [if_pos h]
    refine (catR_ge _ _ i l h).trans ((oS_ix _ _ _ _ _ _ l).trans (congrArg (fun t => Cm.outS _ _ _ _ _ t l) (Fin.ext ?_)))
    show 8192 + (i.val - 8192) = i.val
    omega
  · rw [if_neg h]
    refine (catR_lt _ _ i l (by omega)).trans ((oP_ix _ _ _ _ _ _ _ l).trans (congrArg (fun t => Cm.outP _ _ _ _ _ t l) (Fin.ext ?_)))
    show 2048 * (i.val / 2048) + i.val % 2048 = i.val
    omega

/-- The last chunk of each sequence, cut. -/
abbrev lastR (v : FVec Ideal S4x2048x1024 .f32) : FVec Ideal S4x128x1024 .f32 := extractStridedSlice S4x128x1024 ![0, 1920, 0] v slices_S4x2048x1024_S4x128x1024_0_1920_0

/-- An entry of the last chunk. -/
theorem lastR_ix (v : FVec Ideal S4x2048x1024 .f32) (n : Fin 4) (i : Fin 128) (l : Fin 1024) : lastR v (ix3 n i l) = v (ix3 n ⟨1920 + i.val, by omega⟩ l) := by
  unfold lastR
  pointwise

/-- The second result's term by its parts. -/
theorem out1_eq : (res_out1 m c : FVec Ideal S4x128x1024 .f32) = lastR (vP (A0 m c) (A1 m c) (A2 m c)) := rfl

/-- The second result, entry by entry. -/
theorem out1_ix (n : Fin 4) (i : Fin 128) (l : Fin 1024) : (res_out1 m c : FVec Ideal S4x128x1024 .f32) (ix3 n i l)
    = Cm.v (fun i k => A0 m c (ix2 i k)) (fun k => A1 m c (ix1 k)) (fun k => A2 m c (ix1 k)) ⟨2048 * n.val + 1920 + i.val, by omega⟩ l := by
  refine (congrFun (out1_eq m c) (ix3 n i l)).trans ((lastR_ix _ n i l).trans ((vP_ix _ _ _ n _ l).trans (congrArg (fun t => Cm.v _ _ _ t l) (Fin.ext ?_))))
  show 2048 * n.val + (1920 + i.val) = 2048 * n.val + 1920 + i.val
  omega

/-- The third result's term by its parts. -/
theorem out2_eq : (res_out2 m c : FVec Ideal S128x1x1024 .f32) = vS (A0 m c) (A1 m c) (A2 m c) := rfl

/-- The third result, entry by entry. -/
theorem out2_ix (n : Fin 128) (l : Fin 1024) : (res_out2 m c : FVec Ideal S128x1x1024 .f32) (ix3 n 0 l)
    = Cm.v (fun i k => A0 m c (ix2 i k)) (fun k => A1 m c (ix1 k)) (fun k => A2 m c (ix1 k)) ⟨8192 + n.val, by omega⟩ l :=
  (congrFun (out2_eq m c) (ix3 n 0 l)).trans (vS_ix _ _ _ n l)

end Results

end Cert.ReferenceCmIdeal.Value

end
-- ==== Proof.CmClaims.lean ====
module

public import proofs.«01_k».proof.Defs
public import proofs.«01_k».proof.Proof.Dense
public import proofs.«01_k».proof.Proof.CmRun
public import proofs.«01_k».proof.Proof.CmRef
public import proofs.«01_k».proof.Proof.Gen.KernelCm.Frame
public import Idealize.ShloMosaic.Adequacy
public import Idealize.ShloMosaic.Init

@[expose] public section

set_option maxRecDepth 16384

noncomputable section

/-! # The claims about the chunked gMLP: their frames, and their values against the reference -/

open Idealize.ShloMosaic Idealize.ShloMosaic.TcCoe Idealize.SL.Sem Idealize.ShloMosaic.StableHlo

namespace Cert.Proof.Cm

open Cert.KernelCmIdeal.Gen Cert.KernelCmIdeal.Val Cert.ReferenceCmIdeal.Value

/-- The kernel runs, ends, and leaves its arguments and every semaphore as they were. -/
theorem frame_k : Cert.quiescent_KernelCm := fun m ρ _ => Cert.KernelCm.Gen.frame m ρ
/-- So does the kernel read at the extended reals. -/
theorem frame_ki : Cert.quiescent_KernelCmIdeal := fun m ρ _ => Cert.KernelCmIdeal.Gen.frame m ρ
/-- So does the reference. -/
theorem frame_ri : Cert.quiescent_ReferenceCmIdeal := fun m ρ _ =>
  (θ_run Cert.ReferenceCmIdeal.defs _ _).mono (fun r h => ⟨fun c => (h c).2.2.2, Idealize.ShloMosaic.sem_eq_zero_of_no_sems (by decide) r.2⟩)
    (Cert.ReferenceCmIdeal.Value.run m ρ)

/-- The ideal reading rewrote no operation. -/
theorem preserves : Cert.preserves_KernelCm_KernelCmIdeal := trivial

/-- Two arrays of three axes that agree at every entry are one. -/
theorem ext3 {a b d : ℕ} {x y : FVec Ideal (⟨3, ![a, b, d]⟩ : Shape) .f32} (h : ∀ i j l, x (ix3 i j l) = y (ix3 i j l)) : x = y := by
  funext j
  have e : j = ix3 (j 0) (j 1) (j 2) := by
    funext q
    fin_cases q <;> rfl
  rw [e]
  exact h _ _ _

/-- At the extended reals the kernel and the reference, from arguments that agree, end with the same outputs and the same normed second halves. -/
theorem algebraic : Cert.algebraic_KernelCmIdeal_ReferenceCmIdeal := by
  intro m ρ m' ρ' _ hagree
  refine ⟨fun c => W5 m ρ c (Proc.devRef .tc Cert.KernelCmIdeal.main_v9_0), fun c => W5 m ρ c (Proc.devRef .tc Cert.KernelCmIdeal.main_v3_1),
    fun c => W5 m ρ c (Proc.devRef .tc Cert.KernelCmIdeal.main_v10), Cert.KernelCmIdeal.Val.run m ρ, ?_⟩
  refine (θ_run Cert.ReferenceCmIdeal.defs _ _).mono (fun r h c => ?_) (Cert.ReferenceCmIdeal.Value.run m' ρ')
  obtain ⟨h1, h2, h3, ha⟩ := h c
  obtain ⟨a0, a1, a2, a3, a4⟩ := hagree c
  have e0 : (fun i k => A0 m' c (ix2 i k)) = P m c := funext fun i => funext fun k => congrFun a0 _
  have e1 : (fun k => A1 m' c (ix1 k)) = Wn m c := funext fun k => congrFun a1 _
  have e2 : (fun k => A2 m' c (ix1 k)) = Bn m c := funext fun k => congrFun a2 _
  have e3 : (fun g i j => A3 m' c (ix3 g i j)) = Ws m c := funext fun g => funext fun i => funext fun j => congrFun a3 _
  have e4 : (fun i g => A4 m' c (ix2 g i)) = Bs m c := funext fun i => funext fun g => congrFun a4 _
  have e3' : (fun g => A3 m' c (ix3 g 0 0)) = fun g => Ws m c g 0 0 := funext fun g => congrFun a3 _
  have e4' : (fun g => A4 m' c (ix2 g 0)) = Bs m c 0 := funext fun g => congrFun a4 _
  refine ⟨h1.trans (Dense.ext2 fun i j => ?_), h2.trans (ext3 fun n i l => ?_), h3.trans (ext3 fun n i l => ?_), ha⟩
  · refine (out0_ix m' c i j).trans (Eq.trans ?_ (res0 m ρ c i j).symm)
    rw [e0, e1, e2, e3, e4, e3', e4']
  · refine (out1_ix m' c n i l).trans (Eq.trans ?_ (res1 m ρ c n i l).symm)
    rw [e0, e1, e2]
  · rw [show i = (0 : Fin 1) from Subsingleton.elim _ _]
    refine (out2_ix m' c n l).trans (Eq.trans ?_ (res2 m ρ c n l).symm)
    rw [e0, e1, e2]

end Cert.Proof.Cm

end
-- ==== Proof.YVal.lean ====
module

public import proofs.«01_k».proof.Proof.Dense
public import proofs.«01_k».proof.Proof.Gen.KernelYIdeal.Value
public import proofs.«01_k».proof.Proof.Gen.ReferenceYIdeal.Run
public import Idealize.ShloMosaic.Lib.Pipeline.ValueKit
public import Idealize.ShloMosaic.Lib.StableHlo.RunRead

@[expose] public section

set_option maxRecDepth 16384

noncomputable section

/-! # The last norm: what the call and the reference leave, entry by entry -/

open Idealize.ShloMosaic Idealize.ShloMosaic.TcCoe Idealize.SL.Sem Idealize.ShloMosaic.StableHlo

namespace Cert.KernelYIdeal.Val

open Cert.KernelYIdeal Cert.KernelYIdeal.Gen

variable (m : (ℓ : Loc nD τ sig) → Buf (Elt Ideal) ℓ) (c : Dev nD)

/-- The last norm's blocks: 640 rows at a time. -/
theorem idx0 (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

/-- The scale as a row. -/
theorem host0 (V : Valuation τ sig (Elt Ideal)) (l : Fin 2048) :
    (after hostOps0 V (Proc.devRef .tc main_v0) : FVec Ideal S1x2048 .f32) (ix2 0 l) = (V (Proc.devRef .tc main_arg1) : FVec Ideal S2048 .f32) (ix1 l) := by
  after_reads_simp
  pointwise

/-- The call's result from what it is entered with. -/
theorem out0 : (dats m 0 c).arrAt 2 cfg0.N = (fun j : S8320x2048.Idx => Dense.norm (fun i k => (V m c main_arg0 : FVec Ideal S8320x2048 .f32) (ix2 i k))
    (fun k => (V m c main_v0 : FVec Ideal S1x2048 .f32) (ix2 0 k)) (j 0) (j 1)) := by
  refine (dats m 0 c).arrAt_eq_of_covers 2 _ (by decide +kernel) fun t hf y => ?_
  blk_simp
  rw [after0_2]
  frame_out
  unfold_payloads
  pointwise
  refine Dense.norm_of ?_ (fun k => ?_) ?_
  · unfold iblk
    blk_ext [(idx0 t).1, (idx0 t).2.2]
  · unfold iblk
    blk_ext [(idx0 t).1, (idx0 t).2.2]
  · unfold iblk
    blk_ext [(idx0 t).2.1, (idx0 t).2.2]

/-- The call's result from the arguments: their rows normed. -/
theorem res (i : Fin 8320) (l : Fin 2048) : ((dats m 0 c).arrAt 2 cfg0.N : FVec Ideal S8320x2048 .f32) (ix2 i l)
    = Dense.norm (fun i k => (m ((c : Thread nD τ).loc main_arg0) : FVec Ideal S8320x2048 .f32) (ix2 i k))
      (fun k => (m ((c : Thread nD τ).loc main_arg1) : FVec Ideal S2048 .f32) (ix1 k)) i l := by
  refine (congrFun (out0 m c) (ix2 i l)).trans ?_
  have e1 : (fun k => (V m c main_v0 : FVec Ideal S1x2048 .f32) (ix2 0 k)) = fun k => (m ((c : Thread nD τ).loc main_arg1) : FVec Ideal S2048 .f32) (ix1 k) :=
    funext fun k => host0 (fun b => m (c, b)) k
  show Dense.norm (fun i k => (V m c main_arg0 : FVec Ideal S8320x2048 .f32) (ix2 i k)) (fun k => (V m c main_v0 : FVec Ideal S1x2048 .f32) (ix2 0 k)) i l = _
  rw [V_main_arg0 m c, e1]

end Cert.KernelYIdeal.Val

namespace Cert.ReferenceYIdeal.Value

open Cert.ReferenceYIdeal Cert.ReferenceYIdeal.Gen

variable (x : FVec Ideal S8320x2048 .f32) (g : FVec Ideal S2048 .f32)

/-- The reference's result. -/
abbrev normR : FVec Ideal S8320x2048 .f32 := mulf (mulf x (broadcastInDim S8320x2048 ![0, 1] bcast_S8320x1_S8320x2048_0_1 (Host.rsqrt (addf (Host.divf (broadcastInDim S8320x1 ![0] bcast_S8320_S8320x1_0 (Host.reduceAdd (mulf x x) (constant S_ .f32 0x00000000#32) reducesTo_S8320x2048_S8320_d1 h_S_)) (broadcastInDim S8320x1 ![] bcast_S_S8320x1 (constant S_ .f32 0x45000000#32))) (broadcastInDim S8320x1 ![] bcast_S_S8320x1 (constant S_ .f32 0x358637BD#32)))))) (broadcastInDim S8320x2048 ![0, 1] bcast_S1x2048_S8320x2048_0_1 (broadcastInDim S1x2048 ![1] bcast_S2048_S1x2048_1 g))

/-- The reference's result, entry by entry. -/
theorem normR_ix (i : Fin 8320) (l : Fin 2048) : normR x g (ix2 i l) = Dense.norm (fun i k => x (ix2 i k)) (fun k => g (ix1 k)) i l := by
  unfold normR
  pointwise
  rfl

end Cert.ReferenceYIdeal.Value

end
-- ==== Proof.YClaims.lean ====
module

public import proofs.«01_k».proof.Defs
public import proofs.«01_k».proof.Proof.YVal
public import proofs.«01_k».proof.Proof.Gen.KernelY.Frame
public import Idealize.ShloMosaic.Adequacy
public import Idealize.ShloMosaic.Init

@[expose] public section

set_option maxRecDepth 16384

noncomputable section

/-! # The claims about the last norm: its frames, and its values against the reference -/

open Idealize.ShloMosaic Idealize.ShloMosaic.TcCoe Idealize.SL.Sem Idealize.ShloMosaic.StableHlo

namespace Cert.Proof.Y

/-- The kernel runs, ends, and leaves its arguments and every semaphore as they were. -/
theorem frame_k : Cert.quiescent_KernelY := fun m ρ _ => Cert.KernelY.Gen.frame m ρ
/-- So does the kernel read at the extended reals. -/
theorem frame_ki : Cert.quiescent_KernelYIdeal := fun m ρ _ => Cert.KernelYIdeal.Gen.frame m ρ
/-- So does the reference. -/
theorem frame_ri : Cert.quiescent_ReferenceYIdeal := fun m ρ _ =>
  (θ_run Cert.ReferenceYIdeal.defs _ _).mono (fun r h => ⟨fun c => (h c).2, Idealize.ShloMosaic.sem_eq_zero_of_no_sems (by decide) r.2⟩)
    (Cert.ReferenceYIdeal.Value.run m ρ)

/-- The ideal reading rewrote no operation. -/
theorem preserves : Cert.preserves_KernelY_KernelYIdeal := trivial

/-- At the extended reals the kernel and the reference, from arguments that agree, end with the same normed rows. -/
theorem algebraic : Cert.algebraic_KernelYIdeal_ReferenceYIdeal := by
  intro m ρ m' ρ' _ hagree
  refine ⟨fun c => (Cert.KernelYIdeal.Gen.dats m 0 c).arrAt 2 Cert.KernelYIdeal.cfg0.N, Cert.KernelYIdeal.Value.run_blocks m ρ, ?_⟩
  refine (θ_run Cert.ReferenceYIdeal.defs _ _).mono (fun r h c => ?_) (Cert.ReferenceYIdeal.Value.run m' ρ')
  obtain ⟨h1, ha⟩ := h c
  obtain ⟨a0, a1⟩ := hagree c
  refine ⟨h1.trans (Dense.ext2 fun i l => ?_), ha⟩
  refine (Cert.ReferenceYIdeal.Value.normR_ix _ _ i l).trans (Eq.trans ?_ (Cert.KernelYIdeal.Val.res m c i l).symm)
  rw [a0, a1]

end Cert.Proof.Y

end
-- ==== Proof.GsVal.lean ====
module

public import proofs.«01_k».proof.Proof.CmVal2
public import proofs.«01_k».proof.Proof.Spec
public import proofs.«01_k».proof.Proof.Gen.KernelGsIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

/-! # What the sample call of the gated linear attention leaves in a block -/

open Idealize.ShloMosaic Idealize.ShloMosaic.TcCoe Idealize.SL.Sem Idealize.ShloMosaic.StableHlo

namespace Cert.KernelGsIdeal.Val

open Cert.KernelGsIdeal Cert.KernelGsIdeal.Gen

/-- The divisor of the row numbers. -/
theorem eight : Scalar.select (Scalar.cmpi CmpIPredicate.eq 8#32 0#32) 1#32 8#32 = 8#32 := by decide

/-- The divisor is positive. -/
theorem pos8 : (Scalar.extui (Scalar.cmpi CmpIPredicate.sgt 8#32 0#32) : BitVec 32) = 1#32 := by decide

/-- A row number's place within its token's rows, as the body computes it. -/
theorem rem8 (r : Fin 64) : Scalar.select (IntOp.andi (IntOp.xori (IntOp.cmpi CmpIPredicate.slt (IntOp.remsi ArithUnit.vector (BitVec.ofNat 32 r.val) 8#32) 0#32)
      (Scalar.cmpi CmpIPredicate.slt 8#32 0#32)) (IntOp.cmpi CmpIPredicate.ne (IntOp.remsi ArithUnit.vector (BitVec.ofNat 32 r.val) 8#32) 0#32))
      (IntOp.addi (IntOp.remsi ArithUnit.vector (BitVec.ofNat 32 r.val) 8#32) 8#32) (IntOp.remsi ArithUnit.vector (BitVec.ofNat 32 r.val) 8#32)
    = BitVec.ofNat 32 (r.val % 8) := by
  revert r
  decide +kernel

/-- A row number's token, as the body computes it. -/
theorem div8 (r : Fin 64) : Scalar.select (IntOp.andi (IntOp.cmpi CmpIPredicate.ne
      (IntOp.subi (BitVec.setWidth 32 (IntOp.cmpi CmpIPredicate.sgt (BitVec.ofNat 32 r.val) 0#32)) (BitVec.setWidth 32 (IntOp.cmpi CmpIPredicate.slt (BitVec.ofNat 32 r.val) 0#32)))
      (Scalar.subi 1#32 (Scalar.extui (Scalar.cmpi CmpIPredicate.slt 8#32 0#32))))
      (IntOp.cmpi CmpIPredicate.ne (IntOp.remsi ArithUnit.vector (BitVec.ofNat 32 r.val) 8#32) 0#32))
      (IntOp.subi (IntOp.divsi ArithUnit.vector (BitVec.ofNat 32 r.val) 8#32) 1#32) (IntOp.divsi ArithUnit.vector (BitVec.ofNat 32 r.val) 8#32)
    = BitVec.ofNat 32 (r.val / 8) := by
  revert r
  decide +kernel

/-- A choice made by whether a row is its token's own. -/
theorem sel0 (r : Fin 64) (a b : EReal) : Scalar.select (IntOp.cmpi CmpIPredicate.eq (BitVec.ofNat 32 (r.val % 8)) 0#32) a b = if r.val % 8 = 0 then a else b := by
  have h : IntOp.cmpi CmpIPredicate.eq (BitVec.ofNat 32 (r.val % 8)) 0#32 = if r.val % 8 = 0 then 1#1 else 0#1 := by
    revert r
    decide +kernel
  rw [h]
  by_cases hp : r.val % 8 = 0 <;> simp [hp, Scalar.select]

/-- A choice made by whether a row is its token's last. -/
theorem sel7 (r : Fin 64) (a b : EReal) : Scalar.select (IntOp.cmpi CmpIPredicate.eq (BitVec.ofNat 32 (r.val % 8)) 7#32) a b = if r.val % 8 = 7 then a else b := by
  have h : IntOp.cmpi CmpIPredicate.eq (BitVec.ofNat 32 (r.val % 8)) 7#32 = if r.val % 8 = 7 then 1#1 else 0#1 := by
    revert r
    decide +kernel
  rw [h]
  by_cases hp : r.val % 8 = 7 <;> simp [hp, Scalar.select]

/-- A choice made by whether a row's place is within the one token that a row of tokens has. -/
theorem sel1 (r : Fin 64) (a b : EReal) : Scalar.select (IntOp.cmpi CmpIPredicate.slt (IntOp.addi (Scalar.muli 0#32 8#32) (BitVec.ofNat 32 (r.val % 8))) 1#32) a b
    = if r.val % 8 = 0 then a else b := by
  have h : IntOp.cmpi CmpIPredicate.slt (IntOp.addi (Scalar.muli 0#32 8#32) (BitVec.ofNat 32 (r.val % 8))) 1#32 = if r.val % 8 = 0 then 1#1 else 0#1 := by
    revert r
    decide +kernel
  rw [h]
  by_cases hp : r.val % 8 = 0 <;> simp [hp, Scalar.select]

/-- The first row of the eight that row `r` is in. -/
abbrev fst8 (r : Fin 64) : Fin 64 := ⟨8 * (r.val / 8), by omega⟩
/-- The token of the block that row `r` belongs to. -/
abbrev tk (r : Fin 64) : Fin 8 := ⟨r.val / 8, by omega⟩

/-- The matrix of the running sums. -/
def TM : FVec Ideal S64x64 .f32 := k0_pay15 (iota Kind.tc S64x64 32 [0] iota_S64x64_d0_w32) (iota Kind.tc S64x64 32 [1] iota_S64x64_d1_w32) k0_pay12 k0_pay13 k0_pay14

/-- The matrix of the sums over a token's rows. -/
def EM : FVec Ideal S64x64 .f32 := k0_pay18 (iota Kind.tc S64x64 32 [0] iota_S64x64_d0_w32) (iota Kind.tc S64x64 32 [1] iota_S64x64_d1_w32) (8#32)
  (k0_pay16 (iota Kind.tc S64x64 32 [0] iota_S64x64_d0_w32)) (k0_pay17 (iota Kind.tc S64x64 32 [0] iota_S64x64_d0_w32)) 1#32 0#32

/-- The matrix of the running sums has a one where the column is of the row's token and not after it. -/
theorem TM_ix (i j : Fin 64) : TM (ix2 i j) = if j.val / 8 = i.val / 8 ∧ j.val ≤ i.val then 1 else 0 := by
  unfold TM
  unfold_payloads
  pointwise
  simp only [pos8, div8]
  have key : ∀ i j : Fin 64, (BitVec.setWidth 32 (IntOp.andi (IntOp.cmpi CmpIPredicate.eq (BitVec.ofNat 32 (i.val / 8)) (BitVec.ofNat 32 (j.val / 8)))
      (IntOp.cmpi CmpIPredicate.sge (BitVec.ofNat 32 i.val) (BitVec.ofNat 32 j.val))) : BitVec 32) = if j.val / 8 = i.val / 8 ∧ j.val ≤ i.val then 1#32 else 0#32 := by
    decide +kernel
  rw [key]
  by_cases h : j.val / 8 = i.val / 8 ∧ j.val ≤ i.val
  · rw [if_pos h, if_pos h]
    show (((1#32).toInt : ℝ) : EReal) = 1
    simp
  · rw [if_neg h, if_neg h]
    show (((0#32).toInt : ℝ) : EReal) = 0
    simp

/-- The matrix of the sums over a token's rows has a one where the column is of the row's token. -/
theorem EM_ix (i j : Fin 64) : EM (ix2 i j) = if j.val / 8 = i.val / 8 then 1 else 0 := by
  unfold EM
  unfold_payloads
  pointwise
  simp only [pos8, div8]
  have key : ∀ i j : Fin 64, (BitVec.setWidth 32 (IntOp.cmpi CmpIPredicate.eq (BitVec.ofNat 32 (i.val / 8)) (BitVec.ofNat 32 (j.val / 8))) : BitVec 32)
      = if j.val / 8 = i.val / 8 then 1#32 else 0#32 := by
    decide +kernel
  rw [key]
  by_cases h : j.val / 8 = i.val / 8
  · rw [if_pos h, if_pos h]
    show (((1#32).toInt : ℝ) : EReal) = 1
    simp
  · rw [if_neg h, if_neg h]
    show (((0#32).toInt : ℝ) : EReal) = 0
    simp

/-- The rows of a block put at every eighth place. -/
theorem X_ix (x0 : Vec Ideal S8x3072 .f32) (r : Fin 64) (k : Fin 3072) :
    (k0_pay5 x0 : FVec Ideal S64x3072 .f32) (ix2 r k) = if r.val % 8 = 0 then x0 (ix2 (tk r) k) else 0 := by
  unfold_payloads
  pointwise
  simp only [eight, rem8, sel0]

/-- The gate's logarithm at a token's row. -/
theorem LA_ix (x1 : Vec Ideal S8x128 .f32) (x3 : Vec Ideal S128x512 .bf16) (x4 : Vec Ideal S1x512 .f32) (n : Fin 8) (l : Fin 512) :
    (k0_pay10 x1 (iota Kind.tc S64x1 32 [0] iota_S64x1_d0_w32) (8#32) (0#1) x3 x4 : FVec Ideal S64x512 .f32) (ix2 (⟨8 * n.val, by omega⟩ : Fin 64) l)
      = Gla.lsig (∑ x : Fin 128, x1 (ix2 n x) * x3 (ix2 x l) + x4 (ix2 (0 : Fin 1) l)) * Ideal.ofBits FTy.f32 1031798784#32 := by
  unfold_payloads
  pointwise
  have h8 := rem8 (⟨8 * n.val, by omega⟩ : Fin 64)
  have h0 := fun a b => sel0 (⟨8 * n.val, by omega⟩ : Fin 64) a b
  dsimp only at h8 h0
  simp only [h8, h0, Nat.mul_mod_right, if_true]
  rfl

/-- Only a token's own row keeps its gate. -/
theorem M_ix (la : FVec Ideal S64x512 .f32) (r : Fin 64) (l : Fin 512) :
    (k0_pay11 (0#32) la : FVec Ideal S64x512 .f32) (ix2 r l) = if r.val % 8 = 0 then la (ix2 r l) else 0 := by
  unfold_payloads
  pointwise
  simp only [eight, rem8, sel1]

/-- A sum of numbers chosen by `p`, each split in three, the last two parts of which are differences of a number with itself, where no number is plus infinity. -/
theorem split_ind {n : ℕ} (p : Fin n → Prop) [DecidablePred p] (f : Fin n → EReal) (hf : ∀ x, f x ≠ ⊤) :
    (∑ x, (if p x then (1 : EReal) else 0) * f x)
      + ((∑ x, (if p x then (1 : EReal) else 0) * (f x - f x)) + ∑ x, (if p x then (1 : EReal) else 0) * ((f x - f x) - (f x - f x)))
    = ∑ x, if p x then f x else 0 := by
  simp only [ite_mul, one_mul, zero_mul]
  rcases em (∃ x, p x ∧ f x = ⊥) with ⟨x, hx, hb⟩ | hb
  · rw [← Finset.add_sum_erase _ _ (Finset.mem_univ x), if_pos hx, hb, EReal.bot_add, EReal.bot_add]
  · have h0 : ∀ x, p x → f x - f x = 0 := fun x hx => EReal.sub_self (hf x) fun h => hb ⟨x, hx, h⟩
    have h1 : (∑ x, if p x then f x - f x else 0) = 0 := Finset.sum_eq_zero fun x _ => by
      split
      · next h => exact h0 x h
      · rfl
    have h2 : (∑ x, if p x then (f x - f x) - (f x - f x) else 0) = 0 := Finset.sum_eq_zero fun x _ => by
      split
      · next h => rw [h0 x h, sub_zero]
      · rfl
    rw [h1, h2, add_zero, add_zero]

/-- The running sum at any row of a token is the token's own gate's logarithm. -/
theorem CUM_ix (la : FVec Ideal S64x512 .f32) (hla : ∀ (n : Fin 8) (l : Fin 512), la (ix2 (⟨8 * n.val, by omega⟩ : Fin 64) l) ≠ ⊤) (r : Fin 64) (l : Fin 512) :
    (k0_pay21 (k0_pay11 (0#32) la) TM : FVec Ideal S64x512 .f32) (ix2 r l) = la (ix2 (fst8 r) l) := by
  have hm : ∀ x : Fin 64, (k0_pay11 (0#32) la : FVec Ideal S64x512 .f32) (ix2 x l) ≠ ⊤ := by
    intro x
    rw [M_ix]
    split
    · next h =>
      have e : x = (⟨8 * (tk x).val, by omega⟩ : Fin 64) := Fin.ext (by show x.val = 8 * (x.val / 8); omega)
      rw [e]
      exact hla _ _
    · exact EReal.zero_ne_top
  have h := split_ind (fun x : Fin 64 => x.val / 8 = r.val / 8 ∧ x.val ≤ r.val) _ hm
  simp only [← TM_ix] at h
  have hs : (∑ x : Fin 64, if x.val / 8 = r.val / 8 ∧ x.val ≤ r.val then (k0_pay11 (0#32) la : FVec Ideal S64x512 .f32) (ix2 x l) else 0) = la (ix2 (fst8 r) l) := by
    rw [Finset.sum_eq_single (fst8 r)]
    · rw [if_pos ⟨by show 8 * (r.val / 8) / 8 = r.val / 8; omega, by show 8 * (r.val / 8) ≤ r.val; omega⟩, M_ix, if_pos (by show 8 * (r.val / 8) % 8 = 0; omega)]
    · intro x _ hx
      split
      · next hp =>
        rw [M_ix, if_neg]
        intro h8
        exact hx (Fin.ext (by show x.val = 8 * (r.val / 8); omega))
      · rfl
    · intro h
      exact absurd (Finset.mem_univ _) h
  refine Eq.trans ?_ (h.trans hs)
  generalize k0_pay11 (0#32) la = m
  generalize TM = t
  unfold_payloads
  pointwise

/-- The whole sum of a token's rows, at any of its rows, is the token's own gate's logarithm. -/
theorem CEND_ix (la : FVec Ideal S64x512 .f32) (hla : ∀ (n : Fin 8) (l : Fin 512), la (ix2 (⟨8 * n.val, by omega⟩ : Fin 64) l) ≠ ⊤) (r : Fin 64) (l : Fin 512) :
    (k0_pay22 (k0_pay11 (0#32) la) TM EM (8#32) k0_pay19 k0_pay20 : FVec Ideal S64x512 .f32) (ix2 r l) = la (ix2 (fst8 r) l) := by
  have hc := CUM_ix la hla
  unfold k0_pay22
  generalize k0_pay21 (k0_pay11 (0#32) la) TM = cu at hc
  have hb : ∀ x : Fin 64, (if x.val % 8 = 7 then cu (ix2 x l) else 0) ≠ (⊤ : EReal) := by
    intro x
    split
    · rw [hc]
      exact hla (tk x) l
    · exact EReal.zero_ne_top
  have h := split_ind (fun x : Fin 64 => x.val / 8 = r.val / 8) _ hb
  simp only [← EM_ix] at h
  have hs : (∑ x : Fin 64, if x.val / 8 = r.val / 8 then (if x.val % 8 = 7 then cu (ix2 x l) else 0) else (0 : EReal)) = la (ix2 (fst8 r) l) := by
    have hlt : 8 * (r.val / 8) + 7 < 64 := by omega
    rw [Finset.sum_eq_single (⟨8 * (r.val / 8) + 7, hlt⟩ : Fin 64)]
    · rw [if_pos (by show (8 * (r.val / 8) + 7) / 8 = r.val / 8; omega), if_pos (by show (8 * (r.val / 8) + 7) % 8 = 7; omega), hc]
      exact congrArg la (congrArg₂ _ (Fin.ext (by show 8 * ((8 * (r.val / 8) + 7) / 8) = 8 * (r.val / 8); omega)) rfl)
    · intro x _ hx
      split
      · next hp =>
        rw [if_neg]
        intro h8
        exact hx (Fin.ext (by show x.val = 8 * (r.val / 8) + 7; omega))
      · rfl
    · intro h
      exact absurd (Finset.mem_univ _) h
  refine Eq.trans ?_ (h.trans hs)
  generalize EM = t
  unfold_payloads
  pointwise
  simp only [eight, rem8, sel7, mul_ite, mul_zero]
  try rfl

/-- The body's spelling of the matrix of the running sums. -/
theorem TM_fold : k0_pay15 (iota Kind.tc S64x64 32 [0] iota_S64x64_d0_w32) (iota Kind.tc S64x64 32 [1] iota_S64x64_d1_w32) k0_pay12 k0_pay13 k0_pay14 = TM := rfl

/-- The body's spelling of the matrix of the sums over a token's rows. -/
theorem EM_fold : k0_pay18 (iota Kind.tc S64x64 32 [0] iota_S64x64_d0_w32) (iota Kind.tc S64x64 32 [1] iota_S64x64_d1_w32) (8#32)
  (k0_pay16 (iota Kind.tc S64x64 32 [0] iota_S64x64_d0_w32)) (k0_pay17 (iota Kind.tc S64x64 32 [0] iota_S64x64_d0_w32)) 1#32 0#32 = EM := rfl

/-- The gate's logarithm on a block's rows. -/
def LA (x1 : Vec Ideal S8x128 .f32) (x3 : Vec Ideal S128x512 .bf16) (x4 : Vec Ideal S1x512 .f32) : FVec Ideal S64x512 .f32 :=
  k0_pay10 x1 (iota Kind.tc S64x1 32 [0] iota_S64x1_d0_w32) (8#32) (0#1) x3 x4

/-- The body's spelling of the gate's logarithm. -/
theorem LA_fold (x1 : Vec Ideal S8x128 .f32) (x3 : Vec Ideal S128x512 .bf16) (x4 : Vec Ideal S1x512 .f32) :
    k0_pay10 x1 (iota Kind.tc S64x1 32 [0] iota_S64x1_d0_w32) (8#32) (0#1) x3 x4 = LA x1 x3 x4 := rfl

/-- A row of a token. -/
abbrev r8 (n j : Fin 8) : Fin 64 := ⟨8 * n.val + j.val, by omega⟩
/-- A token's own row. -/
abbrev r0 (n : Fin 8) : Fin 64 := ⟨8 * n.val, by omega⟩

/-- The states after a block's tokens, from the decays, the decayed keys, the values and the states before. -/
def G8 (dec kd : FVec Ideal S64x512 .f32) (v : FVec Ideal S64x1024 .f32) (s : Vec Ideal S1x8x4x128x256 .f32) : Vec Ideal S8x4x128x256 .f32 := fun y =>
  s (ix5 (0 : Fin 1) (y 0 : Fin 8) (y 1 : Fin 4) (y 2 : Fin 128) (y 3 : Fin 256))
      * dec (ix2 (r0 (y 0)) (Gla.kl (y 1) (y 2)))
    + ∑ j : Fin 8, kd (ix2 (r8 (y 0) j) (Gla.kl (y 1) (y 2)))
      * v (ix2 (r8 (y 0) j) (Gla.vl (y 1) (y 3)))

/-- A token's store of one head's state agrees with the states if it does at each place. -/
theorem spiece {dec kd : FVec Ideal S64x512 .f32} {v : FVec Ideal S64x1024 .f32} {s : Vec Ideal S1x8x4x128x256 .f32} (n h : ℕ) (hn : n < 8) (hh : h < 4) (inb)
    (P : Vec Ideal S1x1x128x256 .f32)
    (hP : ∀ (d : Fin 128) (e : Fin 256), P (ix4 (0 : Fin 1) (0 : Fin 1) d e)
      = s (ix5 (0 : Fin 1) (⟨n, hn⟩ : Fin 8) (⟨h, hh⟩ : Fin 4) d e) * dec (ix2 (⟨8 * n, by omega⟩ : Fin 64) (⟨128 * h + d.val, by omega⟩ : Fin 512))
        + ∑ j : Fin 8, kd (ix2 (⟨8 * n + j.val, by omega⟩ : Fin 64) (⟨128 * h + d.val, by omega⟩ : Fin 512))
          * v (ix2 (⟨8 * n + j.val, by omega⟩ : Fin 64) (⟨256 * h + e.val, by omega⟩ : Fin 1024))) (x : S1x1x128x256.Idx) :
    P x = G8 dec kd v s ((Rect.unit (s := S8x4x128x256) ![n, h, 0, 0] ![1, 1, 128, 256] inb).emb x) := by
  have h0 : (x 0).val < 1 := (x 0).isLt
  have h1 : (x 1).val < 1 := (x 1).isLt
  have e1 : x = ix4 (0 : Fin 1) (0 : Fin 1) (x 2 : Fin 128) (x 3 : Fin 256) := by
    funext a
    apply Fin.ext
    fin_cases a
    · show (x 0).val = 0; omega
    · show (x 1).val = 0; omega
    · rfl
    · rfl
  have e2 : (Rect.unit (s := S8x4x128x256) ![n, h, 0, 0] ![1, 1, 128, 256] inb).emb x
      = ix4 (⟨n, hn⟩ : Fin 8) (⟨h, hh⟩ : Fin 4) (x 2 : Fin 128) (x 3 : Fin 256) := by
    funext a
    apply Fin.ext
    fin_cases a
    · show n + 1 * (x 0).val = n; omega
    · show h + 1 * (x 1).val = h; omega
    · show 0 + 1 * (x 2).val = (x 2).val; omega
    · show 0 + 1 * (x 3).val = (x 3).val; omega
  exact (congrArg P e1).trans ((hP _ _).trans (congrArg (G8 dec kd v s) e2).symm)

/-- The whole of the states' scratch read back after a list of stores. -/
theorem readCov_s (w : Memref sig .tc .vmem S8x4x128x256 .f32) (inb) (L : List (View.Piece (Elt Ideal) S8x4x128x256 .f32))
    (G : Vec Ideal S8x4x128x256 .f32) (h : ∀ y, View.canon L y = G y) :
    w.view.readCov L (Rect.unit (s := S8x4x128x256) ![0, 0, 0, 0] ![8, 4, 128, 256] inb).toLoadRect = G := by
  rw [View.readCov_eq_canon']
  funext y
  refine (h _).trans (congrArg G ?_)
  funext a
  apply Fin.ext
  fin_cases a
  · show 0 + 1 * (y 0).val = (y 0).val; omega
  · show 0 + 1 * (y 1).val = (y 1).val; omega
  · show 0 + 1 * (y 2).val = (y 2).val; omega
  · show 0 + 1 * (y 3).val = (y 3).val; omega

/-- A row's outputs of one head before they are normalised: the part within the token's rows, and the part read from the state. -/
def raw8 (qe ke : FVec Ideal S64x512 .f32) (v : FVec Ideal S64x1024 .f32) (s : Vec Ideal S1x8x4x128x256 .f32) (n : Fin 8) (h : Fin 4) (i : Fin 8) (k : Fin 256) : EReal :=
  (∑ j : Fin 8, if j ≤ i then (∑ d : Fin 128, qe (ix2 (r8 n i) (Gla.kl h d)) * ke (ix2 (r8 n j) (Gla.kl h d))) * v (ix2 (r8 n j) (Gla.vl h k)) else 0)
    + ∑ d : Fin 128, qe (ix2 (r8 n i) (Gla.kl h d)) * s (ix5 (0 : Fin 1) n h d k)

/-- A row's outputs of one head. -/
def fin8 (qe ke : FVec Ideal S64x512 .f32) (v sr : FVec Ideal S64x1024 .f32) (w b : Vec Ideal S1x1024 .f32) (s : Vec Ideal S1x8x4x128x256 .f32)
    (n : Fin 8) (h : Fin 4) (i : Fin 8) (e : Fin 256) : EReal :=
  (Gla.norm (raw8 qe ke v s n h i) e * w (ix2 (0 : Fin 1) (Gla.vl h e)) + b (ix2 (0 : Fin 1) (Gla.vl h e))) * sr (ix2 (r8 n i) (Gla.vl h e))

/-- A row's place within its token's rows. -/
abbrev pl (r : Fin 64) : Fin 8 := ⟨r.val % 8, by omega⟩
/-- The head of a lane. -/
abbrev lhd (l : Fin 1024) : Fin 4 := ⟨l.val / 256, by omega⟩
/-- A lane's place within its head. -/
abbrev lin (l : Fin 1024) : Fin 256 := ⟨l.val % 256, by omega⟩

/-- A block's outputs at every row. -/
def O8 (qe ke : FVec Ideal S64x512 .f32) (v sr : FVec Ideal S64x1024 .f32) (w b : Vec Ideal S1x1024 .f32) (s : Vec Ideal S1x8x4x128x256 .f32) : Vec Ideal S64x1024 .f32 := fun y =>
  fin8 qe ke v sr w b s (tk (y 0)) (lhd (y 1)) (pl (y 0)) (lin (y 1))

/-- The whole of the outputs' scratch read back after a list of stores. -/
theorem readCov_o (w : Memref sig .tc .vmem S64x1024 .f32) (inb) (L : List (View.Piece (Elt Ideal) S64x1024 .f32))
    (G : Vec Ideal S64x1024 .f32) (h : ∀ y, View.canon L y = G y) :
    w.view.readCov L (Rect.unit (s := S64x1024) ![0, 0] ![64, 1024] inb).toLoadRect = G := by
  rw [View.readCov_eq_canon']
  funext y
  refine (h _).trans (congrArg G ?_)
  funext a
  apply Fin.ext
  fin_cases a
  · show 0 + 1 * (y 0).val = (y 0).val; omega
  · show 0 + 1 * (y 1).val = (y 1).val; omega

/-- A token's store of one head's outputs agrees with the block's if it does at each place. -/
theorem opiece {qe ke : FVec Ideal S64x512 .f32} {v sr : FVec Ideal S64x1024 .f32} {w b : Vec Ideal S1x1024 .f32} {s : Vec Ideal S1x8x4x128x256 .f32}
    (o q : ℕ) (ho : o % 8 = 0 ∧ o + 8 ≤ 64) (hq : q % 256 = 0 ∧ q + 256 ≤ 1024) (inb) (P : Vec Ideal S8x256 .f32)
    (hP : ∀ (i : Fin 8) (e : Fin 256), P (ix2 i e) = fin8 qe ke v sr w b s (⟨o / 8, by omega⟩ : Fin 8) (⟨q / 256, by omega⟩ : Fin 4) i e) (x : S8x256.Idx) :
    P x = O8 qe ke v sr w b s ((Rect.unit (s := S64x1024) ![o, q] ![8, 256] inb).emb x) := by
  have h0 : (x 0).val < 8 := (x 0).isLt
  have h1 : (x 1).val < 256 := (x 1).isLt
  have e1 : x = ix2 (x 0 : Fin 8) (x 1 : Fin 256) := by
    funext a
    fin_cases a <;> rfl
  have e2 : (Rect.unit (s := S64x1024) ![o, q] ![8, 256] inb).emb x
      = ix2 (⟨o + (x 0).val, by omega⟩ : Fin 64) (⟨q + (x 1).val, by omega⟩ : Fin 1024) := by
    funext a
    apply Fin.ext
    fin_cases a
    · show o + 1 * (x 0).val = o + (x 0).val; omega
    · show q + 1 * (x 1).val = q + (x 1).val; omega
  refine (congrArg P e1).trans ((hP _ _).trans (Eq.trans ?_ (congrArg (O8 qe ke v sr w b s) e2).symm))
  have g1 : (⟨o / 8, by omega⟩ : Fin 8) = tk (⟨o + (x 0).val, by omega⟩ : Fin 64) := Fin.ext (by show o / 8 = (o + (x 0).val) / 8; omega)
  have g2 : (⟨q / 256, by omega⟩ : Fin 4) = ⟨(q + (x 1).val) / 256, by omega⟩ := Fin.ext (by show q / 256 = (q + (x 1).val) / 256; omega)
  have g3 : (x 0 : Fin 8) = ⟨(o + (x 0).val) % 8, by omega⟩ := Fin.ext (by show (x 0).val = (o + (x 0).val) % 8; omega)
  have g4 : (x 1 : Fin 256) = ⟨(q + (x 1).val) % 256, by omega⟩ := Fin.ext (by show (x 1).val = (q + (x 1).val) % 256; omega)
  rw [g1, g2]
  exact congrArg₂ (fin8 qe ke v sr w b s _ _) g3 g4

variable (c : Dev nD) (i : grid0.Coords) (a2 : Memref sig .tc .vmem S8x3072 .f32) (h2 : a2.IsWhole) (a3 : Memref sig .tc .vmem S8x128 .f32) (h3 : a3.IsWhole)
  (a4 : Memref sig .tc .vmem S1x8x4x128x256 .f32) (h4 : a4.IsWhole) (a5 : Memref sig .tc .vmem S128x512 .bf16) (h5 : a5.IsWhole)
  (a6 : Memref sig .tc .vmem S1x512 .f32) (h6 : a6.IsWhole) (a7 : Memref sig .tc .vmem S1x1024 .f32) (h7 : a7.IsWhole)
  (a8 : Memref sig .tc .vmem S1x1024 .f32) (h8 : a8.IsWhole) (a11 : Memref sig .tc .vmem S8x1024 .f32) (h11 : a11.IsWhole)
  (a12 : Memref sig .tc .vmem S1x8x4x128x256 .f32) (h12 : a12.IsWhole) (a13 : Memref sig .tc .vmem S8x4x128x256 .f32) (h13 : a13.IsWhole)
  (a14 : Memref sig .tc .vmem S64x1024 .f32) (h14 : a14.IsWhole) (hc0 : cond0_0 i) (hc1 : cond0_1 i)
  (x0 : Vec Ideal S8x3072 .f32) (x1 : Vec Ideal S8x128 .f32) (x2 : Vec Ideal S1x8x4x128x256 .f32) (x3 : Vec Ideal S128x512 .bf16) (x4 : Vec Ideal S1x512 .f32)
  (x5 x6 : Vec Ideal S1x1024 .f32)

set_option maxHeartbeats 4000000 in
/-- The states a block leaves. -/
theorem s_A : out0_A_8 (F := Ideal) c i a2 h2 a3 h3 a4 h4 a5 h5 a6 h6 a7 h7 a8 h8 a11 h11 a12 h12 a13 h13 a14 h14 hc0 hc1 x0 x1 x2 x3 x4 x5 x6
      = k0_pay3 (G8 (k0_pay27 (k0_pay22 (k0_pay11 (0#32) (LA x1 x3 x4)) TM EM (8#32) k0_pay19 k0_pay20))
        (k0_pay26 (k0_pay7 x0) (k0_pay25 (k0_pay11 (0#32) (LA x1 x3 x4)) TM EM (8#32) k0_pay19 k0_pay20)) (k0_pay8 x0) x2) := by
  unfold out0_A_8
  rw [View.read_writes_eq_canon _ _ _ (cover0_A_8 c i a2 h2 a3 h3 a4 h4 a5 h5 a6 h6 a7 h7 a8 h8 a11 h11 a12 h12 a13 h13 a14 h14 hc0 hc1 x0 x1 x2 x3 x4 x5 x6)]
  unfold kernelRun0_A
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread]
  simp (disch := decide) only [View.ld_unit_lit, View.canon_cons_unit_lit]
  have hi : BitVec.ofNat 32 (i 1).val = 0#32 := by
    have h : (i 1).val < 1 := (i 1).isLt
    rw [Nat.lt_one_iff.mp h]
  rw [hi]
  rw [TM_fold, EM_fold, LA_fold]
  generalize k0_pay27 (k0_pay22 (k0_pay11 (0#32) (LA x1 x3 x4)) TM EM (8#32) k0_pay19 k0_pay20) = dec
  generalize k0_pay26 (k0_pay7 x0) (k0_pay25 (k0_pay11 (0#32) (LA x1 x3 x4)) TM EM (8#32) k0_pay19 k0_pay20) = kd
  generalize k0_pay8 x0 = v
  congr 1
  refine readCov_s _ _ _ _ fun y => ?_
  refine View.canon_append_of_piecesOf (G8 dec kd v x2) [_]
    [_, _, _, _, _, _, _, _, _, _, _, _, _, _, _, _, _, _, _, _, _, _, _, _, _, _, _, _, _, _, _, _] ?_ y
    (View.cover_of_tiledL (s := S8x4x128x256) _ ![1, 1, 128, 256] (by sl_kernel_rfl) y)
  repeat' refine And.intro ?_ ?_
  all_goals first
    | exact trivial
    | refine spiece _ _ (by decide) (by decide) (by decide) _ fun d e => ?_
      unfold_payloads
      pointwise
      simp only [dite_eq_ite, ite_self]
      try rfl

end Cert.KernelGsIdeal.Val
-- ==== Proof.GsSpec.lean ====
module

public import proofs.«01_k».proof.Proof.Spec

@[expose] public section

noncomputable section

/-! # The gated linear attention of the sample tokens: one step from a stored state, in plain formulas -/

open Idealize.ShloMosaic

namespace Cert.Gls

/-- A sample token's row. -/
abbrev R (n : Fin 128) : Fin 8320 := ⟨8192 + n.val, by omega⟩

variable (p : Fin 8320 → Fin 3072 → EReal) (g : Fin 8320 → Fin 128 → EReal) (s : Fin 128 → Fin 4 → Fin 128 → Fin 256 → EReal)
  (w : Fin 16 → Fin 512 → EReal) (gb : Fin 512 → EReal) (lw lb : Fin 1024 → EReal)

/-- The queries scaled and decayed. -/
def qe (n : Fin 128) (l : Fin 512) : EReal := p (R n) ⟨l.val, by omega⟩ * Ideal.ofBits FTy.f32 1035273459#32 * Ideal.exp (Gla.la g w gb (R n) l)
/-- The keys divided by the decay. -/
def ke (n : Fin 128) (l : Fin 512) : EReal := p (R n) ⟨512 + l.val, by omega⟩ * Ideal.exp (-(Gla.la g w gb (R n) l))
/-- The keys decayed to the token itself. -/
def kd (n : Fin 128) (l : Fin 512) : EReal := p (R n) ⟨512 + l.val, by omega⟩ * Ideal.exp (Gla.la g w gb (R n) l - Gla.la g w gb (R n) l)
/-- The values. -/
def val (n : Fin 128) (l : Fin 1024) : EReal := p (R n) ⟨1024 + l.val, by omega⟩
/-- The output gate after its activation. -/
def sr (n : Fin 128) (l : Fin 1024) : EReal :=
  p (R n) ⟨2048 + l.val, by omega⟩ * Ideal.div 1 (1 + Ideal.exp (-(p (R n) ⟨2048 + l.val, by omega⟩)))
/-- The state after the token. -/
def next (n : Fin 128) (h : Fin 4) (d : Fin 128) (e : Fin 256) : EReal :=
  s n h d e * Ideal.exp (Gla.la g w gb (R n) (Gla.kl h d)) + kd p g w gb n (Gla.kl h d) * val p n (Gla.vl h e)
/-- A token's outputs of one head before they are normalised. -/
def raw (n : Fin 128) (h : Fin 4) (e : Fin 256) : EReal :=
  (∑ d : Fin 128, qe p g w gb n (Gla.kl h d) * ke p g w gb n (Gla.kl h d)) * val p n (Gla.vl h e)
    + ∑ d : Fin 128, qe p g w gb n (Gla.kl h d) * s n h d e
/-- A token's outputs. -/
def out (n : Fin 128) (h : Fin 4) (e : Fin 256) : EReal :=
  (Gla.norm (raw p g s w gb n h) e * lw (Gla.vl h e) + lb (Gla.vl h e)) * sr p n (Gla.vl h e)

end Cert.Gls
-- ==== Proof.GsBlk.lean ====
module

public import proofs.«01_k».proof.Proof.GsVal
public import proofs.«01_k».proof.Proof.GsSpec
public import proofs.«01_k».proof.Proof.KerIn

@[expose] public section

set_option maxRecDepth 16384

noncomputable section

/-! # A block of the sample call against the plain formulas -/

open Idealize.ShloMosaic Idealize.ShloMosaic.TcCoe Idealize.SL.Sem Idealize.ShloMosaic.StableHlo

namespace Cert.KernelGsIdeal.Val

open Cert.KernelGsIdeal Cert.KernelGsIdeal.Gen

section rows
variable (x0 : Vec Ideal S8x3072 .f32) (r : Fin 64)

/-- The scaled queries at every row. -/
theorem Q_ix (l : Fin 512) : (k0_pay6 x0 : FVec Ideal S64x512 .f32) (ix2 r l)
    = (if r.val % 8 = 0 then x0 (ix2 (tk r) ⟨l.val, by omega⟩) else 0) * Ideal.ofBits FTy.f32 1035273459#32 := by
  unfold k0_pay6
  generalize hz : k0_pay5 x0 = z
  pointwise
  subst hz
  exact congrArg (· * _) (X_ix x0 r _)

/-- The keys at every row. -/
theorem K_ix (l : Fin 512) : (k0_pay7 x0 : FVec Ideal S64x512 .f32) (ix2 r l) = if r.val % 8 = 0 then x0 (ix2 (tk r) ⟨512 + l.val, by omega⟩) else 0 := by
  unfold k0_pay7
  generalize hz : k0_pay5 x0 = z
  pointwise
  subst hz
  exact X_ix x0 r _

/-- The values at every row. -/
theorem V_ix (l : Fin 1024) : (k0_pay8 x0 : FVec Ideal S64x1024 .f32) (ix2 r l) = if r.val % 8 = 0 then x0 (ix2 (tk r) ⟨1024 + l.val, by omega⟩) else 0 := by
  unfold k0_pay8
  generalize hz : k0_pay5 x0 = z
  pointwise
  subst hz
  exact X_ix x0 r _

/-- The output gate before its activation, at every row. -/
theorem Rt_ix (l : Fin 1024) : (k0_pay9 x0 : FVec Ideal S64x1024 .f32) (ix2 r l) = if r.val % 8 = 0 then x0 (ix2 (tk r) ⟨2048 + l.val, by omega⟩) else 0 := by
  unfold k0_pay9
  generalize hz : k0_pay5 x0 = z
  pointwise
  subst hz
  exact X_ix x0 r _

end rows

/-- The output gate's activation. -/
theorem SR_ix (z : FVec Ideal S64x1024 .f32) (r : Fin 64) (l : Fin 1024) : (k0_pay28 z : FVec Ideal S64x1024 .f32) (ix2 r l)
    = z (ix2 r l) * Ideal.div 1 (1 + Ideal.exp (-(z (ix2 r l)))) := by
  unfold_payloads
  pointwise
  rw [zero_sub]

/-- The queries times the exponential of the running sum. -/
theorem QE_ix (q m : FVec Ideal S64x512 .f32) (r : Fin 64) (l : Fin 512) : (k0_pay23 q m TM : FVec Ideal S64x512 .f32) (ix2 r l)
    = q (ix2 r l) * Ideal.exp (k0_pay21 m TM (ix2 r l)) := rfl

/-- The keys times the exponential of the running sum's negative. -/
theorem KE_ix (k m : FVec Ideal S64x512 .f32) (r : Fin 64) (l : Fin 512) : (k0_pay24 k m TM : FVec Ideal S64x512 .f32) (ix2 r l)
    = k (ix2 r l) * Ideal.exp (-(k0_pay21 m TM (ix2 r l))) := by
  unfold k0_pay24
  generalize k0_pay21 m TM = c
  pointwise
  rw [zero_sub]

/-- The keys times the exponential of what is left of the sum. -/
theorem KD_ix (k m : FVec Ideal S64x512 .f32) (r : Fin 64) (l : Fin 512) : (k0_pay26 k (k0_pay25 m TM EM (8#32) k0_pay19 k0_pay20) : FVec Ideal S64x512 .f32) (ix2 r l)
    = k (ix2 r l) * Ideal.exp (k0_pay22 m TM EM (8#32) k0_pay19 k0_pay20 (ix2 r l) - k0_pay21 m TM (ix2 r l)) := rfl

/-- The decay. -/
theorem DEC_ix (e : FVec Ideal S64x512 .f32) (r : Fin 64) (l : Fin 512) : (k0_pay27 e : FVec Ideal S64x512 .f32) (ix2 r l) = Ideal.exp (e (ix2 r l)) := rfl

/-- The states stored are the scratch's. -/
theorem st_ix (G : Vec Ideal S8x4x128x256 .f32) (n : Fin 8) (h : Fin 4) (d : Fin 128) (e : Fin 256) :
    (k0_pay3 G : FVec Ideal S1x8x4x128x256 .f32) (ix5 (0 : Fin 1) n h d e) = G (ix4 n h d e) := by
  unfold_payloads
  pointwise

/-- The rows stored are each token's own. -/
theorem rows_ix (G : Vec Ideal S64x1024 .f32) (n : Fin 8) (l : Fin 1024) : (k0_pay2 G : FVec Ideal S8x1024 .f32) (ix2 n l) = G (ix2 (r0 n) l) := by
  unfold_payloads
  pointwise
  exact congrArg G (congrArg₂ _ (Fin.ext (by simp; omega)) rfl)

variable {x0 : Vec Ideal S8x3072 .f32} {x1 : Vec Ideal S8x128 .f32} {x2 : Vec Ideal S1x8x4x128x256 .f32} {x3 : Vec Ideal S128x512 .bf16} {x4 : Vec Ideal S1x512 .f32}
  {x5 x6 : Vec Ideal S1x1024 .f32}
  {p : Fin 8320 → Fin 3072 → EReal} {g : Fin 8320 → Fin 128 → EReal} {s : Fin 128 → Fin 4 → Fin 128 → Fin 256 → EReal}
  {w : Fin 16 → Fin 512 → EReal} {gb : Fin 512 → EReal} {lw lb : Fin 1024 → EReal} {T : Fin 8 → Fin 128}

/-- The gate's logarithm at a token's own row. -/
theorem LA_eq (h1 : ∀ n k, x1 (ix2 n k) = g (Gls.R (T n)) k) (h3 : ∀ (k : Fin 128) (l : Fin 512), x3 (ix2 k l) = if h : k.val < 16 then w ⟨k.val, h⟩ l else 0)
    (h4 : ∀ l, x4 (ix2 (0 : Fin 1) l) = gb l) (n : Fin 8) (l : Fin 512) : LA x1 x3 x4 (ix2 (r0 n) l) = Gla.la g w gb (Gls.R (T n)) l := by
  refine (LA_ix x1 x3 x4 n l).trans ?_
  simp only [h1, h3, h4]
  rw [Cert.KernelIdeal.In.pad_sum (fun x => g (Gls.R (T n)) x) (fun x => w x l)]
  rfl

/-- No gate's logarithm is plus infinity. -/
theorem LA_fin (h1 : ∀ n k, x1 (ix2 n k) = g (Gls.R (T n)) k) (h3 : ∀ (k : Fin 128) (l : Fin 512), x3 (ix2 k l) = if h : k.val < 16 then w ⟨k.val, h⟩ l else 0)
    (h4 : ∀ l, x4 (ix2 (0 : Fin 1) l) = gb l) (n : Fin 8) (l : Fin 512) : LA x1 x3 x4 (ix2 (r0 n) l) ≠ ⊤ := by
  rw [LA_eq h1 h3 h4]
  exact Gla.la_ne_top _ _ _ _ _

/-- Every row of a token has the token's own first row. -/
theorem fst_r8 (n j : Fin 8) : fst8 (r8 n j) = r0 n := Fin.ext (by show 8 * ((8 * n.val + j.val) / 8) = 8 * n.val; omega)

/-- A row's token. -/
theorem tk_r8 (n j : Fin 8) : tk (r8 n j) = n := Fin.ext (by show (8 * n.val + j.val) / 8 = n.val; omega)

/-- A token's own row is its first. -/
theorem r8_own (n j : Fin 8) : (r8 n j).val % 8 = 0 ↔ j = 0 := by
  constructor
  · intro h
    have : (8 * n.val + j.val) % 8 = 0 := h
    exact Fin.ext (by show j.val = 0; omega)
  · rintro rfl
    show (8 * n.val + 0) % 8 = 0
    omega

/-- A token's own row is the first of its rows. -/
theorem fst_r0 (n : Fin 8) : fst8 (r0 n) = r0 n := Fin.ext (by show 8 * (8 * n.val / 8) = 8 * n.val; omega)

/-- A block's states are the tokens' states. -/
theorem state_blk (h0 : ∀ n k, x0 (ix2 n k) = p (Gls.R (T n)) k) (h1 : ∀ n k, x1 (ix2 n k) = g (Gls.R (T n)) k)
    (h2 : ∀ n h d e, x2 (ix5 (0 : Fin 1) n h d e) = s (T n) h d e)
    (h3 : ∀ (k : Fin 128) (l : Fin 512), x3 (ix2 k l) = if h : k.val < 16 then w ⟨k.val, h⟩ l else 0)
    (h4 : ∀ l, x4 (ix2 (0 : Fin 1) l) = gb l) (n : Fin 8) (h : Fin 4) (d : Fin 128) (e : Fin 256) :
    (k0_pay3 (G8 (k0_pay27 (k0_pay22 (k0_pay11 (0#32) (LA x1 x3 x4)) TM EM (8#32) k0_pay19 k0_pay20))
        (k0_pay26 (k0_pay7 x0) (k0_pay25 (k0_pay11 (0#32) (LA x1 x3 x4)) TM EM (8#32) k0_pay19 k0_pay20)) (k0_pay8 x0) x2) : FVec Ideal S1x8x4x128x256 .f32)
      (ix5 (0 : Fin 1) n h d e) = Gls.next p g s w gb (T n) h d e := by
  rw [st_ix]
  show x2 (ix5 (0 : Fin 1) n h d e) * (k0_pay27 _ : FVec Ideal S64x512 .f32) (ix2 (r0 n) (Gla.kl h d))
    + ∑ j : Fin 8, (k0_pay26 _ _ : FVec Ideal S64x512 .f32) (ix2 (r8 n j) (Gla.kl h d)) * (k0_pay8 x0 : FVec Ideal S64x1024 .f32) (ix2 (r8 n j) (Gla.vl h e)) = _
  have hf := LA_fin h1 h3 h4
  rw [Finset.sum_eq_single (0 : Fin 8)]
  · rw [DEC_ix, CEND_ix _ hf, KD_ix, CEND_ix _ hf, CUM_ix _ hf, V_ix, K_ix, if_pos ((r8_own n 0).mpr rfl), if_pos ((r8_own n 0).mpr rfl), fst_r8, fst_r0,
      LA_eq h1 h3 h4, h2, tk_r8, h0, h0]
    rfl
  · intro j _ hj
    rw [V_ix, if_neg (fun h => hj ((r8_own n j).mp h)), mul_zero]
  · intro h
    exact absurd (Finset.mem_univ _) h

/-- A block's outputs are the tokens' outputs. -/
theorem out_blk (h0 : ∀ n k, x0 (ix2 n k) = p (Gls.R (T n)) k) (h1 : ∀ n k, x1 (ix2 n k) = g (Gls.R (T n)) k)
    (h2 : ∀ n h d e, x2 (ix5 (0 : Fin 1) n h d e) = s (T n) h d e)
    (h3 : ∀ (k : Fin 128) (l : Fin 512), x3 (ix2 k l) = if h : k.val < 16 then w ⟨k.val, h⟩ l else 0)
    (h4 : ∀ l, x4 (ix2 (0 : Fin 1) l) = gb l) (h5 : ∀ l, x5 (ix2 (0 : Fin 1) l) = lw l) (h6 : ∀ l, x6 (ix2 (0 : Fin 1) l) = lb l)
    (n : Fin 8) (h : Fin 4) (e : Fin 256) :
    (k0_pay2 (O8 (k0_pay23 (k0_pay6 x0) (k0_pay11 (0#32) (LA x1 x3 x4)) TM) (k0_pay24 (k0_pay7 x0) (k0_pay11 (0#32) (LA x1 x3 x4)) TM)
        (k0_pay8 x0) (k0_pay28 (k0_pay9 x0)) x5 x6 x2) : FVec Ideal S8x1024 .f32) (ix2 n (Gla.vl h e)) = Gls.out p g s w gb lw lb (T n) h e := by
  rw [rows_ix]
  have hf := LA_fin h1 h3 h4
  have e1 : tk (r0 n) = n := tk_r8 n 0
  have e2 : lhd (Gla.vl h e) = h := Fin.ext (by show (256 * h.val + e.val) / 256 = h.val; omega)
  have e3 : pl (r0 n) = 0 := Fin.ext (by show 8 * n.val % 8 = 0; omega)
  have e4 : lin (Gla.vl h e) = e := Fin.ext (by show (256 * h.val + e.val) % 256 = e.val; omega)
  show fin8 _ _ _ _ _ _ _ (tk (r0 n)) (lhd (Gla.vl h e)) (pl (r0 n)) (lin (Gla.vl h e)) = _
  rw [e1, e2, e3, e4]
  have hq : ∀ l, (k0_pay23 (k0_pay6 x0) (k0_pay11 (0#32) (LA x1 x3 x4)) TM : FVec Ideal S64x512 .f32) (ix2 (r8 n 0) l) = Gls.qe p g w gb (T n) l := by
    intro l
    rw [QE_ix, CUM_ix _ hf, Q_ix, if_pos ((r8_own n 0).mpr rfl), fst_r8, LA_eq h1 h3 h4, tk_r8, h0]
    rfl
  have hk : ∀ l, (k0_pay24 (k0_pay7 x0) (k0_pay11 (0#32) (LA x1 x3 x4)) TM : FVec Ideal S64x512 .f32) (ix2 (r8 n 0) l) = Gls.ke p g w gb (T n) l := by
    intro l
    rw [KE_ix, CUM_ix _ hf, K_ix, if_pos ((r8_own n 0).mpr rfl), fst_r8, LA_eq h1 h3 h4, tk_r8, h0]
    rfl
  have hv : ∀ l, (k0_pay8 x0 : FVec Ideal S64x1024 .f32) (ix2 (r8 n 0) l) = Gls.val p (T n) l := by
    intro l
    rw [V_ix, if_pos ((r8_own n 0).mpr rfl), tk_r8, h0]
    rfl
  have hs : ∀ l, (k0_pay28 (k0_pay9 x0) : FVec Ideal S64x1024 .f32) (ix2 (r8 n 0) l) = Gls.sr p (T n) l := by
    intro l
    rw [SR_ix, Rt_ix, if_pos ((r8_own n 0).mpr rfl), tk_r8, h0]
    rfl
  generalize k0_pay23 (k0_pay6 x0) (k0_pay11 (0#32) (LA x1 x3 x4)) TM = qe at hq
  generalize k0_pay24 (k0_pay7 x0) (k0_pay11 (0#32) (LA x1 x3 x4)) TM = ke at hk
  generalize k0_pay28 (k0_pay9 x0) = sr at hs
  generalize k0_pay8 x0 = v at hv
  have hr : raw8 qe ke v x2 n h 0 = Gls.raw p g s w gb (T n) h := by
    funext k
    unfold raw8 Gls.raw
    rw [Finset.sum_eq_single (0 : Fin 8)]
    · simp only [le_refl, if_true, hq, hk, hv, h2]
    · intro j _ hj
      rw [if_neg (fun h => hj (Fin.le_zero_iff.mp h))]
    · intro h
      exact absurd (Finset.mem_univ _) h
  unfold fin8
  rw [hr, h5, h6, hs]
  rfl

end Cert.KernelGsIdeal.Val
-- ==== Proof.GsArr.lean ====
module

public import proofs.«01_k».proof.Proof.GsBlk
public import proofs.«01_k».proof.Proof.Gen.KernelGsIdeal.Value
public import Idealize.ShloMosaic.Lib.StableHlo.RunRead

@[expose] public section

set_option maxRecDepth 16384

noncomputable section

/-! # What the sample call leaves in the stored states, from its arguments -/

open Idealize.ShloMosaic Idealize.ShloMosaic.TcCoe Idealize.SL.Sem Idealize.ShloMosaic.StableHlo

namespace Cert.KernelGsIdeal.Val

open Cert.KernelGsIdeal Cert.KernelGsIdeal.Gen

variable (m : (ℓ : Loc nD τ sig) → Buf (Elt Ideal) ℓ) (c : Dev nD)

/-- The projections, by row and column. -/
abbrev P0 (r : Fin 8320) (l : Fin 3072) : EReal := (m ((c : Thread nD τ).loc main_arg0) : FVec Ideal S8320x3072 .f32) (ix2 r l)
/-- The gate's inputs, by row and column. -/
abbrev P1 (r : Fin 8320) (l : Fin 128) : EReal := (m ((c : Thread nD τ).loc main_arg1) : FVec Ideal S8320x128 .f32) (ix2 r l)
/-- The second layer's stored states. -/
abbrev P2 (n : Fin 128) (h : Fin 4) (d : Fin 128) (e : Fin 256) : EReal :=
  (m ((c : Thread nD τ).loc main_arg2) : FVec Ideal S4x128x4x128x256 .f32) (ix5 1 n h d e)
/-- The gate's weights, by row and column. -/
abbrev P3 (r : Fin 16) (l : Fin 512) : EReal := (m ((c : Thread nD τ).loc main_arg3) : FVec Ideal S16x512 .f32) (ix2 r l)
/-- The gate's bias. -/
abbrev P4 (l : Fin 512) : EReal := (m ((c : Thread nD τ).loc main_arg4) : FVec Ideal S512 .f32) (ix1 l)
/-- The norm's weights. -/
abbrev P5 (l : Fin 1024) : EReal := (m ((c : Thread nD τ).loc main_arg5) : FVec Ideal S1024 .f32) (ix1 l)
/-- The norm's bias. -/
abbrev P6 (l : Fin 1024) : EReal := (m ((c : Thread nD τ).loc main_arg6) : FVec Ideal S1024 .f32) (ix1 l)

/-- The grid has sixteen points. -/
theorem hN : cfg0.N = 16 := N_0

/-- A point's eight tokens. -/
abbrev T8 (t : Fin cfg0.N) (n : Fin 8) : Fin 128 := ⟨8 * t.val + n.val, by have := t.isLt; have := hN; omega⟩

/-- Point t reads and writes eight rows after the prompt's 8192. -/
theorem idxR (t : Fin cfg0.N) : win0_0.index t = ![1024 + t.val, 0] ∧ win0_1.index t = ![1024 + t.val, 0] ∧ win0_7.index t = ![1024 + t.val, 0] :=
  (by decide +kernel : ∀ t : Fin grid0.N, win0_0.index t = ![1024 + t.val, 0] ∧ win0_1.index t = ![1024 + t.val, 0] ∧ win0_7.index t = ![1024 + t.val, 0]) t
/-- Point t reads and writes eight tokens' states of the second layer. -/
theorem idxS (t : Fin cfg0.N) : win0_2.index t = ![1, t.val, 0, 0, 0] ∧ win0_8.index t = ![1, t.val, 0, 0, 0] :=
  (by decide +kernel : ∀ t : Fin grid0.N, win0_2.index t = ![1, t.val, 0, 0, 0] ∧ win0_8.index t = ![1, t.val, 0, 0, 0]) t
/-- The weights and biases are read whole. -/
theorem idxW (t : Fin cfg0.N) : win0_3.index t = ![0, 0] ∧ win0_4.index t = ![0, 0] ∧ win0_5.index t = ![0, 0] ∧ win0_6.index t = ![0, 0] :=
  (by decide +kernel : ∀ t : Fin grid0.N, win0_3.index t = ![0, 0] ∧ win0_4.index t = ![0, 0] ∧ win0_5.index t = ![0, 0] ∧ win0_6.index t = ![0, 0]) t

/-- The gate's weights reach the kernel with zero rows below them. -/
theorem V_v1 : (V m c main_v1 : FVec Ideal S128x512 .bf16)
    = truncf .bf16 (pad S128x512 ![0, 0] ![112, 0] ![0, 0] (m ((c : Thread nD τ).loc main_arg3) : FVec Ideal S16x512 .f32) (sitofp (F := Ideal) .f32 (constantI S_ 32 0#32)) pads_S16x512_S128x512_01120_000 h_S_) bitsLt_bf16_f32 := by
  show StableHlo.after (List.flatten [hostOps0, hostOps0_1, hostOps0_2]) (fun b => m (c, b)) (Proc.devRef .tc main_v1) = _
  simp only [List.flatten_cons, List.flatten_nil, List.append_nil, List.cons_append, List.nil_append]
  after_reads_simp
  rfl
/-- The weights with their zero rows, entry by entry. -/
theorem V_v1_ix (r : Fin 128) (l : Fin 512) : (V m c main_v1 : FVec Ideal S128x512 .bf16) (ix2 r l)
    = if h : r.val < 16 then P3 m c ⟨r.val, h⟩ l else 0 := by
  rw [V_v1]
  exact Cert.KernelIdeal.In.pad_ix _ r l
/-- The gate's bias reaches the kernel as one row. -/
theorem V_v2 (u : Fin 1) (l : Fin 512) : (V m c main_v2 : FVec Ideal S1x512 .f32) (ix2 u l) = P4 m c l := by
  have h : (V m c main_v2 : FVec Ideal S1x512 .f32) = shapeCast S1x512 (m ((c : Thread nD τ).loc main_arg4) : FVec Ideal S512 .f32) shapeCasts_S512_S1x512 := by
    show StableHlo.after (List.flatten [hostOps0, hostOps0_1, hostOps0_2]) (fun b => m (c, b)) (Proc.devRef .tc main_v2) = _
    simp only [List.flatten_cons, List.flatten_nil, List.append_nil, List.cons_append, List.nil_append]
    after_reads_simp
    rfl
  rw [h]
  pointwise
/-- The norm's weights reach the kernel as one row. -/
theorem V_v3 (u : Fin 1) (l : Fin 1024) : (V m c main_v3 : FVec Ideal S1x1024 .f32) (ix2 u l) = P5 m c l := by
  have h : (V m c main_v3 : FVec Ideal S1x1024 .f32) = shapeCast S1x1024 (m ((c : Thread nD τ).loc main_arg5) : FVec Ideal S1024 .f32) shapeCasts_S1024_S1x1024 := by
    show StableHlo.after (List.flatten [hostOps0, hostOps0_1, hostOps0_2]) (fun b => m (c, b)) (Proc.devRef .tc main_v3) = _
    simp only [List.flatten_cons, List.flatten_nil, List.append_nil, List.cons_append, List.nil_append]
    after_reads_simp
    rfl
  rw [h]
  pointwise
/-- The norm's bias reaches the kernel as one row. -/
theorem V_v4 (u : Fin 1) (l : Fin 1024) : (V m c main_v4 : FVec Ideal S1x1024 .f32) (ix2 u l) = P6 m c l := by
  have h : (V m c main_v4 : FVec Ideal S1x1024 .f32) = shapeCast S1x1024 (m ((c : Thread nD τ).loc main_arg6) : FVec Ideal S1024 .f32) shapeCasts_S1024_S1x1024 := by
    show StableHlo.after (List.flatten [hostOps0, hostOps0_1, hostOps0_2]) (fun b => m (c, b)) (Proc.devRef .tc main_v4) = _
    simp only [List.flatten_cons, List.flatten_nil, List.append_nil, List.cons_append, List.nil_append]
    after_reads_simp
    rfl
  rw [h]
  pointwise
/-- The outputs that the call adds to are its argument. -/
theorem V_v5_0 : (V m c main_v5_0 : FVec Ideal S8320x1024 .f32) = m ((c : Thread nD τ).loc main_arg7) := by
  show StableHlo.after (List.flatten [hostOps0, hostOps0_1, hostOps0_2]) (fun b => m (c, b)) (Proc.devRef .tc main_v5_0) = _
  simp only [List.flatten_cons, List.flatten_nil, List.append_nil, List.cons_append, List.nil_append]
  after_reads_simp
  rfl
/-- The states that the call adds to are its argument. -/
theorem V_v5_1 : (V m c main_v5_1 : FVec Ideal S4x128x4x128x256 .f32) = m ((c : Thread nD τ).loc main_arg8) := by
  show StableHlo.after (List.flatten [hostOps0, hostOps0_1, hostOps0_2]) (fun b => m (c, b)) (Proc.devRef .tc main_v5_1) = _
  simp only [List.flatten_cons, List.flatten_nil, List.append_nil, List.cons_append, List.nil_append]
  after_reads_simp
  rfl

/-- A point's projections. -/
theorem x0_ix (t : Fin cfg0.N) (n : Fin 8) (l : Fin 3072) :
    (iblk m c 0 t : Vec Ideal S8x3072 .f32) (ix2 n l) = P0 m c (Gls.R (T8 t n)) l := by
  have e := V_main_arg0 m c
  unfold iblk P0
  rw [← e]
  blk_ext [(idxR t).1]
/-- A point's gate inputs. -/
theorem x1_ix (t : Fin cfg0.N) (n : Fin 8) (l : Fin 128) :
    (iblk m c 1 t : Vec Ideal S8x128 .f32) (ix2 n l) = P1 m c (Gls.R (T8 t n)) l := by
  have e := V_main_arg1 m c
  unfold iblk P1
  rw [← e]
  blk_ext [(idxR t).2.1]
/-- A point's states. -/
theorem x2_ix (t : Fin cfg0.N) (n : Fin 8) (h : Fin 4) (d : Fin 128) (e : Fin 256) :
    (iblk m c 2 t : Vec Ideal S1x8x4x128x256 .f32) (ix5 (0 : Fin 1) n h d e) = P2 m c (T8 t n) h d e := by
  have e := V_main_arg2 m c
  unfold iblk P2
  rw [← e]
  blk_ext [(idxS t).1]
/-- A point's gate weights. -/
theorem x3_ix (t : Fin cfg0.N) (r : Fin 128) (l : Fin 512) :
    (iblk m c 3 t : Vec Ideal S128x512 .bf16) (ix2 r l) = if h : r.val < 16 then P3 m c ⟨r.val, h⟩ l else 0 := by
  rw [← V_v1_ix m c r l]
  blk_ext [iblk, (idxW t).1]
/-- A point's gate bias. -/
theorem x4_ix (t : Fin cfg0.N) (l : Fin 512) : (iblk m c 4 t : Vec Ideal S1x512 .f32) (ix2 (0 : Fin 1) l) = P4 m c l := by
  rw [← V_v2 m c 0 l]
  blk_ext [iblk, (idxW t).2.1]
/-- A point's norm weights. -/
theorem x5_ix (t : Fin cfg0.N) (l : Fin 1024) : (iblk m c 5 t : Vec Ideal S1x1024 .f32) (ix2 (0 : Fin 1) l) = P5 m c l := by
  rw [← V_v3 m c 0 l]
  blk_ext [iblk, (idxW t).2.2.1]
/-- A point's norm bias. -/
theorem x6_ix (t : Fin cfg0.N) (l : Fin 1024) : (iblk m c 6 t : Vec Ideal S1x1024 .f32) (ix2 (0 : Fin 1) l) = P6 m c l := by
  rw [← V_v4 m c 0 l]
  blk_ext [iblk, (idxW t).2.2.2]

set_option maxHeartbeats 2000000 in
/-- The states a point writes. -/
theorem after8_ix (t : Fin cfg0.N) (n : Fin 8) (h : Fin 4) (d : Fin 128) (e : Fin 256) :
    ((outsAt0 m c t).2 : FVec Ideal S1x8x4x128x256 .f32) (ix5 (0 : Fin 1) n h d e)
      = Gls.next (P0 m c) (P1 m c) (P2 m c) (P3 m c) (P4 m c) (T8 t n) h d e := by
  unfold outsAt0
  dsimp only
  refine (congrFun (s_A _ _ _ _ _ _ _ _ _ _ _ _ _ _ _ _ _ _ _ _ _ _ _ _ _ _ _ _ _ _ _ _ _) _).trans ?_
  exact state_blk (T := T8 t) (x0_ix m c t) (x1_ix m c t) (x2_ix m c t) (x3_ix m c t) (x4_ix m c t) n h d e

set_option maxHeartbeats 2000000 in
/-- The stored states after the call: the second layer's are the tokens' states, the others are as they were. -/
theorem st : (dats m 0 c).arrAt 8 cfg0.N = (fun j : S4x128x4x128x256.Idx => if (j 0 : Fin 4).val / 1 = 1 then
    Gls.next (P0 m c) (P1 m c) (P2 m c) (P3 m c) (P4 m c) (j 1) (j 2) (j 3) (j 4)
    else (V m c main_v5_1 : FVec Ideal S4x128x4x128x256 .f32) j) := by
  refine (dats m 0 c).arrAt_eq_of_coversWhere 8 _ (fun β => β 0 = 1) (by decide +kernel) (fun t hf y => ?_) (fun j => Iff.rfl)
  blk_simp
  rw [after0_8]
  have ey : y = ix5 (0 : Fin 1) (y 1 : Fin 8) (y 2 : Fin 4) (y 3 : Fin 128) (y 4 : Fin 256) := by
    funext a
    fin_cases a
    · exact Subsingleton.elim (α := Fin 1) _ _
    · rfl
    · rfl
    · rfl
    · rfl
  refine (congrArg ((outsAt0 m c t).2 : FVec Ideal S1x8x4x128x256 .f32) ey).trans ((after8_ix m c t _ _ _ _).trans ?_)
  congr 1 <;> (apply Fin.ext; blk_simp [(idxS t).2])
  show 8 * t.val + (y 1).val = t.val * 8 + (y 1).val
  omega

end Cert.KernelGsIdeal.Val
-- ==== Proof.GsOut.lean ====
module

public import proofs.«01_k».proof.Proof.GsVal
public import Idealize.ShloMosaic.Lib.Pipeline.ValueKit
public import Idealize.ShloMosaic.Lib.Pipeline.ReadBack
public import Idealize.ShloMosaic.Lib.Pointwise

@[expose] public section

set_option maxRecDepth 16384

noncomputable section

/-! # What the sample call of the gated linear attention leaves in a block's outputs -/

open Idealize.ShloMosaic Idealize.ShloMosaic.TcCoe Idealize.SL.Sem Idealize.ShloMosaic.StableHlo

namespace Cert.KernelGsIdeal.Val

open Cert.KernelGsIdeal Cert.KernelGsIdeal.Gen

variable (c : Dev nD) (i : grid0.Coords) (a2 : Memref sig .tc .vmem S8x3072 .f32) (h2 : a2.IsWhole) (a3 : Memref sig .tc .vmem S8x128 .f32) (h3 : a3.IsWhole)
  (a4 : Memref sig .tc .vmem S1x8x4x128x256 .f32) (h4 : a4.IsWhole) (a5 : Memref sig .tc .vmem S128x512 .bf16) (h5 : a5.IsWhole)
  (a6 : Memref sig .tc .vmem S1x512 .f32) (h6 : a6.IsWhole) (a7 : Memref sig .tc .vmem S1x1024 .f32) (h7 : a7.IsWhole)
  (a8 : Memref sig .tc .vmem S1x1024 .f32) (h8 : a8.IsWhole) (a11 : Memref sig .tc .vmem S8x1024 .f32) (h11 : a11.IsWhole)
  (a12 : Memref sig .tc .vmem S1x8x4x128x256 .f32) (h12 : a12.IsWhole) (a13 : Memref sig .tc .vmem S8x4x128x256 .f32) (h13 : a13.IsWhole)
  (a14 : Memref sig .tc .vmem S64x1024 .f32) (h14 : a14.IsWhole) (hc0 : cond0_0 i) (hc1 : cond0_1 i)
  (x0 : Vec Ideal S8x3072 .f32) (x1 : Vec Ideal S8x128 .f32) (x2 : Vec Ideal S1x8x4x128x256 .f32) (x3 : Vec Ideal S128x512 .bf16) (x4 : Vec Ideal S1x512 .f32)
  (x5 x6 : Vec Ideal S1x1024 .f32)

set_option maxHeartbeats 4000000 in
/-- The outputs a block leaves. -/
theorem o_A : out0_A_7 (F := Ideal) c i a2 h2 a3 h3 a4 h4 a5 h5 a6 h6 a7 h7 a8 h8 a11 h11 a12 h12 a13 h13 a14 h14 hc0 hc1 x0 x1 x2 x3 x4 x5 x6
      = k0_pay2 (O8 (k0_pay23 (k0_pay6 x0) (k0_pay11 (0#32) (LA x1 x3 x4)) TM) (k0_pay24 (k0_pay7 x0) (k0_pay11 (0#32) (LA x1 x3 x4)) TM)
        (k0_pay8 x0) (k0_pay28 (k0_pay9 x0)) x5 x6 x2) := by
  unfold out0_A_7
  rw [View.read_writes_eq_canon _ _ _ (cover0_A_7 c i a2 h2 a3 h3 a4 h4 a5 h5 a6 h6 a7 h7 a8 h8 a11 h11 a12 h12 a13 h13 a14 h14 hc0 hc1 x0 x1 x2 x3 x4 x5 x6)]
  unfold kernelRun0_A
  dsimp only
  sl_unfold_words
  simp (disch := decide) only [↓ View.readCov_skip, ↓ View.readCov_cons_toLoadRect, ↓ View.readCov_fill]
  simp only [View.readAt_eq_ld, h2.read_unread, h3.read_unread, h4.read_unread, h5.read_unread, h6.read_unread, h7.read_unread, h8.read_unread]
  simp (disch := decide) only [View.ld_unit_lit, View.canon_cons_unit_lit]
  have hi : BitVec.ofNat 32 (i 1).val = 0#32 := by
    have h : (i 1).val < 1 := (i 1).isLt
    rw [Nat.lt_one_iff.mp h]
  rw [hi]
  rw [TM_fold, LA_fold]
  generalize k0_pay23 (k0_pay6 x0) (k0_pay11 (0#32) (LA x1 x3 x4)) TM = qe
  generalize k0_pay24 (k0_pay7 x0) (k0_pay11 (0#32) (LA x1 x3 x4)) TM = ke
  generalize k0_pay8 x0 = v
  generalize k0_pay28 (k0_pay9 x0) = sr
  congr 1
  refine readCov_o _ _ _ _ fun y => ?_
  refine Cert.KernelCmIdeal.Val.canon_of_pieces (O8 qe ke v sr x5 x6 x2) _ ?_ y (View.cover_of_tiledL (s := S64x1024) _ ![8, 256] (by sl_kernel_rfl) y)
  repeat' refine And.intro ?_ ?_
  all_goals first
    | exact trivial
    | refine opiece _ _ (by decide) (by decide) (by decide) _ fun i e => ?_
      unfold_payloads
      pointwise
      simp only [Cert.KernelCmIdeal.Val.select_ge8, fin8, raw8, Gla.norm, Gla.mean, Gla.kl, Gla.vl, r8, Nat.reduceDiv, Nat.reduceMul, Nat.zero_div, Fin.zero_eta, Fin.isValue, Fin.val_zero,
        Fin.coe_ofNat_eq_mod, Nat.zero_mod, Nat.mul_zero, Nat.zero_add]
      try rfl

end Cert.KernelGsIdeal.Val
-- ==== Proof.GsArrO.lean ====
module

public import proofs.«01_k».proof.Proof.GsArr
public import proofs.«01_k».proof.Proof.GsOut

@[expose] public section

set_option maxRecDepth 16384

noncomputable section

/-! # What the sample call leaves in the outputs, from its arguments -/

open Idealize.ShloMosaic Idealize.ShloMosaic.TcCoe Idealize.SL.Sem Idealize.ShloMosaic.StableHlo

namespace Cert.KernelGsIdeal.Val

open Cert.KernelGsIdeal Cert.KernelGsIdeal.Gen

variable (m : (ℓ : Loc nD τ sig) → Buf (Elt Ideal) ℓ) (c : Dev nD)

/-- A function of a token, a head and a lane takes one value where their numbers agree. -/
theorem at_eq {f : Fin 128 → Fin 4 → Fin 256 → EReal} {n n' : Fin 128} {h h' : Fin 4} {e e' : Fin 256} (hn : n.val = n'.val) (hh : h.val = h'.val)
    (he : e.val = e'.val) : f n h e = f n' h' e' := by
  rw [Fin.ext hn, Fin.ext hh, Fin.ext he]

/-- A row's token. -/
abbrev tokS (i : Fin 8320) : Fin 128 := ⟨i.val - 8192, by omega⟩

set_option maxHeartbeats 2000000 in
/-- The outputs a point writes. -/
theorem after7_ix (t : Fin cfg0.N) (n : Fin 8) (h : Fin 4) (e : Fin 256) :
    ((outsAt0 m c t).1 : FVec Ideal S8x1024 .f32) (ix2 n (Gla.vl h e))
      = Gls.out (P0 m c) (P1 m c) (P2 m c) (P3 m c) (P4 m c) (P5 m c) (P6 m c) (T8 t n) h e := by
  unfold outsAt0
  dsimp only
  refine (congrFun (o_A _ _ _ _ _ _ _ _ _ _ _ _ _ _ _ _ _ _ _ _ _ _ _ _ _ _ _ _ _ _ _ _ _) _).trans ?_
  exact out_blk (T := T8 t) (x0_ix m c t) (x1_ix m c t) (x2_ix m c t) (x3_ix m c t) (x4_ix m c t) (x5_ix m c t) (x6_ix m c t) n h e

set_option maxHeartbeats 2000000 in
/-- The outputs after the call: the sample tokens' rows, the others as they were. -/
theorem o : (dats m 0 c).arrAt 7 cfg0.N = (fun j : S8320x1024.Idx => if 1024 ≤ (j 0 : Fin 8320).val / 8 then
    Gls.out (P0 m c) (P1 m c) (P2 m c) (P3 m c) (P4 m c) (P5 m c) (P6 m c) (tokS (j 0)) (lhd (j 1)) (lin (j 1))
    else (V m c main_v5_0 : FVec Ideal S8320x1024 .f32) j) := by
  refine (dats m 0 c).arrAt_eq_of_coversWhere 7 _ (fun β => 1024 ≤ β 0) (by decide +kernel) (fun t hf y => ?_) (fun j => Iff.rfl)
  blk_simp
  rw [after0_7]
  have ey : y = ix2 (y 0 : Fin 8) (Gla.vl (lhd (y 1 : Fin 1024)) (lin (y 1 : Fin 1024))) := by
    funext a
    fin_cases a
    · rfl
    · apply Fin.ext
      show (y 1).val = 256 * ((y 1).val / 256) + (y 1).val % 256
      omega
  refine (congrArg ((outsAt0 m c t).1 : FVec Ideal S8x1024 .f32) ey).trans ((after7_ix m c t _ _ _).trans ?_)
  have g0 : ((win0_7.blk t).view.emb y 0).val = (1024 + t.val) * 8 + (y 0).val := by blk_simp [(idxR t).2.2]
  have g1 : ((win0_7.blk t).view.emb y 1).val = (y 1).val := by blk_simp [(idxR t).2.2]
  refine at_eq (f := Gls.out (P0 m c) (P1 m c) (P2 m c) (P3 m c) (P4 m c) (P5 m c) (P6 m c)) ?_ ?_ ?_
  · show 8 * t.val + (y 0).val = ((win0_7.blk t).view.emb y 0).val - 8192
    omega
  · show (y 1).val / 256 = ((win0_7.blk t).view.emb y 1).val / 256
    rw [g1]
  · show (y 1).val % 256 = ((win0_7.blk t).view.emb y 1).val % 256
    rw [g1]

end Cert.KernelGsIdeal.Val
-- ==== Proof.GsRef.lean ====
module

public import proofs.«01_k».proof.Proof.GsSpec
public import proofs.«01_k».proof.Proof.RefRead
public import proofs.«01_k».proof.Proof.Gen.ReferenceGsIdeal.Run

@[expose] public section

set_option maxRecDepth 16384

noncomputable section

/-! # The reference's step of the sample tokens, entry by entry -/

open Idealize.ShloMosaic Idealize.ShloMosaic.TcCoe Idealize.SL.Sem Idealize.ShloMosaic.StableHlo

namespace Cert.ReferenceGsIdeal.Value

open Cert.ReferenceGsIdeal Cert.ReferenceGsIdeal.Gen

variable (a0 : FVec Ideal S8320x3072 .f32) (a1 : FVec Ideal S8320x128 .f32) (a2 : FVec Ideal S4x128x4x128x256 .f32)
  (a3 : FVec Ideal S16x512 .f32) (a4 : FVec Ideal S512 .f32) (a5 a6 : FVec Ideal S1024 .f32)
  (a7 : FVec Ideal S8320x1024 .f32) (a8 : FVec Ideal S4x128x4x128x256 .f32)

/-- The sample tokens' projections. -/
def pR : FVec Ideal S128x1x3072 .f32 :=
  shapeCast S128x1x3072 (extractStridedSlice S128x3072 ![8192, 0] a0 slices_S8320x3072_S128x3072_8192_0) shapeCasts_S128x3072_S128x1x3072

/-- The gate before the logistic function. -/
def zR : FVec Ideal S128x1x512 .f32 :=
  addf (Host.dotGeneral (F := Ideal) (φ₁ := .f32) (φ₂ := .f32) dot_S128x1x16_S16x512_S128x1x512_2_0_01_1_n_n none
    (extractStridedSlice S128x1x16 ![0, 0, 0] (shapeCast S128x1x128 (extractStridedSlice S128x128 ![8192, 0] a1 slices_S8320x128_S128x128_8192_0) shapeCasts_S128x128_S128x1x128) slices_S128x1x128_S128x1x16_0_0_0) a3)
    (broadcastInDim S128x1x512 ![0, 1, 2] bcast_S1x1x512_S128x1x512_0_1_2 (broadcastInDim S1x1x512 ![2] bcast_S512_S1x1x512_2 a4))

/-- The logarithm of the logistic function. -/
def lsR (z : FVec Ideal S128x1x512 .f32) : FVec Ideal S128x1x512 .f32 :=
  Host.negf (select (cmpf .une (subf (Host.negf z) (broadcastInDim S128x1x512 ![] bcast_S_S128x1x512 (constant S_ .f32 0x00000000#32))) (subf (Host.negf z) (broadcastInDim S128x1x512 ![] bcast_S_S128x1x512 (constant S_ .f32 0x00000000#32))))
    (addf (Host.negf z) (broadcastInDim S128x1x512 ![] bcast_S_S128x1x512 (constant S_ .f32 0x00000000#32)))
    (addf (maximumf (Host.negf z) (broadcastInDim S128x1x512 ![] bcast_S_S128x1x512 (constant S_ .f32 0x00000000#32)))
      (Host.log1p (Host.exp (Host.negf (Host.absf (subf (Host.negf z) (broadcastInDim S128x1x512 ![] bcast_S_S128x1x512 (constant S_ .f32 0x00000000#32)))))))))

/-- The gate's logarithm, by token, head and lane. -/
def laR (z : FVec Ideal S128x1x512 .f32) : FVec Ideal S128x1x4x128 .f32 :=
  shapeCast S128x1x4x128 (Host.divf (lsR z) (broadcastInDim S128x1x512 ![] bcast_S_S128x1x512 (constant S_ .f32 0x41800000#32))) shapeCasts_S128x1x512_S128x1x4x128

/-- The running sum over the chunk's one token. -/
def bR (la : FVec Ideal S128x1x4x128 .f32) : FVec Ideal S128x1x4x128 .f32 :=
  Host.reduceWindowAdd (F := Ideal) (φ := .f32) ![1, 1, 1, 1] ![1, 1, 1, 1] ![0, 0, 0, 0] ![0, 0, 0, 0] la (broadcastInDim S_ ![] bcast_S_S_ (constant S_ .f32 0x00000000#32)) reduceWindows_S128x1x4x128_S128x1x4x128_w1s1p0_0_w1s1p0_0_w1s1p0_0_w1s1p0_0 h_S_

/-- The scaled queries. -/
def qR : FVec Ideal S128x1x4x128 .f32 :=
  mulf (shapeCast S128x1x4x128 (extractStridedSlice S128x1x512 ![0, 0, 0] (pR a0) slices_S128x1x3072_S128x1x512_0_0_0) shapeCasts_S128x1x512_S128x1x4x128) (broadcastInDim S128x1x4x128 ![] bcast_S_S128x1x4x128 (constant S_ .f32 0x3DB504F3#32))
/-- The keys. -/
def kR : FVec Ideal S128x1x4x128 .f32 :=
  shapeCast S128x1x4x128 (extractStridedSlice S128x1x512 ![0, 0, 512] (pR a0) slices_S128x1x3072_S128x1x512_0_0_512) shapeCasts_S128x1x512_S128x1x4x128
/-- The values. -/
def vR : FVec Ideal S128x1x4x256 .f32 :=
  shapeCast S128x1x4x256 (extractStridedSlice S128x1x1024 ![0, 0, 1024] (pR a0) slices_S128x1x3072_S128x1x1024_0_0_1024) shapeCasts_S128x1x1024_S128x1x4x256
/-- The output gate before its activation. -/
def rR : FVec Ideal S128x1024 .f32 :=
  shapeCast S128x1024 (extractStridedSlice S128x1x1024 ![0, 0, 2048] (pR a0) slices_S128x1x3072_S128x1x1024_0_0_2048) shapeCasts_S128x1x1024_S128x1024
/-- The second layer's stored states. -/
def sR : FVec Ideal S128x4x128x256 .f32 :=
  shapeCast S128x4x128x256 (extractStridedSlice S1x128x4x128x256 ![1, 0, 0, 0, 0] a2 slices_S4x128x4x128x256_S1x128x4x128x256_1_0_0_0_0) shapeCasts_S1x128x4x128x256_S128x4x128x256

/-- The queries times the exponential of the running sum. -/
def qeR (q b : FVec Ideal S128x1x4x128 .f32) : FVec Ideal S128x1x4x128 .f32 := mulf q (Host.exp b)
/-- The keys times the exponential of the running sum's negative. -/
def keR (k b : FVec Ideal S128x1x4x128 .f32) : FVec Ideal S128x1x4x128 .f32 := mulf k (Host.exp (Host.negf b))
/-- The keys decayed to the chunk's end. -/
def kdR (k b : FVec Ideal S128x1x4x128 .f32) : FVec Ideal S128x1x4x128 .f32 := mulf k (Host.exp (subf b b))

/-- The outputs before they are normalised. -/
def oR (qe ke : FVec Ideal S128x1x4x128 .f32) (v : FVec Ideal S128x1x4x256 .f32) (s : FVec Ideal S128x4x128x256 .f32) : FVec Ideal S128x1x4x256 .f32 :=
  addf (transpose S128x1x4x256 [0, 3, 1, 2] (Host.dotGeneral (F := Ideal) (φ₁ := .f32) (φ₂ := .f32) dot_S128x1x4x256_S128x4x1x1_S128x4x256x1_1_3_3_2_02_01 none v
      (Host.dotGeneral (F := Ideal) (φ₁ := .f32) (φ₂ := .f32) dot_S128x1x4x128_S128x1x4x128_S128x4x1x1_3_3_1_1_02_02 none qe ke)) transposes_S128x4x256x1_S128x1x4x256_0_3_1_2)
    (transpose S128x1x4x256 [0, 3, 1, 2] (Host.dotGeneral (F := Ideal) (φ₁ := .f32) (φ₂ := .f32) dot_S128x4x128x256_S128x1x4x128_S128x4x256x1_2_3_3_1_01_02 none s qe) transposes_S128x4x256x1_S128x1x4x256_0_3_1_2)

/-- The mean over a head's lanes. -/
def mR (o : FVec Ideal S128x1x4x256 .f32) : FVec Ideal S128x1x4x1 .f32 :=
  Host.divf (broadcastInDim S128x1x4x1 ![0, 1, 2] bcast_S128x1x4_S128x1x4x1_0_1_2 (Host.reduceAdd o (constant S_ .f32 0x00000000#32) reducesTo_S128x1x4x256_S128x1x4_d3 h_S_)) (broadcastInDim S128x1x4x1 ![] bcast_S_S128x1x4x1 (constant S_ .f32 0x43800000#32))
/-- The outputs with the mean taken out. -/
def ocR (o : FVec Ideal S128x1x4x256 .f32) : FVec Ideal S128x1x4x256 .f32 :=
  subf o (broadcastInDim S128x1x4x256 ![0, 1, 2, 3] bcast_S128x1x4x1_S128x1x4x256_0_1_2_3 (mR o))
/-- The outputs normalised, scaled and shifted. -/
def lnR (o : FVec Ideal S128x1x4x256 .f32) : FVec Ideal S128x1x4x256 .f32 :=
  addf (mulf (mulf (ocR o) (broadcastInDim S128x1x4x256 ![0, 1, 2, 3] bcast_S128x1x4x1_S128x1x4x256_0_1_2_3 (Host.rsqrt (addf (mR (mulf (ocR o) (ocR o))) (broadcastInDim S128x1x4x1 ![] bcast_S_S128x1x4x1 (constant S_ .f32 0x3727C5AC#32))))))
      (broadcastInDim S128x1x4x256 ![0, 1, 2, 3] bcast_S1x1x4x256_S128x1x4x256_0_1_2_3 (broadcastInDim S1x1x4x256 ![2, 3] bcast_S4x256_S1x1x4x256_2_3 (shapeCast S4x256 a5 shapeCasts_S1024_S4x256))))
    (broadcastInDim S128x1x4x256 ![0, 1, 2, 3] bcast_S1x1x4x256_S128x1x4x256_0_1_2_3 (broadcastInDim S1x1x4x256 ![2, 3] bcast_S4x256_S1x1x4x256_2_3 (shapeCast S4x256 a6 shapeCasts_S1024_S4x256)))
/-- The outputs after the output gate. -/
def finR (l : FVec Ideal S128x1x4x256 .f32) (r : FVec Ideal S128x1024 .f32) : FVec Ideal S128x1024 .f32 :=
  mulf (shapeCast S128x1024 l shapeCasts_S128x1x4x256_S128x1024) (mulf r (Host.divf (broadcastInDim S128x1024 ![] bcast_S_S128x1024 (constant S_ .f32 0x3F800000#32)) (addf (broadcastInDim S128x1024 ![] bcast_S_S128x1024 (constant S_ .f32 0x3F800000#32)) (Host.exp (Host.negf r)))))
/-- The outputs below the prompt's rows. -/
def catO (o : FVec Ideal S128x1024 .f32) : FVec Ideal S8320x1024 .f32 :=
  concatenate S8320x1024 0 [⟨S8192x1024, (extractStridedSlice S8192x1024 ![0, 0] a7 slices_S8320x1024_S8192x1024_0_0 : FVec Ideal S8192x1024 .f32)⟩, ⟨S128x1024, (o : FVec Ideal S128x1024 .f32)⟩] concatenates_S8192x1024_S128x1024_S8320x1024_d0

/-- The states after the tokens. -/
def nextR (s : FVec Ideal S128x4x128x256 .f32) (b kd : FVec Ideal S128x1x4x128 .f32) (v : FVec Ideal S128x1x4x256 .f32) : FVec Ideal S128x4x128x256 .f32 :=
  addf (mulf s (broadcastInDim S128x4x128x256 ![0, 1, 2, 3] bcast_S128x4x128x1_S128x4x128x256_0_1_2_3 (broadcastInDim S128x4x128x1 ![0, 1, 2] bcast_S128x4x128_S128x4x128x1_0_1_2 (Host.exp (shapeCast S128x4x128 b shapeCasts_S128x1x4x128_S128x4x128)))))
    (Host.dotGeneral (F := Ideal) (φ₁ := .f32) (φ₂ := .f32) dot_S128x1x4x128_S128x1x4x256_S128x4x128x256_1_1_3_3_02_02 none kd v)
/-- The states among the other layers'. -/
def catS (s : FVec Ideal S128x4x128x256 .f32) : FVec Ideal S4x128x4x128x256 .f32 :=
  concatenate S4x128x4x128x256 0 [⟨S1x128x4x128x256, (extractStridedSlice S1x128x4x128x256 ![0, 0, 0, 0, 0] a8 slices_S4x128x4x128x256_S1x128x4x128x256_0_0_0_0_0 : FVec Ideal S1x128x4x128x256 .f32)⟩,
    ⟨S1x128x4x128x256, (broadcastInDim S1x128x4x128x256 ![1, 2, 3, 4] bcast_S128x4x128x256_S1x128x4x128x256_1_2_3_4 s : FVec Ideal S1x128x4x128x256 .f32)⟩,
    ⟨S2x128x4x128x256, (extractStridedSlice S2x128x4x128x256 ![2, 0, 0, 0, 0] a8 slices_S4x128x4x128x256_S2x128x4x128x256_2_0_0_0_0 : FVec Ideal S2x128x4x128x256 .f32)⟩]
    concatenates_S1x128x4x128x256_S1x128x4x128x256_S2x128x4x128x256_S4x128x4x128x256_d0

section entries
variable (n : Fin 128) (h : Fin 4) (d : Fin 128) (e : Fin 256)

/-- The gate before the logistic function is the specification's. -/
theorem zR_ix (l : Fin 512) : zR a1 a3 a4 (ix3 n (0 : Fin 1) l)
    = ∑ x : Fin 16, a1 (ix2 (Gls.R n) ⟨x.val, by omega⟩) * a3 (ix2 x l) + a4 (ix1 l) := by
  unfold zR
  pointwise

/-- The logarithm of the logistic function, entry by entry. -/
theorem lsR_ix (z) (l : Fin 512) : lsR z (ix3 n (0 : Fin 1) l) = Gla.lsig (z (ix3 n (0 : Fin 1) l)) := by
  unfold lsR
  pointwise
  rw [← Gla.lsig_eq, if_neg (by simp)]
  rfl

/-- The gate's logarithm is the specification's. -/
theorem laR_ix : laR (zR a1 a3 a4) (ix4 n (0 : Fin 1) h d)
    = Gla.la (fun r l => a1 (ix2 r l)) (fun r l => a3 (ix2 r l)) (fun l => a4 (ix1 l)) (Gls.R n) (Gla.kl h d) := by
  unfold laR
  generalize hz : zR a1 a3 a4 = z
  pointwise
  rw [lsR_ix, Gla.div_sixteen, ← hz, zR_ix]
  simp only [Nat.mul_comm h.val 128]
  rfl

/-- The window holds one position. -/
theorem one_window (y : (⟨4, ![1, 1, 1, 1]⟩ : Shape).Idx) : y = ix4 (0 : Fin 1) (0 : Fin 1) (0 : Fin 1) (0 : Fin 1) := by
  funext a
  fin_cases a <;> exact Subsingleton.elim (α := Fin 1) _ _

/-- The running sum over one token is the token's own term. -/
theorem bR_ix (la : FVec Ideal S128x1x4x128 .f32) : bR la (ix4 n (0 : Fin 1) h d) = la (ix4 n (0 : Fin 1) h d) := by
  unfold bR
  rw [Cert.ReferenceIdeal.Pure.windowAdd_ix]
  have h0 : ((broadcastInDim S_ ![] bcast_S_S_ (constant (F := Ideal) S_ .f32 0x00000000#32)) (Shape.Idx.first h_S_) : EReal) = 0 := by
    show Ideal.ofBits .f32 0x00000000#32 = 0
    simp [Ideal.ofBits, Ideal.ieee]
  rw [h0, zero_add]
  refine (Fintype.sum_eq_single (ix4 (0 : Fin 1) (0 : Fin 1) (0 : Fin 1) (0 : Fin 1)) fun y hy => absurd (one_window y) hy).trans ?_
  have hn := n.isLt
  have hh := h.isLt
  have hd := d.isLt
  rw [dif_pos]
  · refine congrArg la ?_
    funext a
    apply Fin.ext
    fin_cases a
    · show n.val * 1 + 0 - 0 = n.val; omega
    · rfl
    · show h.val * 1 + 0 - 0 = h.val; omega
    · show d.val * 1 + 0 - 0 = d.val; omega
  · intro a
    fin_cases a
    · show 0 ≤ n.val * 1 + 0 ∧ n.val * 1 + 0 - 0 < 128; omega
    · show 0 ≤ 0 * 1 + 0 ∧ 0 * 1 + 0 - 0 < 1; omega
    · show 0 ≤ h.val * 1 + 0 ∧ h.val * 1 + 0 - 0 < 4; omega
    · show 0 ≤ d.val * 1 + 0 ∧ d.val * 1 + 0 - 0 < 128; omega

/-- A query, scaled, in the argument. -/
theorem qR_ix : qR a0 (ix4 n (0 : Fin 1) h d) = a0 (ix2 (Gls.R n) ⟨128 * h.val + d.val, by omega⟩) * Ideal.ofBits .f32 1035273459#32 := by
  unfold qR pR
  pointwise
  simp only [Nat.mul_comm h.val 128]
/-- A key in the argument. -/
theorem kR_ix : kR a0 (ix4 n (0 : Fin 1) h d) = a0 (ix2 (Gls.R n) ⟨512 + (128 * h.val + d.val), by omega⟩) := by
  unfold kR pR
  pointwise
  simp only [Nat.mul_comm h.val 128]
/-- A value in the argument. -/
theorem vR_ix : vR a0 (ix4 n (0 : Fin 1) h e) = a0 (ix2 (Gls.R n) ⟨1024 + (256 * h.val + e.val), by omega⟩) := by
  unfold vR pR
  pointwise
  simp only [Nat.mul_comm h.val 256]
/-- An output gate in the argument. -/
theorem rR_ix (l : Fin 1024) : rR a0 (ix2 n l) = a0 (ix2 (Gls.R n) ⟨2048 + l.val, by omega⟩) := by
  unfold rR pR
  pointwise
/-- A stored state in the argument. -/
theorem sR_ix : sR a2 (ix4 n h d e) = a2 (ix5 1 n h d e) := by
  unfold sR
  pointwise
/-- A query after its decay. -/
theorem qeR_ix (q b) : qeR q b (ix4 n (0 : Fin 1) h d) = q (ix4 n (0 : Fin 1) h d) * Ideal.exp (b (ix4 n (0 : Fin 1) h d)) := by
  unfold qeR
  pointwise
/-- A key divided by its decay. -/
theorem keR_ix (k b) : keR k b (ix4 n (0 : Fin 1) h d) = k (ix4 n (0 : Fin 1) h d) * Ideal.exp (-(b (ix4 n (0 : Fin 1) h d))) := by
  unfold keR
  pointwise
/-- A key decayed to the end. -/
theorem kdR_ix (k b) : kdR k b (ix4 n (0 : Fin 1) h d) = k (ix4 n (0 : Fin 1) h d) * Ideal.exp (b (ix4 n (0 : Fin 1) h d) - b (ix4 n (0 : Fin 1) h d)) := by
  unfold kdR
  pointwise
/-- An output before the norm. -/
theorem oR_ix (qe ke v s) : oR qe ke v s (ix4 n (0 : Fin 1) h e)
    = (∑ x : Fin 128, qe (ix4 n (0 : Fin 1) h x) * ke (ix4 n (0 : Fin 1) h x)) * v (ix4 n (0 : Fin 1) h e)
      + ∑ x : Fin 128, qe (ix4 n (0 : Fin 1) h x) * s (ix4 n h x e) := by
  unfold oR
  pointwise
  exact congrArg₂ (· + ·) ((Fin.sum_univ_one _).trans (mul_comm _ _)) (Finset.sum_congr rfl fun x _ => mul_comm _ _)
/-- A head's mean. -/
theorem mR_ix (t : FVec Ideal S128x1x4x256 .f32) (u : Fin 1) : mR t (ix4 n (0 : Fin 1) h u) = Gla.mean (fun e => t (ix4 n (0 : Fin 1) h e)) := by
  unfold mR Gla.mean
  pointwise
/-- A head's entry less its mean. -/
theorem ocR_ix (t : FVec Ideal S128x1x4x256 .f32) : ocR t (ix4 n (0 : Fin 1) h e) = t (ix4 n (0 : Fin 1) h e) - Gla.mean (fun e => t (ix4 n (0 : Fin 1) h e)) := by
  unfold ocR
  pointwise
  rw [mR_ix]
/-- A head's entry normed, scaled and shifted. -/
theorem lnR_ix (t : FVec Ideal S128x1x4x256 .f32) : lnR a5 a6 t (ix4 n (0 : Fin 1) h e)
    = Gla.norm (fun e => t (ix4 n (0 : Fin 1) h e)) e * a5 (ix1 (Gla.vl h e)) + a6 (ix1 (Gla.vl h e)) := by
  unfold lnR Gla.norm
  pointwise
  have hk : (fun k => (mulf (ocR t) (ocR t) : FVec Ideal S128x1x4x256 .f32) (ix4 n (0 : Fin 1) h k))
      = fun k => (t (ix4 n (0 : Fin 1) h k) - Gla.mean (fun e => t (ix4 n (0 : Fin 1) h e))) * (t (ix4 n (0 : Fin 1) h k) - Gla.mean (fun e => t (ix4 n (0 : Fin 1) h e))) := by
    funext k
    rw [← ocR_ix]
    rfl
  rw [ocR_ix, mR_ix, hk]
  simp only [Nat.mul_comm h.val 256]
/-- An output after its gate. -/
theorem finR_ix (t : FVec Ideal S128x1x4x256 .f32) (r) : finR t r (ix2 n (Gla.vl h e))
    = t (ix4 n (0 : Fin 1) h e) * (r (ix2 n (Gla.vl h e)) * Ideal.div 1 (1 + Ideal.exp (-(r (ix2 n (Gla.vl h e)))))) := by
  unfold finR
  pointwise
  refine congrArg (· * _) (congrArg t (congrArg₂ (ix4 n (0 : Fin 1)) (Fin.ext ?_) (Fin.ext ?_)))
  · show (256 * h.val + e.val) / 256 = h.val
    omega
  · show (256 * h.val + e.val) % 256 = e.val
    omega
/-- A state after its token. -/
theorem nextR_ix (s b kd v) : nextR s b kd v (ix4 n h d e)
    = s (ix4 n h d e) * Ideal.exp (b (ix4 n (0 : Fin 1) h d)) + kd (ix4 n (0 : Fin 1) h d) * v (ix4 n (0 : Fin 1) h e) := by
  unfold nextR
  pointwise
  exact congrArg (_ + ·) (Fin.sum_univ_one _)
end entries

/-- An output row. -/
theorem catO_ix (o : FVec Ideal S128x1024 .f32) (i : Fin 8320) (l : Fin 1024) : catO a7 o (ix2 i l)
    = if h : 8192 ≤ i.val then o (ix2 ⟨i.val - 8192, by omega⟩ l) else a7 (ix2 i l) := by
  unfold catO
  pointwise
  by_cases h : 8192 ≤ i.val
  · rw [dif_pos h, dif_neg (by omega)]
  · rw [dif_neg h, dif_pos (by omega)]
/-- A layer's state. -/
theorem catS_ix (s : FVec Ideal S128x4x128x256 .f32) (q : Fin 4) (n : Fin 128) (h : Fin 4) (d : Fin 128) (e : Fin 256) : catS a8 s (ix5 q n h d e)
    = if q.val = 1 then s (ix4 n h d e) else a8 (ix5 q n h d e) := by
  unfold catS
  pointwise
  by_cases h1 : q.val = 1
  · rw [if_pos h1, dif_neg (by omega), dif_pos (by omega)]
  · rw [if_neg h1]
    by_cases h2 : q.val < 1
    · rw [dif_pos h2]
    · rw [dif_neg h2, dif_neg (by omega)]
      exact congrArg a8 (congrArg (fun a : Fin 4 => ix5 a n h d e) (Fin.ext (by show 2 + (q.val - 1 - 1) = q.val; omega)))

section Results

variable (m : (ℓ : Loc nD τ sig) → Buf (Elt Ideal) ℓ) (c : Dev nD)

/-- The projections. -/
abbrev A0 : FVec Ideal S8320x3072 .f32 := m ((c.tc : Thread nD τ).loc main_arg0)
/-- The gate's inputs. -/
abbrev A1 : FVec Ideal S8320x128 .f32 := m ((c.tc : Thread nD τ).loc main_arg1)
/-- The stored states. -/
abbrev A2 : FVec Ideal S4x128x4x128x256 .f32 := m ((c.tc : Thread nD τ).loc main_arg2)
/-- The gate's weights. -/
abbrev A3 : FVec Ideal S16x512 .f32 := m ((c.tc : Thread nD τ).loc main_arg3)
/-- The gate's bias. -/
abbrev A4 : FVec Ideal S512 .f32 := m ((c.tc : Thread nD τ).loc main_arg4)
/-- The norm's weights. -/
abbrev A5 : FVec Ideal S1024 .f32 := m ((c.tc : Thread nD τ).loc main_arg5)
/-- The norm's bias. -/
abbrev A6 : FVec Ideal S1024 .f32 := m ((c.tc : Thread nD τ).loc main_arg6)
/-- The outputs added to. -/
abbrev A7 : FVec Ideal S8320x1024 .f32 := m ((c.tc : Thread nD τ).loc main_arg7)
/-- The states added to. -/
abbrev A8 : FVec Ideal S4x128x4x128x256 .f32 := m ((c.tc : Thread nD τ).loc main_arg8)

/-- The running sums of the run. -/
abbrev bM : FVec Ideal S128x1x4x128 .f32 := bR (laR (zR (A1 m c) (A3 m c) (A4 m c)))

/-- They are the gate's logarithms. -/
theorem bM_ix (n : Fin 128) (h : Fin 4) (d : Fin 128) : bM m c (ix4 n (0 : Fin 1) h d)
    = Gla.la (fun r l => A1 m c (ix2 r l)) (fun r l => A3 m c (ix2 r l)) (fun l => A4 m c (ix1 l)) (Gls.R n) (Gla.kl h d) :=
  (bR_ix n h d _).trans (laR_ix _ _ _ n h d)

set_option maxHeartbeats 2000000 in
/-- The outputs' term by its parts. -/
theorem out_eq : (res_main_v77 m c : FVec Ideal S8320x1024 .f32)
    = catO (A7 m c) (finR (lnR (A5 m c) (A6 m c) (oR (qeR (qR (A0 m c)) (bM m c)) (keR (kR (A0 m c)) (bM m c)) (vR (A0 m c)) (sR (A2 m c)))) (rR (A0 m c))) := rfl

set_option maxHeartbeats 2000000 in
/-- The states' term by its parts. -/
theorem st_eq : (res_main_v81 m c : FVec Ideal S4x128x4x128x256 .f32)
    = catS (A8 m c) (nextR (sR (A2 m c)) (bM m c) (kdR (kR (A0 m c)) (bM m c)) (vR (A0 m c))) := rfl

/-- The states, entry by entry. -/
theorem st_ix (q : Fin 4) (n : Fin 128) (h : Fin 4) (d : Fin 128) (e : Fin 256) : (res_main_v81 m c : FVec Ideal S4x128x4x128x256 .f32) (ix5 q n h d e)
    = if q.val = 1 then Gls.next (fun r l => A0 m c (ix2 r l)) (fun r l => A1 m c (ix2 r l)) (fun n h d e => A2 m c (ix5 1 n h d e))
        (fun r l => A3 m c (ix2 r l)) (fun l => A4 m c (ix1 l)) n h d e
      else A8 m c (ix5 q n h d e) := by
  refine (congrFun (st_eq m c) (ix5 q n h d e)).trans ((catS_ix _ _ q n h d e).trans ?_)
  rw [nextR_ix, kdR_ix, sR_ix, kR_ix, vR_ix, bM_ix]
  rfl

/-- The outputs, entry by entry. -/
theorem out_ix (i : Fin 8320) (h : Fin 4) (e : Fin 256) : (res_main_v77 m c : FVec Ideal S8320x1024 .f32) (ix2 i (Gla.vl h e))
    = if hi : 8192 ≤ i.val then Gls.out (fun r l => A0 m c (ix2 r l)) (fun r l => A1 m c (ix2 r l)) (fun n h d e => A2 m c (ix5 1 n h d e))
        (fun r l => A3 m c (ix2 r l)) (fun l => A4 m c (ix1 l)) (fun l => A5 m c (ix1 l)) (fun l => A6 m c (ix1 l)) ⟨i.val - 8192, by omega⟩ h e
      else A7 m c (ix2 i (Gla.vl h e)) := by
  refine (congrFun (out_eq m c) (ix2 i (Gla.vl h e))).trans ((catO_ix _ _ i (Gla.vl h e)).trans ?_)
  by_cases hi : 8192 ≤ i.val
  · rw [dif_pos hi, dif_pos hi, finR_ix, lnR_ix, rR_ix]
    simp only [oR_ix, qeR_ix, keR_ix, qR_ix, kR_ix, vR_ix, sR_ix, bM_ix]
    rfl
  · rw [dif_neg hi, dif_neg hi]

end Results

end Cert.ReferenceGsIdeal.Value

end
-- ==== Proof.GsClaims.lean ====
module

public import proofs.«01_k».proof.Defs
public import proofs.«01_k».proof.Proof.Dense
public import proofs.«01_k».proof.Proof.GsArrO
public import proofs.«01_k».proof.Proof.GsRef
public import proofs.«01_k».proof.Proof.Gen.KernelGs.Frame
public import Idealize.ShloMosaic.Adequacy
public import Idealize.ShloMosaic.Init

@[expose] public section

set_option maxRecDepth 16384

noncomputable section

/-! # The claims about the sample tokens' gated linear attention: its frames, and its values against the reference -/

open Idealize.ShloMosaic Idealize.ShloMosaic.TcCoe Idealize.SL.Sem Idealize.ShloMosaic.StableHlo

namespace Cert.Proof.Gs

open Cert.KernelGsIdeal.Val Cert.ReferenceGsIdeal.Value

/-- The kernel runs, ends, and leaves its arguments and every semaphore as they were. -/
theorem frame_k : Cert.quiescent_KernelGs := fun m ρ _ => Cert.KernelGs.Gen.frame m ρ
/-- So does the kernel read at the extended reals. -/
theorem frame_ki : Cert.quiescent_KernelGsIdeal := fun m ρ _ => Cert.KernelGsIdeal.Gen.frame m ρ
/-- So does the reference. -/
theorem frame_ri : Cert.quiescent_ReferenceGsIdeal := fun m ρ _ =>
  (θ_run Cert.ReferenceGsIdeal.defs _ _).mono (fun r h => ⟨fun c => (h c).2.2, Idealize.ShloMosaic.sem_eq_zero_of_no_sems (by decide) r.2⟩)
    (Cert.ReferenceGsIdeal.Value.run m ρ)

/-- The ideal reading rewrote no operation. -/
theorem preserves : Cert.preserves_KernelGs_KernelGsIdeal := trivial

/-- Two arrays of five axes that agree at every entry are one. -/
theorem ext5 {a b d e f : ℕ} {x y : FVec Ideal (⟨5, ![a, b, d, e, f]⟩ : Shape) .f32} (h : ∀ i j k l n, x (ix5 i j k l n) = y (ix5 i j k l n)) : x = y := by
  funext j
  have e : j = ix5 (j 0) (j 1) (j 2) (j 3) (j 4) := by
    funext q
    fin_cases q <;> rfl
  rw [e]
  exact h _ _ _ _ _

section kernel

variable (m : (ℓ : Loc Cert.KernelGsIdeal.nD Cert.KernelGsIdeal.τ Cert.KernelGsIdeal.sig) → Buf (Elt Ideal) ℓ) (c : Dev Cert.KernelGsIdeal.nD)

/-- The kernel's outputs, entry by entry. -/
theorem kout (i : Fin 8320) (h : Fin 4) (e : Fin 256) :
    ((Cert.KernelGsIdeal.Gen.dats m 0 c).arrAt 7 Cert.KernelGsIdeal.cfg0.N : FVec Ideal Cert.KernelGsIdeal.S8320x1024 .f32) (ix2 i (Gla.vl h e))
      = if hi : 8192 ≤ i.val then Gls.out (P0 m c) (P1 m c) (P2 m c) (P3 m c) (P4 m c) (P5 m c) (P6 m c) (tokS i) h e
        else (m ((c : Thread Cert.KernelGsIdeal.nD Cert.KernelGsIdeal.τ).loc Cert.KernelGsIdeal.main_arg7) : FVec Ideal Cert.KernelGsIdeal.S8320x1024 .f32) (ix2 i (Gla.vl h e)) := by
  refine (congrFun (o m c) (ix2 i (Gla.vl h e))).trans ?_
  have e2 : lhd (Gla.vl h e) = h := Fin.ext (by show (256 * h.val + e.val) / 256 = h.val; omega)
  have e4 : lin (Gla.vl h e) = e := Fin.ext (by show (256 * h.val + e.val) % 256 = e.val; omega)
  show (if 1024 ≤ i.val / 8 then Gls.out (P0 m c) (P1 m c) (P2 m c) (P3 m c) (P4 m c) (P5 m c) (P6 m c) (tokS i) (lhd (Gla.vl h e)) (lin (Gla.vl h e)) else _) = _
  rw [e2, e4, V_v5_0]
  by_cases hi : 8192 ≤ i.val
  · rw [if_pos (by omega), dif_pos hi]
  · rw [if_neg (by omega), dif_neg hi]

/-- The kernel's states, entry by entry. -/
theorem kst (q : Fin 4) (n : Fin 128) (h : Fin 4) (d : Fin 128) (e : Fin 256) :
    ((Cert.KernelGsIdeal.Gen.dats m 0 c).arrAt 8 Cert.KernelGsIdeal.cfg0.N : FVec Ideal Cert.KernelGsIdeal.S4x128x4x128x256 .f32) (ix5 q n h d e)
      = if q.val = 1 then Gls.next (P0 m c) (P1 m c) (P2 m c) (P3 m c) (P4 m c) n h d e
        else (m ((c : Thread Cert.KernelGsIdeal.nD Cert.KernelGsIdeal.τ).loc Cert.KernelGsIdeal.main_arg8) : FVec Ideal Cert.KernelGsIdeal.S4x128x4x128x256 .f32) (ix5 q n h d e) := by
  refine (congrFun (st m c) (ix5 q n h d e)).trans ?_
  show (if q.val / 1 = 1 then Gls.next (P0 m c) (P1 m c) (P2 m c) (P3 m c) (P4 m c) n h d e else _) = _
  rw [V_v5_1, Nat.div_one]

end kernel

/-- At the extended reals the kernel and the reference, from arguments that agree, end with the same outputs and the same states. -/
theorem algebraic : Cert.algebraic_KernelGsIdeal_ReferenceGsIdeal := by
  intro m ρ m' ρ' _ hagree
  refine ⟨fun c => (Cert.KernelGsIdeal.Gen.dats m 0 c).arrAt 7 Cert.KernelGsIdeal.cfg0.N, fun c => (Cert.KernelGsIdeal.Gen.dats m 0 c).arrAt 8 Cert.KernelGsIdeal.cfg0.N,
    Cert.KernelGsIdeal.Value.run_blocks m ρ, ?_⟩
  refine (θ_run Cert.ReferenceGsIdeal.defs _ _).mono (fun r h c => ?_) (Cert.ReferenceGsIdeal.Value.run m' ρ')
  obtain ⟨h1, h2, ha⟩ := h c
  obtain ⟨a0, a1, a2, a3, a4, a5, a6, a7, a8⟩ := hagree c
  have e0 : (fun i k => A0 m' c (ix2 i k)) = P0 m c := funext fun i => funext fun k => congrFun a0 _
  have e1 : (fun i k => A1 m' c (ix2 i k)) = P1 m c := funext fun i => funext fun k => congrFun a1 _
  have e2 : (fun n h d e => A2 m' c (ix5 1 n h d e)) = P2 m c := funext fun n => funext fun h => funext fun d => funext fun e => congrFun a2 _
  have e3 : (fun i k => A3 m' c (ix2 i k)) = P3 m c := funext fun i => funext fun k => congrFun a3 _
  have e4 : (fun k => A4 m' c (ix1 k)) = P4 m c := funext fun k => congrFun a4 _
  have e5 : (fun k => A5 m' c (ix1 k)) = P5 m c := funext fun k => congrFun a5 _
  have e6 : (fun k => A6 m' c (ix1 k)) = P6 m c := funext fun k => congrFun a6 _
  refine ⟨h1.trans (Dense.ext2 fun i l => ?_), h2.trans (ext5 fun q n h d e => ?_), ha⟩
  · obtain ⟨h, e, rfl⟩ : ∃ (h : Fin 4) (e : Fin 256), l = Gla.vl h e :=
      ⟨⟨l.val / 256, by omega⟩, ⟨l.val % 256, by omega⟩, Fin.ext (by show l.val = 256 * (l.val / 256) + l.val % 256; omega)⟩
    refine (out_ix m' c i h e).trans (Eq.trans ?_ (kout m c i h e).symm)
    rw [e0, e1, e2, e3, e4, e5, e6]
    by_cases hi : 8192 ≤ i.val
    · rw [dif_pos hi, dif_pos hi]
    · rw [dif_neg hi, dif_neg hi]
      exact congrFun a7 _
  · refine (st_ix m' c q n h d e).trans (Eq.trans ?_ (kst m c q n h d e).symm)
    rw [e0, e1, e2, e3, e4]
    by_cases hq : q.val = 1
    · rw [if_pos hq, if_pos hq]
    · rw [if_neg hq, if_neg hq]
      exact congrFun a8 _

end Cert.Proof.Gs

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_prompt_rows
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Gen.KernelCm
public import proofs.«01_k».proof.Proof.Gen.KernelCm.Skeleton
public import proofs.«01_k».proof.Proof.Gen.KernelCm.Launch
public import proofs.«01_k».proof.Proof.Gen.KernelCm.Points
public import proofs.«01_k».proof.Proof.Gen.KernelCm.Frame
public import proofs.«01_k».proof.Proof.Gen.KernelCmIdeal
public import proofs.«01_k».proof.Proof.Gen.KernelCmIdeal.Skeleton
public import proofs.«01_k».proof.Proof.Gen.KernelCmIdeal.Launch
public import proofs.«01_k».proof.Proof.Gen.KernelCmIdeal.Points
public import proofs.«01_k».proof.Proof.Gen.KernelCmIdeal.Frame
public import proofs.«01_k».proof.Proof.Gen.ReferenceCmIdeal
public import proofs.«01_k».proof.Proof.Gen.ReferenceCmIdeal.Run
public import proofs.«01_k».proof.Proof.Gen.KernelY
public import proofs.«01_k».proof.Proof.Gen.KernelY.Skeleton
public import proofs.«01_k».proof.Proof.Gen.KernelY.Launch
public import proofs.«01_k».proof.Proof.Gen.KernelY.Points
public import proofs.«01_k».proof.Proof.Gen.KernelY.Frame
public import proofs.«01_k».proof.Proof.Gen.KernelYIdeal
public import proofs.«01_k».proof.Proof.Gen.KernelYIdeal.Skeleton
public import proofs.«01_k».proof.Proof.Gen.KernelYIdeal.Launch
public import proofs.«01_k».proof.Proof.Gen.KernelYIdeal.Points
public import proofs.«01_k».proof.Proof.Gen.KernelYIdeal.Frame
public import proofs.«01_k».proof.Proof.Gen.KernelYIdeal.Value
public import proofs.«01_k».proof.Proof.Gen.ReferenceYIdeal
public import proofs.«01_k».proof.Proof.Gen.ReferenceYIdeal.Run
public import proofs.«01_k».proof.Proof.Gen.KernelGs.Frame
public import proofs.«01_k».proof.Proof.Gen.KernelGsIdeal.Frame
public import proofs.«01_k».proof.Proof.Gen.KernelGsIdeal.Value
public import proofs.«01_k».proof.Proof.Gen.ReferenceGsIdeal.Run
public import proofs.«01_k».proof.Proof.Gen.KernelGs
public import proofs.«01_k».proof.Proof.Gen.KernelGsIdeal
public import proofs.«01_k».proof.Proof.Gen.ReferenceGsIdeal
public import proofs.«01_k».proof.Proof.GlaClaims
public import proofs.«01_k».proof.Proof.InClaims
public import proofs.«01_k».proof.Proof.OutClaims
public import proofs.«01_k».proof.Proof.CmClaims
public import proofs.«01_k».proof.Proof.YClaims
public import proofs.«01_k».proof.Proof.GsClaims
public import Idealize.ShloMosaic.Adequacy
public import Idealize.ShloMosaic.Init

@[expose] public section

noncomputable section

-- Every frame claim also says that every semaphore counter ends at zero.

namespace Cert.Proof

open Idealize.ShloMosaic Idealize.SL.Sem Cert.Kernel

/-- Every claim. -/
theorem claim : Cert.Claim := ⟨Cert.Kernel.Gen.facts, Cert.KernelIdeal.Gen.facts, Cert.ReferenceIdeal.Gen.facts,
  Cert.KernelIn.Gen.facts, Cert.KernelInIdeal.Gen.facts, Cert.ReferenceInIdeal.Gen.facts,
  Cert.KernelOut.Gen.facts, Cert.KernelOutIdeal.Gen.facts, Cert.ReferenceOutIdeal.Gen.facts,
  Cert.KernelCm.Gen.facts, Cert.KernelCmIdeal.Gen.facts, Cert.ReferenceCmIdeal.Gen.facts,
  Cert.KernelY.Gen.facts, Cert.KernelYIdeal.Gen.facts, Cert.ReferenceYIdeal.Gen.facts,
  Cert.KernelGs.Gen.facts, Cert.KernelGsIdeal.Gen.facts, Cert.ReferenceGsIdeal.Gen.facts, Cert.On_prompt_rows.Gen.facts,
  Gla.frame_k, Gla.frame_ki, Gla.frame_ri, In.frame_k, In.frame_ki, In.frame_ri, Out.frame_k, Out.frame_ki, Out.frame_ri,
  Cm.frame_k, Cm.frame_ki, Cm.frame_ri, Y.frame_k, Y.frame_ki, Y.frame_ri, Gs.frame_k, Gs.frame_ki, Gs.frame_ri,
  Gla.preserves, Gla.algebraic, In.preserves, In.algebraic, Out.preserves, Out.algebraic,
  Cm.preserves, Cm.algebraic, Y.preserves, Y.algebraic, Gs.preserves, Gs.algebraic⟩

end Cert.Proof

end
